-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_swa_finite [hPre_swa_finite : Cert.Pre_swa_finite.Facts] (m : (ℓ : Loc Cert.KernelIdeal.nD Cert.KernelIdeal.τ Cert.KernelIdeal.sig) → Buf (Elt Ideal) ℓ) : Prop :=
  ∀ c : Dev Cert.KernelIdeal.nD,
    (Cert.Pre_swa_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swa_finite [hPre_swa_finite : Cert.Pre_swa_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swa_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_swa_finite [hKernelIdeal : Cert.KernelIdeal.Facts] [hPre_swa_finite : Cert.Pre_swa_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_swa_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_swa_finite [hReferenceIdeal : Cert.ReferenceIdeal.Facts] [hPre_swa_finite : Cert.Pre_swa_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swa_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E38AA3B#32 (((1 / 8) * (Real.log 2)⁻¹ : ℝ) : EReal)

def algebraic_KernelIdeal_ReferenceIdeal_pre_swa_finite [hKernelIdeal : Cert.KernelIdeal.Facts] [hReferenceIdeal : Cert.ReferenceIdeal.Facts] [hPre_swa_finite : Cert.Pre_swa_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_swa_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)) (v5 : (c : Dev Cert.Kernel2Ideal.nD) → Buf (Elt Ideal) ((c.tc : Thread Cert.Kernel2Ideal.nD Cert.Kernel2Ideal.τ).loc Cert.Kernel2Ideal.main_v3_5)) (v6 : (c : Dev Cert.Kernel2Ideal.nD) → Buf (Elt Ideal) ((c.tc : Thread Cert.Kernel2Ideal.nD Cert.Kernel2Ideal.τ).loc Cert.Kernel2Ideal.main_v3_6)) (v7 : (c : Dev Cert.Kernel2Ideal.nD) → Buf (Elt Ideal) ((c.tc : Thread Cert.Kernel2Ideal.nD Cert.Kernel2Ideal.τ).loc Cert.Kernel2Ideal.main_v3_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_v3_5) = v5 c
          ∧ r.2.mem ((c.tc : Thread Cert.Kernel2Ideal.nD Cert.Kernel2Ideal.τ).loc Cert.Kernel2Ideal.main_v3_6) = v6 c
          ∧ r.2.mem ((c.tc : Thread Cert.Kernel2Ideal.nD Cert.Kernel2Ideal.τ).loc Cert.Kernel2Ideal.main_v3_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v36) = v2 c
          ∧ r.2.mem ((c.tc : Thread Cert.Reference2Ideal.nD Cert.Reference2Ideal.τ).loc Cert.Reference2Ideal.main_v39) = v3 c
          ∧ r.2.mem ((c.tc : Thread Cert.Reference2Ideal.nD Cert.Reference2Ideal.τ).loc Cert.Reference2Ideal.main_v40) = v4 c
          ∧ r.2.mem ((c.tc : Thread Cert.Reference2Ideal.nD Cert.Reference2Ideal.τ).loc Cert.Reference2Ideal.main_v43) = v5 c
          ∧ r.2.mem ((c.tc : Thread Cert.Reference2Ideal.nD Cert.Reference2Ideal.τ).loc Cert.Reference2Ideal.main_v50) = v6 c
          ∧ r.2.mem ((c.tc : Thread Cert.Reference2Ideal.nD Cert.Reference2Ideal.τ).loc Cert.Reference2Ideal.main_v57) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_v38) = v2 c
          ∧ r.2.mem ((c.tc : Thread Cert.Reference3Ideal.nD Cert.Reference3Ideal.τ).loc Cert.Reference3Ideal.main_v39) = v3 c
          ∧ r.2.mem ((c.tc : Thread Cert.Reference3Ideal.nD Cert.Reference3Ideal.τ).loc Cert.Reference3Ideal.main_v42) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)) (v4 : (c : Dev Cert.Kernel5Ideal.nD) → Buf (Elt Ideal) ((c.tc : Thread Cert.Kernel5Ideal.nD Cert.Kernel5Ideal.τ).loc Cert.Kernel5Ideal.main_v2_4)) (v5 : (c : Dev Cert.Kernel5Ideal.nD) → Buf (Elt Ideal) ((c.tc : Thread Cert.Kernel5Ideal.nD Cert.Kernel5Ideal.τ).loc Cert.Kernel5Ideal.main_v2_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_v2_4) = v4 c
          ∧ r.2.mem ((c.tc : Thread Cert.Kernel5Ideal.nD Cert.Kernel5Ideal.τ).loc Cert.Kernel5Ideal.main_v2_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_v36) = v2 c
          ∧ r.2.mem ((c.tc : Thread Cert.Reference5Ideal.nD Cert.Reference5Ideal.τ).loc Cert.Reference5Ideal.main_v39) = v3 c
          ∧ r.2.mem ((c.tc : Thread Cert.Reference5Ideal.nD Cert.Reference5Ideal.τ).loc Cert.Reference5Ideal.main_v40) = v4 c
          ∧ r.2.mem ((c.tc : Thread Cert.Reference5Ideal.nD Cert.Reference5Ideal.τ).loc Cert.Reference5Ideal.main_v43) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v89_1)) (v1 : (c : Dev Cert.Kernel7Ideal.nD) → Buf (Elt Ideal) ((c.tc : Thread Cert.Kernel7Ideal.nD Cert.Kernel7Ideal.τ).loc Cert.Kernel7Ideal.main_v89_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v89_1) = v0 c
          ∧ r.2.mem ((c.tc : Thread Cert.Kernel7Ideal.nD Cert.Kernel7Ideal.τ).loc Cert.Kernel7Ideal.main_v89_2) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v9) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)) (v3 : (c : Dev Cert.Kernel10Ideal.nD) → Buf (Elt Ideal) ((c.tc : Thread Cert.Kernel10Ideal.nD Cert.Kernel10Ideal.τ).loc Cert.Kernel10Ideal.main_v2_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_v2_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v26) = v2 c
          ∧ r.2.mem ((c.tc : Thread Cert.Reference10Ideal.nD Cert.Reference10Ideal.τ).loc Cert.Reference10Ideal.main_v29) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v8_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8_1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_swa_finite : Cert.Pre_swa_finite.Facts),
    quiescent_Kernel (hKernel := hKernel)
    ∧ quiescent_KernelIdeal (hKernelIdeal := hKernelIdeal)
    ∧ quiescent_KernelIdeal_pre_swa_finite (hKernelIdeal := hKernelIdeal) (hPre_swa_finite := hPre_swa_finite)
    ∧ quiescent_ReferenceIdeal (hReferenceIdeal := hReferenceIdeal)
    ∧ quiescent_ReferenceIdeal_pre_swa_finite (hReferenceIdeal := hReferenceIdeal) (hPre_swa_finite := hPre_swa_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_swa_finite (hKernelIdeal := hKernelIdeal) (hReferenceIdeal := hReferenceIdeal) (hPre_swa_finite := hPre_swa_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_swa_finite.lean ====
abbrev S16384x1024 : Shape := ⟨2, ![16384, 1024]⟩
abbrev S16384x128 : Shape := ⟨2, ![16384, 128]⟩
abbrev S16 : Shape := ⟨1, ![16]⟩
abbrev S32x16 : Shape := ⟨2, ![32, 16]⟩
abbrev S_ : Shape := ⟨0, ![]⟩
abbrev S16777216 : Shape := ⟨1, ![16777216]⟩
abbrev S2097152 : Shape := ⟨1, ![2097152]⟩
abbrev S512 : Shape := ⟨1, ![512]⟩
abbrev S18874896 : Shape := ⟨1, ![18874896]⟩

class Facts : Prop where
  bcast_S_S16384x1024 : S_.BroadcastsInDim S16384x1024 (![] : Fin 0 → Fin S16384x1024.rank)
  shapeCasts_S16384x1024_S16777216 : S16384x1024.ShapeCasts S16777216
  bcast_S_S16384x128 : S_.BroadcastsInDim S16384x128 (![] : Fin 0 → Fin S16384x128.rank)
  shapeCasts_S16384x128_S2097152 : S16384x128.ShapeCasts S2097152
  bcast_S_S16 : S_.BroadcastsInDim S16 (![] : Fin 0 → Fin S16.rank)
  bcast_S_S32x16 : S_.BroadcastsInDim S32x16 (![] : Fin 0 → Fin S32x16.rank)
  shapeCasts_S32x16_S512 : S32x16.ShapeCasts S512
  concatenates_S16777216_S2097152_S16_S512_S18874896_d0 : Shape.Concatenates [S16777216, S2097152, S16, S512] S18874896 0

variable [Facts]

def fn {F : FTy → Type} [FloatOps F] (main_arg0 : FVec F S16384x1024 .f32) (main_arg1 : FVec F S16384x128 .f32) (main_arg2 : FVec F S16384x128 .f32) (main_arg3 : FVec F S16 .f32) (main_arg4 : FVec F S32x16 .f32) : IVec S18874896 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : IVec S16777216 1 := shapeCast S16777216 main_v2 shapeCasts_S16384x1024_S16777216
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_v7 : IVec S2097152 1 := shapeCast S2097152 main_v6 shapeCasts_S16384x128_S2097152
  let main_v8 : FVec F S16 .f32 := Host.absf main_arg3
  let main_cst_1 : FVec F S_ .f32 := constant S_ .f32 0x7F800000#32
  let main_v9 : FVec F S16 .f32 := broadcastInDim S16 ![] bcast_S_S16 main_cst_1
  let main_v10 : IVec S16 1 := cmpf .olt main_v8 main_v9
  let main_v11 : FVec F S32x16 .f32 := Host.absf main_arg4
  let main_cst_2 : FVec F S_ .f32 := constant S_ .f32 0x7F800000#32
  let main_v12 : FVec F S32x16 .f32 := broadcastInDim S32x16 ![] bcast_S_S32x16 main_cst_2
  let main_v13 : IVec S32x16 1 := cmpf .olt main_v11 main_v12
  let main_v14 : IVec S512 1 := shapeCast S512 main_v13 shapeCasts_S32x16_S512
  let main_v15 : IVec S18874896 1 := concatenate S18874896 0 [⟨S16777216, main_v3⟩, ⟨S2097152, main_v7⟩, ⟨S16, main_v10⟩, ⟨S512, main_v14⟩] concatenates_S16777216_S2097152_S16_S512_S18874896_d0
  main_v15
-- ==== Kernel.lean ====
abbrev S16384x1024 : Shape := ⟨2, ![16384, 1024]⟩
abbrev S16384x128 : Shape := ⟨2, ![16384, 128]⟩
abbrev S16 : Shape := ⟨1, ![16]⟩
abbrev S32x16 : Shape := ⟨2, ![32, 16]⟩
abbrev S256 : Shape := ⟨1, ![256]⟩
abbrev S256x1 : Shape := ⟨2, ![256, 1]⟩
abbrev S128 : Shape := ⟨1, ![128]⟩
abbrev S1x128 : Shape := ⟨2, ![1, 128]⟩
abbrev S8x128 : Shape := ⟨2, ![8, 128]⟩
abbrev S1x1024 : Shape := ⟨2, ![1, 1024]⟩
abbrev S_ : Shape := ⟨0, ![]⟩
abbrev S256x1024 : Shape := ⟨2, ![256, 1024]⟩
abbrev S32x2x8 : Shape := ⟨3, ![32, 2, 8]⟩
abbrev S2x32x8 : Shape := ⟨3, ![2, 32, 8]⟩
abbrev S2x32x8x128 : Shape := ⟨4, ![2, 32, 8, 128]⟩
abbrev S2x32x1024 : Shape := ⟨3, ![2, 32, 1024]⟩
abbrev S2x1x1024 : Shape := ⟨3, ![2, 1, 1024]⟩
abbrev S2x256x1024 : Shape := ⟨3, ![2, 256, 1024]⟩
abbrev S1x32x1024 : Shape := ⟨3, ![1, 32, 1024]⟩
abbrev S1x1x1024 : Shape := ⟨3, ![1, 1, 1024]⟩
abbrev S1x256x1024 : Shape := ⟨3, ![1, 256, 1024]⟩
abbrev S2x256x8x128 : Shape := ⟨4, ![2, 256, 8, 128]⟩
abbrev S2x8x256x128 : Shape := ⟨4, ![2, 8, 256, 128]⟩
abbrev S2x1x8 : Shape := ⟨3, ![2, 1, 8]⟩
abbrev S2x1x8x128 : Shape := ⟨4, ![2, 1, 8, 128]⟩
abbrev S128x1024 : Shape := ⟨2, ![128, 1024]⟩
abbrev S128x128 : Shape := ⟨2, ![128, 128]⟩
abbrev S256x128 : Shape := ⟨2, ![256, 128]⟩
abbrev S128x256 : Shape := ⟨2, ![128, 256]⟩
abbrev S16x256 : Shape := ⟨2, ![16, 256]⟩
abbrev S128x512 : Shape := ⟨2, ![128, 512]⟩
abbrev S512x128 : Shape := ⟨2, ![512, 128]⟩
abbrev S64x128 : Shape := ⟨2, ![64, 128]⟩
abbrev S64x1024 : Shape := ⟨2, ![64, 1024]⟩
abbrev S64x256 : Shape := ⟨2, ![64, 256]⟩
abbrev S80x256 : Shape := ⟨2, ![80, 256]⟩
abbrev S256x256 : Shape := ⟨2, ![256, 256]⟩
abbrev S1x1x256x128 : Shape := ⟨4, ![1, 1, 256, 128]⟩
abbrev S1x256 : Shape := ⟨2, ![1, 256]⟩

abbrev nBuf : Space → Nat
  | .hbm => 69
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S16384x128, .f32⟩
  | .hbm, ⟨3, _⟩ => ⟨S16, .f32⟩
  | .hbm, ⟨4, _⟩ => ⟨S32x16, .f32⟩
  | .hbm, ⟨5, _⟩ => ⟨S256, .i32⟩
  | .hbm, ⟨6, _⟩ => ⟨S256x1, .i32⟩
  | .hbm, ⟨7, _⟩ => ⟨S128, .i32⟩
  | .hbm, ⟨8, _⟩ => ⟨S1x128, .i32⟩
  | .hbm, ⟨9, _⟩ => ⟨S8x128, .i32⟩
  | .hbm, ⟨10, _⟩ => ⟨S1x1024, .i32⟩
  | .hbm, ⟨11, _⟩ => ⟨S_, .i32⟩
  | .hbm, ⟨12, _⟩ => ⟨S1x1024, .i32⟩
  | .hbm, ⟨13, _⟩ => ⟨S1x1024, .i32⟩
  | .hbm, ⟨14, _⟩ => ⟨S256x1024, .i32⟩
  | .hbm, ⟨15, _⟩ => ⟨S256x1024, .i32⟩
  | .hbm, ⟨16, _⟩ => ⟨S256x1024, .i32⟩
  | .hbm, ⟨17, _⟩ => ⟨S_, .i32⟩
  | .hbm, ⟨18, _⟩ => ⟨S256x1024, .i32⟩
  | .hbm, ⟨19, _⟩ => ⟨S256x1024, .i1⟩
  | .hbm, ⟨20, _⟩ => ⟨S_, .i32⟩
  | .hbm, ⟨21, _⟩ => ⟨S256x1024, .i32⟩
  | .hbm, ⟨22, _⟩ => ⟨S256x1024, .i1⟩
  | .hbm, ⟨23, _⟩ => ⟨S256x1024, .i1⟩
  | .hbm, ⟨24, _⟩ => ⟨S_, .i32⟩
  | .hbm, ⟨25, _⟩ => ⟨S256x1024, .i32⟩
  | .hbm, ⟨26, _⟩ => ⟨S256x1024, .i32⟩
  | .hbm, ⟨27, _⟩ => ⟨S_, .i32⟩
  | .hbm, ⟨28, _⟩ => ⟨S256x1024, .i32⟩
  | .hbm, ⟨29, _⟩ => ⟨S256x1024, .i32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .i32⟩
  | .hbm, ⟨42, _⟩ => ⟨S_, .i32⟩
  | .hbm, ⟨43, _⟩ => ⟨S256x1024, .i32⟩
  | .hbm, ⟨44, _⟩ => ⟨S256x1024, .i32⟩
  | .hbm, ⟨45, _⟩ => ⟨S_, .i32⟩
  | .hbm, ⟨46, _⟩ => ⟨S256x1024, .i32⟩
  | .hbm, ⟨47, _⟩ => ⟨S256x1024, .i32⟩
  | .hbm, ⟨48, _⟩ => ⟨S_, .i32⟩
  | .hbm, ⟨49, _⟩ => ⟨S256x1024, .i32⟩
  | .hbm, ⟨50, _⟩ => ⟨S256x1024, .i1⟩
  | .hbm, ⟨51, _⟩ => ⟨S256x1024, .i32⟩
  | .hbm, ⟨52, _⟩ => ⟨S_, .i32⟩
  | .hbm, ⟨53, _⟩ => ⟨S_, .i32⟩
  | .hbm, ⟨54, _⟩ => ⟨S256x1024, .i32⟩
  | .hbm, ⟨55, _⟩ => ⟨S256x1024, .i32⟩
  | .hbm, ⟨56, _⟩ => ⟨S32x2x8, .f32⟩
  | .hbm, ⟨57, _⟩ => ⟨S2x32x8, .f32⟩
  | .hbm, ⟨58, _⟩ => ⟨S2x32x8x128, .f32⟩
  | .hbm, ⟨59, _⟩ => ⟨S2x32x1024, .f32⟩
  | .hbm, ⟨60, _⟩ => ⟨S_, .f32⟩
  | .hbm, ⟨61, _⟩ => ⟨S2x1x1024, .f32⟩
  | .hbm, ⟨62, _⟩ => ⟨S2x256x1024, .f32⟩
  | .hbm, ⟨63, _⟩ => ⟨S2x256x8x128, .f32⟩
  | .hbm, ⟨64, _⟩ => ⟨S2x8x256x128, .f32⟩
  | .hbm, ⟨65, _⟩ => ⟨S2x1x8, .f32⟩
  | .hbm, ⟨66, _⟩ => ⟨S2x1x8x128, .f32⟩
  | .hbm, ⟨67, _⟩ => ⟨S2x1x1024, .f32⟩
  | .hbm, ⟨68, _⟩ => ⟨S16384x1024, .bf16⟩
  | .local _ .vmem, ⟨0, _⟩ => ⟨S256x1024, .i32⟩
  | .local _ .vmem, ⟨1, _⟩ => ⟨S1x32x1024, .f32⟩
  | .local _ .vmem, ⟨2, _⟩ => ⟨S1x32x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x256x1024, .f32⟩
  | .local _ .vmem, ⟨6, _⟩ => ⟨S1x256x1024, .f32⟩
  | .local _ .vmem, ⟨7, _⟩ => ⟨S128x1024, .f32⟩
  | .local _ .vmem, ⟨8, _⟩ => ⟨S128x1024, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S2x8x256x128, .f32⟩
  | .local _ .vmem, ⟨18, _⟩ => ⟨S2x1x1024, .f32⟩
  | .local _ .vmem, ⟨19, _⟩ => ⟨S128x1024, .bf16⟩
  | .local _ .vmem, ⟨20, _⟩ => ⟨S128x1024, .bf16⟩
  | .local _ .vmem, ⟨21, _⟩ => ⟨S2x8x256x128, .f32⟩
  | .local _ .vmem, ⟨22, _⟩ => ⟨S2x8x256x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_call1_v0 : Ref sig .tc := ⟨.hbm, 53, rfl⟩
abbrev main_call1_v1 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc1_scratch1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 64], ![false, false]⟩

def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc1_transform_3 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S2x8x256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2x1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S128x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S16384x1024 : Shape := ⟨2, ![16384, 1024]⟩
abbrev S16384x128 : Shape := ⟨2, ![16384, 128]⟩
abbrev S16 : Shape := ⟨1, ![16]⟩
abbrev S32x16 : Shape := ⟨2, ![32, 16]⟩
abbrev S2x8192x16x64 : Shape := ⟨4, ![2, 8192, 16, 64]⟩
abbrev S_ : Shape := ⟨0, ![]⟩
abbrev S2x64x128x2x8x64 : Shape := ⟨6, ![2, 64, 128, 2, 8, 64]⟩
abbrev S2x64x128x2x64 : Shape := ⟨5, ![2, 64, 128, 2, 64]⟩
abbrev S2x65x128x2x64 : Shape := ⟨5, ![2, 65, 128, 2, 64]⟩
abbrev S2x64x256x2x64 : Shape := ⟨5, ![2, 64, 256, 2, 64]⟩
abbrev S2x64x2x256x128x8 : Shape := ⟨6, ![2, 64, 2, 256, 128, 8]⟩
abbrev S2x64x2x8x128x256 : Shape := ⟨6, ![2, 64, 2, 8, 128, 256]⟩
abbrev S2x64x16x128x256 : Shape := ⟨5, ![2, 64, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1x64x1x128x256 : Shape := ⟨5, ![1, 64, 1, 128, 256]⟩
abbrev S16x1x1 : Shape := ⟨3, ![16, 1, 1]⟩
abbrev S16x32 : Shape := ⟨2, ![16, 32]⟩
abbrev S16x128x256 : Shape := ⟨3, ![16, 128, 256]⟩
abbrev S16x128x256x1 : Shape := ⟨4, ![16, 128, 256, 1]⟩
abbrev S16x128x256x2 : Shape := ⟨4, ![16, 128, 256, 2]⟩
abbrev S1x1x16x128x256 : Shape := ⟨5, ![1, 1, 16, 128, 256]⟩
abbrev S2x64x16x128x1 : Shape := ⟨5, ![2, 64, 16, 128, 1]⟩
abbrev S2x64x16x128x257 : Shape := ⟨5, ![2, 64, 16, 128, 257]⟩
abbrev S2x64x16x128 : Shape := ⟨4, ![2, 64, 16, 128]⟩
abbrev S2x64x2x64x8x128 : Shape := ⟨6, ![2, 64, 2, 64, 8, 128]⟩

abbrev nBuf : Space → Nat
  | .hbm => 147
  | .vmem => 0
  | .smem => 0
  | _ => 0

abbrev hbmTy0_0 (i : Nat) : BufTy := match i % 128 with
  | 0 => ⟨S16384x1024, .f32⟩
  | 1 => ⟨S16384x128, .f32⟩
  | 2 => ⟨S16384x128, .f32⟩
  | 3 => ⟨S16, .f32⟩
  | 4 => ⟨S32x16, .f32⟩
  | 5 => ⟨S2x8192x16x64, .f32⟩
  | 6 => ⟨S_, .f32⟩
  | 7 => ⟨S2x8192x16x64, .f32⟩
  | 8 => ⟨S2x8192x16x64, .f32⟩
  | 9 => ⟨S2x64x128x2x8x64, .f32⟩
  | 10 => ⟨S2x64x128x2x64, .f32⟩
  | 11 => ⟨S2x64x128x2x64, .f32⟩
  | 12 => ⟨S_, .i32⟩
  | 13 => ⟨S_, .f32⟩
  | 14 => ⟨S2x65x128x2x64, .f32⟩
  | 15 => ⟨S2x64x128x2x64, .f32⟩
  | 16 => ⟨S2x64x256x2x64, .f32⟩
  | 17 => ⟨S_, .i32⟩
  | 18 => ⟨S_, .f32⟩
  | 19 => ⟨S2x65x128x2x64, .f32⟩
  | 20 => ⟨S2x64x128x2x64, .f32⟩
  | 21 => ⟨S2x64x256x2x64, .f32⟩
  | 22 => ⟨S2x64x2x256x128x8, .f32⟩
  | 23 => ⟨S2x64x2x8x128x256, .f32⟩
  | 24 => ⟨S2x64x16x128x256, .f32⟩
  | 25 => ⟨S128, .i32⟩
  | 26 => ⟨S128x1, .i32⟩
  | 27 => ⟨S_, .i32⟩
  | 28 => ⟨S128x1, .i32⟩
  | 29 => ⟨S128x1, .i32⟩
  | 30 => ⟨S256, .i32⟩
  | 31 => ⟨S1x256, .i32⟩
  | 32 => ⟨S128x256, .i32⟩
  | 33 => ⟨S128x256, .i32⟩
  | 34 => ⟨S128x256, .i32⟩
  | 35 => ⟨S64, .i32⟩
  | 36 => ⟨S64x1, .i32⟩
  | 37 => ⟨S_, .i32⟩
  | 38 => ⟨S64x1, .i32⟩
  | 39 => ⟨S64x1, .i32⟩
  | 40 => ⟨S_, .i32⟩
  | 41 => ⟨S64x1, .i32⟩
  | 42 => ⟨S64x1, .i32⟩
  | 43 => ⟨S256, .i32⟩
  | 44 => ⟨S1x256, .i32⟩
  | 45 => ⟨S64x256, .i32⟩
  | 46 => ⟨S64x256, .i32⟩
  | 47 => ⟨S64x256, .i32⟩
  | 48 => ⟨S_, .i32⟩
  | 49 => ⟨S128x256, .i32⟩
  | 50 => ⟨S128x256, .i1⟩
  | 51 => ⟨S_, .i32⟩
  | 52 => ⟨S128x256, .i32⟩
  | 53 => ⟨S128x256, .i1⟩
  | 54 => ⟨S128x256, .i1⟩
  | 55 => ⟨S1x128x256, .i1⟩
  | 56 => ⟨S_, .i32⟩
  | 57 => ⟨S64x256, .i32⟩
  | 58 => ⟨S64x256, .i1⟩
  | 59 => ⟨S64x1x256, .i1⟩
  | 60 => ⟨S64x128x256, .i1⟩
  | 61 => ⟨S64x128x256, .i1⟩
  | 62 => ⟨S64x128x256, .i1⟩
  | 63 => ⟨S1x64x1x128x256, .i1⟩
  | 64 => ⟨S1x128x256, .i32⟩
  | 65 => ⟨S16, .i32⟩
  | 66 => ⟨S16x1x1, .i32⟩
  | 67 => ⟨S16x32, .f32⟩
  | 68 => ⟨S_, .i32⟩
  | 69 => ⟨S1x128x256, .i32⟩
  | 70 => ⟨S1x128x256, .i32⟩
  | 71 => ⟨S_, .i32⟩
  | 72 => ⟨S1x128x256, .i32⟩
  | 73 => ⟨S1x128x256, .i32⟩
  | 74 => ⟨S1x128x256, .f32⟩
  | 75 => ⟨S_, .f32⟩
  | 76 => ⟨S1x128x256, .f32⟩
  | 77 => ⟨S1x128x256, .f32⟩
  | 78 => ⟨S1x128x256, .f32⟩
  | 79 => ⟨S_, .f32⟩
  | 80 => ⟨S1x128x256, .f32⟩
  | 81 => ⟨S1x128x256, .f32⟩
  | 82 => ⟨S_, .f32⟩
  | 83 => ⟨S1x128x256, .f32⟩
  | 84 => ⟨S1x128x256, .f32⟩
  | 85 => ⟨S1x128x256, .i32⟩
  | 86 => ⟨S_, .i32⟩
  | 87 => ⟨S1x128x256, .i32⟩
  | 88 => ⟨S1x128x256, .i32⟩
  | 89 => ⟨S_, .i32⟩
  | 90 => ⟨S1x128x256, .i32⟩
  | 91 => ⟨S1x128x256, .i32⟩
  | 92 => ⟨S_, .i32⟩
  | 93 => ⟨S1x128x256, .i32⟩
  | 94 => ⟨S1x128x256, .i1⟩
  | 95 => ⟨S1x128x256, .i32⟩
  | 96 => ⟨S_, .i32⟩
  | 97 => ⟨S16x1x1, .i32⟩
  | 98 => ⟨S16x1x1, .i1⟩
  | 99 => ⟨S_, .i32⟩
  | 100 => ⟨S16x1x1, .i32⟩
  | 101 => ⟨S16x1x1, .i32⟩
  | 102 => ⟨S16x1x1, .i32⟩
  | 103 => ⟨S_, .i32⟩
  | 104 => ⟨S1x128x256, .i32⟩
  | 105 => ⟨S1x128x256, .i1⟩
  | 106 => ⟨S_, .i32⟩
  | 107 => ⟨S1x128x256, .i32⟩
  | 108 => ⟨S1x128x256, .i32⟩
  | 109 => ⟨S1x128x256, .i32⟩
  | 110 => ⟨S16x128x256, .i32⟩
  | 111 => ⟨S16x128x256, .i32⟩
  | 112 => ⟨S16x128x256x1, .i32⟩
  | 113 => ⟨S16x128x256x1, .i32⟩
  | 114 => ⟨S16x128x256x2, .i32⟩
  | 115 => ⟨S16x128x256, .f32⟩
  | 116 => ⟨S1x1x16x128x256, .f32⟩
  | 117 => ⟨S2x64x16x128x256, .f32⟩
  | 118 => ⟨S2x64x16x128x256, .f32⟩
  | 119 => ⟨S_, .f32⟩
  | 120 => ⟨S_, .f32⟩
  | 121 => ⟨S2x64x16x128x256, .i1⟩
  | 122 => ⟨S2x64x16x128x256, .f32⟩
  | 123 => ⟨S2x64x16x128x256, .f32⟩
  | 124 => ⟨S16x1x1, .f32⟩
  | 125 => ⟨S2x64x16x128x1, .f32⟩
  | 126 => ⟨S2x64x16x128x257, .f32⟩
  | 127 => ⟨S_, .f32⟩
  | _ => ⟨S16384x1024, .f32⟩

abbrev hbmTy0_1 (i : Nat) : BufTy := match i % 128 with
  | 0 => ⟨S2x64x16x128, .f32⟩
  | 1 => ⟨S_, .f32⟩
  | 2 => ⟨S2x64x16x128, .f32⟩
  | 3 => ⟨S2x64x16x128, .f32⟩
  | 4 => ⟨S2x64x16x128x1, .f32⟩
  | 5 => ⟨S2x64x16x128x257, .f32⟩
  | 6 => ⟨S2x64x16x128x257, .f32⟩
  | 7 => ⟨S2x64x16x128x257, .f32⟩
  | 8 => ⟨S_, .f32⟩
  | 9 => ⟨S2x64x16x128, .f32⟩
  | 10 => ⟨S2x64x16x128x1, .f32⟩
  | 11 => ⟨S2x64x16x128x257, .f32⟩
  | 12 => ⟨S2x64x16x128x257, .f32⟩
  | 13 => ⟨S2x64x16x128x256, .f32⟩
  | 14 => ⟨S2x64x2x8x128x256, .f32⟩
  | 15 => ⟨S2x64x2x64x8x128, .f32⟩
  | 16 => ⟨S2x64x128x2x8x64, .f32⟩
  | 17 => ⟨S16384x1024, .f32⟩
  | 18 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_7 : Ref sig .tc := ⟨.hbm, 68, rfl⟩
abbrev main_v52 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_12 : Ref sig .tc := ⟨.hbm, 86, rfl⟩
abbrev main_v65 : Ref sig .tc := ⟨.hbm, 87, rfl⟩
abbrev main_v66 : Ref sig .tc := ⟨.hbm, 88, rfl⟩
abbrev main_c_13 : Ref sig .tc := ⟨.hbm, 89, rfl⟩
abbrev main_v67 : Ref sig .tc := ⟨.hbm, 90, rfl⟩
abbrev main_v68 : Ref sig .tc := ⟨.hbm, 91, rfl⟩
abbrev main_c_14 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_15 : Ref sig .tc := ⟨.hbm, 96, rfl⟩
abbrev main_v72 : Ref sig .tc := ⟨.hbm, 97, rfl⟩
abbrev main_v73 : Ref sig .tc := ⟨.hbm, 98, rfl⟩
abbrev main_c_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_17 : Ref sig .tc := ⟨.hbm, 103, rfl⟩
abbrev main_v77 : Ref sig .tc := ⟨.hbm, 104, rfl⟩
abbrev main_v78 : Ref sig .tc := ⟨.hbm, 105, rfl⟩
abbrev main_c_18 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_19 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_20 : Ref sig .tc := ⟨.hbm, 127, rfl⟩
abbrev main_v95 : Ref sig .tc := ⟨.hbm, 128, rfl⟩
abbrev main_cst_21 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_22 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1x1024 : Shape := ⟨3, ![2, 1, 1024]⟩
abbrev S1024 : Shape := ⟨1, ![1024]⟩
abbrev S1024x5376 : Shape := ⟨2, ![1024, 5376]⟩
abbrev S16384x1024 : Shape := ⟨2, ![16384, 1024]⟩
abbrev S1x1024 : Shape := ⟨2, ![1, 1024]⟩
abbrev S16384x128 : Shape := ⟨2, ![16384, 128]⟩
abbrev S32768x128 : Shape := ⟨2, ![32768, 128]⟩
abbrev S1024x1024 : Shape := ⟨2, ![1024, 1024]⟩
abbrev S1x1x1024 : Shape := ⟨3, ![1, 1, 1024]⟩
abbrev S1024x128 : Shape := ⟨2, ![1024, 128]⟩
abbrev S2048x128 : Shape := ⟨2, ![2048, 128]⟩
abbrev S1024x1 : Shape := ⟨2, ![1024, 1]⟩

abbrev nBuf : Space → Nat
  | .hbm => 16
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x5376, .f32⟩
  | .hbm, ⟨5, _⟩ => ⟨S16384x1024, .f32⟩
  | .hbm, ⟨6, _⟩ => ⟨S1024x5376, .bf16⟩
  | .hbm, ⟨7, _⟩ => ⟨S1x1024, .f32⟩
  | .hbm, ⟨8, _⟩ => ⟨S16384x1024, .f32⟩
  | .hbm, ⟨9, _⟩ => ⟨S16384x128, .f32⟩
  | .hbm, ⟨10, _⟩ => ⟨S16384x128, .f32⟩
  | .hbm, ⟨11, _⟩ => ⟨S16384x1024, .bf16⟩
  | .hbm, ⟨12, _⟩ => ⟨S16384x1024, .f32⟩
  | .hbm, ⟨13, _⟩ => ⟨S16384x1024, .bf16⟩
  | .hbm, ⟨14, _⟩ => ⟨S32768x128, .f32⟩
  | .hbm, ⟨15, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5376, .bf16⟩
  | .local _ .vmem, ⟨8, _⟩ => ⟨S1024x1024, .f32⟩
  | .local _ .vmem, ⟨9, _⟩ => ⟨S1024x1024, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev main_v3_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5376 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S2x8192x1024 : Shape := ⟨3, ![2, 8192, 1024]⟩
abbrev S2x1x1024 : Shape := ⟨3, ![2, 1, 1024]⟩
abbrev S1024 : Shape := ⟨1, ![1024]⟩
abbrev S1024x5376 : Shape := ⟨2, ![1024, 5376]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5376 : Shape := ⟨3, ![2, 8192, 5376]⟩
abbrev S2x8192x128 : Shape := ⟨3, ![2, 8192, 128]⟩
abbrev S16384x1024 : Shape := ⟨2, ![16384, 1024]⟩
abbrev S16384x128 : Shape := ⟨2, ![16384, 128]⟩
abbrev S2x8192x64 : Shape := ⟨3, ![2, 8192, 64]⟩
abbrev S2x8192x1x128 : Shape := ⟨4, ![2, 8192, 1, 128]⟩
abbrev S2x8192x2x128 : Shape := ⟨4, ![2, 8192, 2, 128]⟩
abbrev S32768x128 : Shape := ⟨2, ![32768, 128]⟩

abbrev nBuf : Space → Nat
  | .hbm => 85
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x5376, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x5376, .f32⟩
  | .hbm, ⟨29, _⟩ => ⟨S2x8192x1024, .f32⟩
  | .hbm, ⟨30, _⟩ => ⟨S2x8192x128, .f32⟩
  | .hbm, ⟨31, _⟩ => ⟨S2x8192x128, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x8192x1024, .f32⟩
  | .hbm, ⟨40, _⟩ => ⟨S2x8192x1024, .f32⟩
  | .hbm, ⟨41, _⟩ => ⟨S_, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S16384x1024, .f32⟩
  | .hbm, ⟨46, _⟩ => ⟨S16384x128, .f32⟩
  | .hbm, ⟨47, _⟩ => ⟨S16384x128, .f32⟩
  | .hbm, ⟨48, _⟩ => ⟨S2x8192x1024, .f32⟩
  | .hbm, ⟨49, _⟩ => ⟨S2x8192x1024, .f32⟩
  | .hbm, ⟨50, _⟩ => ⟨S_, .f32⟩
  | .hbm, ⟨51, _⟩ => ⟨S2x8192x1024, .f32⟩
  | .hbm, ⟨52, _⟩ => ⟨S2x8192x1024, .f32⟩
  | .hbm, ⟨53, _⟩ => ⟨S_, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S16384x1024, .f32⟩
  | .hbm, ⟨58, _⟩ => ⟨S16384x1024, .bf16⟩
  | .hbm, ⟨59, _⟩ => ⟨S16384x1024, .f32⟩
  | .hbm, ⟨60, _⟩ => ⟨S2x8192x1024, .f32⟩
  | .hbm, ⟨61, _⟩ => ⟨S2x8192x1024, .f32⟩
  | .hbm, ⟨62, _⟩ => ⟨S_, .f32⟩
  | .hbm, ⟨63, _⟩ => ⟨S2x8192x1024, .f32⟩
  | .hbm, ⟨64, _⟩ => ⟨S2x8192x1024, .f32⟩
  | .hbm, ⟨65, _⟩ => ⟨S_, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S16384x1024, .f32⟩
  | .hbm, ⟨70, _⟩ => ⟨S16384x1024, .bf16⟩
  | .hbm, ⟨71, _⟩ => ⟨S2x8192x64, .f32⟩
  | .hbm, ⟨72, _⟩ => ⟨S2x8192x64, .f32⟩
  | .hbm, ⟨73, _⟩ => ⟨S2x8192x128, .f32⟩
  | .hbm, ⟨74, _⟩ => ⟨S2x8192x1x128, .f32⟩
  | .hbm, ⟨75, _⟩ => ⟨S2x8192x1x128, .f32⟩
  | .hbm, ⟨76, _⟩ => ⟨S2x8192x2x128, .f32⟩
  | .hbm, ⟨77, _⟩ => ⟨S32768x128, .f32⟩
  | .hbm, ⟨78, _⟩ => ⟨S2x8192x64, .f32⟩
  | .hbm, ⟨79, _⟩ => ⟨S2x8192x64, .f32⟩
  | .hbm, ⟨80, _⟩ => ⟨S2x8192x128, .f32⟩
  | .hbm, ⟨81, _⟩ => ⟨S2x8192x1x128, .f32⟩
  | .hbm, ⟨82, _⟩ => ⟨S2x8192x1x128, .f32⟩
  | .hbm, ⟨83, _⟩ => ⟨S2x8192x2x128, .f32⟩
  | .hbm, ⟨84, _⟩ => ⟨S32768x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]
-- ==== Kernel3.lean ====
abbrev S16384x1024 : Shape := ⟨2, ![16384, 1024]⟩
abbrev S2x8192x1024 : Shape := ⟨3, ![2, 8192, 1024]⟩
abbrev S2x1x1024 : Shape := ⟨3, ![2, 1, 1024]⟩
abbrev S1024 : Shape := ⟨1, ![1024]⟩
abbrev S2048x1024 : Shape := ⟨2, ![2048, 1024]⟩
abbrev S1024x2304 : Shape := ⟨2, ![1024, 2304]⟩
abbrev S1024x1024 : Shape := ⟨2, ![1024, 1024]⟩
abbrev S1x1024 : Shape := ⟨2, ![1, 1024]⟩
abbrev S16384x128 : Shape := ⟨2, ![16384, 128]⟩
abbrev S512x1024 : Shape := ⟨2, ![512, 1024]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩

abbrev nBuf : Space → Nat
  | .hbm => 21
  | .vmem => 28
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S2x8192x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S1024, .f32⟩
  | .hbm, ⟨8, _⟩ => ⟨S2048x1024, .f32⟩
  | .hbm, ⟨9, _⟩ => ⟨S1024x2304, .f32⟩
  | .hbm, ⟨10, _⟩ => ⟨S2048x1024, .bf16⟩
  | .hbm, ⟨11, _⟩ => ⟨S1024x1024, .bf16⟩
  | .hbm, ⟨12, _⟩ => ⟨S1024x1024, .bf16⟩
  | .hbm, ⟨13, _⟩ => ⟨S16384x1024, .f32⟩
  | .hbm, ⟨14, _⟩ => ⟨S1024x2304, .bf16⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x128, .f32⟩
  | .hbm, ⟨19, _⟩ => ⟨S16384x128, .f32⟩
  | .hbm, ⟨20, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1024x2304, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x1024, .bf16⟩
  | .local _ .vmem, ⟨27, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2304 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S16384x1024 : Shape := ⟨2, ![16384, 1024]⟩
abbrev S2x8192x1024 : Shape := ⟨3, ![2, 8192, 1024]⟩
abbrev S2x1x1024 : Shape := ⟨3, ![2, 1, 1024]⟩
abbrev S1024 : Shape := ⟨1, ![1024]⟩
abbrev S2048x1024 : Shape := ⟨2, ![2048, 1024]⟩
abbrev S1024x2304 : Shape := ⟨2, ![1024, 2304]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2304 : Shape := ⟨3, ![2, 8192, 2304]⟩
abbrev S2x8192x128 : Shape := ⟨3, ![2, 8192, 128]⟩
abbrev S16384x128 : Shape := ⟨2, ![16384, 128]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S2x8192x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S1024, .f32⟩
  | .hbm, ⟨8, _⟩ => ⟨S2048x1024, .f32⟩
  | .hbm, ⟨9, _⟩ => ⟨S1024x2304, .f32⟩
  | .hbm, ⟨10, _⟩ => ⟨S16384x1024, .f32⟩
  | .hbm, ⟨11, _⟩ => ⟨S2x8192x1024, .f32⟩
  | .hbm, ⟨12, _⟩ => ⟨S16384x1024, .f32⟩
  | .hbm, ⟨13, _⟩ => ⟨S2x8192x1024, .f32⟩
  | .hbm, ⟨14, _⟩ => ⟨S2x8192x1024, .f32⟩
  | .hbm, ⟨15, _⟩ => ⟨S16384x1024, .f32⟩
  | .hbm, ⟨16, _⟩ => ⟨S2x8192x1024, .f32⟩
  | .hbm, ⟨17, _⟩ => ⟨S2x8192x2048, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1, .f32⟩
  | .hbm, ⟨33, _⟩ => ⟨S2x8192x1024, .f32⟩
  | .hbm, ⟨34, _⟩ => ⟨S2x8192x1024, .f32⟩
  | .hbm, ⟨35, _⟩ => ⟨S1x1x1024, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x1x1024, .f32⟩
  | .hbm, ⟨40, _⟩ => ⟨S2x1x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S2x8192x2304, .f32⟩
  | .hbm, ⟨46, _⟩ => ⟨S2x8192x1024, .f32⟩
  | .hbm, ⟨47, _⟩ => ⟨S2x8192x128, .f32⟩
  | .hbm, ⟨48, _⟩ => ⟨S2x8192x128, .f32⟩
  | .hbm, ⟨49, _⟩ => ⟨S2x8192x1024, .f32⟩
  | .hbm, ⟨50, _⟩ => ⟨S16384x1024, .f32⟩
  | .hbm, ⟨51, _⟩ => ⟨S16384x1024, .f32⟩
  | .hbm, ⟨52, _⟩ => ⟨S16384x128, .f32⟩
  | .hbm, ⟨53, _⟩ => ⟨S16384x128, .f32⟩
  | .hbm, ⟨54, _⟩ => ⟨S2x8192x1024, .f32⟩
  | .hbm, ⟨55, _⟩ => ⟨S2x8192x1024, .f32⟩
  | .hbm, ⟨56, _⟩ => ⟨S_, .f32⟩
  | .hbm, ⟨57, _⟩ => ⟨S2x8192x1024, .f32⟩
  | .hbm, ⟨58, _⟩ => ⟨S2x8192x1024, .f32⟩
  | .hbm, ⟨59, _⟩ => ⟨S_, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S16384x1024, .f32⟩
  | .hbm, ⟨64, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== Kernel4.lean ====
abbrev S16384x1024 : Shape := ⟨2, ![16384, 1024]⟩
abbrev S2x8192x1024 : Shape := ⟨3, ![2, 8192, 1024]⟩
abbrev S2x1x1024 : Shape := ⟨3, ![2, 1, 1024]⟩
abbrev S1024x1024 : Shape := ⟨2, ![1024, 1024]⟩
abbrev S1024 : Shape := ⟨1, ![1024]⟩
abbrev S1x1024 : Shape := ⟨2, ![1, 1024]⟩
abbrev S1x1x1024 : Shape := ⟨3, ![1, 1, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x8192x1024, .f32⟩
  | .hbm, ⟨3, _⟩ => ⟨S2x1x1024, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S16384x1024, .f32⟩
  | .hbm, ⟨8, _⟩ => ⟨S1x1024, .f32⟩
  | .hbm, ⟨9, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x1024 : Shape := ⟨2, ![16384, 1024]⟩
abbrev S2x8192x1024 : Shape := ⟨3, ![2, 8192, 1024]⟩
abbrev S2x1x1024 : Shape := ⟨3, ![2, 1, 1024]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x8192x1024, .f32⟩
  | .hbm, ⟨3, _⟩ => ⟨S2x1x1024, .f32⟩
  | .hbm, ⟨4, _⟩ => ⟨S1024x1024, .f32⟩
  | .hbm, ⟨5, _⟩ => ⟨S1024, .f32⟩
  | .hbm, ⟨6, _⟩ => ⟨S16384x1024, .f32⟩
  | .hbm, ⟨7, _⟩ => ⟨S2x8192x1024, .f32⟩
  | .hbm, ⟨8, _⟩ => ⟨S16384x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel5.lean ====
abbrev S128x8x1024 : Shape := ⟨3, ![128, 8, 1024]⟩
abbrev S128x1x1024 : Shape := ⟨3, ![128, 1, 1024]⟩
abbrev S1024 : Shape := ⟨1, ![1024]⟩
abbrev S1024x5376 : Shape := ⟨2, ![1024, 5376]⟩
abbrev S1x1024 : Shape := ⟨2, ![1, 1024]⟩
abbrev S1024x1024 : Shape := ⟨2, ![1024, 1024]⟩
abbrev S1024x128 : Shape := ⟨2, ![1024, 128]⟩
abbrev S32x8x1024 : Shape := ⟨3, ![32, 8, 1024]⟩
abbrev S32x1x1024 : Shape := ⟨3, ![32, 1, 1024]⟩
abbrev S256x1024 : Shape := ⟨2, ![256, 1024]⟩
abbrev S256x128 : Shape := ⟨2, ![256, 128]⟩
abbrev S32x8 : Shape := ⟨2, ![32, 8]⟩
abbrev S32x8x1 : Shape := ⟨3, ![32, 8, 1]⟩
abbrev S1x1x1024 : Shape := ⟨3, ![1, 1, 1024]⟩

abbrev nBuf : Space → Nat
  | .hbm => 13
  | .vmem => 20
  | .smem => 0
  | _ => 0

abbrev bufTy : (tb : Table) → Fin (tcTables nBuf tb) → BufTy
  | .hbm, ⟨0, _⟩ => ⟨S128x8x1024, .f32⟩
  | .hbm, ⟨1, _⟩ => ⟨S128x1x1024, .f32⟩
  | .hbm, ⟨2, _⟩ => ⟨S128x1x1024, .f32⟩
  | .hbm, ⟨3, _⟩ => ⟨S1024, .f32⟩
  | .hbm, ⟨4, _⟩ => ⟨S1024x5376, .f32⟩
  | .hbm, ⟨5, _⟩ => ⟨S1024x5376, .bf16⟩
  | .hbm, ⟨6, _⟩ => ⟨S1x1024, .f32⟩
  | .hbm, ⟨7, _⟩ => ⟨S1024x1024, .f32⟩
  | .hbm, ⟨8, _⟩ => ⟨S1024x128, .f32⟩
  | .hbm, ⟨9, _⟩ => ⟨S1024x128, .f32⟩
  | .hbm, ⟨10, _⟩ => ⟨S1024x1024, .bf16⟩
  | .hbm, ⟨11, _⟩ => ⟨S1024x1024, .f32⟩
  | .hbm, ⟨12, _⟩ => ⟨S1024x1024, .bf16⟩
  | .local _ .vmem, ⟨0, _⟩ => ⟨S32x8x1024, .f32⟩
  | .local _ .vmem, ⟨1, _⟩ => ⟨S32x8x1024, .f32⟩
  | .local _ .vmem, ⟨2, _⟩ => ⟨S32x1x1024, .f32⟩
  | .local _ .vmem, ⟨3, _⟩ => ⟨S32x1x1024, .f32⟩
  | .local _ .vmem, ⟨4, _⟩ => ⟨S32x1x1024, .f32⟩
  | .local _ .vmem, ⟨5, _⟩ => ⟨S32x1x1024, .f32⟩
  | .local _ .vmem, ⟨6, _⟩ => ⟨S1x1024, .f32⟩
  | .local _ .vmem, ⟨7, _⟩ => ⟨S1024x5376, .bf16⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5376 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S128x8x1024 : Shape := ⟨3, ![128, 8, 1024]⟩
abbrev S128x1x1024 : Shape := ⟨3, ![128, 1, 1024]⟩
abbrev S1024 : Shape := ⟨1, ![1024]⟩
abbrev S1024x5376 : Shape := ⟨2, ![1024, 5376]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x5376 : Shape := ⟨3, ![128, 8, 5376]⟩
abbrev S128x8x128 : Shape := ⟨3, ![128, 8, 128]⟩
abbrev S1024x1024 : Shape := ⟨2, ![1024, 1024]⟩
abbrev S1024x128 : Shape := ⟨2, ![1024, 128]⟩

abbrev nBuf : Space → Nat
  | .hbm => 71
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x1x1024, .f32⟩
  | .hbm, ⟨2, _⟩ => ⟨S128x1x1024, .f32⟩
  | .hbm, ⟨3, _⟩ => ⟨S1024, .f32⟩
  | .hbm, ⟨4, _⟩ => ⟨S1024x5376, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S_, .f32⟩
  | .hbm, ⟨22, _⟩ => ⟨S128x1x1024, .f32⟩
  | .hbm, ⟨23, _⟩ => ⟨S128x1x1024, .f32⟩
  | .hbm, ⟨24, _⟩ => ⟨S128x8x1024, .f32⟩
  | .hbm, ⟨25, _⟩ => ⟨S128x8x1024, .f32⟩
  | .hbm, ⟨26, _⟩ => ⟨S128x8x1024, .f32⟩
  | .hbm, ⟨27, _⟩ => ⟨S128x8x1024, .f32⟩
  | .hbm, ⟨28, _⟩ => ⟨S128x8x5376, .f32⟩
  | .hbm, ⟨29, _⟩ => ⟨S128x8x1024, .f32⟩
  | .hbm, ⟨30, _⟩ => ⟨S128x8x128, .f32⟩
  | .hbm, ⟨31, _⟩ => ⟨S128x8x128, .f32⟩
  | .hbm, ⟨32, _⟩ => ⟨S128x8x1024, .f32⟩
  | .hbm, ⟨33, _⟩ => ⟨S128x8x1024, .f32⟩
  | .hbm, ⟨34, _⟩ => ⟨S128x8x1024, .f32⟩
  | .hbm, ⟨35, _⟩ => ⟨S128x8x1024, .f32⟩
  | .hbm, ⟨36, _⟩ => ⟨S128x8x1024, .f32⟩
  | .hbm, ⟨37, _⟩ => ⟨S128x8x1024, .f32⟩
  | .hbm, ⟨38, _⟩ => ⟨S_, .f32⟩
  | .hbm, ⟨39, _⟩ => ⟨S128x8x1024, .f32⟩
  | .hbm, ⟨40, _⟩ => ⟨S128x8x1024, .f32⟩
  | .hbm, ⟨41, _⟩ => ⟨S_, .f32⟩
  | .hbm, ⟨42, _⟩ => ⟨S128x8x1024, .f32⟩
  | .hbm, ⟨43, _⟩ => ⟨S128x8x1024, .f32⟩
  | .hbm, ⟨44, _⟩ => ⟨S128x8x1024, .f32⟩
  | .hbm, ⟨45, _⟩ => ⟨S1024x1024, .f32⟩
  | .hbm, ⟨46, _⟩ => ⟨S1024x128, .f32⟩
  | .hbm, ⟨47, _⟩ => ⟨S1024x128, .f32⟩
  | .hbm, ⟨48, _⟩ => ⟨S128x8x1024, .f32⟩
  | .hbm, ⟨49, _⟩ => ⟨S128x8x1024, .f32⟩
  | .hbm, ⟨50, _⟩ => ⟨S_, .f32⟩
  | .hbm, ⟨51, _⟩ => ⟨S128x8x1024, .f32⟩
  | .hbm, ⟨52, _⟩ => ⟨S128x8x1024, .f32⟩
  | .hbm, ⟨53, _⟩ => ⟨S_, .f32⟩
  | .hbm, ⟨54, _⟩ => ⟨S128x8x1024, .f32⟩
  | .hbm, ⟨55, _⟩ => ⟨S128x8x1024, .f32⟩
  | .hbm, ⟨56, _⟩ => ⟨S128x8x1024, .f32⟩
  | .hbm, ⟨57, _⟩ => ⟨S1024x1024, .f32⟩
  | .hbm, ⟨58, _⟩ => ⟨S1024x1024, .bf16⟩
  | .hbm, ⟨59, _⟩ => ⟨S1024x1024, .f32⟩
  | .hbm, ⟨60, _⟩ => ⟨S128x8x1024, .f32⟩
  | .hbm, ⟨61, _⟩ => ⟨S128x8x1024, .f32⟩
  | .hbm, ⟨62, _⟩ => ⟨S_, .f32⟩
  | .hbm, ⟨63, _⟩ => ⟨S128x8x1024, .f32⟩
  | .hbm, ⟨64, _⟩ => ⟨S128x8x1024, .f32⟩
  | .hbm, ⟨65, _⟩ => ⟨S_, .f32⟩
  | .hbm, ⟨66, _⟩ => ⟨S128x8x1024, .f32⟩
  | .hbm, ⟨67, _⟩ => ⟨S128x8x1024, .f32⟩
  | .hbm, ⟨68, _⟩ => ⟨S128x8x1024, .f32⟩
  | .hbm, ⟨69, _⟩ => ⟨S1024x1024, .f32⟩
  | .hbm, ⟨70, _⟩ => ⟨S1024x1024, .bf16⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩

abbrev nD : Nat := 1
abbrev τ : Topo := Topo.v7x

variable {F : FTy → Type} [FloatOps F]
-- ==== Kernel6.lean ====
abbrev S1024x1024 : Shape := ⟨2, ![1024, 1024]⟩
abbrev S128x8x1024 : Shape := ⟨3, ![128, 8, 1024]⟩
abbrev S128x1x1024 : Shape := ⟨3, ![128, 1, 1024]⟩
abbrev S1024 : Shape := ⟨1, ![1024]⟩
abbrev S1x1024 : Shape := ⟨2, ![1, 1024]⟩
abbrev S256x1024 : Shape := ⟨2, ![256, 1024]⟩
abbrev S32x8x1024 : Shape := ⟨3, ![32, 8, 1024]⟩
abbrev S32x1x1024 : Shape := ⟨3, ![32, 1, 1024]⟩
abbrev S32x8 : Shape := ⟨2, ![32, 8]⟩
abbrev S32x8x1 : Shape := ⟨3, ![32, 8, 1]⟩
abbrev S1x1x1024 : Shape := ⟨3, ![1, 1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S128x8x1024, .f32⟩
  | .hbm, ⟨3, _⟩ => ⟨S128x1x1024, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S128x8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S32x8x1024, .f32⟩
  | .local _ .vmem, ⟨6, _⟩ => ⟨S32x8x1024, .f32⟩
  | .local _ .vmem, ⟨7, _⟩ => ⟨S32x1x1024, .f32⟩
  | .local _ .vmem, ⟨8, _⟩ => ⟨S32x1x1024, .f32⟩
  | .local _ .vmem, ⟨9, _⟩ => ⟨S1x1024, .f32⟩
  | .local _ .vmem, ⟨10, _⟩ => ⟨S32x8x1024, .f32⟩
  | .local _ .vmem, ⟨11, _⟩ => ⟨S32x8x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S1024x1024 : Shape := ⟨2, ![1024, 1024]⟩
abbrev S128x8x1024 : Shape := ⟨3, ![128, 8, 1024]⟩
abbrev S128x1x1024 : Shape := ⟨3, ![128, 1, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S128x8x1024, .f32⟩
  | .hbm, ⟨3, _⟩ => ⟨S128x1x1024, .f32⟩
  | .hbm, ⟨4, _⟩ => ⟨S1024x1024, .f32⟩
  | .hbm, ⟨5, _⟩ => ⟨S1024, .f32⟩
  | .hbm, ⟨6, _⟩ => ⟨S128x8x1024, .f32⟩
  | .hbm, ⟨7, _⟩ => ⟨S1024x1024, .f32⟩
  | .hbm, ⟨8, _⟩ => ⟨S128x8x1024, .f32⟩
  | .hbm, ⟨9, _⟩ => ⟨S128x8x1024, .f32⟩
  | .hbm, ⟨10, _⟩ => ⟨S128x8x1024, .f32⟩
  | .hbm, ⟨11, _⟩ => ⟨S128x8x1024, .f32⟩
  | .hbm, ⟨12, _⟩ => ⟨S128x8x1024, .f32⟩
  | .hbm, ⟨13, _⟩ => ⟨S128x8x1024, .f32⟩
  | .hbm, ⟨14, _⟩ => ⟨S128x8x1024, .f32⟩
  | .hbm, ⟨15, _⟩ => ⟨S_, .f32⟩
  | .hbm, ⟨16, _⟩ => ⟨S128x8, .f32⟩
  | .hbm, ⟨17, _⟩ => ⟨S128x8x1, .f32⟩
  | .hbm, ⟨18, _⟩ => ⟨S_, .f32⟩
  | .hbm, ⟨19, _⟩ => ⟨S128x8x1, .f32⟩
  | .hbm, ⟨20, _⟩ => ⟨S128x8x1, .f32⟩
  | .hbm, ⟨21, _⟩ => ⟨S_, .f32⟩
  | .hbm, ⟨22, _⟩ => ⟨S128x8x1, .f32⟩
  | .hbm, ⟨23, _⟩ => ⟨S128x8x1, .f32⟩
  | .hbm, ⟨24, _⟩ => ⟨S128x8x1, .f32⟩
  | .hbm, ⟨25, _⟩ => ⟨S128x8x1024, .f32⟩
  | .hbm, ⟨26, _⟩ => ⟨S128x8x1024, .f32⟩
  | .hbm, ⟨27, _⟩ => ⟨S1x1x1024, .f32⟩
  | .hbm, ⟨28, _⟩ => ⟨S128x8x1024, .f32⟩
  | .hbm, ⟨29, _⟩ => ⟨S128x8x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel7.lean ====
abbrev S1024x1024 : Shape := ⟨2, ![1024, 1024]⟩
abbrev S128x128x2x64 : Shape := ⟨4, ![128, 128, 2, 64]⟩
abbrev S1024x128 : Shape := ⟨2, ![1024, 128]⟩
abbrev S16 : Shape := ⟨1, ![16]⟩
abbrev S32x16 : Shape := ⟨2, ![32, 16]⟩
abbrev S128x2x64x128 : Shape := ⟨4, ![128, 2, 64, 128]⟩
abbrev S128x128x128 : Shape := ⟨3, ![128, 128, 128]⟩
abbrev S8 : Shape := ⟨1, ![8]⟩
abbrev S1x8 : Shape := ⟨2, ![1, 8]⟩
abbrev S16x8 : Shape := ⟨2, ![16, 8]⟩
abbrev S1x128 : Shape := ⟨2, ![1, 128]⟩
abbrev S_ : Shape := ⟨0, ![]⟩
abbrev S128 : Shape := ⟨1, ![128]⟩
abbrev S128x1 : Shape := ⟨2, ![128, 1]⟩
abbrev S128x128 : Shape := ⟨2, ![128, 128]⟩
abbrev S32x16x8 : Shape := ⟨3, ![32, 16, 8]⟩
abbrev S32x128 : Shape := ⟨2, ![32, 128]⟩
abbrev S1x32x128 : Shape := ⟨3, ![1, 32, 128]⟩
abbrev S1x1x128 : Shape := ⟨3, ![1, 1, 128]⟩
abbrev S1x128x128 : Shape := ⟨3, ![1, 128, 128]⟩
abbrev S64x1024 : Shape := ⟨2, ![64, 1024]⟩
abbrev S8x128x128 : Shape := ⟨3, ![8, 128, 128]⟩
abbrev S64x128 : Shape := ⟨2, ![64, 128]⟩
abbrev S8x128 : Shape := ⟨2, ![8, 128]⟩
abbrev S120x128 : Shape := ⟨2, ![120, 128]⟩
abbrev S8x1024 : Shape := ⟨2, ![8, 1024]⟩

abbrev nBuf : Space → Nat
  | .hbm => 128
  | .vmem => 27
  | .smem => 0
  | _ => 0

abbrev bufTy : (tb : Table) → Fin (tcTables nBuf tb) → BufTy
  | .hbm, ⟨0, _⟩ => ⟨S1024x1024, .f32⟩
  | .hbm, ⟨1, _⟩ => ⟨S128x128x2x64, .f32⟩
  | .hbm, ⟨2, _⟩ => ⟨S128x128x2x64, .f32⟩
  | .hbm, ⟨3, _⟩ => ⟨S1024x128, .f32⟩
  | .hbm, ⟨4, _⟩ => ⟨S1024x128, .f32⟩
  | .hbm, ⟨5, _⟩ => ⟨S16, .f32⟩
  | .hbm, ⟨6, _⟩ => ⟨S32x16, .f32⟩
  | .hbm, ⟨7, _⟩ => ⟨S128x2x64x128, .f32⟩
  | .hbm, ⟨8, _⟩ => ⟨S128x128x128, .f32⟩
  | .hbm, ⟨9, _⟩ => ⟨S128x2x64x128, .f32⟩
  | .hbm, ⟨10, _⟩ => ⟨S128x128x128, .f32⟩
  | .hbm, ⟨11, _⟩ => ⟨S8, .i32⟩
  | .hbm, ⟨12, _⟩ => ⟨S1x8, .i32⟩
  | .hbm, ⟨13, _⟩ => ⟨S16x8, .i32⟩
  | .hbm, ⟨14, _⟩ => ⟨S1x128, .i32⟩
  | .hbm, ⟨15, _⟩ => ⟨S_, .i32⟩
  | .hbm, ⟨16, _⟩ => ⟨S1x128, .i32⟩
  | .hbm, ⟨17, _⟩ => ⟨S1x128, .i32⟩
  | .hbm, ⟨18, _⟩ => ⟨S128, .i32⟩
  | .hbm, ⟨19, _⟩ => ⟨S128x1, .i32⟩
  | .hbm, ⟨20, _⟩ => ⟨S128x128, .i32⟩
  | .hbm, ⟨21, _⟩ => ⟨S128x128, .i32⟩
  | .hbm, ⟨22, _⟩ => ⟨S128x128, .i32⟩
  | .hbm, ⟨23, _⟩ => ⟨S128, .i32⟩
  | .hbm, ⟨24, _⟩ => ⟨S128x1, .i32⟩
  | .hbm, ⟨25, _⟩ => ⟨S128x128, .i32⟩
  | .hbm, ⟨26, _⟩ => ⟨S128x128, .i32⟩
  | .hbm, ⟨27, _⟩ => ⟨S128x128, .i32⟩
  | .hbm, ⟨28, _⟩ => ⟨S_, .i32⟩
  | .hbm, ⟨29, _⟩ => ⟨S128x128, .i32⟩
  | .hbm, ⟨30, _⟩ => ⟨S128x128, .i1⟩
  | .hbm, ⟨31, _⟩ => ⟨S_, .i32⟩
  | .hbm, ⟨32, _⟩ => ⟨S128x128, .i32⟩
  | .hbm, ⟨33, _⟩ => ⟨S128x128, .i1⟩
  | .hbm, ⟨34, _⟩ => ⟨S128x128, .i1⟩
  | .hbm, ⟨35, _⟩ => ⟨S_, .i32⟩
  | .hbm, ⟨36, _⟩ => ⟨S128x128, .i32⟩
  | .hbm, ⟨37, _⟩ => ⟨S128x128, .i32⟩
  | .hbm, ⟨38, _⟩ => ⟨S_, .i32⟩
  | .hbm, ⟨39, _⟩ => ⟨S128x128, .i32⟩
  | .hbm, ⟨40, _⟩ => ⟨S128x128, .i32⟩
  | .hbm, ⟨41, _⟩ => ⟨S128x128, .f32⟩
  | .hbm, ⟨42, _⟩ => ⟨S_, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S_, .f32⟩
  | .hbm, ⟨47, _⟩ => ⟨S128x128, .f32⟩
  | .hbm, ⟨48, _⟩ => ⟨S128x128, .f32⟩
  | .hbm, ⟨49, _⟩ => ⟨S_, .f32⟩
  | .hbm, ⟨50, _⟩ => ⟨S128x128, .f32⟩
  | .hbm, ⟨51, _⟩ => ⟨S128x128, .f32⟩
  | .hbm, ⟨52, _⟩ => ⟨S128x128, .i32⟩
  | .hbm, ⟨53, _⟩ => ⟨S_, .i32⟩
  | .hbm, ⟨54, _⟩ => ⟨S128x128, .i32⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S_, .i32⟩
  | .hbm, ⟨60, _⟩ => ⟨S128x128, .i32⟩
  | .hbm, ⟨61, _⟩ => ⟨S128x128, .i1⟩
  | .hbm, ⟨62, _⟩ => ⟨S128x128, .i32⟩
  | .hbm, ⟨63, _⟩ => ⟨S_, .i32⟩
  | .hbm, ⟨64, _⟩ => ⟨S_, .i32⟩
  | .hbm, ⟨65, _⟩ => ⟨S128x128, .i32⟩
  | .hbm, ⟨66, _⟩ => ⟨S128x128, .i32⟩
  | .hbm, ⟨67, _⟩ => ⟨S_, .i32⟩
  | .hbm, ⟨68, _⟩ => ⟨S128x128, .i32⟩
  | .hbm, ⟨69, _⟩ => ⟨S128x128, .i1⟩
  | .hbm, ⟨70, _⟩ => ⟨S_, .i32⟩
  | .hbm, ⟨71, _⟩ => ⟨S128x128, .i32⟩
  | .hbm, ⟨72, _⟩ => ⟨S128x128, .i1⟩
  | .hbm, ⟨73, _⟩ => ⟨S128x128, .i1⟩
  | .hbm, ⟨74, _⟩ => ⟨S_, .i32⟩
  | .hbm, ⟨75, _⟩ => ⟨S128x1, .i32⟩
  | .hbm, ⟨76, _⟩ => ⟨S128x1, .i1⟩
  | .hbm, ⟨77, _⟩ => ⟨S128x128, .i1⟩
  | .hbm, ⟨78, _⟩ => ⟨S128x128, .i1⟩
  | .hbm, ⟨79, _⟩ => ⟨S_, .i32⟩
  | .hbm, ⟨80, _⟩ => ⟨S128x128, .i32⟩
  | .hbm, ⟨81, _⟩ => ⟨S128x128, .i32⟩
  | .hbm, ⟨82, _⟩ => ⟨S_, .i32⟩
  | .hbm, ⟨83, _⟩ => ⟨S128x128, .i32⟩
  | .hbm, ⟨84, _⟩ => ⟨S128x128, .i32⟩
  | .hbm, ⟨85, _⟩ => ⟨S128x128, .f32⟩
  | .hbm, ⟨86, _⟩ => ⟨S_, .f32⟩
  | .hbm, ⟨87, _⟩ => ⟨S128x128, .f32⟩
  | .hbm, ⟨88, _⟩ => ⟨S128x128, .f32⟩
  | .hbm, ⟨89, _⟩ => ⟨S128x128, .f32⟩
  | .hbm, ⟨90, _⟩ => ⟨S_, .f32⟩
  | .hbm, ⟨91, _⟩ => ⟨S128x128, .f32⟩
  | .hbm, ⟨92, _⟩ => ⟨S128x128, .f32⟩
  | .hbm, ⟨93, _⟩ => ⟨S_, .f32⟩
  | .hbm, ⟨94, _⟩ => ⟨S128x128, .f32⟩
  | .hbm, ⟨95, _⟩ => ⟨S128x128, .f32⟩
  | .hbm, ⟨96, _⟩ => ⟨S128x128, .i32⟩
  | .hbm, ⟨97, _⟩ => ⟨S_, .i32⟩
  | .hbm, ⟨98, _⟩ => ⟨S128x128, .i32⟩
  | .hbm, ⟨99, _⟩ => ⟨S128x128, .i32⟩
  | .hbm, ⟨100, _⟩ => ⟨S_, .i32⟩
  | .hbm, ⟨101, _⟩ => ⟨S128x128, .i32⟩
  | .hbm, ⟨102, _⟩ => ⟨S128x128, .i32⟩
  | .hbm, ⟨103, _⟩ => ⟨S_, .i32⟩
  | .hbm, ⟨104, _⟩ => ⟨S128x128, .i32⟩
  | .hbm, ⟨105, _⟩ => ⟨S128x128, .i1⟩
  | .hbm, ⟨106, _⟩ => ⟨S128x128, .i32⟩
  | .hbm, ⟨107, _⟩ => ⟨S_, .i32⟩
  | .hbm, ⟨108, _⟩ => ⟨S_, .i32⟩
  | .hbm, ⟨109, _⟩ => ⟨S128x128, .i32⟩
  | .hbm, ⟨110, _⟩ => ⟨S128x128, .i32⟩
  | .hbm, ⟨111, _⟩ => ⟨S32x16x8, .f32⟩
  | .hbm, ⟨112, _⟩ => ⟨S32x128, .f32⟩
  | .hbm, ⟨113, _⟩ => ⟨S1x32x128, .f32⟩
  | .hbm, ⟨114, _⟩ => ⟨S_, .f32⟩
  | .hbm, ⟨115, _⟩ => ⟨S1x1x128, .f32⟩
  | .hbm, ⟨116, _⟩ => ⟨S1x128x128, .f32⟩
  | .hbm, ⟨117, _⟩ => ⟨S128x128, .f32⟩
  | .hbm, ⟨118, _⟩ => ⟨S128x128, .f32⟩
  | .hbm, ⟨119, _⟩ => ⟨S1x128x128, .f32⟩
  | .hbm, ⟨120, _⟩ => ⟨S128x128, .f32⟩
  | .hbm, ⟨121, _⟩ => ⟨S128x128, .f32⟩
  | .hbm, ⟨122, _⟩ => ⟨S16x8, .f32⟩
  | .hbm, ⟨123, _⟩ => ⟨S128, .f32⟩
  | .hbm, ⟨124, _⟩ => ⟨S128x1, .f32⟩
  | .hbm, ⟨125, _⟩ => ⟨S1024x1024, .f32⟩
  | .hbm, ⟨126, _⟩ => ⟨S128x128x128, .f32⟩
  | .hbm, ⟨127, _⟩ => ⟨S128x128x128, .f32⟩
  | .local _ .vmem, ⟨0, _⟩ => ⟨S128x128, .i32⟩
  | .local _ .vmem, ⟨1, _⟩ => ⟨S1x32x128, .f32⟩
  | .local _ .vmem, ⟨2, _⟩ => ⟨S1x1x128, .f32⟩
  | .local _ .vmem, ⟨3, _⟩ => ⟨S1x128x128, .f32⟩
  | .local _ .vmem, ⟨4, _⟩ => ⟨S128x128, .i32⟩
  | .local _ .vmem, ⟨5, _⟩ => ⟨S1x32x128, .f32⟩
  | .local _ .vmem, ⟨6, _⟩ => ⟨S1x1x128, .f32⟩
  | .local _ .vmem, ⟨7, _⟩ => ⟨S1x128x128, .f32⟩
  | .local _ .vmem, ⟨8, _⟩ => ⟨S64x1024, .f32⟩
  | .local _ .vmem, ⟨9, _⟩ => ⟨S64x1024, .f32⟩
  | .local _ .vmem, ⟨10, _⟩ => ⟨S8x128x128, .f32⟩
  | .local _ .vmem, ⟨11, _⟩ => ⟨S8x128x128, .f32⟩
  | .local _ .vmem, ⟨12, _⟩ => ⟨S64x128, .f32⟩
  | .local _ .vmem, ⟨13, _⟩ => ⟨S64x128, .f32⟩
  | .local _ .vmem, ⟨14, _⟩ => ⟨S8x128x128, .f32⟩
  | .local _ .vmem, ⟨15, _⟩ => ⟨S8x128x128, .f32⟩
  | .local _ .vmem, ⟨16, _⟩ => ⟨S64x128, .f32⟩
  | .local _ .vmem, ⟨17, _⟩ => ⟨S64x128, .f32⟩
  | .local _ .vmem, ⟨18, _⟩ => ⟨S128x128, .f32⟩
  | .local _ .vmem, ⟨19, _⟩ => ⟨S128x128, .f32⟩
  | .local _ .vmem, ⟨20, _⟩ => ⟨S128x1, .f32⟩
  | .local _ .vmem, ⟨21, _⟩ => ⟨S64x1024, .f32⟩
  | .local _ .vmem, ⟨22, _⟩ => ⟨S64x1024, .f32⟩
  | .local _ .vmem, ⟨23, _⟩ => ⟨S8x128x128, .f32⟩
  | .local _ .vmem, ⟨24, _⟩ => ⟨S8x128x128, .f32⟩
  | .local _ .vmem, ⟨25, _⟩ => ⟨S8x128x128, .f32⟩
  | .local _ .vmem, ⟨26, _⟩ => ⟨S8x128x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_0 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_call1_v0 : Ref sig .tc := ⟨.hbm, 64, rfl⟩
abbrev main_call1_v1 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_13 : Ref sig .tc := ⟨.hbm, 79, rfl⟩
abbrev main_v55 : Ref sig .tc := ⟨.hbm, 80, rfl⟩
abbrev main_v56 : Ref sig .tc := ⟨.hbm, 81, rfl⟩
abbrev main_c_14 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_15 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_16 : Ref sig .tc := ⟨.hbm, 90, rfl⟩
abbrev main_v63 : Ref sig .tc := ⟨.hbm, 91, rfl⟩
abbrev main_v64 : Ref sig .tc := ⟨.hbm, 92, rfl⟩
abbrev main_cst_17 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_18 : Ref sig .tc := ⟨.hbm, 97, rfl⟩
abbrev main_v68 : Ref sig .tc := ⟨.hbm, 98, rfl⟩
abbrev main_v69 : Ref sig .tc := ⟨.hbm, 99, rfl⟩
abbrev main_c_19 : Ref sig .tc := ⟨.hbm, 100, rfl⟩
abbrev main_v70 : Ref sig .tc := ⟨.hbm, 101, rfl⟩
abbrev main_v71 : Ref sig .tc := ⟨.hbm, 102, rfl⟩
abbrev main_c_20 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_21 : Ref sig .tc := ⟨.hbm, 107, rfl⟩
abbrev main_call3_v0 : Ref sig .tc := ⟨.hbm, 108, rfl⟩
abbrev main_call3_v1 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_22 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89_0 : Ref sig .tc := ⟨.hbm, 125, rfl⟩
abbrev main_v89_1 : Ref sig .tc := ⟨.hbm, 126, rfl⟩
abbrev main_v89_2 : Ref sig .tc := ⟨.hbm, 127, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg8_1 : Ref sig .tc := ⟨.vmem, 22, rfl⟩
abbrev cc2_stg9_0 : Ref sig .tc := ⟨.vmem, 23, rfl⟩
abbrev cc2_stg9_1 : Ref sig .tc := ⟨.vmem, 24, rfl⟩
abbrev cc2_stg10_0 : Ref sig .tc := ⟨.vmem, 25, rfl⟩
abbrev cc2_stg10_1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem8_1 : DmaSem sig := 22
abbrev cc2_sem9_0 : DmaSem sig := 23
abbrev cc2_sem9_1 : DmaSem sig := 24
abbrev cc2_sem10_0 : DmaSem sig := 25
abbrev cc2_sem10_1 : DmaSem sig := 26

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S128x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S64x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S64x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S64x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S8x128x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S8x128x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]
-- ==== Reference7Ideal.lean ====
abbrev S1024x1024 : Shape := ⟨2, ![1024, 1024]⟩
abbrev S128x128x2x64 : Shape := ⟨4, ![128, 128, 2, 64]⟩
abbrev S1024x128 : Shape := ⟨2, ![1024, 128]⟩
abbrev S16 : Shape := ⟨1, ![16]⟩
abbrev S32x16 : Shape := ⟨2, ![32, 16]⟩
abbrev S128x8x2x64 : Shape := ⟨4, ![128, 8, 2, 64]⟩
abbrev S128x136x2x64 : Shape := ⟨4, ![128, 136, 2, 64]⟩
abbrev S128x128x128 : Shape := ⟨3, ![128, 128, 128]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S128x128x2x64, .f32⟩
  | .hbm, ⟨2, _⟩ => ⟨S128x128x2x64, .f32⟩
  | .hbm, ⟨3, _⟩ => ⟨S1024x128, .f32⟩
  | .hbm, ⟨4, _⟩ => ⟨S1024x128, .f32⟩
  | .hbm, ⟨5, _⟩ => ⟨S16, .f32⟩
  | .hbm, ⟨6, _⟩ => ⟨S32x16, .f32⟩
  | .hbm, ⟨7, _⟩ => ⟨S128x8x2x64, .f32⟩
  | .hbm, ⟨8, _⟩ => ⟨S128x136x2x64, .f32⟩
  | .hbm, ⟨9, _⟩ => ⟨S128x8x2x64, .f32⟩
  | .hbm, ⟨10, _⟩ => ⟨S128x136x2x64, .f32⟩
  | .hbm, ⟨11, _⟩ => ⟨S128x128x2x64, .f32⟩
  | .hbm, ⟨12, _⟩ => ⟨S128x128x128, .f32⟩
  | .hbm, ⟨13, _⟩ => ⟨S128x128x128, .f32⟩
  | .hbm, ⟨14, _⟩ => ⟨S128x128x2x64, .f32⟩
  | .hbm, ⟨15, _⟩ => ⟨S128x128x128, .f32⟩
  | .hbm, ⟨16, _⟩ => ⟨S128x128x128, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel8.lean ====
abbrev S136x1024 : Shape := ⟨2, ![136, 1024]⟩
abbrev S1024x3072 : Shape := ⟨2, ![1024, 3072]⟩
abbrev S3072 : Shape := ⟨1, ![3072]⟩
abbrev S1x3072 : Shape := ⟨2, ![1, 3072]⟩
abbrev S136x3072 : Shape := ⟨2, ![136, 3072]⟩
abbrev S1024x512 : Shape := ⟨2, ![1024, 512]⟩
abbrev S1x512 : Shape := ⟨2, ![1, 512]⟩
abbrev S136x512 : Shape := ⟨2, ![136, 512]⟩

abbrev nBuf : Space → Nat
  | .hbm => 5
  | .vmem => 7
  | .smem => 0
  | _ => 0

abbrev bufTy : (tb : Table) → Fin (tcTables nBuf tb) → BufTy
  | .hbm, ⟨0, _⟩ => ⟨S136x1024, .f32⟩
  | .hbm, ⟨1, _⟩ => ⟨S1024x3072, .f32⟩
  | .hbm, ⟨2, _⟩ => ⟨S3072, .f32⟩
  | .hbm, ⟨3, _⟩ => ⟨S1x3072, .f32⟩
  | .hbm, ⟨4, _⟩ => ⟨S136x3072, .f32⟩
  | .local _ .vmem, ⟨0, _⟩ => ⟨S136x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S136x512, .f32⟩
  | .local _ .vmem, ⟨6, _⟩ => ⟨S136x512, .f32⟩
  | _, _ => ⟨S136x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S136x1024 : Shape := ⟨2, ![136, 1024]⟩
abbrev S1024x3072 : Shape := ⟨2, ![1024, 3072]⟩
abbrev S3072 : Shape := ⟨1, ![3072]⟩
abbrev S_ : Shape := ⟨0, ![]⟩
abbrev S136x3072 : Shape := ⟨2, ![136, 3072]⟩
abbrev S1x3072 : Shape := ⟨2, ![1, 3072]⟩

abbrev nBuf : Space → Nat
  | .hbm => 16
  | .vmem => 0
  | .smem => 0
  | _ => 0

abbrev bufTy : (tb : Table) → Fin (tcTables nBuf tb) → BufTy
  | .hbm, ⟨0, _⟩ => ⟨S136x1024, .f32⟩
  | .hbm, ⟨1, _⟩ => ⟨S1024x3072, .f32⟩
  | .hbm, ⟨2, _⟩ => ⟨S3072, .f32⟩
  | .hbm, ⟨3, _⟩ => ⟨S136x1024, .f32⟩
  | .hbm, ⟨4, _⟩ => ⟨S136x1024, .f32⟩
  | .hbm, ⟨5, _⟩ => ⟨S_, .f32⟩
  | .hbm, ⟨6, _⟩ => ⟨S136x1024, .f32⟩
  | .hbm, ⟨7, _⟩ => ⟨S136x1024, .f32⟩
  | .hbm, ⟨8, _⟩ => ⟨S_, .f32⟩
  | .hbm, ⟨9, _⟩ => ⟨S136x1024, .f32⟩
  | .hbm, ⟨10, _⟩ => ⟨S136x1024, .f32⟩
  | .hbm, ⟨11, _⟩ => ⟨S136x1024, .f32⟩
  | .hbm, ⟨12, _⟩ => ⟨S136x3072, .f32⟩
  | .hbm, ⟨13, _⟩ => ⟨S1x3072, .f32⟩
  | .hbm, ⟨14, _⟩ => ⟨S136x3072, .f32⟩
  | .hbm, ⟨15, _⟩ => ⟨S136x3072, .f32⟩
  | _, _ => ⟨S136x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel9.lean ====
abbrev S1024x1024 : Shape := ⟨2, ![1024, 1024]⟩
abbrev S128x8x1024 : Shape := ⟨3, ![128, 8, 1024]⟩
abbrev S128x1x1024 : Shape := ⟨3, ![128, 1, 1024]⟩
abbrev S2048x1024 : Shape := ⟨2, ![2048, 1024]⟩
abbrev S256x1024 : Shape := ⟨2, ![256, 1024]⟩
abbrev S32x8x1024 : Shape := ⟨3, ![32, 8, 1024]⟩
abbrev S32x1x1024 : Shape := ⟨3, ![32, 1, 1024]⟩

abbrev nBuf : Space → Nat
  | .hbm => 10
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S1024x1024, .bf16⟩
  | .hbm, ⟨3, _⟩ => ⟨S128x8x1024, .f32⟩
  | .hbm, ⟨4, _⟩ => ⟨S128x1x1024, .f32⟩
  | .hbm, ⟨5, _⟩ => ⟨S2048x1024, .f32⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S128x8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S256x1024, .bf16⟩
  | .local _ .vmem, ⟨6, _⟩ => ⟨S256x1024, .bf16⟩
  | .local _ .vmem, ⟨7, _⟩ => ⟨S1024x1024, .bf16⟩
  | .local _ .vmem, ⟨8, _⟩ => ⟨S32x8x1024, .f32⟩
  | .local _ .vmem, ⟨9, _⟩ => ⟨S32x8x1024, .f32⟩
  | .local _ .vmem, ⟨10, _⟩ => ⟨S32x1x1024, .f32⟩
  | .local _ .vmem, ⟨11, _⟩ => ⟨S32x1x1024, .f32⟩
  | .local _ .vmem, ⟨12, _⟩ => ⟨S32x8x1024, .f32⟩
  | .local _ .vmem, ⟨13, _⟩ => ⟨S32x8x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S1024x1024 : Shape := ⟨2, ![1024, 1024]⟩
abbrev S128x8x1024 : Shape := ⟨3, ![128, 8, 1024]⟩
abbrev S128x1x1024 : Shape := ⟨3, ![128, 1, 1024]⟩
abbrev S2048x1024 : Shape := ⟨2, ![2048, 1024]⟩
abbrev S128x8x2048 : Shape := ⟨3, ![128, 8, 2048]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S1024x1024, .bf16⟩
  | .hbm, ⟨3, _⟩ => ⟨S128x8x1024, .f32⟩
  | .hbm, ⟨4, _⟩ => ⟨S128x1x1024, .f32⟩
  | .hbm, ⟨5, _⟩ => ⟨S2048x1024, .f32⟩
  | .hbm, ⟨6, _⟩ => ⟨S128x8x1024, .f32⟩
  | .hbm, ⟨7, _⟩ => ⟨S1024x1024, .f32⟩
  | .hbm, ⟨8, _⟩ => ⟨S128x8x1024, .f32⟩
  | .hbm, ⟨9, _⟩ => ⟨S128x8x1024, .f32⟩
  | .hbm, ⟨10, _⟩ => ⟨S1024x1024, .f32⟩
  | .hbm, ⟨11, _⟩ => ⟨S128x8x1024, .f32⟩
  | .hbm, ⟨12, _⟩ => ⟨S128x8x2048, .f32⟩
  | .hbm, ⟨13, _⟩ => ⟨S128x8x1024, .f32⟩
  | .hbm, ⟨14, _⟩ => ⟨S128x8x1024, .f32⟩
  | .hbm, ⟨15, _⟩ => ⟨S128x8x1024, .f32⟩
  | .hbm, ⟨16, _⟩ => ⟨S128x8x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel10.lean ====
abbrev S128x8x1024 : Shape := ⟨3, ![128, 8, 1024]⟩
abbrev S128x1x1024 : Shape := ⟨3, ![128, 1, 1024]⟩
abbrev S1024 : Shape := ⟨1, ![1024]⟩
abbrev S1024x2304 : Shape := ⟨2, ![1024, 2304]⟩
abbrev S1x1024 : Shape := ⟨2, ![1, 1024]⟩
abbrev S1024x1024 : Shape := ⟨2, ![1024, 1024]⟩
abbrev S1024x128 : Shape := ⟨2, ![1024, 128]⟩
abbrev S32x8x1024 : Shape := ⟨3, ![32, 8, 1024]⟩
abbrev S32x1x1024 : Shape := ⟨3, ![32, 1, 1024]⟩
abbrev S256x1024 : Shape := ⟨2, ![256, 1024]⟩
abbrev S256x128 : Shape := ⟨2, ![256, 128]⟩
abbrev S32x8 : Shape := ⟨2, ![32, 8]⟩
abbrev S32x8x1 : Shape := ⟨3, ![32, 8, 1]⟩
abbrev S1x1x1024 : Shape := ⟨3, ![1, 1, 1024]⟩

abbrev nBuf : Space → Nat
  | .hbm => 11
  | .vmem => 16
  | .smem => 0
  | _ => 0

abbrev bufTy : (tb : Table) → Fin (tcTables nBuf tb) → BufTy
  | .hbm, ⟨0, _⟩ => ⟨S128x8x1024, .f32⟩
  | .hbm, ⟨1, _⟩ => ⟨S128x1x1024, .f32⟩
  | .hbm, ⟨2, _⟩ => ⟨S128x1x1024, .f32⟩
  | .hbm, ⟨3, _⟩ => ⟨S1024, .f32⟩
  | .hbm, ⟨4, _⟩ => ⟨S1024x2304, .f32⟩
  | .hbm, ⟨5, _⟩ => ⟨S1024x2304, .bf16⟩
  | .hbm, ⟨6, _⟩ => ⟨S1x1024, .f32⟩
  | .hbm, ⟨7, _⟩ => ⟨S1024x1024, .f32⟩
  | .hbm, ⟨8, _⟩ => ⟨S1024x128, .f32⟩
  | .hbm, ⟨9, _⟩ => ⟨S1024x128, .f32⟩
  | .hbm, ⟨10, _⟩ => ⟨S1024x1024, .bf16⟩
  | .local _ .vmem, ⟨0, _⟩ => ⟨S32x8x1024, .f32⟩
  | .local _ .vmem, ⟨1, _⟩ => ⟨S32x8x1024, .f32⟩
  | .local _ .vmem, ⟨2, _⟩ => ⟨S32x1x1024, .f32⟩
  | .local _ .vmem, ⟨3, _⟩ => ⟨S32x1x1024, .f32⟩
  | .local _ .vmem, ⟨4, _⟩ => ⟨S32x1x1024, .f32⟩
  | .local _ .vmem, ⟨5, _⟩ => ⟨S32x1x1024, .f32⟩
  | .local _ .vmem, ⟨6, _⟩ => ⟨S1x1024, .f32⟩
  | .local _ .vmem, ⟨7, _⟩ => ⟨S1024x2304, .bf16⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x1024, .bf16⟩
  | .local _ .vmem, ⟨15, _⟩ => ⟨S256x1024, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S128x8x1024 : Shape := ⟨3, ![128, 8, 1024]⟩
abbrev S128x1x1024 : Shape := ⟨3, ![128, 1, 1024]⟩
abbrev S1024 : Shape := ⟨1, ![1024]⟩
abbrev S1024x2304 : Shape := ⟨2, ![1024, 2304]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x2304 : Shape := ⟨3, ![128, 8, 2304]⟩
abbrev S128x8x128 : Shape := ⟨3, ![128, 8, 128]⟩
abbrev S1024x1024 : Shape := ⟨2, ![1024, 1024]⟩
abbrev S1024x128 : Shape := ⟨2, ![1024, 128]⟩

abbrev nBuf : Space → Nat
  | .hbm => 47
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x1x1024, .f32⟩
  | .hbm, ⟨2, _⟩ => ⟨S128x1x1024, .f32⟩
  | .hbm, ⟨3, _⟩ => ⟨S1024, .f32⟩
  | .hbm, ⟨4, _⟩ => ⟨S1024x2304, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S_, .f32⟩
  | .hbm, ⟨22, _⟩ => ⟨S128x1x1024, .f32⟩
  | .hbm, ⟨23, _⟩ => ⟨S128x1x1024, .f32⟩
  | .hbm, ⟨24, _⟩ => ⟨S128x8x1024, .f32⟩
  | .hbm, ⟨25, _⟩ => ⟨S128x8x1024, .f32⟩
  | .hbm, ⟨26, _⟩ => ⟨S128x8x1024, .f32⟩
  | .hbm, ⟨27, _⟩ => ⟨S128x8x1024, .f32⟩
  | .hbm, ⟨28, _⟩ => ⟨S128x8x2304, .f32⟩
  | .hbm, ⟨29, _⟩ => ⟨S128x8x1024, .f32⟩
  | .hbm, ⟨30, _⟩ => ⟨S128x8x128, .f32⟩
  | .hbm, ⟨31, _⟩ => ⟨S128x8x128, .f32⟩
  | .hbm, ⟨32, _⟩ => ⟨S128x8x1024, .f32⟩
  | .hbm, ⟨33, _⟩ => ⟨S1024x1024, .f32⟩
  | .hbm, ⟨34, _⟩ => ⟨S1024x128, .f32⟩
  | .hbm, ⟨35, _⟩ => ⟨S1024x128, .f32⟩
  | .hbm, ⟨36, _⟩ => ⟨S128x8x1024, .f32⟩
  | .hbm, ⟨37, _⟩ => ⟨S128x8x1024, .f32⟩
  | .hbm, ⟨38, _⟩ => ⟨S_, .f32⟩
  | .hbm, ⟨39, _⟩ => ⟨S128x8x1024, .f32⟩
  | .hbm, ⟨40, _⟩ => ⟨S128x8x1024, .f32⟩
  | .hbm, ⟨41, _⟩ => ⟨S_, .f32⟩
  | .hbm, ⟨42, _⟩ => ⟨S128x8x1024, .f32⟩
  | .hbm, ⟨43, _⟩ => ⟨S128x8x1024, .f32⟩
  | .hbm, ⟨44, _⟩ => ⟨S128x8x1024, .f32⟩
  | .hbm, ⟨45, _⟩ => ⟨S1024x1024, .f32⟩
  | .hbm, ⟨46, _⟩ => ⟨S1024x1024, .bf16⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel11.lean ====
abbrev S128x30x1024 : Shape := ⟨3, ![128, 30, 1024]⟩
abbrev S1024x1024 : Shape := ⟨2, ![1024, 1024]⟩
abbrev S31x1024 : Shape := ⟨2, ![31, 1024]⟩
abbrev S1024 : Shape := ⟨1, ![1024]⟩
abbrev S30x128x1024 : Shape := ⟨3, ![30, 128, 1024]⟩
abbrev S128x8x1024 : Shape := ⟨3, ![128, 8, 1024]⟩
abbrev S8x128x1024 : Shape := ⟨3, ![8, 128, 1024]⟩
abbrev S1x1024 : Shape := ⟨2, ![1, 1024]⟩
abbrev S30x16x1024 : Shape := ⟨3, ![30, 16, 1024]⟩
abbrev S8x16x1024 : Shape := ⟨3, ![8, 16, 1024]⟩
abbrev S1x16x1024 : Shape := ⟨3, ![1, 16, 1024]⟩
abbrev S16x1024 : Shape := ⟨2, ![16, 1024]⟩
abbrev S16x128 : Shape := ⟨2, ![16, 128]⟩
abbrev S1x128 : Shape := ⟨2, ![1, 128]⟩
abbrev S1x16x128 : Shape := ⟨3, ![1, 16, 128]⟩
abbrev S16 : Shape := ⟨1, ![16]⟩
abbrev S16x1 : Shape := ⟨2, ![16, 1]⟩
abbrev S22x16x1024 : Shape := ⟨3, ![22, 16, 1024]⟩

abbrev nBuf : Space → Nat
  | .hbm => 17
  | .vmem => 14
  | .smem => 0
  | _ => 0

abbrev bufTy : (tb : Table) → Fin (tcTables nBuf tb) → BufTy
  | .hbm, ⟨0, _⟩ => ⟨S128x30x1024, .f32⟩
  | .hbm, ⟨1, _⟩ => ⟨S1024x1024, .f32⟩
  | .hbm, ⟨2, _⟩ => ⟨S1024x1024, .bf16⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S30x128x1024, .f32⟩
  | .hbm, ⟨8, _⟩ => ⟨S128x8x1024, .f32⟩
  | .hbm, ⟨9, _⟩ => ⟨S8x128x1024, .f32⟩
  | .hbm, ⟨10, _⟩ => ⟨S128x8x1024, .bf16⟩
  | .hbm, ⟨11, _⟩ => ⟨S8x128x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S8x128x1024, .f32⟩
  | .hbm, ⟨16, _⟩ => ⟨S30x128x1024, .f32⟩
  | .local _ .vmem, ⟨0, _⟩ => ⟨S30x16x1024, .f32⟩
  | .local _ .vmem, ⟨1, _⟩ => ⟨S30x16x1024, .f32⟩
  | .local _ .vmem, ⟨2, _⟩ => ⟨S8x16x1024, .f32⟩
  | .local _ .vmem, ⟨3, _⟩ => ⟨S8x16x1024, .f32⟩
  | .local _ .vmem, ⟨4, _⟩ => ⟨S8x16x1024, .bf16⟩
  | .local _ .vmem, ⟨5, _⟩ => ⟨S8x16x1024, .bf16⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S8x16x1024, .f32⟩
  | .local _ .vmem, ⟨11, _⟩ => ⟨S8x16x1024, .f32⟩
  | .local _ .vmem, ⟨12, _⟩ => ⟨S30x16x1024, .f32⟩
  | .local _ .vmem, ⟨13, _⟩ => ⟨S30x16x1024, .f32⟩
  | _, _ => ⟨S128x30x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S30x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S30x16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S128x30x1024 : Shape := ⟨3, ![128, 30, 1024]⟩
abbrev S1024x1024 : Shape := ⟨2, ![1024, 1024]⟩
abbrev S31x1024 : Shape := ⟨2, ![31, 1024]⟩
abbrev S1024 : Shape := ⟨1, ![1024]⟩
abbrev S128x8x1024 : Shape := ⟨3, ![128, 8, 1024]⟩
abbrev S128x38x1024 : Shape := ⟨3, ![128, 38, 1024]⟩
abbrev S30x128x1024 : Shape := ⟨3, ![30, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S128x30x1024, .f32⟩
  | .hbm, ⟨1, _⟩ => ⟨S1024x1024, .f32⟩
  | .hbm, ⟨2, _⟩ => ⟨S1024x1024, .bf16⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S128x8x1024, .f32⟩
  | .hbm, ⟨8, _⟩ => ⟨S128x38x1024, .f32⟩
  | .hbm, ⟨9, _⟩ => ⟨S128x30x1024, .f32⟩
  | .hbm, ⟨10, _⟩ => ⟨S30x128x1024, .f32⟩
  | _, _ => ⟨S128x30x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩

abbrev nD : Nat := 1
abbrev τ : Topo := Topo.v7x

variable {F : FTy → Type} [FloatOps F]
-- ==== Proof.SwaBlk.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.WholeRead

@[expose] public section

set_option maxRecDepth 16384

noncomputable section

namespace Cert.KernelIdeal.Swa

open Idealize.ShloMosaic Idealize.ShloMosaic.TcCoe Idealize.SL.Sem
open Cert.KernelIdeal Cert.KernelIdeal.Gen

variable (c : Dev nD) (i : grid1.Coords) (arg2 : Memref sig .tc .vmem S128x1024 .f32) (harg2 : arg2.IsWhole)
  (arg3 : Memref sig .tc .vmem S128x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S2x8x256x128 .f32) (harg7 : arg7.IsWhole)
  (arg8 : Memref sig .tc .vmem S2x1x1024 .f32) (harg8 : arg8.IsWhole)
  (arg10 : Memref sig .tc .vmem S2x8x256x128 .f32) (arg11 : Memref sig .tc .vmem S2x8x256x128 .bf16)
  (x0 : Vec Ideal S128x1024 .f32) (x1 x2 x3 x4 : Vec Ideal S128x128 .f32) (x5 : Vec Ideal S2x8x256x128 .f32)
  (x6 : Vec Ideal S2x1x1024 .f32)

theorem ix2_congr {n m : ℕ} {a a' : Fin n} {b b' : Fin m} (ha : a = a') (hb : (b : ℕ) = b') : (ix2 a b) = ix2 a' b' := by
  rw [ha, Fin.ext hb]

/-- The key panel: the previous block's rows, then this block's. -/
def kcF (k : Fin 256) (x : Fin 128) : EReal := if h : (k : ℕ) < 128 then x2 (ix2 ⟨k, h⟩ x) else x1 (ix2 ⟨k - 128, by omega⟩ x)

theorem kcF_congr {k : Fin 256} {x y : Fin 128} (h : (x : ℕ) = y) : kcF x1 x2 k x = kcF x1 x2 k y := by rw [Fin.ext h]

/-- The scaled query of head `h` of key group `g`, laid at the group's half of the key axis. -/
def qpF (g : Fin 2) (h : Fin 8) (x : Fin 128) (l : Fin 128) : EReal :=
  if hx : g * 64 ≤ (x : ℕ) ∧ (x : ℕ) - g * 64 < 64 then
    x0 (ix2 l ⟨g * 512 + h * 64 + (x - g * 64), by omega⟩) * Named.named (F := Ideal) (φ := .f32) κ "qscale" 1043900987#32
  else 0

/-- One scaled score before the bias: head `h` of key group `g`, key `k`, query row `l`. -/
def rawF (g : Fin 2) (h : Fin 8) (k : Fin 256) (l : Fin 128) : EReal :=
  ∑ x : Fin 128, kcF x1 x2 k x * qpF x0 g h x l

theorem kcat_at (k : Fin 256) (x : Fin 128) : kernelRun1_A.sl.r (F := Ideal) c arg3 harg3 arg4 harg4 x1 x2 (ix2 k x) = kcF x1 x2 k x := by
  pointwise [kernelRun1_A.sl.r, k1_pay1, kcF, Memref.IsWhole.readAt_unread]

theorem cat2_at (a b : FVec Ideal S64x1024 .f32) (x : Fin 128) (l : Fin 1024) :
    concatenate S128x1024 0 [⟨S64x1024, a⟩, ⟨S64x1024, b⟩] concatenates_S64x1024_S64x1024_S128x1024_d0 (ix2 x l)
    = if hx : (x : ℕ) < 64 then a (ix2 ⟨x, hx⟩ l) else b (ix2 ⟨x - 64, by omega⟩ l) := by
  pointwise []

theorem cat8_at (a0 a1 a2 a3 a4 a5 a6 a7 : FVec Ideal S64x128 .f32) (h : Fin 8) (x : Fin 64) (l : Fin 128) :
    concatenate S64x1024 1 [⟨S64x128, a0⟩, ⟨S64x128, a1⟩, ⟨S64x128, a2⟩, ⟨S64x128, a3⟩, ⟨S64x128, a4⟩, ⟨S64x128, a5⟩, ⟨S64x128, a6⟩, ⟨S64x128, a7⟩]
      concatenates_S64x128_S64x128_S64x128_S64x128_S64x128_S64x128_S64x128_S64x128_S64x1024_d1 (ix2 x ⟨h * 128 + l, by omega⟩)
    = (![a0, a1, a2, a3, a4, a5, a6, a7] h) (ix2 x l) := by
  fin_cases h <;> pointwise [Matrix.cons_val]
  all_goals
    simp (disch := omega) only [dif_neg, dif_pos]
    exact congrArg _ (ix2_congr rfl (by simp only []; omega))

/-- A transposed panel cut into eight row bands laid side by side, read at a band. -/
theorem bands_at (a : FVec Ideal S128x512 .f32) (h : Fin 8) (x : Fin 64) (l : Fin 128) :
    (![extractStridedSlice S64x128 ![0, 0] (transpose S512x128 [1, 0] a transposes_S128x512_p1_0_S512x128) slices_S512x128_o0_0_S64x128,
      extractStridedSlice S64x128 ![64, 0] (transpose S512x128 [1, 0] a transposes_S128x512_p1_0_S512x128) slices_S512x128_o64_0_S64x128,
      extractStridedSlice S64x128 ![128, 0] (transpose S512x128 [1, 0] a transposes_S128x512_p1_0_S512x128) slices_S512x128_o128_0_S64x128,
      extractStridedSlice S64x128 ![192, 0] (transpose S512x128 [1, 0] a transposes_S128x512_p1_0_S512x128) slices_S512x128_o192_0_S64x128,
      extractStridedSlice S64x128 ![256, 0] (transpose S512x128 [1, 0] a transposes_S128x512_p1_0_S512x128) slices_S512x128_o256_0_S64x128,
      extractStridedSlice S64x128 ![320, 0] (transpose S512x128 [1, 0] a transposes_S128x512_p1_0_S512x128) slices_S512x128_o320_0_S64x128,
      extractStridedSlice S64x128 ![384, 0] (transpose S512x128 [1, 0] a transposes_S128x512_p1_0_S512x128) slices_S512x128_o384_0_S64x128,
      extractStridedSlice S64x128 ![448, 0] (transpose S512x128 [1, 0] a transposes_S128x512_p1_0_S512x128) slices_S512x128_o448_0_S64x128] h) (ix2 x l)
    = a (ix2 l ⟨h * 64 + x, by omega⟩) := by
  fin_cases h <;> pointwise [Matrix.cons_val]

theorem pay5_at (a : Vec Ideal S128x512 .f32) (h : Fin 8) (x l : Fin 128) : k1_pay5 (F := Ideal) a (ix2 x ⟨h * 128 + l, by omega⟩)
    = if hx : (x : ℕ) < 64 then a (ix2 l ⟨h * 64 + x, by omega⟩) * Named.named (F := Ideal) (φ := .f32) κ "qscale" 1043900987#32 else 0 := by
  unfold k1_pay5
  refine (cat2_at _ _ x _).trans ?_
  by_cases hx : (x : ℕ) < 64
  · rw [dif_pos hx, dif_pos hx]
    exact (cat8_at _ _ _ _ _ _ _ _ h ⟨x, hx⟩ l).trans (bands_at _ h ⟨x, hx⟩ l)
  · rw [dif_neg hx, dif_neg hx]
    pointwise []

theorem pay8_at (a : Vec Ideal S128x512 .f32) (h : Fin 8) (x l : Fin 128) : k1_pay8 (F := Ideal) a (ix2 x ⟨h * 128 + l, by omega⟩)
    = if hx : (x : ℕ) < 64 then 0 else a (ix2 l ⟨h * 64 + (x - 64), by omega⟩) * Named.named (F := Ideal) (φ := .f32) κ "qscale" 1043900987#32 := by
  unfold k1_pay8
  refine (cat2_at _ _ x _).trans ?_
  by_cases hx : (x : ℕ) < 64
  · rw [dif_pos hx, dif_pos hx]
    pointwise []
  · rw [dif_neg hx, dif_neg hx]
    exact (cat8_at _ _ _ _ _ _ _ _ h ⟨x - 64, by omega⟩ l).trans (bands_at _ h ⟨x - 64, by omega⟩ l)

theorem qp0_at (h : Fin 8) (x l : Fin 128) : kernelRun1_A.sl.r_2 (F := Ideal) c arg2 harg2 x0 (ix2 x ⟨h * 128 + l, by omega⟩) = qpF x0 0 h x l := by
  unfold kernelRun1_A.sl.r_2
  refine (pay5_at _ h x l).trans ?_
  simp only [qpF]
  by_cases hx : (x : ℕ) < 64
  · rw [dif_pos hx, dif_pos ⟨by simp, by simp; omega⟩]
    pointwise [Memref.IsWhole.readAt_unread]
  · rw [dif_neg hx, dif_neg (by simp; omega)]

theorem qp1_at (h : Fin 8) (x l : Fin 128) : kernelRun1_A.sl.r_5 (F := Ideal) c arg2 harg2 x0 (ix2 x ⟨h * 128 + l, by omega⟩) = qpF x0 1 h x l := by
  unfold kernelRun1_A.sl.r_5
  refine (pay8_at _ h x l).trans ?_
  simp only [qpF]
  by_cases hx : (x : ℕ) < 64
  · rw [dif_pos hx, dif_neg (by simp; omega)]
  · rw [dif_neg hx, dif_pos ⟨by simp; omega, by simp; omega⟩]
    pointwise [Memref.IsWhole.readAt_unread]
    simp [Nat.add_assoc]

theorem cat4_at (a0 a1 a2 a3 : FVec Ideal S64x256 .f32) (h : Fin 8) (d : Fin 64) (l : Fin 128) :
    concatenate S64x1024 1 [⟨S64x256, a0⟩, ⟨S64x256, a1⟩, ⟨S64x256, a2⟩, ⟨S64x256, a3⟩]
      concatenates_S64x256_S64x256_S64x256_S64x256_S64x1024_d1 (ix2 d ⟨h * 128 + l, by omega⟩)
    = (![a0, a0, a1, a1, a2, a2, a3, a3] h) (ix2 d ⟨h % 2 * 128 + l, by omega⟩) := by
  fin_cases h <;> pointwise [Matrix.cons_val]
  all_goals
    simp (disch := omega) only [dif_neg, dif_pos]
    try exact congrArg _ (ix2_congr rfl (by simp only []; omega))

theorem slices_at (a : FVec Ideal S64x1024 .f32) (h : Fin 8) (d : Fin 64) (l : Fin 128) :
    (![extractStridedSlice S64x128 ![0, 0] a slices_S64x1024_o0_0_S64x128,
      extractStridedSlice S64x128 ![0, 128] a slices_S64x1024_o0_128_S64x128,
      extractStridedSlice S64x128 ![0, 256] a slices_S64x1024_o0_256_S64x128,
      extractStridedSlice S64x128 ![0, 384] a slices_S64x1024_o0_384_S64x128,
      extractStridedSlice S64x128 ![0, 512] a slices_S64x1024_o0_512_S64x128,
      extractStridedSlice S64x128 ![0, 640] a slices_S64x1024_o0_640_S64x128,
      extractStridedSlice S64x128 ![0, 768] a slices_S64x1024_o0_768_S64x128,
      extractStridedSlice S64x128 ![0, 896] a slices_S64x1024_o0_896_S64x128] h) (ix2 d l)
    = a (ix2 d ⟨h * 128 + l, by omega⟩) := by
  fin_cases h <;> pointwise [Matrix.cons_val]

theorem rows8_at (a0 a1 a2 a3 a4 a5 a6 a7 : FVec Ideal S64x128 .f32) (h : Fin 8) (d : Fin 64) (l : Fin 128) :
    transpose S128x512 [1, 0] (concatenate S512x128 0 [⟨S64x128, a0⟩, ⟨S64x128, a1⟩, ⟨S64x128, a2⟩, ⟨S64x128, a3⟩, ⟨S64x128, a4⟩, ⟨S64x128, a5⟩, ⟨S64x128, a6⟩, ⟨S64x128, a7⟩]
      concatenates_S64x128_S64x128_S64x128_S64x128_S64x128_S64x128_S64x128_S64x128_S512x128_d0) transposes_S512x128_p1_0_S128x512 (ix2 l ⟨h * 64 + d, by omega⟩)
    = (![a0, a1, a2, a3, a4, a5, a6, a7] h) (ix2 d l) := by
  fin_cases h <;> pointwise [Matrix.cons_val]
  all_goals
    simp (disch := omega) only [dif_neg, dif_pos]
    exact congrArg _ (congrArg₂ ix2 (Fin.ext (by simp only []; omega)) rfl)

theorem halves_at (a b : FVec Ideal S128x512 .f32) (g : Fin 2) (l : Fin 128) (y : Fin 512) :
    concatenate S128x1024 1 [⟨S128x512, a⟩, ⟨S128x512, b⟩] concatenates_S128x512_S128x512_S128x1024_d1 (ix2 l ⟨g * 512 + y, by omega⟩)
    = (![a, b] g) (ix2 l y) := by
  fin_cases g <;> pointwise [Matrix.cons_val]

/-- The masked score. -/
def sF (g : Fin 2) (h : Fin 8) (k : Fin 256) (l : Fin 128) : EReal :=
  Scalar.select (k1_pay4 i (ix2 k l)) (Ideal.ofBits .f32 4286578688#32) (rawF x0 x1 x2 g h k l + x5 (ix4 g h k l))

/-- The scaled sink of a head. -/
def snkF (g : Fin 2) (h : Fin 8) (l : Fin 128) : EReal :=
  x6 (ix3 g 0 ⟨h * 128 + l, by omega⟩) * Named.named (F := Ideal) (φ := .f32) κ "log2e" 1069066811#32

/-- The row's maximum. -/
def mF (g : Fin 2) (h : Fin 8) (l : Fin 128) : EReal :=
  max (Finset.univ.fold max (Ideal.ofBits .f32 4286578688#32) fun k => sF i x0 x1 x2 x5 g h k l) (snkF x6 g h l)

/-- The row's weights. -/
def pF (g : Fin 2) (h : Fin 8) (k : Fin 256) (l : Fin 128) : EReal :=
  FloatOps.exp2 (F := Ideal) (φ := .f32) (sF i x0 x1 x2 x5 g h k l - mF i x0 x1 x2 x5 x6 g h l)

/-- The value panel: the previous block's rows, then this block's. -/
def vF (k : Fin 256) (d : Fin 128) : EReal := if h : (k : ℕ) < 128 then x4 (ix2 ⟨k, h⟩ d) else x3 (ix2 ⟨k - 128, by omega⟩ d)

theorem vF_congr {k k' : Fin 256} {x y : Fin 128} (hk : k = k') (h : (x : ℕ) = y) : vF x3 x4 k x = vF x3 x4 k' y := by rw [Fin.ext h, hk]

/-- One result of a head: the weighted mean of the values. -/
def oF (g : Fin 2) (h : Fin 8) (d : Fin 64) (l : Fin 128) : EReal :=
  Ideal.div (∑ k : Fin 256, vF x3 x4 k ⟨g * 64 + d, by omega⟩ * pF i x0 x1 x2 x5 x6 g h k l)
    ((∑ k : Fin 256, (1 : EReal) * pF i x0 x1 x2 x5 x6 g h k l) + FloatOps.exp2 (F := Ideal) (φ := .f32) (snkF x6 g h l - mF i x0 x1 x2 x5 x6 g h l))

theorem raw00 (k : Fin 256) (l : Fin 128) : kernelRun1_A.sl.v111 (F := Ideal) c arg2 harg2 arg3 harg3 arg4 harg4 arg10 x0 x1 x2 (ix2 k l) = rawF x0 x1 x2 0 0 k l := by
  unfold kernelRun1_A.sl.v111 kernelRun1_A.sl.v110 kernelRun1_A.sl.HS0_10
  simp (disch := decide) only [↓ View.readCov_skip, ↓ View.readCov_cons_toLoadRect]
  pointwise [k1_pay12, k1_pay11, k1_pay14]
  refine (Finset.sum_congr rfl fun x _ => Ideal.mul_congr (kcat_at ..) ?_)
  exact (congrArg _ (ix2_congr rfl (by simp <;> omega))).trans (qp0_at c arg2 harg2 x0 0 x l)

theorem s00 (k : Fin 256) (l : Fin 128) : kernelRun1_A.sl.v116 (F := Ideal) c i arg2 harg2 arg3 harg3 arg4 harg4 arg7 harg7 arg10 x0 x1 x2 x5 (ix2 k l) = sF i x0 x1 x2 x5 0 0 k l := by
  pointwise [kernelRun1_A.sl.v116, kernelRun1_A.sl.v115, kernelRun1_A.sl.cst_68, kernelRun1_A.sl.v114, kernelRun1_A.sl.v113, Memref.IsWhole.readAt_unread, raw00, sF]

theorem m00 (l : Fin 128) : kernelRun1_A.sl.v120 (F := Ideal) c i arg2 harg2 arg3 harg3 arg4 harg4 arg7 harg7 arg8 harg8 arg10 x0 x1 x2 x5 x6 (ix2 0 l) = mF i x0 x1 x2 x5 x6 0 0 l := by
  pointwise [kernelRun1_A.sl.v120, kernelRun1_A.sl.v118, kernelRun1_A.sl.v117, kernelRun1_A.sl.v119, kernelRun1_A.sl.r_4, k1_pay7, Memref.IsWhole.readAt_unread, s00, mF, snkF]

theorem p00 (k : Fin 256) (l : Fin 128) : kernelRun1_A.sl.v124 (F := Ideal) c i arg2 harg2 arg3 harg3 arg4 harg4 arg7 harg7 arg8 harg8 arg10 x0 x1 x2 x5 x6 (ix2 k l) = pF i x0 x1 x2 x5 x6 0 0 k l := by
  pointwise [kernelRun1_A.sl.v124, kernelRun1_A.sl.v123, kernelRun1_A.sl.v122, kernelRun1_A.sl.v121, m00, s00, pF]

theorem raw01 (k : Fin 256) (l : Fin 128) : kernelRun1_A.sl.v129 (F := Ideal) c arg2 harg2 arg3 harg3 arg4 harg4 arg10 x0 x1 x2 (ix2 k l) = rawF x0 x1 x2 0 1 k l := by
  unfold kernelRun1_A.sl.v129 kernelRun1_A.sl.v128 kernelRun1_A.sl.HS0_10
  simp (disch := decide) only [↓ View.readCov_skip, ↓ View.readCov_cons_toLoadRect]
  pointwise [k1_pay13, k1_pay11, k1_pay14]
  refine (Finset.sum_congr rfl fun x _ => Ideal.mul_congr (kcat_at ..) ?_)
  exact (congrArg _ (ix2_congr rfl (by simp <;> omega))).trans (qp0_at c arg2 harg2 x0 1 x l)

theorem s01 (k : Fin 256) (l : Fin 128) : kernelRun1_A.sl.v134 (F := Ideal) c i arg2 harg2 arg3 harg3 arg4 harg4 arg7 harg7 arg10 x0 x1 x2 x5 (ix2 k l) = sF i x0 x1 x2 x5 0 1 k l := by
  pointwise [kernelRun1_A.sl.v134, kernelRun1_A.sl.v115, kernelRun1_A.sl.cst_68, kernelRun1_A.sl.v132, kernelRun1_A.sl.v131, Memref.IsWhole.readAt_unread, raw01, sF]

theorem m01 (l : Fin 128) : kernelRun1_A.sl.v138 (F := Ideal) c i arg2 harg2 arg3 harg3 arg4 harg4 arg7 harg7 arg8 harg8 arg10 x0 x1 x2 x5 x6 (ix2 0 l) = mF i x0 x1 x2 x5 x6 0 1 l := by
  pointwise [kernelRun1_A.sl.v138, kernelRun1_A.sl.v136, kernelRun1_A.sl.v135, kernelRun1_A.sl.v137, kernelRun1_A.sl.r_4, k1_pay7, Memref.IsWhole.readAt_unread, s01, mF, snkF]

theorem p01 (k : Fin 256) (l : Fin 128) : kernelRun1_A.sl.v142 (F := Ideal) c i arg2 harg2 arg3 harg3 arg4 harg4 arg7 harg7 arg8 harg8 arg10 x0 x1 x2 x5 x6 (ix2 k l) = pF i x0 x1 x2 x5 x6 0 1 k l := by
  pointwise [kernelRun1_A.sl.v142, kernelRun1_A.sl.v141, kernelRun1_A.sl.v140, kernelRun1_A.sl.v139, m01, s01, pF]

theorem raw02 (k : Fin 256) (l : Fin 128) : kernelRun1_A.sl.v157 (F := Ideal) c arg2 harg2 arg3 harg3 arg4 harg4 arg10 x0 x1 x2 (ix2 k l) = rawF x0 x1 x2 0 2 k l := by
  unfold kernelRun1_A.sl.v157 kernelRun1_A.sl.v156 kernelRun1_A.sl.HS0_12 kernelRun1_A.sl.HS0_10
  simp (disch := decide) only [↓ View.readCov_skip, ↓ View.readCov_cons_toLoadRect]
  pointwise [kernelRun1_A.sl.v75, kernelRun1_A.sl.r_9, k1_pay15, k1_pay11, k1_pay14]
  refine (Finset.sum_congr rfl fun x _ => Ideal.mul_congr (kcat_at ..) ?_)
  exact (congrArg _ (ix2_congr rfl (by simp <;> omega))).trans (qp0_at c arg2 harg2 x0 2 x l)

theorem s02 (k : Fin 256) (l : Fin 128) : kernelRun1_A.sl.v162 (F := Ideal) c i arg2 harg2 arg3 harg3 arg4 harg4 arg7 harg7 arg10 x0 x1 x2 x5 (ix2 k l) = sF i x0 x1 x2 x5 0 2 k l := by
  pointwise [kernelRun1_A.sl.v162, kernelRun1_A.sl.v115, kernelRun1_A.sl.cst_68, kernelRun1_A.sl.v160, kernelRun1_A.sl.v159, Memref.IsWhole.readAt_unread, raw02, sF]

theorem m02 (l : Fin 128) : kernelRun1_A.sl.v166 (F := Ideal) c i arg2 harg2 arg3 harg3 arg4 harg4 arg7 harg7 arg8 harg8 arg10 x0 x1 x2 x5 x6 (ix2 0 l) = mF i x0 x1 x2 x5 x6 0 2 l := by
  pointwise [kernelRun1_A.sl.v166, kernelRun1_A.sl.v164, kernelRun1_A.sl.v163, kernelRun1_A.sl.v165, kernelRun1_A.sl.r_4, k1_pay7, Memref.IsWhole.readAt_unread, s02, mF, snkF]

theorem p02 (k : Fin 256) (l : Fin 128) : kernelRun1_A.sl.v170 (F := Ideal) c i arg2 harg2 arg3 harg3 arg4 harg4 arg7 harg7 arg8 harg8 arg10 x0 x1 x2 x5 x6 (ix2 k l) = pF i x0 x1 x2 x5 x6 0 2 k l := by
  pointwise [kernelRun1_A.sl.v170, kernelRun1_A.sl.v169, kernelRun1_A.sl.v168, kernelRun1_A.sl.v167, m02, s02, pF]

theorem raw03 (k : Fin 256) (l : Fin 128) : kernelRun1_A.sl.v175 (F := Ideal) c arg2 harg2 arg3 harg3 arg4 harg4 arg10 x0 x1 x2 (ix2 k l) = rawF x0 x1 x2 0 3 k l := by
  unfold kernelRun1_A.sl.v175 kernelRun1_A.sl.v174 kernelRun1_A.sl.HS0_12 kernelRun1_A.sl.HS0_10
  simp (disch := decide) only [↓ View.readCov_skip, ↓ View.readCov_cons_toLoadRect]
  pointwise [kernelRun1_A.sl.v79, kernelRun1_A.sl.v76, kernelRun1_A.sl.r_8, k1_pay14, k1_pay11]
  refine (Finset.sum_congr rfl fun x _ => Ideal.mul_congr (kcat_at ..) ?_)
  exact (congrArg _ (ix2_congr rfl (by simp <;> omega))).trans (qp0_at c arg2 harg2 x0 3 x l)

theorem s03 (k : Fin 256) (l : Fin 128) : kernelRun1_A.sl.v180 (F := Ideal) c i arg2 harg2 arg3 harg3 arg4 harg4 arg7 harg7 arg10 x0 x1 x2 x5 (ix2 k l) = sF i x0 x1 x2 x5 0 3 k l := by
  pointwise [kernelRun1_A.sl.v180, kernelRun1_A.sl.v115, kernelRun1_A.sl.cst_68, kernelRun1_A.sl.v178, kernelRun1_A.sl.v177, Memref.IsWhole.readAt_unread, raw03, sF]

theorem m03 (l : Fin 128) : kernelRun1_A.sl.v184 (F := Ideal) c i arg2 harg2 arg3 harg3 arg4 harg4 arg7 harg7 arg8 harg8 arg10 x0 x1 x2 x5 x6 (ix2 0 l) = mF i x0 x1 x2 x5 x6 0 3 l := by
  pointwise [kernelRun1_A.sl.v184, kernelRun1_A.sl.v182, kernelRun1_A.sl.v181, kernelRun1_A.sl.v183, kernelRun1_A.sl.r_4, k1_pay7, Memref.IsWhole.readAt_unread, s03, mF, snkF]

theorem p03 (k : Fin 256) (l : Fin 128) : kernelRun1_A.sl.v188 (F := Ideal) c i arg2 harg2 arg3 harg3 arg4 harg4 arg7 harg7 arg8 harg8 arg10 x0 x1 x2 x5 x6 (ix2 k l) = pF i x0 x1 x2 x5 x6 0 3 k l := by
  pointwise [kernelRun1_A.sl.v188, kernelRun1_A.sl.v187, kernelRun1_A.sl.v186, kernelRun1_A.sl.v185, m03, s03, pF]

theorem raw04 (k : Fin 256) (l : Fin 128) : kernelRun1_A.sl.v203 (F := Ideal) c arg2 harg2 arg3 harg3 arg4 harg4 arg10 x0 x1 x2 (ix2 k l) = rawF x0 x1 x2 0 4 k l := by
  unfold kernelRun1_A.sl.v203 kernelRun1_A.sl.v202 kernelRun1_A.sl.HS0_14 kernelRun1_A.sl.HS0_12 kernelRun1_A.sl.HS0_10
  simp (disch := decide) only [↓ View.readCov_skip, ↓ View.readCov_cons_toLoadRect]
  pointwise [kernelRun1_A.sl.v85, kernelRun1_A.sl.v82, kernelRun1_A.sl.v81, kernelRun1_A.sl.v80, kernelRun1_A.sl.cst_37, k1_pay11, k1_pay14]
  refine (Finset.sum_congr rfl fun x _ => Ideal.mul_congr (kcat_at ..) ?_)
  exact (congrArg _ (ix2_congr rfl (by simp <;> omega))).trans (qp0_at c arg2 harg2 x0 4 x l)

theorem s04 (k : Fin 256) (l : Fin 128) : kernelRun1_A.sl.v208 (F := Ideal) c i arg2 harg2 arg3 harg3 arg4 harg4 arg7 harg7 arg10 x0 x1 x2 x5 (ix2 k l) = sF i x0 x1 x2 x5 0 4 k l := by
  pointwise [kernelRun1_A.sl.v208, kernelRun1_A.sl.v115, kernelRun1_A.sl.cst_68, kernelRun1_A.sl.v206, kernelRun1_A.sl.v205, Memref.IsWhole.readAt_unread, raw04, sF]

theorem m04 (l : Fin 128) : kernelRun1_A.sl.v212 (F := Ideal) c i arg2 harg2 arg3 harg3 arg4 harg4 arg7 harg7 arg8 harg8 arg10 x0 x1 x2 x5 x6 (ix2 0 l) = mF i x0 x1 x2 x5 x6 0 4 l := by
  pointwise [kernelRun1_A.sl.v212, kernelRun1_A.sl.v210, kernelRun1_A.sl.v209, kernelRun1_A.sl.v211, kernelRun1_A.sl.r_4, k1_pay7, Memref.IsWhole.readAt_unread, s04, mF, snkF]

theorem p04 (k : Fin 256) (l : Fin 128) : kernelRun1_A.sl.v216 (F := Ideal) c i arg2 harg2 arg3 harg3 arg4 harg4 arg7 harg7 arg8 harg8 arg10 x0 x1 x2 x5 x6 (ix2 k l) = pF i x0 x1 x2 x5 x6 0 4 k l := by
  pointwise [kernelRun1_A.sl.v216, kernelRun1_A.sl.v215, kernelRun1_A.sl.v214, kernelRun1_A.sl.v213, m04, s04, pF]

theorem raw05 (k : Fin 256) (l : Fin 128) : kernelRun1_A.sl.v221 (F := Ideal) c arg2 harg2 arg3 harg3 arg4 harg4 arg10 x0 x1 x2 (ix2 k l) = rawF x0 x1 x2 0 5 k l := by
  unfold kernelRun1_A.sl.v221 kernelRun1_A.sl.v220 kernelRun1_A.sl.HS0_14 kernelRun1_A.sl.HS0_12 kernelRun1_A.sl.HS0_10
  simp (disch := decide) only [↓ View.readCov_skip, ↓ View.readCov_cons_toLoadRect]
  pointwise [kernelRun1_A.sl.v89, kernelRun1_A.sl.v86, kernelRun1_A.sl.v81, kernelRun1_A.sl.v80, kernelRun1_A.sl.cst_37, k1_pay11, k1_pay14]
  refine (Finset.sum_congr rfl fun x _ => Ideal.mul_congr (kcat_at ..) ?_)
  exact (congrArg _ (ix2_congr rfl (by simp <;> omega))).trans (qp0_at c arg2 harg2 x0 5 x l)

theorem s05 (k : Fin 256) (l : Fin 128) : kernelRun1_A.sl.v226 (F := Ideal) c i arg2 harg2 arg3 harg3 arg4 harg4 arg7 harg7 arg10 x0 x1 x2 x5 (ix2 k l) = sF i x0 x1 x2 x5 0 5 k l := by
  pointwise [kernelRun1_A.sl.v226, kernelRun1_A.sl.v115, kernelRun1_A.sl.cst_68, kernelRun1_A.sl.v224, kernelRun1_A.sl.v223, Memref.IsWhole.readAt_unread, raw05, sF]

theorem m05 (l : Fin 128) : kernelRun1_A.sl.v230 (F := Ideal) c i arg2 harg2 arg3 harg3 arg4 harg4 arg7 harg7 arg8 harg8 arg10 x0 x1 x2 x5 x6 (ix2 0 l) = mF i x0 x1 x2 x5 x6 0 5 l := by
  pointwise [kernelRun1_A.sl.v230, kernelRun1_A.sl.v228, kernelRun1_A.sl.v227, kernelRun1_A.sl.v229, kernelRun1_A.sl.r_4, k1_pay7, Memref.IsWhole.readAt_unread, s05, mF, snkF]

theorem p05 (k : Fin 256) (l : Fin 128) : kernelRun1_A.sl.v234 (F := Ideal) c i arg2 harg2 arg3 harg3 arg4 harg4 arg7 harg7 arg8 harg8 arg10 x0 x1 x2 x5 x6 (ix2 k l) = pF i x0 x1 x2 x5 x6 0 5 k l := by
  pointwise [kernelRun1_A.sl.v234, kernelRun1_A.sl.v233, kernelRun1_A.sl.v232, kernelRun1_A.sl.v231, m05, s05, pF]

theorem raw06 (k : Fin 256) (l : Fin 128) : kernelRun1_A.sl.v249 (F := Ideal) c arg2 harg2 arg3 harg3 arg4 harg4 arg10 x0 x1 x2 (ix2 k l) = rawF x0 x1 x2 0 6 k l := by
  unfold kernelRun1_A.sl.v249 kernelRun1_A.sl.v248 kernelRun1_A.sl.HS0_16 kernelRun1_A.sl.HS0_14 kernelRun1_A.sl.HS0_12 kernelRun1_A.sl.HS0_10
  simp (disch := decide) only [↓ View.readCov_skip, ↓ View.readCov_cons_toLoadRect]
  pointwise [kernelRun1_A.sl.v95, kernelRun1_A.sl.v92, kernelRun1_A.sl.v91, kernelRun1_A.sl.v90, kernelRun1_A.sl.cst_37, k1_pay11, k1_pay14]
  refine (Finset.sum_congr rfl fun x _ => Ideal.mul_congr (kcat_at ..) ?_)
  exact (congrArg _ (ix2_congr rfl (by simp <;> omega))).trans (qp0_at c arg2 harg2 x0 6 x l)

theorem s06 (k : Fin 256) (l : Fin 128) : kernelRun1_A.sl.v254 (F := Ideal) c i arg2 harg2 arg3 harg3 arg4 harg4 arg7 harg7 arg10 x0 x1 x2 x5 (ix2 k l) = sF i x0 x1 x2 x5 0 6 k l := by
  pointwise [kernelRun1_A.sl.v254, kernelRun1_A.sl.v115, kernelRun1_A.sl.cst_68, kernelRun1_A.sl.v252, kernelRun1_A.sl.v251, Memref.IsWhole.readAt_unread, raw06, sF]

theorem m06 (l : Fin 128) : kernelRun1_A.sl.v258 (F := Ideal) c i arg2 harg2 arg3 harg3 arg4 harg4 arg7 harg7 arg8 harg8 arg10 x0 x1 x2 x5 x6 (ix2 0 l) = mF i x0 x1 x2 x5 x6 0 6 l := by
  pointwise [kernelRun1_A.sl.v258, kernelRun1_A.sl.v256, kernelRun1_A.sl.v255, kernelRun1_A.sl.v257, kernelRun1_A.sl.r_4, k1_pay7, Memref.IsWhole.readAt_unread, s06, mF, snkF]

theorem p06 (k : Fin 256) (l : Fin 128) : kernelRun1_A.sl.v262 (F := Ideal) c i arg2 harg2 arg3 harg3 arg4 harg4 arg7 harg7 arg8 harg8 arg10 x0 x1 x2 x5 x6 (ix2 k l) = pF i x0 x1 x2 x5 x6 0 6 k l := by
  pointwise [kernelRun1_A.sl.v262, kernelRun1_A.sl.v261, kernelRun1_A.sl.v260, kernelRun1_A.sl.v259, m06, s06, pF]

theorem raw07 (k : Fin 256) (l : Fin 128) : kernelRun1_A.sl.v267 (F := Ideal) c arg2 harg2 arg3 harg3 arg4 harg4 arg10 x0 x1 x2 (ix2 k l) = rawF x0 x1 x2 0 7 k l := by
  unfold kernelRun1_A.sl.v267 kernelRun1_A.sl.v266 kernelRun1_A.sl.HS0_16 kernelRun1_A.sl.HS0_14 kernelRun1_A.sl.HS0_12 kernelRun1_A.sl.HS0_10
  simp (disch := decide) only [↓ View.readCov_skip, ↓ View.readCov_cons_toLoadRect]
  pointwise [kernelRun1_A.sl.v99, kernelRun1_A.sl.v96, kernelRun1_A.sl.v91, kernelRun1_A.sl.v90, kernelRun1_A.sl.cst_37, k1_pay11, k1_pay14]
  refine (Finset.sum_congr rfl fun x _ => Ideal.mul_congr (kcat_at ..) ?_)
  exact (congrArg _ (ix2_congr rfl (by simp <;> omega))).trans (qp0_at c arg2 harg2 x0 7 x l)

theorem s07 (k : Fin 256) (l : Fin 128) : kernelRun1_A.sl.v272 (F := Ideal) c i arg2 harg2 arg3 harg3 arg4 harg4 arg7 harg7 arg10 x0 x1 x2 x5 (ix2 k l) = sF i x0 x1 x2 x5 0 7 k l := by
  pointwise [kernelRun1_A.sl.v272, kernelRun1_A.sl.v115, kernelRun1_A.sl.cst_68, kernelRun1_A.sl.v270, kernelRun1_A.sl.v269, Memref.IsWhole.readAt_unread, raw07, sF]

theorem m07 (l : Fin 128) : kernelRun1_A.sl.v276 (F := Ideal) c i arg2 harg2 arg3 harg3 arg4 harg4 arg7 harg7 arg8 harg8 arg10 x0 x1 x2 x5 x6 (ix2 0 l) = mF i x0 x1 x2 x5 x6 0 7 l := by
  pointwise [kernelRun1_A.sl.v276, kernelRun1_A.sl.v274, kernelRun1_A.sl.v273, kernelRun1_A.sl.v275, kernelRun1_A.sl.r_4, k1_pay7, Memref.IsWhole.readAt_unread, s07, mF, snkF]

theorem p07 (k : Fin 256) (l : Fin 128) : kernelRun1_A.sl.v280 (F := Ideal) c i arg2 harg2 arg3 harg3 arg4 harg4 arg7 harg7 arg8 harg8 arg10 x0 x1 x2 x5 x6 (ix2 k l) = pF i x0 x1 x2 x5 x6 0 7 k l := by
  pointwise [kernelRun1_A.sl.v280, kernelRun1_A.sl.v279, kernelRun1_A.sl.v278, kernelRun1_A.sl.v277, m07, s07, pF]

theorem raw10 (k : Fin 256) (l : Fin 128) : kernelRun1_A.sl.v300 (F := Ideal) c arg2 harg2 arg3 harg3 arg4 harg4 arg10 x0 x1 x2 (ix2 k l) = rawF x0 x1 x2 1 0 k l := by
  unfold kernelRun1_A.sl.v300 kernelRun1_A.sl.v299 kernelRun1_A.sl.HS0_16 kernelRun1_A.sl.HS0_14 kernelRun1_A.sl.HS0_12 kernelRun1_A.sl.HS0_10
  simp (disch := decide) only [↓ View.readCov_skip, ↓ View.readCov_cons_toLoadRect]
  pointwise [kernelRun1_A.sl.v105, kernelRun1_A.sl.v102, kernelRun1_A.sl.v101, kernelRun1_A.sl.v100, kernelRun1_A.sl.cst_37, k1_pay11, k1_pay14]
  refine (Finset.sum_congr rfl fun x _ => Ideal.mul_congr (kcat_at ..) ?_)
  exact (congrArg _ (ix2_congr rfl (by simp <;> omega))).trans (qp1_at c arg2 harg2 x0 0 x l)

theorem s10 (k : Fin 256) (l : Fin 128) : kernelRun1_A.sl.v305 (F := Ideal) c i arg2 harg2 arg3 harg3 arg4 harg4 arg7 harg7 arg10 x0 x1 x2 x5 (ix2 k l) = sF i x0 x1 x2 x5 1 0 k l := by
  pointwise [kernelRun1_A.sl.v305, kernelRun1_A.sl.v115, kernelRun1_A.sl.cst_68, kernelRun1_A.sl.v303, kernelRun1_A.sl.v302, Memref.IsWhole.readAt_unread, raw10, sF]

theorem m10 (l : Fin 128) : kernelRun1_A.sl.v309 (F := Ideal) c i arg2 harg2 arg3 harg3 arg4 harg4 arg7 harg7 arg8 harg8 arg10 x0 x1 x2 x5 x6 (ix2 0 l) = mF i x0 x1 x2 x5 x6 1 0 l := by
  pointwise [kernelRun1_A.sl.v309, kernelRun1_A.sl.v307, kernelRun1_A.sl.v306, kernelRun1_A.sl.v308, kernelRun1_A.sl.r_7, k1_pay10, Memref.IsWhole.readAt_unread, s10, mF, snkF]

theorem p10 (k : Fin 256) (l : Fin 128) : kernelRun1_A.sl.v313 (F := Ideal) c i arg2 harg2 arg3 harg3 arg4 harg4 arg7 harg7 arg8 harg8 arg10 x0 x1 x2 x5 x6 (ix2 k l) = pF i x0 x1 x2 x5 x6 1 0 k l := by
  pointwise [kernelRun1_A.sl.v313, kernelRun1_A.sl.v312, kernelRun1_A.sl.v311, kernelRun1_A.sl.v310, m10, s10, pF]

theorem raw11 (k : Fin 256) (l : Fin 128) : kernelRun1_A.sl.v318 (F := Ideal) c arg2 harg2 arg3 harg3 arg4 harg4 arg10 x0 x1 x2 (ix2 k l) = rawF x0 x1 x2 1 1 k l := by
  unfold kernelRun1_A.sl.v318 kernelRun1_A.sl.v317 kernelRun1_A.sl.HS0_16 kernelRun1_A.sl.HS0_14 kernelRun1_A.sl.HS0_12 kernelRun1_A.sl.HS0_10
  simp (disch := decide) only [↓ View.readCov_skip, ↓ View.readCov_cons_toLoadRect]
  pointwise [kernelRun1_A.sl.v109, kernelRun1_A.sl.v106, kernelRun1_A.sl.v101, kernelRun1_A.sl.v100, kernelRun1_A.sl.cst_37, k1_pay11, k1_pay14]
  refine (Finset.sum_congr rfl fun x _ => Ideal.mul_congr (kcat_at ..) ?_)
  exact (congrArg _ (ix2_congr rfl (by simp <;> omega))).trans (qp1_at c arg2 harg2 x0 1 x l)

theorem s11 (k : Fin 256) (l : Fin 128) : kernelRun1_A.sl.v323 (F := Ideal) c i arg2 harg2 arg3 harg3 arg4 harg4 arg7 harg7 arg10 x0 x1 x2 x5 (ix2 k l) = sF i x0 x1 x2 x5 1 1 k l := by
  pointwise [kernelRun1_A.sl.v323, kernelRun1_A.sl.v115, kernelRun1_A.sl.cst_68, kernelRun1_A.sl.v321, kernelRun1_A.sl.v320, Memref.IsWhole.readAt_unread, raw11, sF]

theorem m11 (l : Fin 128) : kernelRun1_A.sl.v327 (F := Ideal) c i arg2 harg2 arg3 harg3 arg4 harg4 arg7 harg7 arg8 harg8 arg10 x0 x1 x2 x5 x6 (ix2 0 l) = mF i x0 x1 x2 x5 x6 1 1 l := by
  pointwise [kernelRun1_A.sl.v327, kernelRun1_A.sl.v325, kernelRun1_A.sl.v324, kernelRun1_A.sl.v326, kernelRun1_A.sl.r_7, k1_pay10, Memref.IsWhole.readAt_unread, s11, mF, snkF]

theorem p11 (k : Fin 256) (l : Fin 128) : kernelRun1_A.sl.v331 (F := Ideal) c i arg2 harg2 arg3 harg3 arg4 harg4 arg7 harg7 arg8 harg8 arg10 x0 x1 x2 x5 x6 (ix2 k l) = pF i x0 x1 x2 x5 x6 1 1 k l := by
  pointwise [kernelRun1_A.sl.v331, kernelRun1_A.sl.v330, kernelRun1_A.sl.v329, kernelRun1_A.sl.v328, m11, s11, pF]

theorem raw12 (k : Fin 256) (l : Fin 128) : kernelRun1_A.sl.v351 (F := Ideal) c arg2 harg2 arg3 harg3 arg4 harg4 arg10 x0 x1 x2 (ix2 k l) = rawF x0 x1 x2 1 2 k l := by
  unfold kernelRun1_A.sl.v351 kernelRun1_A.sl.v350 kernelRun1_A.sl.HS0_16 kernelRun1_A.sl.HS0_14 kernelRun1_A.sl.HS0_12 kernelRun1_A.sl.HS0_10
  simp (disch := decide) only [↓ View.readCov_skip, ↓ View.readCov_cons_toLoadRect]
  pointwise [kernelRun1_A.sl.v151, kernelRun1_A.sl.v148, kernelRun1_A.sl.v147, kernelRun1_A.sl.v146, kernelRun1_A.sl.cst_37, k1_pay11, k1_pay14]
  refine (Finset.sum_congr rfl fun x _ => Ideal.mul_congr (kcat_at ..) ?_)
  exact (congrArg _ (ix2_congr rfl (by simp <;> omega))).trans (qp1_at c arg2 harg2 x0 2 x l)

theorem s12 (k : Fin 256) (l : Fin 128) : kernelRun1_A.sl.v356 (F := Ideal) c i arg2 harg2 arg3 harg3 arg4 harg4 arg7 harg7 arg10 x0 x1 x2 x5 (ix2 k l) = sF i x0 x1 x2 x5 1 2 k l := by
  pointwise [kernelRun1_A.sl.v356, kernelRun1_A.sl.v115, kernelRun1_A.sl.cst_68, kernelRun1_A.sl.v354, kernelRun1_A.sl.v353, Memref.IsWhole.readAt_unread, raw12, sF]

theorem m12 (l : Fin 128) : kernelRun1_A.sl.v360 (F := Ideal) c i arg2 harg2 arg3 harg3 arg4 harg4 arg7 harg7 arg8 harg8 arg10 x0 x1 x2 x5 x6 (ix2 0 l) = mF i x0 x1 x2 x5 x6 1 2 l := by
  pointwise [kernelRun1_A.sl.v360, kernelRun1_A.sl.v358, kernelRun1_A.sl.v357, kernelRun1_A.sl.v359, kernelRun1_A.sl.r_7, k1_pay10, Memref.IsWhole.readAt_unread, s12, mF, snkF]

theorem p12 (k : Fin 256) (l : Fin 128) : kernelRun1_A.sl.v364 (F := Ideal) c i arg2 harg2 arg3 harg3 arg4 harg4 arg7 harg7 arg8 harg8 arg10 x0 x1 x2 x5 x6 (ix2 k l) = pF i x0 x1 x2 x5 x6 1 2 k l := by
  pointwise [kernelRun1_A.sl.v364, kernelRun1_A.sl.v363, kernelRun1_A.sl.v362, kernelRun1_A.sl.v361, m12, s12, pF]

theorem raw13 (k : Fin 256) (l : Fin 128) : kernelRun1_A.sl.v369 (F := Ideal) c arg2 harg2 arg3 harg3 arg4 harg4 arg10 x0 x1 x2 (ix2 k l) = rawF x0 x1 x2 1 3 k l := by
  unfold kernelRun1_A.sl.v369 kernelRun1_A.sl.v368 kernelRun1_A.sl.HS0_16 kernelRun1_A.sl.HS0_14 kernelRun1_A.sl.HS0_12 kernelRun1_A.sl.HS0_10
  simp (disch := decide) only [↓ View.readCov_skip, ↓ View.readCov_cons_toLoadRect]
  pointwise [kernelRun1_A.sl.v155, kernelRun1_A.sl.v152, kernelRun1_A.sl.v147, kernelRun1_A.sl.v146, kernelRun1_A.sl.cst_37, k1_pay11, k1_pay14]
  refine (Finset.sum_congr rfl fun x _ => Ideal.mul_congr (kcat_at ..) ?_)
  exact (congrArg _ (ix2_congr rfl (by simp <;> omega))).trans (qp1_at c arg2 harg2 x0 3 x l)

theorem s13 (k : Fin 256) (l : Fin 128) : kernelRun1_A.sl.v374 (F := Ideal) c i arg2 harg2 arg3 harg3 arg4 harg4 arg7 harg7 arg10 x0 x1 x2 x5 (ix2 k l) = sF i x0 x1 x2 x5 1 3 k l := by
  pointwise [kernelRun1_A.sl.v374, kernelRun1_A.sl.v115, kernelRun1_A.sl.cst_68, kernelRun1_A.sl.v372, kernelRun1_A.sl.v371, Memref.IsWhole.readAt_unread, raw13, sF]

theorem m13 (l : Fin 128) : kernelRun1_A.sl.v378 (F := Ideal) c i arg2 harg2 arg3 harg3 arg4 harg4 arg7 harg7 arg8 harg8 arg10 x0 x1 x2 x5 x6 (ix2 0 l) = mF i x0 x1 x2 x5 x6 1 3 l := by
  pointwise [kernelRun1_A.sl.v378, kernelRun1_A.sl.v376, kernelRun1_A.sl.v375, kernelRun1_A.sl.v377, kernelRun1_A.sl.r_7, k1_pay10, Memref.IsWhole.readAt_unread, s13, mF, snkF]

theorem p13 (k : Fin 256) (l : Fin 128) : kernelRun1_A.sl.v382 (F := Ideal) c i arg2 harg2 arg3 harg3 arg4 harg4 arg7 harg7 arg8 harg8 arg10 x0 x1 x2 x5 x6 (ix2 k l) = pF i x0 x1 x2 x5 x6 1 3 k l := by
  pointwise [kernelRun1_A.sl.v382, kernelRun1_A.sl.v381, kernelRun1_A.sl.v380, kernelRun1_A.sl.v379, m13, s13, pF]

theorem raw14 (k : Fin 256) (l : Fin 128) : kernelRun1_A.sl.v402 (F := Ideal) c arg2 harg2 arg3 harg3 arg4 harg4 arg10 x0 x1 x2 (ix2 k l) = rawF x0 x1 x2 1 4 k l := by
  unfold kernelRun1_A.sl.v402 kernelRun1_A.sl.v401 kernelRun1_A.sl.HS0_16 kernelRun1_A.sl.HS0_14 kernelRun1_A.sl.HS0_12 kernelRun1_A.sl.HS0_10
  simp (disch := decide) only [↓ View.readCov_skip, ↓ View.readCov_cons_toLoadRect]
  pointwise [kernelRun1_A.sl.v197, kernelRun1_A.sl.v194, kernelRun1_A.sl.v193, kernelRun1_A.sl.v192, kernelRun1_A.sl.cst_37, k1_pay11, k1_pay14]
  refine (Finset.sum_congr rfl fun x _ => Ideal.mul_congr (kcat_at ..) ?_)
  exact (congrArg _ (ix2_congr rfl (by simp <;> omega))).trans (qp1_at c arg2 harg2 x0 4 x l)

theorem s14 (k : Fin 256) (l : Fin 128) : kernelRun1_A.sl.v407 (F := Ideal) c i arg2 harg2 arg3 harg3 arg4 harg4 arg7 harg7 arg10 x0 x1 x2 x5 (ix2 k l) = sF i x0 x1 x2 x5 1 4 k l := by
  pointwise [kernelRun1_A.sl.v407, kernelRun1_A.sl.v115, kernelRun1_A.sl.cst_68, kernelRun1_A.sl.v405, kernelRun1_A.sl.v404, Memref.IsWhole.readAt_unread, raw14, sF]

theorem m14 (l : Fin 128) : kernelRun1_A.sl.v411 (F := Ideal) c i arg2 harg2 arg3 harg3 arg4 harg4 arg7 harg7 arg8 harg8 arg10 x0 x1 x2 x5 x6 (ix2 0 l) = mF i x0 x1 x2 x5 x6 1 4 l := by
  pointwise [kernelRun1_A.sl.v411, kernelRun1_A.sl.v409, kernelRun1_A.sl.v408, kernelRun1_A.sl.v410, kernelRun1_A.sl.r_7, k1_pay10, Memref.IsWhole.readAt_unread, s14, mF, snkF]

theorem p14 (k : Fin 256) (l : Fin 128) : kernelRun1_A.sl.v415 (F := Ideal) c i arg2 harg2 arg3 harg3 arg4 harg4 arg7 harg7 arg8 harg8 arg10 x0 x1 x2 x5 x6 (ix2 k l) = pF i x0 x1 x2 x5 x6 1 4 k l := by
  pointwise [kernelRun1_A.sl.v415, kernelRun1_A.sl.v414, kernelRun1_A.sl.v413, kernelRun1_A.sl.v412, m14, s14, pF]

theorem raw15 (k : Fin 256) (l : Fin 128) : kernelRun1_A.sl.v420 (F := Ideal) c arg2 harg2 arg3 harg3 arg4 harg4 arg10 x0 x1 x2 (ix2 k l) = rawF x0 x1 x2 1 5 k l := by
  unfold kernelRun1_A.sl.v420 kernelRun1_A.sl.v419 kernelRun1_A.sl.HS0_16 kernelRun1_A.sl.HS0_14 kernelRun1_A.sl.HS0_12 kernelRun1_A.sl.HS0_10
  simp (disch := decide) only [↓ View.readCov_skip, ↓ View.readCov_cons_toLoadRect]
  pointwise [kernelRun1_A.sl.v201, kernelRun1_A.sl.v198, kernelRun1_A.sl.v193, kernelRun1_A.sl.v192, kernelRun1_A.sl.cst_37, k1_pay11, k1_pay14]
  refine (Finset.sum_congr rfl fun x _ => Ideal.mul_congr (kcat_at ..) ?_)
  exact (congrArg _ (ix2_congr rfl (by simp <;> omega))).trans (qp1_at c arg2 harg2 x0 5 x l)

theorem s15 (k : Fin 256) (l : Fin 128) : kernelRun1_A.sl.v425 (F := Ideal) c i arg2 harg2 arg3 harg3 arg4 harg4 arg7 harg7 arg10 x0 x1 x2 x5 (ix2 k l) = sF i x0 x1 x2 x5 1 5 k l := by
  pointwise [kernelRun1_A.sl.v425, kernelRun1_A.sl.v115, kernelRun1_A.sl.cst_68, kernelRun1_A.sl.v423, kernelRun1_A.sl.v422, Memref.IsWhole.readAt_unread, raw15, sF]

theorem m15 (l : Fin 128) : kernelRun1_A.sl.v429 (F := Ideal) c i arg2 harg2 arg3 harg3 arg4 harg4 arg7 harg7 arg8 harg8 arg10 x0 x1 x2 x5 x6 (ix2 0 l) = mF i x0 x1 x2 x5 x6 1 5 l := by
  pointwise [kernelRun1_A.sl.v429, kernelRun1_A.sl.v427, kernelRun1_A.sl.v426, kernelRun1_A.sl.v428, kernelRun1_A.sl.r_7, k1_pay10, Memref.IsWhole.readAt_unread, s15, mF, snkF]

theorem p15 (k : Fin 256) (l : Fin 128) : kernelRun1_A.sl.v433 (F := Ideal) c i arg2 harg2 arg3 harg3 arg4 harg4 arg7 harg7 arg8 harg8 arg10 x0 x1 x2 x5 x6 (ix2 k l) = pF i x0 x1 x2 x5 x6 1 5 k l := by
  pointwise [kernelRun1_A.sl.v433, kernelRun1_A.sl.v432, kernelRun1_A.sl.v431, kernelRun1_A.sl.v430, m15, s15, pF]

theorem raw16 (k : Fin 256) (l : Fin 128) : kernelRun1_A.sl.v453 (F := Ideal) c arg2 harg2 arg3 harg3 arg4 harg4 arg10 x0 x1 x2 (ix2 k l) = rawF x0 x1 x2 1 6 k l := by
  unfold kernelRun1_A.sl.v453 kernelRun1_A.sl.v452 kernelRun1_A.sl.HS0_16 kernelRun1_A.sl.HS0_14 kernelRun1_A.sl.HS0_12 kernelRun1_A.sl.HS0_10
  simp (disch := decide) only [↓ View.readCov_skip, ↓ View.readCov_cons_toLoadRect]
  pointwise [kernelRun1_A.sl.v243, kernelRun1_A.sl.v240, kernelRun1_A.sl.v239, kernelRun1_A.sl.v238, kernelRun1_A.sl.cst_37, k1_pay11, k1_pay14]
  refine (Finset.sum_congr rfl fun x _ => Ideal.mul_congr (kcat_at ..) ?_)
  exact (congrArg _ (ix2_congr rfl (by simp <;> omega))).trans (qp1_at c arg2 harg2 x0 6 x l)

theorem s16 (k : Fin 256) (l : Fin 128) : kernelRun1_A.sl.v458 (F := Ideal) c i arg2 harg2 arg3 harg3 arg4 harg4 arg7 harg7 arg10 x0 x1 x2 x5 (ix2 k l) = sF i x0 x1 x2 x5 1 6 k l := by
  pointwise [kernelRun1_A.sl.v458, kernelRun1_A.sl.v115, kernelRun1_A.sl.cst_68, kernelRun1_A.sl.v456, kernelRun1_A.sl.v455, Memref.IsWhole.readAt_unread, raw16, sF]

theorem m16 (l : Fin 128) : kernelRun1_A.sl.v462 (F := Ideal) c i arg2 harg2 arg3 harg3 arg4 harg4 arg7 harg7 arg8 harg8 arg10 x0 x1 x2 x5 x6 (ix2 0 l) = mF i x0 x1 x2 x5 x6 1 6 l := by
  pointwise [kernelRun1_A.sl.v462, kernelRun1_A.sl.v460, kernelRun1_A.sl.v459, kernelRun1_A.sl.v461, kernelRun1_A.sl.r_7, k1_pay10, Memref.IsWhole.readAt_unread, s16, mF, snkF]

theorem p16 (k : Fin 256) (l : Fin 128) : kernelRun1_A.sl.v466 (F := Ideal) c i arg2 harg2 arg3 harg3 arg4 harg4 arg7 harg7 arg8 harg8 arg10 x0 x1 x2 x5 x6 (ix2 k l) = pF i x0 x1 x2 x5 x6 1 6 k l := by
  pointwise [kernelRun1_A.sl.v466, kernelRun1_A.sl.v465, kernelRun1_A.sl.v464, kernelRun1_A.sl.v463, m16, s16, pF]

theorem raw17 (k : Fin 256) (l : Fin 128) : kernelRun1_A.sl.v471 (F := Ideal) c arg2 harg2 arg3 harg3 arg4 harg4 arg10 x0 x1 x2 (ix2 k l) = rawF x0 x1 x2 1 7 k l := by
  unfold kernelRun1_A.sl.v471 kernelRun1_A.sl.v470 kernelRun1_A.sl.HS0_16 kernelRun1_A.sl.HS0_14 kernelRun1_A.sl.HS0_12 kernelRun1_A.sl.HS0_10
  simp (disch := decide) only [↓ View.readCov_skip, ↓ View.readCov_cons_toLoadRect]
  pointwise [kernelRun1_A.sl.v247, kernelRun1_A.sl.v244, kernelRun1_A.sl.v239, kernelRun1_A.sl.v238, kernelRun1_A.sl.cst_37, k1_pay11, k1_pay14]
  refine (Finset.sum_congr rfl fun x _ => Ideal.mul_congr (kcat_at ..) ?_)
  exact (congrArg _ (ix2_congr rfl (by simp <;> omega))).trans (qp1_at c arg2 harg2 x0 7 x l)

theorem s17 (k : Fin 256) (l : Fin 128) : kernelRun1_A.sl.v476 (F := Ideal) c i arg2 harg2 arg3 harg3 arg4 harg4 arg7 harg7 arg10 x0 x1 x2 x5 (ix2 k l) = sF i x0 x1 x2 x5 1 7 k l := by
  pointwise [kernelRun1_A.sl.v476, kernelRun1_A.sl.v115, kernelRun1_A.sl.cst_68, kernelRun1_A.sl.v474, kernelRun1_A.sl.v473, Memref.IsWhole.readAt_unread, raw17, sF]

theorem m17 (l : Fin 128) : kernelRun1_A.sl.v480 (F := Ideal) c i arg2 harg2 arg3 harg3 arg4 harg4 arg7 harg7 arg8 harg8 arg10 x0 x1 x2 x5 x6 (ix2 0 l) = mF i x0 x1 x2 x5 x6 1 7 l := by
  pointwise [kernelRun1_A.sl.v480, kernelRun1_A.sl.v478, kernelRun1_A.sl.v477, kernelRun1_A.sl.v479, kernelRun1_A.sl.r_7, k1_pay10, Memref.IsWhole.readAt_unread, s17, mF, snkF]

theorem p17 (k : Fin 256) (l : Fin 128) : kernelRun1_A.sl.v484 (F := Ideal) c i arg2 harg2 arg3 harg3 arg4 harg4 arg7 harg7 arg8 harg8 arg10 x0 x1 x2 x5 x6 (ix2 k l) = pF i x0 x1 x2 x5 x6 1 7 k l := by
  pointwise [kernelRun1_A.sl.v484, kernelRun1_A.sl.v483, kernelRun1_A.sl.v482, kernelRun1_A.sl.v481, m17, s17, pF]
theorem q00 (k : Fin 256) (l : Fin 128) : kernelRun1_A.sl.v285 (F := Ideal) c i arg2 harg2 arg3 harg3 arg4 harg4 arg7 harg7 arg8 harg8 arg10 arg11 x0 x1 x2 x5 x6 (ix2 k l) = pF i x0 x1 x2 x5 x6 0 0 k l := by
  unfold kernelRun1_A.sl.v285 kernelRun1_A.sl.v284 kernelRun1_A.sl.HS1_8
  simp (disch := decide) only [↓ View.readCov_skip, ↓ View.readCov_cons_toLoadRect]
  pointwise [kernelRun1_A.sl.v127, p00]

theorem q01 (k : Fin 256) (l : Fin 128) : kernelRun1_A.sl.v287 (F := Ideal) c i arg2 harg2 arg3 harg3 arg4 harg4 arg7 harg7 arg8 harg8 arg10 arg11 x0 x1 x2 x5 x6 (ix2 k l) = pF i x0 x1 x2 x5 x6 0 1 k l := by
  unfold kernelRun1_A.sl.v287 kernelRun1_A.sl.v286 kernelRun1_A.sl.HS1_8
  simp (disch := decide) only [↓ View.readCov_skip, ↓ View.readCov_cons_toLoadRect]
  pointwise [kernelRun1_A.sl.v145, p01]

set_option maxHeartbeats 1000000 in
theorem o00 (d : Fin 64) (l : Fin 256) : kernelRun1_A.sl.v298 (F := Ideal) c i arg2 harg2 arg3 harg3 arg4 harg4 arg5 harg5 arg6 harg6 arg7 harg7 arg8 harg8 arg10 arg11 x0 x1 x2 x3 x4 x5 x6 (ix2 d l)
    = if h : (l : ℕ) < 128 then oF i x0 x1 x2 x3 x4 x5 x6 0 0 d ⟨l, h⟩ else oF i x0 x1 x2 x3 x4 x5 x6 0 1 d ⟨l - 128, by omega⟩ := by
  by_cases h : (l : ℕ) < 128
  · pointwise [kernelRun1_A.sl.v298, kernelRun1_A.sl.v296, kernelRun1_A.sl.v289, kernelRun1_A.sl.r_3, k1_pay6, kernelRun1_A.sl.v288, kernelRun1_A.sl.cst_207, kernelRun1_A.sl.v297, kernelRun1_A.sl.v295, kernelRun1_A.sl.v290, kernelRun1_A.sl.v294, kernelRun1_A.sl.v293, kernelRun1_A.sl.v291, kernelRun1_A.sl.r_4, k1_pay7, kernelRun1_A.sl.v292, k1_pay2, k1_pay3, Memref.IsWhole.readAt_unread, q00, q01, m00, m01, h, oF, snkF, vF]
  · pointwise [kernelRun1_A.sl.v298, kernelRun1_A.sl.v296, kernelRun1_A.sl.v289, kernelRun1_A.sl.r_3, k1_pay6, kernelRun1_A.sl.v288, kernelRun1_A.sl.cst_207, kernelRun1_A.sl.v297, kernelRun1_A.sl.v295, kernelRun1_A.sl.v290, kernelRun1_A.sl.v294, kernelRun1_A.sl.v293, kernelRun1_A.sl.v291, kernelRun1_A.sl.r_4, k1_pay7, kernelRun1_A.sl.v292, k1_pay2, k1_pay3, Memref.IsWhole.readAt_unread, q00, q01, m00, m01, h, oF, snkF, vF]
    have e : 128 + ((l : ℕ) - 128) = (l : ℕ) := by omega
    simp only [e]

theorem q02 (k : Fin 256) (l : Fin 128) : kernelRun1_A.sl.v336 (F := Ideal) c i arg2 harg2 arg3 harg3 arg4 harg4 arg7 harg7 arg8 harg8 arg10 arg11 x0 x1 x2 x5 x6 (ix2 k l) = pF i x0 x1 x2 x5 x6 0 2 k l := by
  unfold kernelRun1_A.sl.v336 kernelRun1_A.sl.v335 kernelRun1_A.sl.HS1_10 kernelRun1_A.sl.HS1_8
  simp (disch := decide) only [↓ View.readCov_skip, ↓ View.readCov_cons_toLoadRect]
  pointwise [kernelRun1_A.sl.v173, p02]

theorem q03 (k : Fin 256) (l : Fin 128) : kernelRun1_A.sl.v338 (F := Ideal) c i arg2 harg2 arg3 harg3 arg4 harg4 arg7 harg7 arg8 harg8 arg10 arg11 x0 x1 x2 x5 x6 (ix2 k l) = pF i x0 x1 x2 x5 x6 0 3 k l := by
  unfold kernelRun1_A.sl.v338 kernelRun1_A.sl.v337 kernelRun1_A.sl.HS1_10 kernelRun1_A.sl.HS1_8
  simp (disch := decide) only [↓ View.readCov_skip, ↓ View.readCov_cons_toLoadRect]
  pointwise [kernelRun1_A.sl.v191, p03]

set_option maxHeartbeats 1000000 in
theorem o01 (d : Fin 64) (l : Fin 256) : kernelRun1_A.sl.v349 (F := Ideal) c i arg2 harg2 arg3 harg3 arg4 harg4 arg5 harg5 arg6 harg6 arg7 harg7 arg8 harg8 arg10 arg11 x0 x1 x2 x3 x4 x5 x6 (ix2 d l)
    = if h : (l : ℕ) < 128 then oF i x0 x1 x2 x3 x4 x5 x6 0 2 d ⟨l, h⟩ else oF i x0 x1 x2 x3 x4 x5 x6 0 3 d ⟨l - 128, by omega⟩ := by
  by_cases h : (l : ℕ) < 128
  · pointwise [kernelRun1_A.sl.v349, kernelRun1_A.sl.v347, kernelRun1_A.sl.v340, kernelRun1_A.sl.r_3, k1_pay6, kernelRun1_A.sl.v339, kernelRun1_A.sl.cst_207, kernelRun1_A.sl.v348, kernelRun1_A.sl.v346, kernelRun1_A.sl.v341, kernelRun1_A.sl.v345, kernelRun1_A.sl.v344, kernelRun1_A.sl.v342, kernelRun1_A.sl.r_4, k1_pay7, kernelRun1_A.sl.v343, k1_pay2, k1_pay3, Memref.IsWhole.readAt_unread, q02, q03, m02, m03, h, oF, snkF, vF]
  · pointwise [kernelRun1_A.sl.v349, kernelRun1_A.sl.v347, kernelRun1_A.sl.v340, kernelRun1_A.sl.r_3, k1_pay6, kernelRun1_A.sl.v339, kernelRun1_A.sl.cst_207, kernelRun1_A.sl.v348, kernelRun1_A.sl.v346, kernelRun1_A.sl.v341, kernelRun1_A.sl.v345, kernelRun1_A.sl.v344, kernelRun1_A.sl.v342, kernelRun1_A.sl.r_4, k1_pay7, kernelRun1_A.sl.v343, k1_pay2, k1_pay3, Memref.IsWhole.readAt_unread, q02, q03, m02, m03, h, oF, snkF, vF]
    have e : 384 + ((l : ℕ) - 128) = 256 + (l : ℕ) := by omega
    simp only [e]

theorem q04 (k : Fin 256) (l : Fin 128) : kernelRun1_A.sl.v387 (F := Ideal) c i arg2 harg2 arg3 harg3 arg4 harg4 arg7 harg7 arg8 harg8 arg10 arg11 x0 x1 x2 x5 x6 (ix2 k l) = pF i x0 x1 x2 x5 x6 0 4 k l := by
  unfold kernelRun1_A.sl.v387 kernelRun1_A.sl.v386 kernelRun1_A.sl.HS1_12 kernelRun1_A.sl.HS1_10 kernelRun1_A.sl.HS1_8
  simp (disch := decide) only [↓ View.readCov_skip, ↓ View.readCov_cons_toLoadRect]
  pointwise [kernelRun1_A.sl.v219, p04]

theorem q05 (k : Fin 256) (l : Fin 128) : kernelRun1_A.sl.v389 (F := Ideal) c i arg2 harg2 arg3 harg3 arg4 harg4 arg7 harg7 arg8 harg8 arg10 arg11 x0 x1 x2 x5 x6 (ix2 k l) = pF i x0 x1 x2 x5 x6 0 5 k l := by
  unfold kernelRun1_A.sl.v389 kernelRun1_A.sl.v388 kernelRun1_A.sl.HS1_12 kernelRun1_A.sl.HS1_10 kernelRun1_A.sl.HS1_8
  simp (disch := decide) only [↓ View.readCov_skip, ↓ View.readCov_cons_toLoadRect]
  pointwise [kernelRun1_A.sl.v237, p05]

set_option maxHeartbeats 1000000 in
theorem o02 (d : Fin 64) (l : Fin 256) : kernelRun1_A.sl.v400 (F := Ideal) c i arg2 harg2 arg3 harg3 arg4 harg4 arg5 harg5 arg6 harg6 arg7 harg7 arg8 harg8 arg10 arg11 x0 x1 x2 x3 x4 x5 x6 (ix2 d l)
    = if h : (l : ℕ) < 128 then oF i x0 x1 x2 x3 x4 x5 x6 0 4 d ⟨l, h⟩ else oF i x0 x1 x2 x3 x4 x5 x6 0 5 d ⟨l - 128, by omega⟩ := by
  by_cases h : (l : ℕ) < 128
  · pointwise [kernelRun1_A.sl.v400, kernelRun1_A.sl.v398, kernelRun1_A.sl.v391, kernelRun1_A.sl.r_3, k1_pay6, kernelRun1_A.sl.v390, kernelRun1_A.sl.cst_207, kernelRun1_A.sl.v399, kernelRun1_A.sl.v397, kernelRun1_A.sl.v392, kernelRun1_A.sl.v396, kernelRun1_A.sl.v395, kernelRun1_A.sl.v393, kernelRun1_A.sl.r_4, k1_pay7, kernelRun1_A.sl.v394, k1_pay2, k1_pay3, Memref.IsWhole.readAt_unread, q04, q05, m04, m05, h, oF, snkF, vF]
  · pointwise [kernelRun1_A.sl.v400, kernelRun1_A.sl.v398, kernelRun1_A.sl.v391, kernelRun1_A.sl.r_3, k1_pay6, kernelRun1_A.sl.v390, kernelRun1_A.sl.cst_207, kernelRun1_A.sl.v399, kernelRun1_A.sl.v397, kernelRun1_A.sl.v392, kernelRun1_A.sl.v396, kernelRun1_A.sl.v395, kernelRun1_A.sl.v393, kernelRun1_A.sl.r_4, k1_pay7, kernelRun1_A.sl.v394, k1_pay2, k1_pay3, Memref.IsWhole.readAt_unread, q04, q05, m04, m05, h, oF, snkF, vF]
    have e : 640 + ((l : ℕ) - 128) = 512 + (l : ℕ) := by omega
    simp only [e]

theorem q06 (k : Fin 256) (l : Fin 128) : kernelRun1_A.sl.v438 (F := Ideal) c i arg2 harg2 arg3 harg3 arg4 harg4 arg7 harg7 arg8 harg8 arg10 arg11 x0 x1 x2 x5 x6 (ix2 k l) = pF i x0 x1 x2 x5 x6 0 6 k l := by
  unfold kernelRun1_A.sl.v438 kernelRun1_A.sl.v437 kernelRun1_A.sl.HS1_14 kernelRun1_A.sl.HS1_12 kernelRun1_A.sl.HS1_10 kernelRun1_A.sl.HS1_8
  simp (disch := decide) only [↓ View.readCov_skip, ↓ View.readCov_cons_toLoadRect]
  pointwise [kernelRun1_A.sl.v265, p06]

theorem q07 (k : Fin 256) (l : Fin 128) : kernelRun1_A.sl.v440 (F := Ideal) c i arg2 harg2 arg3 harg3 arg4 harg4 arg7 harg7 arg8 harg8 arg10 arg11 x0 x1 x2 x5 x6 (ix2 k l) = pF i x0 x1 x2 x5 x6 0 7 k l := by
  unfold kernelRun1_A.sl.v440 kernelRun1_A.sl.v439 kernelRun1_A.sl.HS1_14 kernelRun1_A.sl.HS1_12 kernelRun1_A.sl.HS1_10 kernelRun1_A.sl.HS1_8
  simp (disch := decide) only [↓ View.readCov_skip, ↓ View.readCov_cons_toLoadRect]
  pointwise [kernelRun1_A.sl.v283, p07]

set_option maxHeartbeats 1000000 in
theorem o03 (d : Fin 64) (l : Fin 256) : kernelRun1_A.sl.v451 (F := Ideal) c i arg2 harg2 arg3 harg3 arg4 harg4 arg5 harg5 arg6 harg6 arg7 harg7 arg8 harg8 arg10 arg11 x0 x1 x2 x3 x4 x5 x6 (ix2 d l)
    = if h : (l : ℕ) < 128 then oF i x0 x1 x2 x3 x4 x5 x6 0 6 d ⟨l, h⟩ else oF i x0 x1 x2 x3 x4 x5 x6 0 7 d ⟨l - 128, by omega⟩ := by
  by_cases h : (l : ℕ) < 128
  · pointwise [kernelRun1_A.sl.v451, kernelRun1_A.sl.v449, kernelRun1_A.sl.v442, kernelRun1_A.sl.r_3, k1_pay6, kernelRun1_A.sl.v441, kernelRun1_A.sl.cst_207, kernelRun1_A.sl.v450, kernelRun1_A.sl.v448, kernelRun1_A.sl.v443, kernelRun1_A.sl.v447, kernelRun1_A.sl.v446, kernelRun1_A.sl.v444, kernelRun1_A.sl.r_4, k1_pay7, kernelRun1_A.sl.v445, k1_pay2, k1_pay3, Memref.IsWhole.readAt_unread, q06, q07, m06, m07, h, oF, snkF, vF]
  · pointwise [kernelRun1_A.sl.v451, kernelRun1_A.sl.v449, kernelRun1_A.sl.v442, kernelRun1_A.sl.r_3, k1_pay6, kernelRun1_A.sl.v441, kernelRun1_A.sl.cst_207, kernelRun1_A.sl.v450, kernelRun1_A.sl.v448, kernelRun1_A.sl.v443, kernelRun1_A.sl.v447, kernelRun1_A.sl.v446, kernelRun1_A.sl.v444, kernelRun1_A.sl.r_4, k1_pay7, kernelRun1_A.sl.v445, k1_pay2, k1_pay3, Memref.IsWhole.readAt_unread, q06, q07, m06, m07, h, oF, snkF, vF]
    have e : 896 + ((l : ℕ) - 128) = 768 + (l : ℕ) := by omega
    simp only [e]

theorem q10 (k : Fin 256) (l : Fin 128) : kernelRun1_A.sl.v489 (F := Ideal) c i arg2 harg2 arg3 harg3 arg4 harg4 arg7 harg7 arg8 harg8 arg10 arg11 x0 x1 x2 x5 x6 (ix2 k l) = pF i x0 x1 x2 x5 x6 1 0 k l := by
  unfold kernelRun1_A.sl.v489 kernelRun1_A.sl.v488 kernelRun1_A.sl.HS1_16 kernelRun1_A.sl.HS1_14 kernelRun1_A.sl.HS1_12 kernelRun1_A.sl.HS1_10 kernelRun1_A.sl.HS1_8
  simp (disch := decide) only [↓ View.readCov_skip, ↓ View.readCov_cons_toLoadRect]
  pointwise [kernelRun1_A.sl.v316, p10]

theorem q11 (k : Fin 256) (l : Fin 128) : kernelRun1_A.sl.v491 (F := Ideal) c i arg2 harg2 arg3 harg3 arg4 harg4 arg7 harg7 arg8 harg8 arg10 arg11 x0 x1 x2 x5 x6 (ix2 k l) = pF i x0 x1 x2 x5 x6 1 1 k l := by
  unfold kernelRun1_A.sl.v491 kernelRun1_A.sl.v490 kernelRun1_A.sl.HS1_16 kernelRun1_A.sl.HS1_14 kernelRun1_A.sl.HS1_12 kernelRun1_A.sl.HS1_10 kernelRun1_A.sl.HS1_8
  simp (disch := decide) only [↓ View.readCov_skip, ↓ View.readCov_cons_toLoadRect]
  pointwise [kernelRun1_A.sl.v334, p11]

set_option maxHeartbeats 1000000 in
theorem o10 (d : Fin 64) (l : Fin 256) : kernelRun1_A.sl.v502 (F := Ideal) c i arg2 harg2 arg3 harg3 arg4 harg4 arg5 harg5 arg6 harg6 arg7 harg7 arg8 harg8 arg10 arg11 x0 x1 x2 x3 x4 x5 x6 (ix2 d l)
    = if h : (l : ℕ) < 128 then oF i x0 x1 x2 x3 x4 x5 x6 1 0 d ⟨l, h⟩ else oF i x0 x1 x2 x3 x4 x5 x6 1 1 d ⟨l - 128, by omega⟩ := by
  by_cases h : (l : ℕ) < 128
  · pointwise [kernelRun1_A.sl.v502, kernelRun1_A.sl.v500, kernelRun1_A.sl.v493, kernelRun1_A.sl.r_6, k1_pay9, kernelRun1_A.sl.r_1, k1_pay2, k1_pay3, kernelRun1_A.sl.v492, kernelRun1_A.sl.cst_207, kernelRun1_A.sl.v501, kernelRun1_A.sl.v499, kernelRun1_A.sl.v494, kernelRun1_A.sl.v498, kernelRun1_A.sl.v497, kernelRun1_A.sl.v495, kernelRun1_A.sl.r_7, k1_pay10, kernelRun1_A.sl.v496, k1_pay2, k1_pay3, Memref.IsWhole.readAt_unread, q10, q11, m10, m11, h, oF, snkF, vF]
  · pointwise [kernelRun1_A.sl.v502, kernelRun1_A.sl.v500, kernelRun1_A.sl.v493, kernelRun1_A.sl.r_6, k1_pay9, kernelRun1_A.sl.r_1, k1_pay2, k1_pay3, kernelRun1_A.sl.v492, kernelRun1_A.sl.cst_207, kernelRun1_A.sl.v501, kernelRun1_A.sl.v499, kernelRun1_A.sl.v494, kernelRun1_A.sl.v498, kernelRun1_A.sl.v497, kernelRun1_A.sl.v495, kernelRun1_A.sl.r_7, k1_pay10, kernelRun1_A.sl.v496, k1_pay2, k1_pay3, Memref.IsWhole.readAt_unread, q10, q11, m10, m11, h, oF, snkF, vF]
    have e : 128 + ((l : ℕ) - 128) = (l : ℕ) := by omega
    simp only [e]

theorem q12 (k : Fin 256) (l : Fin 128) : kernelRun1_A.sl.v504 (F := Ideal) c i arg2 harg2 arg3 harg3 arg4 harg4 arg7 harg7 arg8 harg8 arg10 arg11 x0 x1 x2 x5 x6 (ix2 k l) = pF i x0 x1 x2 x5 x6 1 2 k l := by
  unfold kernelRun1_A.sl.v504 kernelRun1_A.sl.v503 kernelRun1_A.sl.HS1_16 kernelRun1_A.sl.HS1_14 kernelRun1_A.sl.HS1_12 kernelRun1_A.sl.HS1_10 kernelRun1_A.sl.HS1_8
  simp (disch := decide) only [↓ View.readCov_skip, ↓ View.readCov_cons_toLoadRect]
  pointwise [kernelRun1_A.sl.v367, p12]

theorem q13 (k : Fin 256) (l : Fin 128) : kernelRun1_A.sl.v506 (F := Ideal) c i arg2 harg2 arg3 harg3 arg4 harg4 arg7 harg7 arg8 harg8 arg10 arg11 x0 x1 x2 x5 x6 (ix2 k l) = pF i x0 x1 x2 x5 x6 1 3 k l := by
  unfold kernelRun1_A.sl.v506 kernelRun1_A.sl.v505 kernelRun1_A.sl.HS1_16 kernelRun1_A.sl.HS1_14 kernelRun1_A.sl.HS1_12 kernelRun1_A.sl.HS1_10 kernelRun1_A.sl.HS1_8
  simp (disch := decide) only [↓ View.readCov_skip, ↓ View.readCov_cons_toLoadRect]
  pointwise [kernelRun1_A.sl.v385, p13]

set_option maxHeartbeats 1000000 in
theorem o11 (d : Fin 64) (l : Fin 256) : kernelRun1_A.sl.v517 (F := Ideal) c i arg2 harg2 arg3 harg3 arg4 harg4 arg5 harg5 arg6 harg6 arg7 harg7 arg8 harg8 arg10 arg11 x0 x1 x2 x3 x4 x5 x6 (ix2 d l)
    = if h : (l : ℕ) < 128 then oF i x0 x1 x2 x3 x4 x5 x6 1 2 d ⟨l, h⟩ else oF i x0 x1 x2 x3 x4 x5 x6 1 3 d ⟨l - 128, by omega⟩ := by
  by_cases h : (l : ℕ) < 128
  · pointwise [kernelRun1_A.sl.v517, kernelRun1_A.sl.v515, kernelRun1_A.sl.v508, kernelRun1_A.sl.r_6, k1_pay9, kernelRun1_A.sl.r_1, k1_pay2, k1_pay3, kernelRun1_A.sl.v507, kernelRun1_A.sl.cst_207, kernelRun1_A.sl.v516, kernelRun1_A.sl.v514, kernelRun1_A.sl.v509, kernelRun1_A.sl.v513, kernelRun1_A.sl.v512, kernelRun1_A.sl.v510, kernelRun1_A.sl.r_7, k1_pay10, kernelRun1_A.sl.v511, k1_pay2, k1_pay3, Memref.IsWhole.readAt_unread, q12, q13, m12, m13, h, oF, snkF, vF]
  · pointwise [kernelRun1_A.sl.v517, kernelRun1_A.sl.v515, kernelRun1_A.sl.v508, kernelRun1_A.sl.r_6, k1_pay9, kernelRun1_A.sl.r_1, k1_pay2, k1_pay3, kernelRun1_A.sl.v507, kernelRun1_A.sl.cst_207, kernelRun1_A.sl.v516, kernelRun1_A.sl.v514, kernelRun1_A.sl.v509, kernelRun1_A.sl.v513, kernelRun1_A.sl.v512, kernelRun1_A.sl.v510, kernelRun1_A.sl.r_7, k1_pay10, kernelRun1_A.sl.v511, k1_pay2, k1_pay3, Memref.IsWhole.readAt_unread, q12, q13, m12, m13, h, oF, snkF, vF]
    have e : 384 + ((l : ℕ) - 128) = 256 + (l : ℕ) := by omega
    simp only [e]

theorem q14 (k : Fin 256) (l : Fin 128) : kernelRun1_A.sl.v519 (F := Ideal) c i arg2 harg2 arg3 harg3 arg4 harg4 arg7 harg7 arg8 harg8 arg10 arg11 x0 x1 x2 x5 x6 (ix2 k l) = pF i x0 x1 x2 x5 x6 1 4 k l := by
  unfold kernelRun1_A.sl.v519 kernelRun1_A.sl.v518 kernelRun1_A.sl.HS1_16 kernelRun1_A.sl.HS1_14 kernelRun1_A.sl.HS1_12 kernelRun1_A.sl.HS1_10 kernelRun1_A.sl.HS1_8
  simp (disch := decide) only [↓ View.readCov_skip, ↓ View.readCov_cons_toLoadRect]
  pointwise [kernelRun1_A.sl.v418, p14]

theorem q15 (k : Fin 256) (l : Fin 128) : kernelRun1_A.sl.v521 (F := Ideal) c i arg2 harg2 arg3 harg3 arg4 harg4 arg7 harg7 arg8 harg8 arg10 arg11 x0 x1 x2 x5 x6 (ix2 k l) = pF i x0 x1 x2 x5 x6 1 5 k l := by
  unfold kernelRun1_A.sl.v521 kernelRun1_A.sl.v520 kernelRun1_A.sl.HS1_16 kernelRun1_A.sl.HS1_14 kernelRun1_A.sl.HS1_12 kernelRun1_A.sl.HS1_10 kernelRun1_A.sl.HS1_8
  simp (disch := decide) only [↓ View.readCov_skip, ↓ View.readCov_cons_toLoadRect]
  pointwise [kernelRun1_A.sl.v436, p15]

set_option maxHeartbeats 1000000 in
theorem o12 (d : Fin 64) (l : Fin 256) : kernelRun1_A.sl.v532 (F := Ideal) c i arg2 harg2 arg3 harg3 arg4 harg4 arg5 harg5 arg6 harg6 arg7 harg7 arg8 harg8 arg10 arg11 x0 x1 x2 x3 x4 x5 x6 (ix2 d l)
    = if h : (l : ℕ) < 128 then oF i x0 x1 x2 x3 x4 x5 x6 1 4 d ⟨l, h⟩ else oF i x0 x1 x2 x3 x4 x5 x6 1 5 d ⟨l - 128, by omega⟩ := by
  by_cases h : (l : ℕ) < 128
  · pointwise [kernelRun1_A.sl.v532, kernelRun1_A.sl.v530, kernelRun1_A.sl.v523, kernelRun1_A.sl.r_6, k1_pay9, kernelRun1_A.sl.r_1, k1_pay2, k1_pay3, kernelRun1_A.sl.v522, kernelRun1_A.sl.cst_207, kernelRun1_A.sl.v531, kernelRun1_A.sl.v529, kernelRun1_A.sl.v524, kernelRun1_A.sl.v528, kernelRun1_A.sl.v527, kernelRun1_A.sl.v525, kernelRun1_A.sl.r_7, k1_pay10, kernelRun1_A.sl.v526, k1_pay2, k1_pay3, Memref.IsWhole.readAt_unread, q14, q15, m14, m15, h, oF, snkF, vF]
  · pointwise [kernelRun1_A.sl.v532, kernelRun1_A.sl.v530, kernelRun1_A.sl.v523, kernelRun1_A.sl.r_6, k1_pay9, kernelRun1_A.sl.r_1, k1_pay2, k1_pay3, kernelRun1_A.sl.v522, kernelRun1_A.sl.cst_207, kernelRun1_A.sl.v531, kernelRun1_A.sl.v529, kernelRun1_A.sl.v524, kernelRun1_A.sl.v528, kernelRun1_A.sl.v527, kernelRun1_A.sl.v525, kernelRun1_A.sl.r_7, k1_pay10, kernelRun1_A.sl.v526, k1_pay2, k1_pay3, Memref.IsWhole.readAt_unread, q14, q15, m14, m15, h, oF, snkF, vF]
    have e : 640 + ((l : ℕ) - 128) = 512 + (l : ℕ) := by omega
    simp only [e]

theorem q16 (k : Fin 256) (l : Fin 128) : kernelRun1_A.sl.v534 (F := Ideal) c i arg2 harg2 arg3 harg3 arg4 harg4 arg7 harg7 arg8 harg8 arg10 arg11 x0 x1 x2 x5 x6 (ix2 k l) = pF i x0 x1 x2 x5 x6 1 6 k l := by
  unfold kernelRun1_A.sl.v534 kernelRun1_A.sl.v533 kernelRun1_A.sl.HS1_16 kernelRun1_A.sl.HS1_14 kernelRun1_A.sl.HS1_12 kernelRun1_A.sl.HS1_10 kernelRun1_A.sl.HS1_8
  simp (disch := decide) only [↓ View.readCov_skip, ↓ View.readCov_cons_toLoadRect]
  pointwise [kernelRun1_A.sl.v469, p16]

theorem q17 (k : Fin 256) (l : Fin 128) : kernelRun1_A.sl.v535 (F := Ideal) c i arg2 harg2 arg3 harg3 arg4 harg4 arg7 harg7 arg8 harg8 arg10 arg11 x0 x1 x2 x5 x6 (ix4 0 0 k l) = pF i x0 x1 x2 x5 x6 1 7 k l := by
  unfold kernelRun1_A.sl.v535 kernelRun1_A.sl.HS1_16 kernelRun1_A.sl.HS1_14 kernelRun1_A.sl.HS1_12 kernelRun1_A.sl.HS1_10 kernelRun1_A.sl.HS1_8
  simp (disch := decide) only [↓ View.readCov_skip, ↓ View.readCov_cons_toLoadRect]
  pointwise [kernelRun1_A.sl.v487, p17]

theorem out_at (g : Fin 2) (h : Fin 8) (d : Fin 64) (l : Fin 128) :
    kernelRun1_A.sl.r_10 (F := Ideal) c i arg2 harg2 arg3 harg3 arg4 harg4 arg5 harg5 arg6 harg6 arg7 harg7 arg8 harg8 arg10 arg11 x0 x1 x2 x3 x4 x5 x6 (ix2 l ⟨g * 512 + (h * 64 + d), by omega⟩) = oF i x0 x1 x2 x3 x4 x5 x6 g h d l := by
  unfold kernelRun1_A.sl.r_10 k1_pay111
  refine (halves_at _ _ g l ⟨h * 64 + d, by omega⟩).trans ?_
  fin_cases g
  · refine (rows8_at _ _ _ _ _ _ _ _ h d l).trans ((slices_at _ h d l).trans ((cat4_at _ _ _ _ h d l).trans ?_))
    fin_cases h
    · exact (o00 c i arg2 harg2 arg3 harg3 arg4 harg4 arg5 harg5 arg6 harg6 arg7 harg7 arg8 harg8 arg10 arg11 x0 x1 x2 x3 x4 x5 x6 d _).trans ((dif_pos (by simp)).trans (congrArg (oF i x0 x1 x2 x3 x4 x5 x6 0 0 d) (Fin.ext (by simp))))
    · exact (o00 c i arg2 harg2 arg3 harg3 arg4 harg4 arg5 harg5 arg6 harg6 arg7 harg7 arg8 harg8 arg10 arg11 x0 x1 x2 x3 x4 x5 x6 d _).trans ((dif_neg (by simp)).trans (congrArg (oF i x0 x1 x2 x3 x4 x5 x6 0 1 d) (Fin.ext (by simp))))
    · exact (o01 c i arg2 harg2 arg3 harg3 arg4 harg4 arg5 harg5 arg6 harg6 arg7 harg7 arg8 harg8 arg10 arg11 x0 x1 x2 x3 x4 x5 x6 d _).trans ((dif_pos (by simp)).trans (congrArg (oF i x0 x1 x2 x3 x4 x5 x6 0 2 d) (Fin.ext (by simp))))
    · exact (o01 c i arg2 harg2 arg3 harg3 arg4 harg4 arg5 harg5 arg6 harg6 arg7 harg7 arg8 harg8 arg10 arg11 x0 x1 x2 x3 x4 x5 x6 d _).trans ((dif_neg (by simp)).trans (congrArg (oF i x0 x1 x2 x3 x4 x5 x6 0 3 d) (Fin.ext (by simp))))
    · exact (o02 c i arg2 harg2 arg3 harg3 arg4 harg4 arg5 harg5 arg6 harg6 arg7 harg7 arg8 harg8 arg10 arg11 x0 x1 x2 x3 x4 x5 x6 d _).trans ((dif_pos (by simp)).trans (congrArg (oF i x0 x1 x2 x3 x4 x5 x6 0 4 d) (Fin.ext (by simp))))
    · exact (o02 c i arg2 harg2 arg3 harg3 arg4 harg4 arg5 harg5 arg6 harg6 arg7 harg7 arg8 harg8 arg10 arg11 x0 x1 x2 x3 x4 x5 x6 d _).trans ((dif_neg (by simp)).trans (congrArg (oF i x0 x1 x2 x3 x4 x5 x6 0 5 d) (Fin.ext (by simp))))
    · exact (o03 c i arg2 harg2 arg3 harg3 arg4 harg4 arg5 harg5 arg6 harg6 arg7 harg7 arg8 harg8 arg10 arg11 x0 x1 x2 x3 x4 x5 x6 d _).trans ((dif_pos (by simp)).trans (congrArg (oF i x0 x1 x2 x3 x4 x5 x6 0 6 d) (Fin.ext (by simp))))
    · exact (o03 c i arg2 harg2 arg3 harg3 arg4 harg4 arg5 harg5 arg6 harg6 arg7 harg7 arg8 harg8 arg10 arg11 x0 x1 x2 x3 x4 x5 x6 d _).trans ((dif_neg (by simp)).trans (congrArg (oF i x0 x1 x2 x3 x4 x5 x6 0 7 d) (Fin.ext (by simp))))
  · refine (rows8_at _ _ _ _ _ _ _ _ h d l).trans ((slices_at _ h d l).trans ((cat4_at _ _ _ _ h d l).trans ?_))
    fin_cases h
    · exact (o10 c i arg2 harg2 arg3 harg3 arg4 harg4 arg5 harg5 arg6 harg6 arg7 harg7 arg8 harg8 arg10 arg11 x0 x1 x2 x3 x4 x5 x6 d _).trans ((dif_pos (by simp)).trans (congrArg (oF i x0 x1 x2 x3 x4 x5 x6 1 0 d) (Fin.ext (by simp))))
    · exact (o10 c i arg2 harg2 arg3 harg3 arg4 harg4 arg5 harg5 arg6 harg6 arg7 harg7 arg8 harg8 arg10 arg11 x0 x1 x2 x3 x4 x5 x6 d _).trans ((dif_neg (by simp)).trans (congrArg (oF i x0 x1 x2 x3 x4 x5 x6 1 1 d) (Fin.ext (by simp))))
    · exact (o11 c i arg2 harg2 arg3 harg3 arg4 harg4 arg5 harg5 arg6 harg6 arg7 harg7 arg8 harg8 arg10 arg11 x0 x1 x2 x3 x4 x5 x6 d _).trans ((dif_pos (by simp)).trans (congrArg (oF i x0 x1 x2 x3 x4 x5 x6 1 2 d) (Fin.ext (by simp))))
    · exact (o11 c i arg2 harg2 arg3 harg3 arg4 harg4 arg5 harg5 arg6 harg6 arg7 harg7 arg8 harg8 arg10 arg11 x0 x1 x2 x3 x4 x5 x6 d _).trans ((dif_neg (by simp)).trans (congrArg (oF i x0 x1 x2 x3 x4 x5 x6 1 3 d) (Fin.ext (by simp))))
    · exact (o12 c i arg2 harg2 arg3 harg3 arg4 harg4 arg5 harg5 arg6 harg6 arg7 harg7 arg8 harg8 arg10 arg11 x0 x1 x2 x3 x4 x5 x6 d _).trans ((dif_pos (by simp)).trans (congrArg (oF i x0 x1 x2 x3 x4 x5 x6 1 4 d) (Fin.ext (by simp))))
    · exact (o12 c i arg2 harg2 arg3 harg3 arg4 harg4 arg5 harg5 arg6 harg6 arg7 harg7 arg8 harg8 arg10 arg11 x0 x1 x2 x3 x4 x5 x6 d _).trans ((dif_neg (by simp)).trans (congrArg (oF i x0 x1 x2 x3 x4 x5 x6 1 5 d) (Fin.ext (by simp))))
    · pointwise [Matrix.cons_val, kernelRun1_A.sl.r_6, kernelRun1_A.sl.r_7, kernelRun1_A.sl.r_1, k1_pay9, k1_pay10, k1_pay2, k1_pay3, Memref.IsWhole.readAt_unread, q16, m16, oF, snkF, vF]
    · pointwise [Matrix.cons_val, kernelRun1_A.sl.r_6, kernelRun1_A.sl.r_7, kernelRun1_A.sl.r_1, k1_pay9, k1_pay10, k1_pay2, k1_pay3, Memref.IsWhole.readAt_unread, q17, m17, oF, snkF, vF]
      have e : 768 + (128 + (l : ℕ)) = 896 + l := by omega
      simp only [e]

end Cert.KernelIdeal.Swa
end
-- ==== Proof.SwaCom.lean ====
module

public import Idealize.ShloMosaic.Lib.Pipeline.ValueKit
public import Idealize.ShloMosaic.Lib.Pointwise

@[expose] public section

set_option maxRecDepth 16384

noncomputable section

namespace Cert.Swa

open Idealize.ShloMosaic

/-! ## The bucket of a distance -/

/-- The distance word of query row `l` and key column `k` (the keys start one block earlier). -/
def dW (l k : ℕ) : BitVec 32 := IntOp.subi (IntOp.addi (128#32) (BitVec.ofNat 32 l)) (BitVec.ofNat 32 k)

/-- The bucket word of a distance word, as both programs compute it. -/
def bkW (n : BitVec 32) : BitVec 32 :=
  Scalar.select (IntOp.cmpi .slt (IntOp.maxsi n 0#32) 16#32) (IntOp.maxsi n 0#32)
    (IntOp.minsi
      (IntOp.addi (16#32)
        (FloatOps.fptosi (F := Ideal) (φ := .f32) 32
          (Ideal.div
              (Ideal.log
                (Ideal.div (FloatOps.sitofp (F := Ideal) .f32 (IntOp.maxsi (IntOp.maxsi n 0#32) 1#32))
                  (Ideal.ofBits .f32 1098907648#32)))
              (Ideal.ofBits .f32 1074075026#32) *
            Ideal.ofBits .f32 1098907648#32)))
      31#32)

/-- The window test on a distance word. -/
def okW (n : BitVec 32) : BitVec 1 := IntOp.andi (IntOp.cmpi .sge n 0#32) (IntOp.cmpi .slt n 128#32)

theorem ofBits_16 : Ideal.ofBits .f32 1098907648#32 = ((16 : ℝ) : EReal) := by
  simp [Ideal.ofBits, Ideal.ieee, -EReal.coe_mul]; norm_num

theorem ofBits_log8 : ∃ c : ℝ, 1 ≤ c ∧ Ideal.ofBits .f32 1074075026#32 = (c : EReal) := by
  refine ⟨8721810 / 4194304, by norm_num, ?_⟩
  simp [Ideal.ofBits, Ideal.ieee, -EReal.coe_mul]; norm_num

theorem ofBits_eighth : Ideal.ofBits .f32 1040187392#32 = ((1 / 8 : ℝ) : EReal) := by
  simp [Ideal.ofBits, Ideal.ieee, -EReal.coe_mul]; norm_num

theorem ofBits_ninf : Ideal.ofBits .f32 4286578688#32 = (⊥ : EReal) := by
  simp [Ideal.ofBits, Ideal.ieee]

theorem ofBits_inf : Ideal.ofBits .f32 2139095040#32 = (⊤ : EReal) := by
  simp [Ideal.ofBits, Ideal.ieee]

/-- The logarithmic part of the bucket formula is a natural below 113 for distances `16 … 127`. -/
theorem large_word (n : ℕ) (h1 : 16 ≤ n) (h2 : n ≤ 127) :
    ∃ v : Fin 113, FloatOps.fptosi (F := Ideal) (φ := .f32) 32
        (Ideal.div (Ideal.log (Ideal.div (FloatOps.sitofp (F := Ideal) .f32 (BitVec.ofNat 32 n)) (Ideal.ofBits .f32 1098907648#32)))
          (Ideal.ofBits .f32 1074075026#32) * Ideal.ofBits .f32 1098907648#32) = BitVec.ofNat 32 v := by
  obtain ⟨c, hc, ec⟩ := ofBits_log8
  have hi : (BitVec.ofNat 32 n).toInt = (n : ℤ) := by
    rw [BitVec.toInt_eq_toNat_of_lt (by rw [BitVec.toNat_ofNat]; omega), BitVec.toNat_ofNat, Nat.mod_eq_of_lt (by omega)]
  have e0 : FloatOps.sitofp (F := Ideal) .f32 (BitVec.ofNat 32 n) = ((n : ℝ) : EReal) := by
    show ((((BitVec.ofNat 32 n).toInt : ℝ)) : EReal) = _
    rw [hi]; simp
  have hn : (16 : ℝ) ≤ n := by exact_mod_cast h1
  have hn' : (n : ℝ) ≤ 127 := by exact_mod_cast h2
  have hy : 1 ≤ (n : ℝ) / 16 := by rw [le_div_iff₀ (by norm_num)]; linarith
  have e1 : Ideal.log (((n / 16 : ℝ)) : EReal) = ((Real.log (n / 16) : ℝ) : EReal) := by
    rw [Ideal.log_coe, if_neg (by linarith)]
  rw [e0, ofBits_16, ec, Ideal.div_coe (y := 16) (by norm_num), ← EReal.coe_mul, mul_one_div, e1, Ideal.div_coe (y := c) (by linarith), ← EReal.coe_mul, ← EReal.coe_mul, mul_one_div]
  have hl0 : 0 ≤ Real.log ((n : ℝ) / 16) := Real.log_nonneg hy
  have hl1 : Real.log ((n : ℝ) / 16) ≤ 7 := by
    have := Real.log_le_sub_one_of_pos (x := (n : ℝ) / 16) (by linarith)
    have h3 : (n : ℝ) / 16 ≤ 8 := by rw [div_le_iff₀ (by norm_num)]; linarith
    linarith
  have hx0 : 0 ≤ Real.log ((n : ℝ) / 16) / c * 16 := by positivity
  have hx1 : Real.log ((n : ℝ) / 16) / c * 16 < 113 := by
    have : Real.log ((n : ℝ) / 16) / c ≤ 7 := by
      rw [div_le_iff₀ (by linarith)]; nlinarith
    linarith
  refine ⟨⟨⌊Real.log ((n : ℝ) / 16) / c * 16⌋.toNat, ?_⟩, ?_⟩
  · have h1 : ⌊Real.log ((n : ℝ) / 16) / c * 16⌋ < 113 := by
      rw [Int.floor_lt]; exact_mod_cast hx1
    omega
  · have h0 : 0 ≤ ⌊Real.log ((n : ℝ) / 16) / c * 16⌋ := Int.floor_nonneg.mpr hx0
    have h1 : ⌊Real.log ((n : ℝ) / 16) / c * 16⌋ < 113 := by
      rw [Int.floor_lt]; exact_mod_cast hx1
    show Ideal.fptosi 32 _ = _
    unfold Ideal.fptosi
    rw [Ideal.toIntClamped_coe, if_pos hx0]
    show _ = BitVec.ofNat 32 (Int.toNat _)
    generalize ⌊Real.log ((n : ℝ) / 16) / c * 16⌋ = z at *
    have : max (-((2 ^ (32 - 1) : ℕ) : ℤ)) (min (((2 ^ (32 - 1) : ℕ) : ℤ) - 1) z) = z := by omega
    rw [this]
    obtain ⟨k, rfl⟩ := Int.eq_ofNat_of_zero_le h0
    simp

/-- The bucket of a distance `0 … 127` is one of the 32 rows of the table. -/
theorem bkW_range (n : ℕ) (h2 : n ≤ 127) : ∃ b : Fin 32, bkW (BitVec.ofNat 32 n) = BitVec.ofNat 32 b := by
  have e0 : ∀ a : Fin 128, IntOp.maxsi (BitVec.ofNat 32 a) 0#32 = BitVec.ofNat 32 a := by decide +kernel
  have e0 := e0 ⟨n, by omega⟩
  simp only at e0
  unfold bkW
  rw [e0]
  by_cases h1 : n < 16
  · have e1 : ∀ a : Fin 16, IntOp.cmpi .slt (BitVec.ofNat 32 a) 16#32 = 1#1 := by decide +kernel
    have e1 := e1 ⟨n, h1⟩
    simp only at e1
    rw [e1]
    exact ⟨⟨n, by omega⟩, rfl⟩
  · have e1 : ∀ a : Fin 128, 16 ≤ (a : ℕ) → IntOp.cmpi .slt (BitVec.ofNat 32 a) 16#32 = 0#1 ∧ IntOp.maxsi (BitVec.ofNat 32 a) 1#32 = BitVec.ofNat 32 a := by decide +kernel
    obtain ⟨e1, e2⟩ := e1 ⟨n, by omega⟩ (by simp only; omega)
    simp only at e1 e2
    obtain ⟨v, hv⟩ := large_word n (by omega) h2
    rw [e1, e2, hv]
    have e3 : ∀ v : Fin 113, IntOp.minsi (IntOp.addi (16#32) (BitVec.ofNat 32 v)) 31#32 = BitVec.ofNat 32 (min (16 + v) 31) := by decide +kernel
    exact ⟨⟨min (16 + v) 31, by omega⟩, e3 v⟩

theorem dW_word (l : Fin 128) (k : Fin 256) : dW l k = BitVec.ofNat 32 (4294967296 + (128 + l) - k) := by
  show (128#32 + BitVec.ofNat 32 l) - BitVec.ofNat 32 k = _
  apply BitVec.eq_of_toNat_eq
  simp only [BitVec.toNat_sub, BitVec.toNat_add, BitVec.toNat_ofNat]
  omega

/-- Inside the window: the row's distance is between 0 and 127. -/
theorem okW_at (l : Fin 128) (k : Fin 256) : okW (dW l k) = if (l : ℕ) < k ∧ (k : ℕ) ≤ 128 + l then 1#1 else 0#1 := by
  have h : ∀ e : Fin 512, okW (BitVec.ofNat 32 (4294967296 + e - 256)) = if (256 : ℕ) ≤ e ∧ (e : ℕ) < 384 then 1#1 else 0#1 := by decide +kernel
  have h := h ⟨384 + l - k, by omega⟩
  simp only at h
  rw [dW_word, show 4294967296 + (128 + (l : ℕ)) - k = 4294967296 + (384 + l - k) - 256 by omega, h]
  congr 1
  exact propext ⟨fun h => by omega, fun h => by omega⟩

theorem dW_at (l : Fin 128) (k : Fin 256) (h : (l : ℕ) < k ∧ (k : ℕ) ≤ 128 + l) : dW l k = BitVec.ofNat 32 (128 + l - k) := by
  rw [dW_word]
  apply BitVec.eq_of_toNat_eq
  simp only [BitVec.toNat_ofNat]
  omega

/-- A valid key's bucket, by its row of the table. -/
theorem bk_at (l : Fin 128) (k : Fin 256) (h : (l : ℕ) < k ∧ (k : ℕ) ≤ 128 + l) : ∃ b : Fin 32, bkW (dW l k) = BitVec.ofNat 32 b := by
  rw [dW_at l k h]; exact bkW_range _ (by omega)

/-! ## The softmax -/

theorem sum_coe {n : ℕ} (f : Fin n → ℝ) : ∑ k, ((f k : ℝ) : EReal) = ((∑ k, f k : ℝ) : EReal) := by
  classical
  induction n with
  | zero => simp
  | succ n ih => rw [Fin.sum_univ_succ, Fin.sum_univ_succ, ih, ← EReal.coe_add]

theorem sum_mul_coe {n : ℕ} (f : Fin n → EReal) (c : ℝ) (hc : 0 ≤ c) : (∑ k, f k) * (c : EReal) = ∑ k, f k * (c : EReal) := by
  induction n with
  | zero => simp
  | succ n ih =>
    rw [Fin.sum_univ_succ, Fin.sum_univ_succ, EReal.right_distrib_of_nonneg_of_ne_top (by exact_mod_cast hc) (EReal.coe_ne_top c), ih]

theorem fold_sup {n : ℕ} (f : Fin n → EReal) : Finset.univ.fold max ⊥ f = Finset.univ.sup f := rfl

/-- The max of values that are each `⊥` or real, with one real, is real. -/
theorem max_real {n : ℕ} (r : Fin n → EReal) (hr : ∀ k, r k = ⊥ ∨ ∃ a : ℝ, r k = a) (σ : ℝ) :
    ∃ μ : ℝ, max (Finset.univ.fold max ⊥ r) (σ : EReal) = μ := by
  have h1 : max (Finset.univ.fold max ⊥ r) (σ : EReal) ≠ ⊤ := by
    refine ne_of_lt (max_lt ?_ (EReal.coe_lt_top σ))
    rw [fold_sup, Finset.sup_lt_iff (by exact bot_lt_top)]
    intro k _
    rcases hr k with h | ⟨a, h⟩ <;> rw [h]
    · exact bot_lt_top
    · exact EReal.coe_lt_top a
  have h2 : max (Finset.univ.fold max ⊥ r) (σ : EReal) ≠ ⊥ :=
    ne_of_gt (lt_of_lt_of_le (EReal.bot_lt_coe σ) (le_max_right _ _))
  exact ⟨_, (EReal.coe_toReal h1 h2).symm⟩

theorem fold_scale {n : ℕ} (r : Fin n → EReal) (L : ℝ) (hL : 0 < L) :
    Finset.univ.fold max ⊥ (fun k => (L : EReal) * r k) = (L : EReal) * Finset.univ.fold max ⊥ r := by
  rw [fold_sup, fold_sup]
  have hm : Monotone fun x : EReal => (L : EReal) * x := fun a b h => mul_le_mul_of_nonneg_left h (by exact_mod_cast hL.le)
  exact (Finset.comp_sup_eq_sup_comp_of_is_total (fun x : EReal => (L : EReal) * x) hm (EReal.coe_mul_bot_of_pos hL)).symm

/-- The base-two weight at scaled logits is the natural weight. -/
theorem exp2_scaled (x : EReal) (hx : x = ⊥ ∨ ∃ a : ℝ, x = a) (μ : ℝ) :
    Ideal.exp2 (((Real.log 2)⁻¹ : ℝ) * x - (((Real.log 2)⁻¹ : ℝ) : EReal) * (μ : EReal)) = Ideal.exp (x - μ)
    ∧ ∃ w : ℝ, 0 ≤ w ∧ Ideal.exp (x - μ) = (w : EReal) ∧ (x = ⊥ → w = 0) ∧ (x ≠ ⊥ → 0 < w) := by
  have hl : 0 < Real.log 2 := Real.log_pos (by norm_num)
  have hL : 0 < (Real.log 2)⁻¹ := inv_pos.mpr hl
  rcases hx with h | ⟨a, h⟩
  · subst h
    have e : ((⊥ : EReal) - (μ : EReal)) = ⊥ := rfl
    rw [EReal.coe_mul_bot_of_pos hL, ← EReal.coe_mul, e]
    refine ⟨rfl, 0, le_refl _, rfl, fun _ => rfl, fun h => absurd rfl h⟩
  · subst h
    rw [← EReal.coe_mul, ← EReal.coe_mul, ← EReal.coe_sub, ← EReal.coe_sub]
    have e : Real.rpow 2 ((Real.log 2)⁻¹ * a - (Real.log 2)⁻¹ * μ) = Real.exp (a - μ) := by
      show (2 : ℝ) ^ ((Real.log 2)⁻¹ * a - (Real.log 2)⁻¹ * μ) = _
      rw [Real.rpow_def_of_pos (by norm_num)]
      congr 1
      field_simp
    refine ⟨?_, Real.exp (a - μ), (Real.exp_pos _).le, rfl, fun h => absurd h (EReal.coe_ne_bot a), fun _ => Real.exp_pos _⟩
    show ((Real.rpow 2 _ : ℝ) : EReal) = ((Real.exp _ : ℝ) : EReal)
    rw [e]

/-- The kernel's base-two softmax with one division at the end is the reference's, each weight divided. -/
theorem softmax_scaled {n : ℕ} (r : Fin n → EReal) (hr : ∀ k, r k = ⊥ ∨ ∃ a : ℝ, r k = a) (σ : ℝ)
    (v v' : Fin n → EReal) (hv : ∀ k, r k ≠ ⊥ → v k = v' k) (s : Fin n → EReal) (hs : ∀ k, s k = (((Real.log 2)⁻¹ : ℝ) : EReal) * r k)
    (sn : EReal) (hsn : sn = (((Real.log 2)⁻¹ : ℝ) : EReal) * (σ : EReal)) (m M : EReal)
    (hm : m = max (Finset.univ.fold max ⊥ s) sn) (hM : M = max (Finset.univ.fold max ⊥ r) (σ : EReal)) :
    Ideal.div (∑ k, v k * Ideal.exp2 (s k - m)) ((∑ k, (1 : EReal) * Ideal.exp2 (s k - m)) + Ideal.exp2 (sn - m))
    = ∑ k, v' k * Ideal.div (Ideal.exp (r k - M)) ((∑ k, Ideal.exp (r k - M)) + Ideal.exp ((σ : EReal) - M)) := by
  have hl : 0 < Real.log 2 := Real.log_pos (by norm_num)
  have hL : 0 < (Real.log 2)⁻¹ := inv_pos.mpr hl
  obtain ⟨μ, hμ⟩ := max_real r hr σ
  have em : m = (((Real.log 2)⁻¹ : ℝ) : EReal) * (μ : EReal) := by
    have hmon : Monotone fun x : EReal => (((Real.log 2)⁻¹ : ℝ) : EReal) * x := fun a b h => mul_le_mul_of_nonneg_left h (by exact_mod_cast hL.le)
    rw [hm, hsn, show s = fun k => (((Real.log 2)⁻¹ : ℝ) : EReal) * r k from funext hs, fold_scale r _ hL, ← hμ]
    exact (hmon.map_max).symm
  rw [hM, hμ, em, hsn]
  simp only [hs]
  have hw := fun k => exp2_scaled (r k) (hr k) μ
  obtain ⟨t1, T, hT0, t2, -, hT⟩ := exp2_scaled (σ : EReal) (.inr ⟨σ, rfl⟩) μ
  have hT' : 0 < T := hT (EReal.coe_ne_bot σ)
  choose h1 w h2 h3 h4 h5 using hw
  simp only [h1, t1, h3, t2, one_mul]
  have hS : 0 < (∑ k, w k) + T := by
    have := Finset.sum_nonneg fun k (_ : k ∈ (Finset.univ : Finset (Fin n))) => h2 k
    linarith
  rw [sum_coe, ← EReal.coe_add]
  have hd : ∀ x : EReal, Ideal.div x (((∑ k, w k) + T : ℝ) : EReal) = x * ((((∑ k, w k) + T)⁻¹ : ℝ) : EReal) := by
    intro x
    unfold Ideal.div
    rw [if_neg (by exact_mod_cast hS.ne'), EReal.coe_inv]
  simp only [hd]
  rw [sum_mul_coe _ _ (inv_pos.mpr hS).le]
  refine Finset.sum_congr rfl fun k _ => ?_
  rw [mul_assoc]
  by_cases hb : r k = ⊥
  · rw [h4 k hb]; simp
  · rw [hv k hb]
end Cert.Swa
end
-- ==== Proof.SwaTab.lean ====
module

public import proofs.«01_k».proof.Proof.Gen.KernelIdeal.Frame
public import Idealize.ShloMosaic.Lib.Pipeline.ValueKit
public import Idealize.ShloMosaic.Lib.Pipeline.ReadBack
public import proofs.«01_k».proof.Proof.SwaBlk
public import proofs.«01_k».proof.Proof.SwaCom
public import Idealize.ShloMosaic.Lib.Pipeline.Covers
public import Idealize.ShloMosaic.Lib.WholeRead

@[expose] public section

set_option maxRecDepth 16384

noncomputable section

namespace Cert.KernelIdeal.Swa

open Idealize.ShloMosaic Idealize.ShloMosaic.TcCoe Idealize.SL.Sem
open Cert.KernelIdeal Cert.KernelIdeal.Gen

open Idealize.ShloMosaic.Pipeline (Dat)

/-- The bias kernel's ladder of 32 selects on a bucket word. -/
def ladder (w : BitVec 32) (f : Fin 32 → EReal) : EReal :=
  (List.finRange 32).foldl (fun (acc : EReal) (b : Fin 32) => Scalar.select (IntOp.cmpi .eq w (BitVec.ofNat 32 b)) (f b) acc) 0

theorem ladder_at (f : Fin 32 → EReal) (b : Fin 32) : ladder (BitVec.ofNat 32 b) f = f b := by
  fin_cases b <;> rfl

theorem out0_at (x0 : Vec Ideal S256x1024 .i32) (x1 : Vec Ideal S1x32x1024 .f32) (x2 : Vec Ideal S1x1x1024 .f32) (k : Fin 256) (l : Fin 1024) :
    out0_3 (F := Ideal) x0 x1 x2 (ix3 0 k l) = Scalar.select (IntOp.cmpi .slt (x0 (ix2 k l)) 0#32) (Ideal.ofBits .f32 4286578688#32)
      ((ladder (x0 (ix2 k l)) (fun b => x1 (ix3 0 b l)) - x2 (ix3 0 0 l)) * Named.named (F := Ideal) (φ := .f32) κ "log2e" 1069066811#32) := by
  unfold out0_3
  rw [View.canon_unit_zero (by funext a; fin_cases a <;> rfl)]
  pointwise [k0_pay1, k0_pay2, k0_pay3, k0_pay4, k0_pay5, k0_pay6, k0_pay7, k0_pay8, k0_pay9, k0_pay10, k0_pay11, k0_pay12, k0_pay13, k0_pay14, k0_pay15, k0_pay16, View.ld_unit_zero]
  rfl

theorem idx0 : ∀ t : Fin cfg0.N, win0_0.index t = ![0, 0] ∧ win0_1.index t = ![t.val, 0, 0] ∧ win0_2.index t = ![t.val, 0, 0] ∧ win0_3.index t = ![t.val, 0, 0] :=
  (by decide +kernel : ∀ t : Fin grid0.N, _)

variable (V : (c : Dev nD) → (b : Ref sig .tc) → Buf (Elt Ideal) ((c : Thread nD τ).loc b))

theorem bm_at (c : Dev nD) (t : Fin cfg0.N) (k : Fin 256) (l : Fin 1024) : iblk0 V c 0 t (ix2 k l) = V c main_v36 (ix2 k l) := by
  blk_ext [iblk0, (idx0 t).1]
theorem rb_at (c : Dev nD) (t : Fin cfg0.N) (b : Fin 32) (l : Fin 1024) : iblk0 V c 1 t (ix3 0 b l) = V c main_v40 (ix3 (t : Fin 2) b l) := by
  blk_ext [iblk0, (idx0 t).2.1]
theorem sub_at (c : Dev nD) (t : Fin cfg0.N) (l : Fin 1024) : iblk0 V c 2 t (ix3 0 0 l) = V c main_v41 (ix3 (t : Fin 2) 0 l) := by
  blk_ext [iblk0, (idx0 t).2.2.1]

/-- The whole table. -/
def tblG (c : Dev nD) : Vec Ideal S2x256x1024 .f32 := fun i =>
  Scalar.select (IntOp.cmpi .slt (V c main_v36 (ix2 (i 1) (i 2)) : BitVec 32) 0#32) (Ideal.ofBits .f32 4286578688#32)
      ((ladder (V c main_v36 (ix2 (i 1) (i 2))) (fun b => V c main_v40 (ix3 (i 0) b (i 2))) - V c main_v41 (ix3 (i 0) 0 (i 2))) * Named.named (F := Ideal) (φ := .f32) κ "log2e" 1069066811#32)

theorem final0 (c : Dev nD) : (dat0 V c).arrAt 3 cfg0.N = tblG V c := by
  refine (dat0 V c).arrAt_eq_of_covers 3 _ (by decide +kernel) fun t _ y => ?_
  blk_simp
  idx_vars y
  have hG : tblG V c (((View.whole main_v42).slice (win0_3.rect t)).emb (ix3 y0 y1 y2)) = tblG V c (ix3 (t : Fin 2) y1 y2) := by
    blk_ext [(idx0 t).2.2.2]
  rw [hG, after0_3]
  obtain rfl : y0 = 0 := Subsingleton.elim _ _
  refine (out0_at ..).trans ?_
  rw [bm_at, sub_at]
  simp only [rb_at]
  rfl

end Cert.KernelIdeal.Swa
end
-- ==== Proof.SwaHost.lean ====
module

public import proofs.«01_k».proof.Proof.Gen.KernelIdeal.Frame
public import Idealize.ShloMosaic.Lib.Pipeline.ValueKit
public import Idealize.ShloMosaic.Lib.Pipeline.ReadBack
public import proofs.«01_k».proof.Proof.SwaTab
public import proofs.«01_k».proof.Proof.SwaCom
public import Idealize.ShloMosaic.Lib.Pipeline.Covers
public import Idealize.ShloMosaic.Lib.WholeRead

@[expose] public section

set_option maxRecDepth 16384

noncomputable section

namespace Cert.KernelIdeal.Swa

open Idealize.ShloMosaic Idealize.ShloMosaic.TcCoe Idealize.SL.Sem
open Cert.KernelIdeal Cert.KernelIdeal.Gen

open Idealize.ShloMosaic.Pipeline (Dat)

/-- The array `main_v10` of the printed program. -/
def kv10 : IVec S256x1024 32 :=
  (subi (broadcastInDim S256x1024 ![0, 1] bcast_S1x1024_S256x1024_0_1 (addi (broadcastInDim S1x1024 ![] bcast_S_S1x1024 (constantI S_ 32 128#32)) (shapeCast S1x1024 (broadcastInDim S8x128 ![0, 1] bcast_S1x128_S8x128_0_1 (broadcastInDim S1x128 ![1] bcast_S128_S1x128_1 (iotaInDim S128 32 0))) shapeCasts_S8x128_S1x1024))) (broadcastInDim S256x1024 ![0, 1] bcast_S256x1_S256x1024_0_1 (broadcastInDim S256x1 ![0] bcast_S256_S256x1_0 (iotaInDim S256 32 0))))

def kv15 : IVec S256x1024 1 :=
  (andi (cmpi .sge kv10 (broadcastInDim S256x1024 ![] bcast_S_S256x1024 (constantI S_ 32 0#32))) (cmpi .slt kv10 (broadcastInDim S256x1024 ![] bcast_S_S256x1024 (constantI S_ 32 128#32))))

/-- The clipped distance. -/
def kv17 : IVec S256x1024 32 := maxsi kv10 (broadcastInDim S256x1024 ![] bcast_S_S256x1024 (constantI S_ 32 0#32))

/-- Whether the distance is in the exact half of the buckets. -/
def kv34 : IVec S256x1024 1 := cmpi .slt kv17 (broadcastInDim S256x1024 ![] bcast_S_S256x1024 (constantI S_ 32 16#32))

/-- The bucket of the logarithmic half. -/
def kv32 : IVec S256x1024 32 :=
  minsi (addi (broadcastInDim S256x1024 ![] bcast_S_S256x1024 (constantI S_ 32 16#32)) (fptosi 32 (mulf (Host.divf (Host.log (Host.divf (sitofp (F := Ideal) .f32 (maxsi kv17 (broadcastInDim S256x1024 ![] bcast_S_S256x1024 (constantI S_ 32 1#32)))) (broadcastInDim S256x1024 ![] bcast_S_S256x1024 (constant (F := Ideal) S_ .f32 0x41800000#32)))) (broadcastInDim S256x1024 ![] bcast_S_S256x1024 (constant (F := Ideal) S_ .f32 0x40051592#32))) (broadcastInDim S256x1024 ![] bcast_S_S256x1024 (constant (F := Ideal) S_ .f32 0x41800000#32))))) (broadcastInDim S256x1024 ![] bcast_S_S256x1024 (constantI S_ 32 31#32))

/-- The bucket of every pair. -/
def kv35 : IVec S256x1024 32 := select kv34 kv17 kv32

/-- The bucket matrix, `-1` outside the window. -/
def kv36 : IVec S256x1024 32 :=
  (select kv15 kv35 (broadcastInDim S256x1024 ![] bcast_S_S256x1024 (constantI S_ 32 4294967295#32)))

/-- The bias rows by kv group, repeated over the block's query rows. -/
def kv40 (arg4 : FVec Ideal S32x16 .f32) : FVec Ideal S2x32x1024 .f32 :=
  (shapeCast S2x32x1024 (broadcastInDim S2x32x8x128 ![0, 1, 2] bcast_S2x32x8_S2x32x8x128_0_1_2 (transpose S2x32x8 [1, 0, 2] (shapeCast S32x2x8 arg4 shapeCasts_S32x16_S32x2x8) transposes_S32x2x8_S2x32x8_1_0_2)) shapeCasts_S2x32x8x128_S2x32x1024)

/-- The array of zeros the table kernel subtracts. -/
def kv41 : FVec Ideal S2x1x1024 .f32 :=
  (broadcastInDim S2x1x1024 ![] bcast_S_S2x1x1024 (constant (F := Ideal) S_ .f32 0x00000000#32))

/-- The table by head. -/
def kv44 (v42 : FVec Ideal S2x256x1024 .f32) : FVec Ideal S2x8x256x128 .f32 :=
  (transpose S2x8x256x128 [0, 2, 1, 3] (shapeCast S2x256x8x128 v42 shapeCasts_S2x256x1024_S2x256x8x128) transposes_S2x256x8x128_S2x8x256x128_0_2_1_3)

/-- The sinks by kv group, repeated over the block's query rows. -/
def kv47 (arg3 : FVec Ideal S16 .f32) : FVec Ideal S2x1x1024 .f32 :=
  (shapeCast S2x1x1024 (broadcastInDim S2x1x8x128 ![0, 1, 2] bcast_S2x1x8_S2x1x8x128_0_1_2 (shapeCast S2x1x8 arg3 shapeCasts_S16_S2x1x8)) shapeCasts_S2x1x8x128_S2x1x1024)

variable (m : (ℓ : Loc nD τ sig) → Buf (Elt Ideal) ℓ) (ρ : Dev nD → PrngReg)

theorem w5_v36 (c : Dev nD) : W5 m ρ c (Proc.devRef .tc main_v36) = kv36 := by
  rw [W5_of m ρ c main_v36 (by decide)]
  show StableHlo.after hostOps0_3 (W3 m ρ c) _ = _
  simp only [hostOps0_3, hostOps0_2, hostOps0_1, StableHlo.TRef.binary, StableHlo.TRef.ternary, StableHlo.TRef.unary, StableHlo.TRef.toBuf, StableHlo.TRef.ofBuf, cast_eq]
  after_results_simp
  rfl

theorem w5_v40 (c : Dev nD) : W5 m ρ c (Proc.devRef .tc main_v40) = kv40 (m ((c : Thread nD τ).loc main_arg4)) := by
  show StableHlo.after hostOps0_4 (W4 m ρ c) _ = _
  simp only [hostOps0_4, StableHlo.TRef.binary, StableHlo.TRef.ternary, StableHlo.TRef.unary, StableHlo.TRef.toBuf, StableHlo.TRef.ofBuf, cast_eq]
  after_results_simp <;> rfl

theorem w5_v41 (c : Dev nD) : W5 m ρ c (Proc.devRef .tc main_v41) = kv41 := by
  show StableHlo.after hostOps0_4 (W4 m ρ c) _ = _
  simp only [hostOps0_4, StableHlo.TRef.binary, StableHlo.TRef.ternary, StableHlo.TRef.unary, StableHlo.TRef.toBuf, StableHlo.TRef.ofBuf, cast_eq]
  after_results_simp <;> rfl

theorem w7_v44 (c : Dev nD) : W7 m ρ c (Proc.devRef .tc main_v44) = kv44 (tblG (V5 m ρ) c) := by
  show StableHlo.after hostOps1 (W6 m ρ c) _ = _
  simp only [hostOps1, StableHlo.TRef.binary, StableHlo.TRef.ternary, StableHlo.TRef.unary, StableHlo.TRef.toBuf, StableHlo.TRef.ofBuf, cast_eq]
  after_results_simp
  rw [show W6 m ρ c (Proc.devRef .tc main_v42) = tblG (V5 m ρ) c from (W6_arr m ρ c 3).trans (final0 _ c)]; rfl

theorem w7_v47 (c : Dev nD) : W7 m ρ c (Proc.devRef .tc main_v47) = kv47 (m ((c : Thread nD τ).loc main_arg3)) := by
  show StableHlo.after hostOps1 (W6 m ρ c) _ = _
  simp only [hostOps1, StableHlo.TRef.binary, StableHlo.TRef.ternary, StableHlo.TRef.unary, StableHlo.TRef.toBuf, StableHlo.TRef.ofBuf, cast_eq]
  after_results_simp
  rw [W6_args m ρ c main_arg3 (by decide)]; rfl

theorem kv36_at (k : Fin 256) (h : Fin 8) (l : Fin 128) : kv36 (ix2 k ⟨h * 128 + l, by omega⟩) = Scalar.select (Cert.Swa.okW (Cert.Swa.dW l k)) (Cert.Swa.bkW (Cert.Swa.dW l k)) 4294967295#32 := by
  have e : kv10 (ix2 k ⟨h * 128 + l, by omega⟩) = Cert.Swa.dW l k := by
    pointwise [kv10]; rfl
  pointwise [kv36, kv15, kv35, kv34, kv17, kv32]
  rw [e]; rfl

theorem kv40_at (a4 : FVec Ideal S32x16 .f32) (g : Fin 2) (b : Fin 32) (h : Fin 8) (l : Fin 128) :
    kv40 a4 (ix3 g b ⟨h * 128 + l, by omega⟩) = a4 (ix2 b ⟨g * 8 + h, by omega⟩) := by
  pointwise [kv40]

theorem kv41_at (g : Fin 2) (l : Fin 1024) : kv41 (ix3 g 0 l) = (0 : EReal) := by
  pointwise [kv41]

theorem kv44_at (v : FVec Ideal S2x256x1024 .f32) (g : Fin 2) (h : Fin 8) (k : Fin 256) (l : Fin 128) :
    kv44 v (ix4 g h k l) = v (ix3 g k ⟨h * 128 + l, by omega⟩) := by
  pointwise [kv44]

theorem kv47_at (a3 : FVec Ideal S16 .f32) (g : Fin 2) (h : Fin 8) (l : Fin 128) :
    kv47 a3 (ix3 g 0 ⟨h * 128 + l, by omega⟩) = a3 (ix1 ⟨g * 8 + h, by omega⟩) := by
  pointwise [kv47]

end Cert.KernelIdeal.Swa
end
-- ==== Proof.SwaArr.lean ====
module

public import proofs.«01_k».proof.Proof.Gen.KernelIdeal.Frame
public import Idealize.ShloMosaic.Lib.Pipeline.ValueKit
public import Idealize.ShloMosaic.Lib.Pipeline.ReadBack
public import proofs.«01_k».proof.Proof.SwaBlk
public import Idealize.ShloMosaic.Lib.Pipeline.Covers
public import Idealize.ShloMosaic.Lib.WholeRead

@[expose] public section

set_option maxRecDepth 16384

noncomputable section

namespace Cert.KernelIdeal.Swa

open Idealize.ShloMosaic Idealize.ShloMosaic.TcCoe Idealize.SL.Sem
open Cert.KernelIdeal Cert.KernelIdeal.Gen

open Idealize.ShloMosaic.Pipeline (Dat)

theorem idx1 : ∀ t : Fin cfg1.N, (win1_0.index t = ![t.val, 0] ∧ win1_1.index t = ![t.val, 0]
    ∧ win1_2.index t = ![t.val - 1, 0])
    ∧ (win1_3.index t = ![t.val, 0] ∧ win1_4.index t = ![t.val - 1, 0]
    ∧ win1_5.index t = ![0, 0, 0, 0] ∧ win1_6.index t = ![0, 0, 0] ∧ win1_7.index t = ![t.val, 0]) ∧ (grid1.coords t 1).val = t.val % 64 :=
  (by decide +kernel : ∀ t : Fin grid1.N, _)

variable (V : (c : Dev nD) → (b : Ref sig .tc) → Buf (Elt Ideal) ((c : Thread nD τ).loc b))

theorem after_at (c : Dev nD) (t : Fin cfg1.N) (g : Fin 2) (h : Fin 8) (d : Fin 64) (l : Fin 128) :
    (dat1 V c).after 7 t (ix2 l ⟨g * 512 + (h * 64 + d), by omega⟩)
    = oF (grid1.coords t) (iblk1 V c 0 t) (iblk1 V c 1 t) (iblk1 V c 2 t) (iblk1 V c 3 t) (iblk1 V c 4 t) (iblk1 V c 5 t) (iblk1 V c 6 t) g h d l := by
  rw [after1_7]; unfold outsAt1
  unfold out1_A_7; rw [View.read_writes_junk_eq_canon]; unfold kernelRun1_A; dsimp only
  rw [View.canon_unit_zero (by funext a; fin_cases a <;> rfl)]
  exact out_at ..

/-- Reads of the staged blocks are reads of the arrays. -/
theorem q_at (c : Dev nD) (t : Fin cfg1.N) (l : Fin 128) (x : Fin 1024) :
    iblk1 V c 0 t (ix2 l x) = V c main_arg0 (ix2 ⟨t.val * 128 + l, by have := t.isLt; have : cfg1.N = 128 := rfl; omega⟩ x) := by
  blk_ext [iblk1, (idx1 t).1.1]

theorem kc_at (c : Dev nD) (t : Fin cfg1.N) (l : Fin 128) (x : Fin 128) :
    iblk1 V c 1 t (ix2 l x) = V c main_arg1 (ix2 ⟨t.val * 128 + l, by have := t.isLt; have : cfg1.N = 128 := rfl; omega⟩ x) := by
  blk_ext [iblk1, (idx1 t).1.2.1]

theorem kp_at (c : Dev nD) (t : Fin cfg1.N) (l : Fin 128) (x : Fin 128) :
    iblk1 V c 2 t (ix2 l x) = V c main_arg1 (ix2 ⟨(t.val - 1) * 128 + l, by have := t.isLt; have : cfg1.N = 128 := rfl; omega⟩ x) := by
  blk_ext [iblk1, (idx1 t).1.2.2]

theorem vc_at (c : Dev nD) (t : Fin cfg1.N) (l : Fin 128) (x : Fin 128) :
    iblk1 V c 3 t (ix2 l x) = V c main_arg2 (ix2 ⟨t.val * 128 + l, by have := t.isLt; have : cfg1.N = 128 := rfl; omega⟩ x) := by
  blk_ext [iblk1, (idx1 t).2.1.1]

theorem vp_at (c : Dev nD) (t : Fin cfg1.N) (l : Fin 128) (x : Fin 128) :
    iblk1 V c 4 t (ix2 l x) = V c main_arg2 (ix2 ⟨(t.val - 1) * 128 + l, by have := t.isLt; have : cfg1.N = 128 := rfl; omega⟩ x) := by
  blk_ext [iblk1, (idx1 t).2.1.2.1]

theorem bias_at (c : Dev nD) (t : Fin cfg1.N) (g : Fin 2) (h : Fin 8) (k : Fin 256) (l : Fin 128) :
    iblk1 V c 5 t (ix4 g h k l) = V c main_v44 (ix4 g h k l) := by
  blk_ext [iblk1, (idx1 t).2.1.2.2.1]

theorem sink_at (c : Dev nD) (t : Fin cfg1.N) (g : Fin 2) (x : Fin 1024) :
    iblk1 V c 6 t (ix3 g 0 x) = V c main_v47 (ix3 g 0 x) := by
  blk_ext [iblk1, (idx1 t).2.1.2.2.2.1]

/-- The whole result array: row `R` belongs to grid point `R / 128`. -/
def tOf (R : Fin 16384) : Fin cfg1.N := ⟨R / 128, by have : cfg1.N = 128 := rfl; omega⟩

def GK (c : Dev nD) : Vec Ideal S16384x1024 .bf16 := fun i =>
  oF (grid1.coords (tOf (i 0))) (iblk1 V c 0 (tOf (i 0))) (iblk1 V c 1 (tOf (i 0))) (iblk1 V c 2 (tOf (i 0))) (iblk1 V c 3 (tOf (i 0)))
    (iblk1 V c 4 (tOf (i 0))) (iblk1 V c 5 (tOf (i 0))) (iblk1 V c 6 (tOf (i 0)))
    ⟨(i 1 : ℕ) / 512, by have := (i 1).isLt; simp at this; omega⟩ ⟨(i 1 : ℕ) % 512 / 64, by omega⟩ ⟨(i 1 : ℕ) % 64, by omega⟩ ⟨(i 0 : ℕ) % 128, by omega⟩

theorem GK_at (c : Dev nD) (R : Fin 16384) (J : Fin 1024) (t : Fin cfg1.N) (g : Fin 2) (h : Fin 8) (d : Fin 64) (l : Fin 128)
    (hR : (R : ℕ) = t.val * 128 + l) (hJ : (J : ℕ) = g * 512 + (h * 64 + d)) :
    GK V c (ix2 R J) = oF (grid1.coords t) (iblk1 V c 0 t) (iblk1 V c 1 t) (iblk1 V c 2 t) (iblk1 V c 3 t) (iblk1 V c 4 t) (iblk1 V c 5 t) (iblk1 V c 6 t) g h d l := by
  have e1 : tOf R = t := Fin.ext (by simp only [tOf]; omega)
  have e2 : (⟨(J : ℕ) / 512, by omega⟩ : Fin 2) = g := Fin.ext (by simp only []; omega)
  have e3 : (⟨(J : ℕ) % 512 / 64, by omega⟩ : Fin 8) = h := Fin.ext (by simp only []; omega)
  have e4 : (⟨(J : ℕ) % 64, by omega⟩ : Fin 64) = d := Fin.ext (by simp only []; omega)
  have e5 : (⟨(R : ℕ) % 128, by omega⟩ : Fin 128) = l := Fin.ext (by simp only []; omega)
  have e : GK V c (ix2 R J) = oF (grid1.coords (tOf R)) (iblk1 V c 0 (tOf R)) (iblk1 V c 1 (tOf R)) (iblk1 V c 2 (tOf R)) (iblk1 V c 3 (tOf R))
    (iblk1 V c 4 (tOf R)) (iblk1 V c 5 (tOf R)) (iblk1 V c 6 (tOf R))
    ⟨(J : ℕ) / 512, by omega⟩ ⟨(J : ℕ) % 512 / 64, by omega⟩ ⟨(J : ℕ) % 64, by omega⟩ ⟨(R : ℕ) % 128, by omega⟩ := rfl
  rw [e, e1, e2, e3, e4, e5]

theorem final1 (c : Dev nD) : (dat1 V c).arrAt 7 cfg1.N = GK V c := by
  refine (dat1 V c).arrAt_eq_of_covers 7 _ (by decide +kernel) fun t _ y => ?_
  blk_simp
  idx_vars y
  have e : y1 = ⟨(⟨(y1 : ℕ) / 512, by omega⟩ : Fin 2) * 512 + ((⟨(y1 : ℕ) % 512 / 64, by omega⟩ : Fin 8) * 64 + (⟨(y1 : ℕ) % 64, by omega⟩ : Fin 64)), by simp only []; omega⟩ :=
    Fin.ext (by simp only []; omega)
  have hG : GK V c (((View.whole main_v48).slice (win1_7.rect t)).emb (ix2 y0 y1))
      = GK V c (ix2 ⟨t.val * 128 + y0, by have := t.isLt; have : cfg1.grid.N = 128 := rfl; omega⟩ y1) := by
    blk_ext [(idx1 t).2.1.2.2.2.2]
  rw [hG]
  refine Eq.trans ?_ (GK_at V c _ y1 t ⟨(y1 : ℕ) / 512, by omega⟩ ⟨(y1 : ℕ) % 512 / 64, by omega⟩ ⟨(y1 : ℕ) % 64, by omega⟩ y0 rfl (by simp only []; omega)).symm
  refine Eq.trans ?_ (after_at V c t ⟨(y1 : ℕ) / 512, by omega⟩ ⟨(y1 : ℕ) % 512 / 64, by omega⟩ ⟨(y1 : ℕ) % 64, by omega⟩ y0)
  exact congrArg (fun z => (dat1 V c).after 7 t (ix2 y0 z)) e

end Cert.KernelIdeal.Swa
end
-- ==== Proof.SwaRef.lean ====
module

public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Swa

open Idealize.ShloMosaic Idealize.ShloMosaic.TcCoe Idealize.SL.Sem
open Cert.ReferenceIdeal Cert.ReferenceIdeal.Gen Cert.ReferenceIdeal.Value

/-- The array `main_v8` of the printed program. -/
def r_v8 (arg1 : FVec Ideal S16384x128 .f32) : FVec Ideal S2x64x256x2x64 .f32 :=
  (fn_main_v8 (F := Ideal) (extractStridedSlice S2x64x128x2x64 ![0, 0, 0, 0, 0] (pad S2x65x128x2x64 ![0, 1, 0, 0, 0] ![0, 0, 0, 0, 0] ![0, 0, 0, 0, 0] (shapeCast S2x64x128x2x64 arg1 shapeCasts_S16384x128_S2x64x128x2x64) (sitofp (F := Ideal) .f32 (constantI S_ 32 0#32)) pads_S2x64x128x2x64_S2x65x128x2x64_000_100_000_000_000 h_S_) slices_S2x65x128x2x64_S2x64x128x2x64_0_0_0_0_0) (shapeCast S2x64x128x2x64 arg1 shapeCasts_S16384x128_S2x64x128x2x64))

/-- The array `main_v11` of the printed program. -/
def r_v11 (arg2 : FVec Ideal S16384x128 .f32) : FVec Ideal S2x64x256x2x64 .f32 :=
  (fn_main_v11 (F := Ideal) (extractStridedSlice S2x64x128x2x64 ![0, 0, 0, 0, 0] (pad S2x65x128x2x64 ![0, 1, 0, 0, 0] ![0, 0, 0, 0, 0] ![0, 0, 0, 0, 0] (shapeCast S2x64x128x2x64 arg2 shapeCasts_S16384x128_S2x64x128x2x64) (sitofp (F := Ideal) .f32 (constantI S_ 32 0#32)) pads_S2x64x128x2x64_S2x65x128x2x64_000_100_000_000_000 h_S_) slices_S2x65x128x2x64_S2x64x128x2x64_0_0_0_0_0) (shapeCast S2x64x128x2x64 arg2 shapeCasts_S16384x128_S2x64x128x2x64))

/-- The array `main_v71` of the printed program. -/
def r_v71 : IVec S1x128x256 32 :=
  (select (cmpi .slt (maxsi (broadcastInDim S1x128x256 ![1, 2] bcast_S128x256_S1x128x256_1_2 (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0))))) (broadcastInDim S1x128x256 ![] bcast_S_S1x128x256 (constantI S_ 32 0#32))) (broadcastInDim S1x128x256 ![] bcast_S_S1x128x256 (constantI S_ 32 16#32))) (maxsi (broadcastInDim S1x128x256 ![1, 2] bcast_S128x256_S1x128x256_1_2 (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0))))) (broadcastInDim S1x128x256 ![] bcast_S_S1x128x256 (constantI S_ 32 0#32))) (minsi (addi (broadcastInDim S1x128x256 ![] bcast_S_S1x128x256 (constantI S_ 32 16#32)) (fptosi 32 (mulf (Host.divf (Host.log (Host.divf (sitofp (F := Ideal) .f32 (maxsi (maxsi (broadcastInDim S1x128x256 ![1, 2] bcast_S128x256_S1x128x256_1_2 (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0))))) (broadcastInDim S1x128x256 ![] bcast_S_S1x128x256 (constantI S_ 32 0#32))) (broadcastInDim S1x128x256 ![] bcast_S_S1x128x256 (constantI S_ 32 1#32)))) (broadcastInDim S1x128x256 ![] bcast_S_S1x128x256 (constant (F := Ideal) S_ .f32 0x41800000#32)))) (broadcastInDim S1x128x256 ![] bcast_S_S1x128x256 (constant (F := Ideal) S_ .f32 0x40051592#32))) (broadcastInDim S1x128x256 ![] bcast_S_S1x128x256 (constant (F := Ideal) S_ .f32 0x41800000#32))))) (broadcastInDim S1x128x256 ![] bcast_S_S1x128x256 (constantI S_ 32 31#32))))

/-- The array `main_v14` of the printed program. -/
def r_v14 (arg0 : FVec Ideal S16384x1024 .f32) (arg1 : FVec Ideal S16384x128 .f32) : FVec Ideal S2x64x16x128x256 .f32 :=
  (shapeCast S2x64x16x128x256 (transpose S2x64x2x8x128x256 [0, 1, 2, 5, 4, 3] (Host.dotGeneral dot_S2x64x256x2x64_S2x64x128x2x8x64_S2x64x2x256x128x8_4_5_2_24_013_013 none (r_v8 arg1) (shapeCast S2x64x128x2x8x64 (mulf (shapeCast S2x8192x16x64 arg0 shapeCasts_S16384x1024_S2x8192x16x64) (broadcastInDim S2x8192x16x64 ![] bcast_S_S2x8192x16x64 (constant (F := Ideal) S_ .f32 0x3E000000#32))) shapeCasts_S2x8192x16x64_S2x64x128x2x8x64)) transposes_S2x64x2x256x128x8_S2x64x2x8x128x256_0_1_2_5_4_3) shapeCasts_S2x64x2x8x128x256_S2x64x16x128x256)

/-- The array `main_v47` of the printed program. -/
def r_v47 : IVec S1x64x1x128x256 1 :=
  (broadcastInDim S1x64x1x128x256 ![1, 3, 4] bcast_S64x128x256_S1x64x1x128x256_1_3_4 (andi (broadcastInDim S64x128x256 ![0, 1, 2] bcast_S1x128x256_S64x128x256_0_1_2 (broadcastInDim S1x128x256 ![1, 2] bcast_S128x256_S1x128x256_1_2 (andi (cmpi .sge (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S64x128x256 ![0, 1, 2] bcast_S64x1x256_S64x128x256_0_1_2 (broadcastInDim S64x1x256 ![0, 2] bcast_S64x256_S64x1x256_0_2 (cmpi .sge (addi (broadcastInDim S64x256 ![0, 1] bcast_S64x1_S64x256_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x256 ![0, 1] bcast_S1x256_S64x256_0_1 (broadcastInDim S1x256 ![1] bcast_S256_S1x256_1 (iotaInDim S256 32 0)))) (broadcastInDim S64x256 ![] bcast_S_S64x256 (constantI S_ 32 0#32)))))))

/-- The array `main_v86` of the printed program. -/
def r_v86 : IVec S16x128x256x2 32 :=
  (fn_main_v86 (F := Ideal) (broadcastInDim S16x128x256x1 ![0, 1, 2] bcast_S16x128x256_S16x128x256x1_0_1_2 (broadcastInDim S16x128x256 ![0, 1, 2] bcast_S16x1x1_S16x128x256_0_1_2 (select (cmpi .slt (shapeCast S16x1x1 (iotaInDim S16 32 0 : IVec S16 32) shapeCasts_S16_S16x1x1) (broadcastInDim S16x1x1 ![] bcast_S_S16x1x1 (constantI S_ 32 0#32))) (addi (shapeCast S16x1x1 (iotaInDim S16 32 0 : IVec S16 32) shapeCasts_S16_S16x1x1) (broadcastInDim S16x1x1 ![] bcast_S_S16x1x1 (constantI S_ 32 16#32))) (shapeCast S16x1x1 (iotaInDim S16 32 0 : IVec S16 32) shapeCasts_S16_S16x1x1)))) (broadcastInDim S16x128x256x1 ![0, 1, 2] bcast_S16x128x256_S16x128x256x1_0_1_2 (broadcastInDim S16x128x256 ![0, 1, 2] bcast_S1x128x256_S16x128x256_0_1_2 (select (cmpi .slt r_v71 (broadcastInDim S1x128x256 ![] bcast_S_S1x128x256 (constantI S_ 32 0#32))) (addi r_v71 (broadcastInDim S1x128x256 ![] bcast_S_S1x128x256 (constantI S_ 32 32#32))) r_v71))))

/-- The array `main_v87` of the printed program. -/
def r_v87 (arg4 : FVec Ideal S32x16 .f32) : FVec Ideal S16x128x256 .f32 :=
  (Host.gather gather_S16x32_S16x128x256x2_S16x128x256_n_01_n_n_01_3_11 (transpose S16x32 [1, 0] arg4 transposes_S32x16_S16x32_1_0) r_v86)

/-- The array `main_v91` of the printed program. -/
def r_v91 (arg0 : FVec Ideal S16384x1024 .f32) (arg1 : FVec Ideal S16384x128 .f32) (arg4 : FVec Ideal S32x16 .f32) : FVec Ideal S2x64x16x128x256 .f32 :=
  (select (broadcastInDim S2x64x16x128x256 ![0, 1, 2, 3, 4] bcast_S1x64x1x128x256_S2x64x16x128x256_0_1_2_3_4 r_v47) (addf (r_v14 arg0 arg1) (broadcastInDim S2x64x16x128x256 ![0, 1, 2, 3, 4] bcast_S1x1x16x128x256_S2x64x16x128x256_0_1_2_3_4 (broadcastInDim S1x1x16x128x256 ![2, 3, 4] bcast_S16x128x256_S1x1x16x128x256_2_3_4 (r_v87 arg4)))) (broadcastInDim S2x64x16x128x256 ![] bcast_S_S2x64x16x128x256 (constant (F := Ideal) S_ .f32 0xFF800000#32)))

/-- The array `main_v94` of the printed program. -/
def r_v94 (arg0 : FVec Ideal S16384x1024 .f32) (arg1 : FVec Ideal S16384x128 .f32) (arg3 : FVec Ideal S16 .f32) (arg4 : FVec Ideal S32x16 .f32) : FVec Ideal S2x64x16x128x257 .f32 :=
  (fn_main_v94 (F := Ideal) (r_v91 arg0 arg1 arg4) (broadcastInDim S2x64x16x128x1 ![2, 3, 4] bcast_S16x1x1_S2x64x16x128x1_2_3_4 (broadcastInDim S16x1x1 ![0] bcast_S16_S16x1x1_0 arg3)))

/-- The array `main_v97` of the printed program. -/
def r_v97 (arg0 : FVec Ideal S16384x1024 .f32) (arg1 : FVec Ideal S16384x128 .f32) (arg3 : FVec Ideal S16 .f32) (arg4 : FVec Ideal S32x16 .f32) : FVec Ideal S2x64x16x128 .f32 :=
  (maximumf (broadcastInDim S2x64x16x128 ![] bcast_S_S2x64x16x128 (constant (F := Ideal) S_ .f32 0xFF800000#32)) (Host.reduce FloatOps.maximumf (r_v94 arg0 arg1 arg3 arg4) (constant (F := Ideal) S_ .f32 0xFF800000#32) reducesTo_S2x64x16x128x257_S2x64x16x128_d4 h_S_))

/-- The array `main_v101` of the printed program. -/
def r_v101 (arg0 : FVec Ideal S16384x1024 .f32) (arg1 : FVec Ideal S16384x128 .f32) (arg3 : FVec Ideal S16 .f32) (arg4 : FVec Ideal S32x16 .f32) : FVec Ideal S2x64x16x128x257 .f32 :=
  (Host.exp (subf (r_v94 arg0 arg1 arg3 arg4) (broadcastInDim S2x64x16x128x257 ![0, 1, 2, 3, 4] bcast_S2x64x16x128x1_S2x64x16x128x257_0_1_2_3_4 (broadcastInDim S2x64x16x128x1 ![0, 1, 2, 3] bcast_S2x64x16x128_S2x64x16x128x1_0_1_2_3 (r_v97 arg0 arg1 arg3 arg4)))))

/-- The array `main_v111` of the printed program. -/
def r_v111 (arg0 : FVec Ideal S16384x1024 .f32) (arg1 : FVec Ideal S16384x128 .f32) (arg2 : FVec Ideal S16384x128 .f32) (arg3 : FVec Ideal S16 .f32) (arg4 : FVec Ideal S32x16 .f32) : FVec Ideal S16384x1024 .bf16 :=
  (truncf .bf16 (shapeCast S16384x1024 (transpose S2x64x128x2x8x64 [0, 1, 5, 2, 4, 3] (Host.dotGeneral dot_S2x64x256x2x64_S2x64x2x8x128x256_S2x64x2x64x8x128_2_5_4_34_013_012 none (r_v11 arg2) (shapeCast S2x64x2x8x128x256 (extractStridedSlice S2x64x16x128x256 ![0, 0, 0, 0, 0] (Host.divf (r_v101 arg0 arg1 arg3 arg4) (broadcastInDim S2x64x16x128x257 ![0, 1, 2, 3, 4] bcast_S2x64x16x128x1_S2x64x16x128x257_0_1_2_3_4 (broadcastInDim S2x64x16x128x1 ![0, 1, 2, 3] bcast_S2x64x16x128_S2x64x16x128x1_0_1_2_3 (Host.reduceAdd (r_v101 arg0 arg1 arg3 arg4) (constant (F := Ideal) S_ .f32 0x00000000#32) reducesTo_S2x64x16x128x257_S2x64x16x128_d4 h_S_)))) slices_S2x64x16x128x257_S2x64x16x128x256_0_0_0_0_0) shapeCasts_S2x64x16x128x256_S2x64x2x8x128x256)) transposes_S2x64x2x64x8x128_S2x64x128x2x8x64_0_1_5_2_4_3) shapeCasts_S2x64x128x2x8x64_S16384x1024) bitsLt_bf16_f32)

/-- The run's term is the last of the arrays above. -/
theorem res_eq (m : (ℓ : Loc nD τ sig) → Buf (Elt Ideal) ℓ) (c : Dev nD) :
    res_main_v111 m c = r_v111 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v111
  simp only [r_v111, r_v101, r_v97, r_v94, r_v91, r_v87, r_v86, r_v47, r_v14, r_v71, r_v11, r_v8, fn_main_v8, fn_main_v11, fn_main_v86, fn_main_v94]
  rfl

end Cert.ReferenceIdeal.Swa

end
-- ==== Proof.SwaRefAt.lean ====
module

public import proofs.«01_k».proof.Proof.Gen.ReferenceIdeal.Run
public import Idealize.ShloMosaic.Lib.Pipeline.ValueKit
public import Idealize.ShloMosaic.Lib.Pointwise
public import proofs.«01_k».proof.Proof.SwaRef
public import proofs.«01_k».proof.Proof.SwaCom

@[expose] public section

set_option maxRecDepth 16384

noncomputable section

namespace Cert.ReferenceIdeal.Swa

open Idealize.ShloMosaic Idealize.ShloMosaic.TcCoe Idealize.SL.Sem
open Cert.ReferenceIdeal Cert.ReferenceIdeal.Gen Cert.ReferenceIdeal.Value
theorem v71_at (l : Fin 128) (k : Fin 256) : r_v71 (ix3 0 l k) = Cert.Swa.bkW (Cert.Swa.dW l k) := by
  pointwise [r_v71]; rfl

theorem v47_at (n : Fin 64) (l : Fin 128) (k : Fin 256) : r_v47 (ix5 0 n 0 l k) = IntOp.andi (Cert.Swa.okW (Cert.Swa.dW l k))
      (IntOp.cmpi .sge (IntOp.addi (IntOp.muli (IntOp.subi (BitVec.ofNat 32 n) 1#32) 128#32) (BitVec.ofNat 32 k)) 0#32) := by
  pointwise [r_v47]; rfl

theorem v14_at (a0 : FVec Ideal S16384x1024 .f32) (a1 : FVec Ideal S16384x128 .f32) (b : Fin 2) (n : Fin 64) (g : Fin 2) (h : Fin 8) (l : Fin 128) (k : Fin 256) :
    r_v14 a0 a1 (ix5 b n ⟨g*8+h, by omega⟩ l k) = ∑ x : Fin 64, r_v8 a1 (ix5 b n k g x) *
        (a0 (ix2 ⟨b * 8192 + (n * 128 + l), by omega⟩ ⟨(g * 8 + h) * 64 + x, by omega⟩) * Ideal.ofBits FTy.f32 1040187392#32) := by
  unfold r_v14; generalize r_v8 a1 = K; pointwise

/-- The keys (or values) a block sees: the block before it, zeros before the first, and its own. -/
theorem v8_at (a0 : FVec Ideal S16384x128 .f32) (b : Fin 2) (n : Fin 64) (k : Fin 256) (g : Fin 2) (x : Fin 64) : r_v8 a0 (ix5 b n k g x) =
    if h : (k : ℕ) < 128 then
      if h_1 : (1 ≤ (n : ℕ) ∧ (n : ℕ) - 1 < 64) ∧ (k : ℕ) < 128 then a0 (ix2 ⟨b * 8192 + (n - 1) * 128 + k, by omega⟩ ⟨g * 64 + x, by omega⟩)
      else FloatOps.sitofp (F := Ideal) FTy.f32 0#32
    else a0 (ix2 ⟨b * 8192 + n * 128 + (k - 128), by omega⟩ ⟨g * 64 + x, by omega⟩) := by
  pointwise [r_v8, fn_main_v8]

theorem v11_eq (a : FVec Ideal S16384x128 .f32) : r_v11 a = r_v8 a := rfl

theorem v86_at0 (h : Fin 16) (l : Fin 128) (k : Fin 256) : r_v86 (ix4 h l k 0) = BitVec.ofNat 32 h := by
  have e : ∀ h : Fin 16, Scalar.select (IntOp.cmpi CmpIPredicate.slt (BitVec.ofNat 32 h) 0#32) (IntOp.addi (BitVec.ofNat 32 h) 16#32)
      (BitVec.ofNat 32 h) = BitVec.ofNat 32 h := by decide +kernel
  unfold r_v86; generalize r_v71 = B
  pointwise [fn_main_v86]
  exact e h

theorem v86_at1 (h : Fin 16) (l : Fin 128) (k : Fin 256) (b : Fin 32) (hb : r_v71 (ix3 0 l k) = BitVec.ofNat 32 b) :
    r_v86 (ix4 h l k 1) = BitVec.ofNat 32 b := by
  have e : ∀ h : Fin 32, Scalar.select (IntOp.cmpi CmpIPredicate.slt (BitVec.ofNat 32 h) 0#32) (IntOp.addi (BitVec.ofNat 32 h) 32#32)
      (BitVec.ofNat 32 h) = BitVec.ofNat 32 h := by decide +kernel
  unfold r_v86; revert hb; generalize r_v71 = B; intro hb
  pointwise [fn_main_v86]
  rw [hb]; exact e b

theorem gather_at (x : S16x32.Idx → EReal) (idx : IVec S16x128x256x2 32) (h : Fin 16) (l : Fin 128) (k : Fin 256) :
    Host.gather gather_S16x32_S16x128x256x2_S16x128x256_n_01_n_n_01_3_11 x idx (ix3 h l k)
    = x (ix2 ⟨min (idx (ix4 h l k 0)).toInt.toNat 15, by omega⟩ ⟨min (idx (ix4 h l k 1)).toInt.toNat 31, by omega⟩) := by
  unfold Host.gather
  congr 1
  funext a
  refine Fin.ext ?_
  show GatherDims.start _ (ix3 h l k) idx a + GatherDims.batchCoord _ (ix3 h l k) a + GatherDims.offCoord _ (ix3 h l k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (List.not_mem_nil),
      GatherDims.offCoord_eq_zero _ _ _ (fun h => ((GatherDims.mem_sKept _ _).mp h).1 (by decide))]
    simp only [Nat.add_zero]
    unfold GatherDims.start
    rw [dif_pos (by decide)]
    have hsi : ∀ p, GatherDims.siIdx gather_S16x32_S16x128x256x2_S16x128x256_n_01_n_n_01_3_11 (ix3 h l k) ⟨List.idxOf (0 : Fin 2) [0, 1], p⟩ = ix4 h l k 0 := by
      intro p
      funext b; refine Fin.ext ?_
      match b with
      | ⟨0, _⟩ => rfl
      | ⟨1, _⟩ => rfl
      | ⟨2, _⟩ => rfl
      | ⟨3, _⟩ => rfl
    erw [hsi]
    rfl
  · rw [GatherDims.batchCoord_eq_zero _ _ _ (List.not_mem_nil),
      GatherDims.offCoord_eq_zero _ _ _ (fun h => ((GatherDims.mem_sKept _ _).mp h).1 (by decide))]
    simp only [Nat.add_zero]
    unfold GatherDims.start
    rw [dif_pos (by decide)]
    have hsi : ∀ p, GatherDims.siIdx gather_S16x32_S16x128x256x2_S16x128x256_n_01_n_n_01_3_11 (ix3 h l k) ⟨List.idxOf (1 : Fin 2) [0, 1], p⟩ = ix4 h l k 1 := by
      intro p
      funext b; refine Fin.ext ?_
      match b with
      | ⟨0, _⟩ => rfl
      | ⟨1, _⟩ => rfl
      | ⟨2, _⟩ => rfl
      | ⟨3, _⟩ => rfl
    erw [hsi]
    rfl

theorem v87_at (a4 : FVec Ideal S32x16 .f32) (h : Fin 16) (l : Fin 128) (k : Fin 256) (b : Fin 32) (hb : r_v71 (ix3 0 l k) = BitVec.ofNat 32 b) :
    r_v87 a4 (ix3 h l k) = a4 (ix2 b h) := by
  have e1 : ∀ h : Fin 16, min (BitVec.ofNat 32 (h : ℕ)).toInt.toNat 15 = h := by decide +kernel
  have e2 : ∀ h : Fin 32, min (BitVec.ofNat 32 (h : ℕ)).toInt.toNat 31 = h := by decide +kernel
  unfold r_v87
  rw [gather_at]
  simp only [v86_at0, v86_at1 h l k b hb, e1, e2]
  pointwise

theorem v91_gen (A : IVec S1x64x1x128x256 1) (B : FVec Ideal S2x64x16x128x256 .f32) (C : FVec Ideal S16x128x256 .f32) (K : FVec Ideal S_ .f32) (b : Fin 2) (n : Fin 64) (h : Fin 16) (l : Fin 128) (k : Fin 256) :
    select (broadcastInDim S2x64x16x128x256 ![0, 1, 2, 3, 4] bcast_S1x64x1x128x256_S2x64x16x128x256_0_1_2_3_4 A) (addf B (broadcastInDim S2x64x16x128x256 ![0, 1, 2, 3, 4] bcast_S1x1x16x128x256_S2x64x16x128x256_0_1_2_3_4 (broadcastInDim S1x1x16x128x256 ![2, 3, 4] bcast_S16x128x256_S1x1x16x128x256_2_3_4 C))) (broadcastInDim S2x64x16x128x256 ![] bcast_S_S2x64x16x128x256 K) (ix5 b n h l k)
     = Scalar.select (A (ix5 0 n 0 l k)) (B (ix5 b n h l k) + C (ix3 h l k)) (K ix0) := by
  pointwise

theorem v91_at (a0 : FVec Ideal S16384x1024 .f32) (a1 : FVec Ideal S16384x128 .f32) (a4 : FVec Ideal S32x16 .f32) (b : Fin 2) (n : Fin 64) (h : Fin 16) (l : Fin 128) (k : Fin 256) :
    r_v91 a0 a1 a4 (ix5 b n h l k) = Scalar.select (r_v47 (ix5 0 n 0 l k)) (r_v14 a0 a1 (ix5 b n h l k) + r_v87 a4 (ix3 h l k)) (Ideal.ofBits .f32 4286578688#32) :=
  v91_gen r_v47 (r_v14 a0 a1) (r_v87 a4) (constant (F := Ideal) S_ .f32 0xFF800000#32) b n h l k

theorem v94_at (a0 : FVec Ideal S16384x1024 .f32) (a1 : FVec Ideal S16384x128 .f32) (a3 : FVec Ideal S16 .f32) (a4 : FVec Ideal S32x16 .f32) (b : Fin 2) (n : Fin 64) (h : Fin 16) (l : Fin 128) (k : Fin 257) :
    r_v94 a0 a1 a3 a4 (ix5 b n h l k) = if hk : (k : ℕ) < 256 then r_v91 a0 a1 a4 (ix5 b n h l ⟨k, hk⟩) else a3 (ix1 h) := by
  unfold r_v94; generalize r_v91 a0 a1 a4 = A
  pointwise [fn_main_v94]

/-- A maximum taken along the last of five axes, at one place. -/
theorem maxred {n0 n1 n2 n3 n4 : ℕ} {u : Shape} (A : FVec Ideal (⟨5, ![n0, n1, n2, n3, n4]⟩ : Shape) .f32) (c : u.Idx → EReal)
    (h : (⟨5, ![n0, n1, n2, n3, n4]⟩ : Shape).ReducesTo [4] (⟨4, ![n0, n1, n2, n3]⟩ : Shape)) (hu : 0 < u.numel)
    (a : Fin n0) (b : Fin n1) (d : Fin n2) (e : Fin n3) :
    Host.reduce (FloatOps.maximumf (F := Ideal) (φ := .f32)) A c h hu (ix4 a b d e)
      = Finset.univ.fold max (c (Shape.Idx.first hu)) fun x : Fin n4 => A (ix5 a b d e x) := by
  rw [Ideal.maximumf_eq_max]
  exact (Host.reduce_eq_fold max A c h hu _).trans (h.fold_fiber_r5_a4 _ max _ A)

/-- A maximum with a fold. -/
theorem max_at {s : Shape} (x y : FVec Ideal s .f32) (i : s.Idx) : maximumf x y i = max (x i) (y i) := rfl

theorem v97_gen (A : FVec Ideal S2x64x16x128x257 .f32) (b : Fin 2) (n : Fin 64) (h : Fin 16) (l : Fin 128) :
   maximumf (broadcastInDim S2x64x16x128 ![] bcast_S_S2x64x16x128 (constant (F := Ideal) S_ .f32 0xFF800000#32)) (Host.reduce (FloatOps.maximumf (F := Ideal) (φ := .f32)) A (constant (F := Ideal) S_ .f32 0xFF800000#32) reducesTo_S2x64x16x128x257_S2x64x16x128_d4 h_S_) (ix4 b n h l) = max (Ideal.ofBits FTy.f32 4286578688#32)
      (Finset.fold max (Ideal.ofBits FTy.f32 4286578688#32) (fun x => A (ix5 b n h l x)) Finset.univ) := by
  refine (max_at _ _ _).trans (congrArg₂ max rfl ?_)
  exact maxred A _ _ _ b n h l

theorem v97_at (a0 : FVec Ideal S16384x1024 .f32) (a1 : FVec Ideal S16384x128 .f32) (a3 : FVec Ideal S16 .f32) (a4 : FVec Ideal S32x16 .f32) (b : Fin 2) (n : Fin 64) (h : Fin 16) (l : Fin 128) :
    r_v97 a0 a1 a3 a4 (ix4 b n h l) = max (Ideal.ofBits FTy.f32 4286578688#32)
      (Finset.fold max (Ideal.ofBits FTy.f32 4286578688#32) (fun x => r_v94 a0 a1 a3 a4 (ix5 b n h l x)) Finset.univ) :=
  v97_gen (r_v94 a0 a1 a3 a4) b n h l

theorem v101_at (a0 : FVec Ideal S16384x1024 .f32) (a1 : FVec Ideal S16384x128 .f32) (a3 : FVec Ideal S16 .f32) (a4 : FVec Ideal S32x16 .f32) (b : Fin 2) (n : Fin 64) (h : Fin 16) (l : Fin 128) (k : Fin 257) :
    r_v101 a0 a1 a3 a4 (ix5 b n h l k) = Ideal.exp (r_v94 a0 a1 a3 a4 (ix5 b n h l k) - r_v97 a0 a1 a3 a4 (ix4 b n h l)) := by
  unfold r_v101; generalize r_v94 a0 a1 a3 a4 = A; generalize r_v97 a0 a1 a3 a4 = B
  pointwise

theorem v111_at (a0 : FVec Ideal S16384x1024 .f32) (a1 a2 : FVec Ideal S16384x128 .f32) (a3 : FVec Ideal S16 .f32) (a4 : FVec Ideal S32x16 .f32) (b : Fin 2) (n : Fin 64) (g : Fin 2) (h : Fin 8) (l : Fin 128) (d : Fin 64) :
    r_v111 a0 a1 a2 a3 a4 (ix2 ⟨b * 8192 + (n * 128 + l), by omega⟩ ⟨(g * 8 + h) * 64 + d, by omega⟩) = ∑ x : Fin 256,
      r_v8 a2 (ix5 b n x g d) * Ideal.div (r_v101 a0 a1 a3 a4 (ix5 b n ⟨g * 8 + h, by omega⟩ l ⟨x, by omega⟩))
          (∑ y : Fin 257, r_v101 a0 a1 a3 a4 (ix5 b n ⟨g * 8 + h, by omega⟩ l y)) := by
  unfold r_v111; rw [v11_eq]; generalize r_v101 a0 a1 a3 a4 = A; generalize r_v8 a2 = B
  pointwise

end Cert.ReferenceIdeal.Swa
end
-- ==== Proof.SwaInt.lean ====
module

public import proofs.«01_k».proof.Proof.Gen.KernelIdeal.Frame
public import Idealize.ShloMosaic.Lib.Pipeline.ValueKit
public import proofs.«01_k».proof.Proof.SwaHost
public import proofs.«01_k».proof.Proof.SwaArr
public import proofs.«01_k».proof.Proof.SwaRefAt

@[expose] public section

set_option maxRecDepth 16384

noncomputable section

namespace Cert.KernelIdeal.Swa

open Idealize.ShloMosaic Idealize.ShloMosaic.TcCoe Idealize.SL.Sem
open Cert.KernelIdeal Cert.KernelIdeal.Gen

/-- The named constants are the reals the certificate states. -/
theorem log2e_eq : Named.named (F := Ideal) (φ := .f32) κ "log2e" 1069066811#32 = (((Real.log 2)⁻¹ : ℝ) : EReal) := by
  show (κ _).getD _ = _
  rfl

theorem qscale_eq : Named.named (F := Ideal) (φ := .f32) κ "qscale" 1043900987#32 = ((1 / 8 * (Real.log 2)⁻¹ : ℝ) : EReal) := by
  show (κ _).getD _ = _
  rfl

/-- The kernel's test for a key before the first block. -/
theorem pay4_at (i : grid1.Coords) (k : Fin 256) (l : Fin 128) (n : Fin 64) (hi : (i 1).val = n) :
    k1_pay4 i (ix2 k l) = if (k : ℕ) < 128 ∧ (n : ℕ) = 0 then 1#1 else 0#1 := by
  have e1 : ∀ k : Fin 256, IntOp.cmpi .slt (BitVec.ofNat 32 k) 128#32 = if (k : ℕ) < 128 then 1#1 else 0#1 := by decide +kernel
  have e2 : ∀ n : Fin 64, IntOp.cmpi .eq (BitVec.ofNat 32 n) 0#32 = if (n : ℕ) = 0 then 1#1 else 0#1 := by decide +kernel
  have e : k1_pay4 i (ix2 k l) = IntOp.andi (IntOp.cmpi .slt (BitVec.ofNat 32 k) 128#32) (IntOp.cmpi .eq (BitVec.ofNat 32 (i 1).val) 0#32) := by
    pointwise [k1_pay4]; rfl
  rw [e, hi, e1, e2]
  by_cases h1 : (k : ℕ) < 128 <;> by_cases h2 : (n : ℕ) = 0 <;> simp [h1, h2] <;> rfl

/-- The reference's test for a key before the first block. -/
theorem test_at (k : Fin 256) (n : Fin 64) :
    IntOp.cmpi .sge (IntOp.addi (IntOp.muli (IntOp.subi (BitVec.ofNat 32 n) 1#32) 128#32) (BitVec.ofNat 32 k)) 0#32
      = if (k : ℕ) < 128 ∧ (n : ℕ) = 0 then 0#1 else 1#1 := by
  have e0 : ∀ k : Fin 256, IntOp.cmpi .sge (IntOp.addi (IntOp.muli (IntOp.subi (BitVec.ofNat 32 0) 1#32) 128#32) (BitVec.ofNat 32 k)) 0#32
      = if (k : ℕ) < 128 then 0#1 else 1#1 := by decide +kernel
  have e1 : ∀ n : Fin 64, (n : ℕ) ≠ 0 → IntOp.muli (IntOp.subi (BitVec.ofNat 32 n) 1#32) 128#32 = BitVec.ofNat 32 ((n - 1) * 128) := by decide +kernel
  by_cases h : (n : ℕ) = 0
  · rw [h, e0]; simp
  · rw [e1 n h]
    simp only [h, and_false, if_false]
    have hx : (n - 1) * 128 + (k : ℕ) < 2147483648 := by omega
    show BitVec.ofBool (BitVec.sle 0#32 (BitVec.ofNat 32 ((n - 1) * 128) + BitVec.ofNat 32 k)) = 1#1
    rw [← BitVec.ofNat_add]
    have : BitVec.sle 0#32 (BitVec.ofNat 32 ((n - 1) * 128 + k)) = true := by
      rw [BitVec.sle_eq_decide, decide_eq_true_iff]
      generalize (n - 1) * 128 + (k : ℕ) = x at hx
      rw [BitVec.toInt_eq_toNat_of_lt (by simp only [BitVec.toNat_ofNat]; omega)]
      rw [BitVec.toInt_eq_toNat_of_lt (by simp only [BitVec.toNat_ofNat]; omega)]
      simp only [BitVec.toNat_ofNat]; omega
    rw [this]; rfl

end Cert.KernelIdeal.Swa
end
-- ==== Proof.SwaEq.lean ====
module

public import proofs.«01_k».proof.Proof.Gen.KernelIdeal.Frame
public import Idealize.ShloMosaic.Lib.Pipeline.ValueKit
public import proofs.«01_k».proof.Proof.SwaHost
public import proofs.«01_k».proof.Proof.SwaInt
public import proofs.«01_k».proof.Proof.SwaArr
public import proofs.«01_k».proof.Proof.SwaRefAt

@[expose] public section

set_option maxRecDepth 16384

noncomputable section

namespace Cert.KernelIdeal.Swa

open Idealize.ShloMosaic Idealize.ShloMosaic.TcCoe Idealize.SL.Sem
open Cert.KernelIdeal Cert.KernelIdeal.Gen

open Cert.ReferenceIdeal.Swa (r_v8 r_v14 r_v91 r_v94 r_v97 r_v101 r_v111 v8_at v14_at v47_at v71_at v87_at v91_at v94_at v97_at v101_at v111_at)

theorem arr_congr {p q : ℕ} {φ : FTy} (a : FVec Ideal (⟨2, ![p, q]⟩ : Shape) φ) {i i' : Fin p} {j j' : Fin q} (h : (i : ℕ) = i') (h' : (j : ℕ) = j') :
    a (ix2 i j) = a (ix2 i' j') := by rw [Fin.ext h, Fin.ext h']

/-- A block's key or value panel is the reference's, but for the rows before the first block. -/
theorem panel_at (a : FVec Ideal S16384x128 .f32) (cur prev : Vec Ideal S128x128 .f32) (b : Fin 2) (n : Fin 64) (t : ℕ) (ht : t = b * 64 + n) (ht2 : t < 128)
    (hc : ∀ l x : Fin 128, cur (ix2 l x) = a (ix2 ⟨t * 128 + l, by omega⟩ x))
    (hp : ∀ l x : Fin 128, prev (ix2 l x) = a (ix2 ⟨(t - 1) * 128 + l, by omega⟩ x))
    (k : Fin 256) (g : Fin 2) (x : Fin 64) (hm : ¬((k : ℕ) < 128 ∧ (n : ℕ) = 0)) :
    (if h : (k : ℕ) < 128 then prev (ix2 ⟨k, h⟩ ⟨g * 64 + x, by omega⟩) else cur (ix2 ⟨k - 128, by omega⟩ ⟨g * 64 + x, by omega⟩))
      = r_v8 a (ix5 b n k g x) := by
  rw [v8_at]
  by_cases h : (k : ℕ) < 128
  · rw [dif_pos h, dif_pos h, dif_pos ⟨⟨by omega, by omega⟩, h⟩, hp]
    exact arr_congr a (by simp only []; omega) rfl
  · rw [dif_neg h, dif_neg h, hc]
    exact arr_congr a (by simp only []; omega) rfl

/-- A sum over the whole key axis of a query laid at one half is the sum over that half. -/
theorem band_sum (g : Fin 2) (A : Fin 128 → EReal) (Q : Fin 128 → EReal) (B : Fin 64 → EReal)
    (h0 : ∀ x : Fin 128, ¬(g * 64 ≤ (x : ℕ) ∧ (x : ℕ) - g * 64 < 64) → Q x = 0)
    (h1 : ∀ y : Fin 64, A ⟨g * 64 + y, by omega⟩ * Q ⟨g * 64 + y, by omega⟩ = B y) :
    ∑ x, A x * Q x = ∑ y, B y := by
  symm
  refine Finset.sum_of_injOn (fun y : Fin 64 => (⟨g * 64 + y, by omega⟩ : Fin 128)) ?_ ?_ ?_ ?_
  · intro y _ z _ e
    exact Fin.ext (by have := congrArg Fin.val e; simp only [] at this; omega)
  · intro y _; exact Finset.mem_coe.mpr (Finset.mem_univ _)
  · intro x _ hx
    rw [h0 x (fun hb => hx ⟨⟨x - g * 64, hb.2⟩, Finset.mem_coe.mpr (Finset.mem_univ _), Fin.ext (by simp only []; omega)⟩), mul_zero]
  · intro y _; exact (h1 y).symm

theorem raw_at (x0 : Vec Ideal S128x1024 .f32) (x1 x2 : Vec Ideal S128x128 .f32) (g : Fin 2) (h : Fin 8) (k : Fin 256) (l : Fin 128) (u q : Fin 64 → ℝ)
    (hu : ∀ x : Fin 64, kcF x1 x2 k ⟨g * 64 + x, by omega⟩ = (u x : EReal))
    (hq : ∀ x : Fin 64, x0 (ix2 l ⟨g * 512 + h * 64 + x, by omega⟩) = (q x : EReal)) :
    rawF x0 x1 x2 g h k l = ((∑ x, u x * (q x * (1 / 8 * (Real.log 2)⁻¹)) : ℝ) : EReal) := by
  unfold rawF
  rw [band_sum g (fun x => kcF x1 x2 k x) (fun x => qpF x0 g h x l) (fun x => ((u x * (q x * (1 / 8 * (Real.log 2)⁻¹)) : ℝ) : EReal)), Cert.Swa.sum_coe]
  · intro x hx; exact dif_neg hx
  · intro y
    have e : qpF x0 g h ⟨g * 64 + y, by omega⟩ l = (q y : EReal) * ((1 / 8 * (Real.log 2)⁻¹ : ℝ) : EReal) := by
      unfold qpF
      rw [dif_pos ⟨by simp only []; omega, by simp only []; omega⟩, qscale_eq, ← hq y]
      congr 1
      exact arr_congr (φ := .f32) x0 rfl (by simp only []; omega)
    show kcF x1 x2 k _ * qpF x0 g h _ l = _
    rw [e, hu y]
    push_cast
    rfl

/-- Bringing the two constants out of a score. -/
theorem score_real (u q : Fin 64 → ℝ) (c L : ℝ) :
    ((∑ x, u x * (q x * (1 / 8 * L)) : ℝ) : EReal) + (c : EReal) * (L : EReal) = (L : EReal) * ((∑ x, u x * (q x * (1 / 8)) + c : ℝ) : EReal) := by
  rw [← EReal.coe_mul, ← EReal.coe_add, ← EReal.coe_mul]
  congr 1
  rw [mul_add, Finset.mul_sum, mul_comm c L]
  congr 1
  exact Finset.sum_congr rfl fun x _ => by ring

/-- The max over the keys and the sink. -/
theorem fold_last (f : Fin 257 → EReal) (σ : EReal) (r : Fin 256 → EReal) (h1 : f (Fin.last 256) = σ) (h2 : ∀ k : Fin 256, f k.castSucc = r k) :
    Finset.univ.fold max ⊥ f = max (Finset.univ.fold max ⊥ r) σ := by
  rw [Fin.univ_castSuccEmb, Finset.fold_cons, Finset.fold_map, h1, max_comm]
  congr 2
  funext k; exact h2 k

theorem slt_at (e : Fin 32) {α : Type} (x y : α) : Scalar.select (IntOp.cmpi .slt (BitVec.ofNat 32 e) 0#32) x y = y := by
  have e' : ∀ b : Fin 32, IntOp.cmpi .slt (BitVec.ofNat 32 b) 0#32 = 0#1 := by decide +kernel
  rw [e']; rfl

section Row

variable (f0 : S16384x1024.Idx → ℝ) (f1 : S16384x128.Idx → ℝ) (a2 : FVec Ideal S16384x128 .f32) (f3 : S16.Idx → ℝ) (f4 : S32x16.Idx → ℝ)
variable (b : Fin 2) (n : Fin 64) (g : Fin 2) (h : Fin 8) (l : Fin 128)

theorem v8_real (k : Fin 256) (x : Fin 64) (hm : ¬((k : ℕ) < 128 ∧ (n : ℕ) = 0)) :
    ∃ u : ℝ, r_v8 (fun i => (f1 i : EReal)) (ix5 b n k g x) = (u : EReal) := by
  rw [v8_at]
  by_cases h : (k : ℕ) < 128
  · rw [dif_pos h, dif_pos ⟨⟨by omega, by omega⟩, h⟩]; exact ⟨_, rfl⟩
  · rw [dif_neg h]; exact ⟨_, rfl⟩

/-- A masked or scored key, on both sides. -/
theorem score_at (i : grid1.Coords) (hi : (i 1).val = n) (t : ℕ) (ht : t = b * 64 + n) (ht2 : t < 128)
    (x0 : Vec Ideal S128x1024 .f32) (x1 x2 : Vec Ideal S128x128 .f32) (x5 : Vec Ideal S2x8x256x128 .f32)
    (h0 : ∀ (l : Fin 128) (x : Fin 1024), x0 (ix2 l x) = ((f0 (ix2 ⟨t * 128 + l, by omega⟩ x) : ℝ) : EReal))
    (h1 : ∀ l x : Fin 128, x1 (ix2 l x) = ((f1 (ix2 ⟨t * 128 + l, by omega⟩ x) : ℝ) : EReal))
    (h2 : ∀ l x : Fin 128, x2 (ix2 l x) = ((f1 (ix2 ⟨(t - 1) * 128 + l, by omega⟩ x) : ℝ) : EReal))
    (h5 : ∀ k : Fin 256, x5 (ix4 g h k l) = Scalar.select (IntOp.cmpi .slt (Scalar.select (Cert.Swa.okW (Cert.Swa.dW l k)) (Cert.Swa.bkW (Cert.Swa.dW l k)) 4294967295#32) 0#32)
      (Ideal.ofBits .f32 4286578688#32) ((ladder (Scalar.select (Cert.Swa.okW (Cert.Swa.dW l k)) (Cert.Swa.bkW (Cert.Swa.dW l k)) 4294967295#32)
        (fun e => ((f4 (ix2 e ⟨g * 8 + h, by omega⟩) : ℝ) : EReal)) - 0) * Named.named (F := Ideal) (φ := .f32) κ "log2e" 1069066811#32)) (k : Fin 256) :
    (r_v91 (fun i => (f0 i : EReal)) (fun i => (f1 i : EReal)) (fun i => (f4 i : EReal)) (ix5 b n ⟨g * 8 + h, by omega⟩ l k) = ⊥ ∧ sF i x0 x1 x2 x5 g h k l = ⊥)
    ∨ (¬((k : ℕ) < 128 ∧ (n : ℕ) = 0) ∧ ∃ a : ℝ, r_v91 (fun i => (f0 i : EReal)) (fun i => (f1 i : EReal)) (fun i => (f4 i : EReal)) (ix5 b n ⟨g * 8 + h, by omega⟩ l k) = (a : EReal)
        ∧ sF i x0 x1 x2 x5 g h k l = (((Real.log 2)⁻¹ : ℝ) : EReal) * (a : EReal)) := by
  rw [v91_at, v47_at, test_at]
  unfold sF
  rw [pay4_at i k l n hi, h5 k, Cert.Swa.okW_at]
  by_cases hm : (k : ℕ) < 128 ∧ (n : ℕ) = 0
  · left
    rw [if_pos hm, if_pos hm]
    refine ⟨?_, Cert.Swa.ofBits_ninf⟩
    by_cases hok : (l : ℕ) < k ∧ (k : ℕ) ≤ 128 + l
    · rw [if_pos hok]; exact Cert.Swa.ofBits_ninf
    · rw [if_neg hok]; exact Cert.Swa.ofBits_ninf
  rw [if_neg hm, if_neg hm]
  by_cases hok : (l : ℕ) < k ∧ (k : ℕ) ≤ 128 + l
  · right
    refine ⟨hm, ?_⟩
    rw [if_pos hok]
    obtain ⟨e, he⟩ := Cert.Swa.bk_at l k hok
    choose u hu using fun x : Fin 64 => v8_real f1 b n g k x hm
    have hq : ∀ x : Fin 64, x0 (ix2 l ⟨g * 512 + h * 64 + x, by omega⟩) = ((f0 (ix2 ⟨b * 8192 + (n * 128 + l), by omega⟩ ⟨(g * 8 + h) * 64 + x, by omega⟩) : ℝ) : EReal) := by
      intro x; rw [h0]
      exact arr_congr (φ := .f32) (fun i => ((f0 i : ℝ) : EReal)) (by simp only []; omega) (by simp only []; omega)
    refine ⟨∑ x, u x * (f0 (ix2 ⟨b * 8192 + (n * 128 + l), by omega⟩ ⟨(g * 8 + h) * 64 + x, by omega⟩) * (1 / 8)) + f4 (ix2 e ⟨g * 8 + h, by omega⟩), ?_, ?_⟩
    · show r_v14 _ _ _ + _ = _
      rw [v14_at, v87_at _ _ _ _ e ((v71_at l k).trans he)]
      simp only [hu, Cert.Swa.ofBits_eighth]
      rw [EReal.coe_add, ← Cert.Swa.sum_coe]
      push_cast
      rfl
    · show rawF x0 x1 x2 g h k l + Scalar.select (IntOp.cmpi .slt (Cert.Swa.bkW (Cert.Swa.dW l k)) 0#32) _ ((ladder (Cert.Swa.bkW (Cert.Swa.dW l k)) _ - 0) * _) = _
      rw [raw_at x0 x1 x2 g h k l u _ (fun x => (panel_at (fun i => ((f1 i : ℝ) : EReal)) x1 x2 b n t ht ht2 h1 h2 k g x hm).trans (hu x)) hq, he,
        slt_at, ladder_at, log2e_eq]
      refine Eq.trans ?_ (score_real u _ _ _)
      show _ + (_ - 0) * _ = _
      rw [sub_zero]
  · left
    rw [if_neg hok]
    refine ⟨Cert.Swa.ofBits_ninf, ?_⟩
    show rawF x0 x1 x2 g h k l + Ideal.ofBits .f32 4286578688#32 = _
    rw [Cert.Swa.ofBits_ninf, EReal.add_bot]

/-- One result: the kernel's weighted mean is the reference's. -/
theorem row_eq (i : grid1.Coords) (hi : (i 1).val = n) (t : ℕ) (ht : t = b * 64 + n) (ht2 : t < 128)
    (x0 : Vec Ideal S128x1024 .f32) (x1 x2 x3 x4 : Vec Ideal S128x128 .f32) (x5 : Vec Ideal S2x8x256x128 .f32) (x6 : Vec Ideal S2x1x1024 .f32)
    (h0 : ∀ (l : Fin 128) (x : Fin 1024), x0 (ix2 l x) = ((f0 (ix2 ⟨t * 128 + l, by omega⟩ x) : ℝ) : EReal))
    (h1 : ∀ l x : Fin 128, x1 (ix2 l x) = ((f1 (ix2 ⟨t * 128 + l, by omega⟩ x) : ℝ) : EReal))
    (h2 : ∀ l x : Fin 128, x2 (ix2 l x) = ((f1 (ix2 ⟨(t - 1) * 128 + l, by omega⟩ x) : ℝ) : EReal))
    (h3 : ∀ l x : Fin 128, x3 (ix2 l x) = a2 (ix2 ⟨t * 128 + l, by omega⟩ x))
    (h4 : ∀ l x : Fin 128, x4 (ix2 l x) = a2 (ix2 ⟨(t - 1) * 128 + l, by omega⟩ x))
    (h5 : ∀ k : Fin 256, x5 (ix4 g h k l) = Scalar.select (IntOp.cmpi .slt (Scalar.select (Cert.Swa.okW (Cert.Swa.dW l k)) (Cert.Swa.bkW (Cert.Swa.dW l k)) 4294967295#32) 0#32)
      (Ideal.ofBits .f32 4286578688#32) ((ladder (Scalar.select (Cert.Swa.okW (Cert.Swa.dW l k)) (Cert.Swa.bkW (Cert.Swa.dW l k)) 4294967295#32)
        (fun e => ((f4 (ix2 e ⟨g * 8 + h, by omega⟩) : ℝ) : EReal)) - 0) * Named.named (F := Ideal) (φ := .f32) κ "log2e" 1069066811#32))
    (h6 : x6 (ix3 g 0 ⟨h * 128 + l, by omega⟩) = ((f3 (ix1 ⟨g * 8 + h, by omega⟩) : ℝ) : EReal)) (d : Fin 64) :
    oF i x0 x1 x2 x3 x4 x5 x6 g h d l = r_v111 (fun i => (f0 i : EReal)) (fun i => (f1 i : EReal)) a2 (fun i => (f3 i : EReal)) (fun i => (f4 i : EReal))
      (ix2 ⟨b * 8192 + (n * 128 + l), by omega⟩ ⟨(g * 8 + h) * 64 + d, by omega⟩) := by
  have key := score_at f0 f1 f4 b n g h l i hi t ht ht2 x0 x1 x2 x5 h0 h1 h2 h5
  have hL : 0 < (Real.log 2)⁻¹ := inv_pos.mpr (Real.log_pos (by norm_num))
  rw [v111_at]
  simp only [Fin.sum_univ_castSucc (n := 256), v101_at]
  have e1 : ∀ k : Fin 256, r_v94 (fun i => (f0 i : EReal)) (fun i => (f1 i : EReal)) (fun i => (f3 i : EReal)) (fun i => (f4 i : EReal)) (ix5 b n ⟨g * 8 + h, by omega⟩ l k.castSucc)
      = r_v91 (fun i => (f0 i : EReal)) (fun i => (f1 i : EReal)) (fun i => (f4 i : EReal)) (ix5 b n ⟨g * 8 + h, by omega⟩ l k) := fun k => by
    exact (v94_at ..).trans (dif_pos (show (k.castSucc : ℕ) < 256 from k.isLt))
  have e2 : r_v94 (fun i => (f0 i : EReal)) (fun i => (f1 i : EReal)) (fun i => (f3 i : EReal)) (fun i => (f4 i : EReal)) (ix5 b n ⟨g * 8 + h, by omega⟩ l (Fin.last 256))
      = ((f3 (ix1 ⟨g * 8 + h, by omega⟩) : ℝ) : EReal) := by
    rw [v94_at, dif_neg (by simp)]
  have e3 := v97_at (fun i => (f0 i : EReal)) (fun i => (f1 i : EReal)) (fun i => (f3 i : EReal)) (fun i => (f4 i : EReal)) b n ⟨g * 8 + h, by omega⟩ l
  rw [Cert.Swa.ofBits_ninf, max_eq_right bot_le, fold_last _ _ _ e2 e1] at e3
  have e1' : ∀ k : Fin 256, r_v94 (fun i => (f0 i : EReal)) (fun i => (f1 i : EReal)) (fun i => (f3 i : EReal)) (fun i => (f4 i : EReal)) (ix5 b n ⟨g * 8 + h, by omega⟩ l ⟨k, by omega⟩)
      = r_v91 (fun i => (f0 i : EReal)) (fun i => (f1 i : EReal)) (fun i => (f4 i : EReal)) (ix5 b n ⟨g * 8 + h, by omega⟩ l k) := e1
  simp only [e1, e1', e2]
  refine Cert.Swa.softmax_scaled (fun k => r_v91 (fun i => (f0 i : EReal)) (fun i => (f1 i : EReal)) (fun i => (f4 i : EReal)) (ix5 b n ⟨g * 8 + h, by omega⟩ l k)) ?_ (f3 (ix1 ⟨g * 8 + h, by omega⟩))
    _ _ ?_ (fun k => sF i x0 x1 x2 x5 g h k l) ?_ (snkF x6 g h l) ?_ (mF i x0 x1 x2 x5 x6 g h l) _ ?_ e3
  · intro k; rcases key k with ⟨hk, -⟩ | ⟨-, a, hk, -⟩
    · exact .inl hk
    · exact .inr ⟨a, hk⟩
  · intro k hk; rcases key k with ⟨hk', -⟩ | ⟨hm, -⟩
    · exact absurd hk' hk
    · exact panel_at a2 x3 x4 b n t ht ht2 h3 h4 k g d hm
  · intro k; rcases key k with ⟨hk, hs⟩ | ⟨-, a, hk, hs⟩
    · simp only [hk, hs]; exact (EReal.coe_mul_bot_of_pos hL).symm
    · simp only [hk, hs]
  · unfold snkF; rw [h6, log2e_eq, mul_comm]
  · unfold mF; rw [Cert.Swa.ofBits_ninf]

end Row

end Cert.KernelIdeal.Swa
end
-- ==== Proof.SwaRun.lean ====
module

public import proofs.«01_k».proof.Proof.Gen.KernelIdeal.Frame
public import Idealize.ShloMosaic.Lib.Pipeline.ValueKit
public import proofs.«01_k».proof.Proof.SwaHost
public import proofs.«01_k».proof.Proof.SwaEq
public import proofs.«01_k».proof.Proof.SwaArr
public import proofs.«01_k».proof.Proof.SwaRefAt

@[expose] public section

set_option maxRecDepth 16384

noncomputable section

namespace Cert.KernelIdeal.Swa

open Idealize.ShloMosaic Idealize.ShloMosaic.TcCoe Idealize.SL.Sem
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of the program, its result read as well. -/
theorem run : θ_run defs (onTc (τ := τ) (main (F := Ideal))) ⟨m, fun _ => 0, ρ⟩ (fun r => ∀ c : Dev nD,
      r.2.mem ((c.tc : Thread nD τ).loc main_v48) = (dat1 (V7 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => (fun c =>
      ⟨(h c _ (mem_uc main_v48 (by decide))).trans (W8_arr m ρ c 7),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩))

theorem tbl_at (V : (c : Dev nD) → (b : Ref sig .tc) → Buf (Elt Ideal) ((c : Thread nD τ).loc b)) (c : Dev nD) (g : Fin 2) (k : Fin 256) (y : Fin 1024) :
    tblG V c (ix3 g k y) = Scalar.select (IntOp.cmpi .slt (V c main_v36 (ix2 k y) : BitVec 32) 0#32) (Ideal.ofBits .f32 4286578688#32)
      ((ladder (V c main_v36 (ix2 k y)) (fun b => V c main_v40 (ix3 g b y)) - V c main_v41 (ix3 g 0 y)) * Named.named (F := Ideal) (φ := .f32) κ "log2e" 1069066811#32) := rfl

/-- The bias block the attention call reads. -/
theorem bias_row (c : Dev nD) (f4 : S32x16.Idx → ℝ) (g4 : m ((c : Thread nD τ).loc main_arg4) = fun i => (f4 i : EReal))
    (t : Fin cfg1.N) (g : Fin 2) (h : Fin 8) (k : Fin 256) (l : Fin 128) :
    iblk1 (V7 m ρ) c 5 t (ix4 g h k l) = Scalar.select (IntOp.cmpi .slt (Scalar.select (Cert.Swa.okW (Cert.Swa.dW l k)) (Cert.Swa.bkW (Cert.Swa.dW l k)) 4294967295#32) 0#32)
      (Ideal.ofBits .f32 4286578688#32) ((ladder (Scalar.select (Cert.Swa.okW (Cert.Swa.dW l k)) (Cert.Swa.bkW (Cert.Swa.dW l k)) 4294967295#32)
        (fun e => ((f4 (ix2 e ⟨g * 8 + h, by omega⟩) : ℝ) : EReal)) - 0) * Named.named (F := Ideal) (φ := .f32) κ "log2e" 1069066811#32) := by
  rw [bias_at]
  refine (congrFun (w7_v44 m ρ c) _).trans ?_
  have b1 : V5 m ρ c main_v36 = kv36 := w5_v36 m ρ c
  have b2 : V5 m ρ c main_v40 = kv40 (fun i => (f4 i : EReal)) := (w5_v40 m ρ c).trans (by rw [g4])
  have b3 : V5 m ρ c main_v41 = kv41 := w5_v41 m ρ c
  rw [kv44_at, tbl_at, b1, b2, b3, kv36_at, kv41_at]
  simp only [kv40_at]

/-- The kernel's result is the reference's, where the queries, keys, sinks and biases are real. -/
theorem value (c : Dev nD) (f0 : S16384x1024.Idx → ℝ) (f1 : S16384x128.Idx → ℝ) (f3 : S16.Idx → ℝ) (f4 : S32x16.Idx → ℝ)
    (g0 : m ((c : Thread nD τ).loc main_arg0) = fun i => (f0 i : EReal)) (g1 : m ((c : Thread nD τ).loc main_arg1) = fun i => (f1 i : EReal))
    (g3 : m ((c : Thread nD τ).loc main_arg3) = fun i => (f3 i : EReal)) (g4 : m ((c : Thread nD τ).loc main_arg4) = fun i => (f4 i : EReal)) :
    (dat1 (V7 m ρ) c).arrAt 7 cfg1.N = Cert.ReferenceIdeal.Swa.r_v111 (fun i => (f0 i : EReal)) (fun i => (f1 i : EReal)) (m ((c : Thread nD τ).loc main_arg2)) (fun i => (f3 i : EReal)) (fun i => (f4 i : EReal)) := by
  rw [final1]
  funext y
  obtain ⟨R, J, rfl⟩ : ∃ (R : Fin 16384) (J : Fin 1024), y = ix2 R J := ⟨y 0, y 1, (ix2_eta y).symm⟩
  have hR := R.isLt
  have hJ := J.isLt
  have hN : cfg1.N = 128 := rfl
  have a0 : V7 m ρ c main_arg0 = fun i => (f0 i : EReal) := (W7_args m ρ c main_arg0 (by decide)).trans g0
  have a1 : V7 m ρ c main_arg1 = fun i => (f1 i : EReal) := (W7_args m ρ c main_arg1 (by decide)).trans g1
  have a2 : V7 m ρ c main_arg2 = m ((c : Thread nD τ).loc main_arg2) := W7_args m ρ c main_arg2 (by decide)
  rw [GK_at (V7 m ρ) c R J ⟨R / 128, by omega⟩ ⟨J / 512, by omega⟩ ⟨J % 512 / 64, by omega⟩ ⟨J % 64, by omega⟩ ⟨R % 128, by omega⟩
    (by simp only []; omega) (by simp only []; omega)]
  refine (row_eq f0 f1 (m ((c : Thread nD τ).loc main_arg2)) f3 f4 ⟨R / 8192, by omega⟩ ⟨R / 128 % 64, by omega⟩ ⟨J / 512, by omega⟩ ⟨J % 512 / 64, by omega⟩ ⟨R % 128, by omega⟩
    _ (idx1 _).2.2 (R / 128) (by simp only []; omega) (by omega) _ _ _ _ _ _ _ ?_ ?_ ?_ ?_ ?_ ?_ ?_ ⟨J % 64, by omega⟩).trans ?_
  · intro l x; rw [q_at, a0]
  · intro l x; rw [kc_at, a1]
  · intro l x; rw [kp_at, a1]
  · intro l x; rw [vc_at, a2]
  · intro l x; rw [vp_at, a2]
  · intro k
    exact bias_row m ρ c f4 g4 _ _ _ k _
  · rw [sink_at]
    refine (congrFun (w7_v47 m ρ c) _).trans ?_
    rw [kv47_at, g3]
  · exact arr_congr (φ := .bf16) _ (by first | omega | (simp only []; omega)) (by first | omega | (simp only []; omega))

end Cert.KernelIdeal.Swa
end
-- ==== Proof.SwaFin.lean ====
module

public import proofs.«01_k».proof.Defs
public import Idealize.ShloMosaic.Lib.Pointwise
public import proofs.«01_k».proof.Proof.SwaCom

@[expose] public section

set_option maxRecDepth 16384

noncomputable section

namespace Cert.Pre_swa_finite

open Idealize.ShloMosaic

theorem facts : Facts where
  bcast_S_S16384x1024 := by decide
  shapeCasts_S16384x1024_S16777216 := by decide +kernel
  bcast_S_S16384x128 := by decide
  shapeCasts_S16384x128_S2097152 := by decide +kernel
  bcast_S_S16 := by decide
  bcast_S_S32x16 := by decide
  shapeCasts_S32x16_S512 := by decide +kernel
  concatenates_S16777216_S2097152_S16_S512_S18874896_d0 := by decide +kernel

theorem real_of_lt (x : EReal) (h : FloatOps.cmpf (F := Ideal) (φ := .f32) .olt (FloatOps.hostAbsf (F := Ideal) (φ := .f32) x) (Ideal.ofBits .f32 2139095040#32) = 1#1) : ∃ r : ℝ, x = r := by
  rw [Cert.Swa.ofBits_inf] at h
  have h' : max x (-x) < ⊤ := by
    by_contra hn
    have e : FloatOps.cmpf (F := Ideal) (φ := .f32) .olt (FloatOps.hostAbsf (F := Ideal) (φ := .f32) x) ⊤ = BitVec.ofBool (decide (max x (-x) < ⊤)) := rfl
    rw [e, decide_eq_false hn] at h
    exact absurd h (by decide)
  induction x with
  | bot => exact absurd h' (by simp)
  | top => exact absurd h' (by simp)
  | coe r => exact ⟨r, rfl⟩

theorem cat4_at (A : IVec S16777216 1) (B : IVec S2097152 1) (C : IVec S16 1) (D : IVec S512 1) (H : _) (h : concatenate S18874896 0 [⟨S16777216, A⟩, ⟨S2097152, B⟩, ⟨S16, C⟩, ⟨S512, D⟩] H = fun _ => 1#1) :
   (∀ i, A (ix1 i) = 1#1) ∧ (∀ i, B (ix1 i) = 1#1) ∧ (∀ i, C (ix1 i) = 1#1) ∧ (∀ i, D (ix1 i) = 1#1) := by
  refine ⟨fun i => ?_, fun i => ?_, fun i => ?_, fun i => ?_⟩
  · rw [← congrFun h (ix1 ⟨i, by omega⟩)]; pointwise
  · rw [← congrFun h (ix1 ⟨16777216 + i, by omega⟩)]; pointwise
  · rw [← congrFun h (ix1 ⟨16777216 + 2097152 + i, by omega⟩)]; pointwise
    rw [dif_neg (by omega), dif_neg (by omega), dif_pos (by omega)]
    exact congrArg (fun x => C (ix1 x)) (Fin.ext (by simp only []; omega))
  · rw [← congrFun h (ix1 ⟨16777216 + 2097152 + 16 + i, by omega⟩)]; pointwise
    rw [dif_neg (by omega), dif_neg (by omega), dif_neg (by omega)]
    exact congrArg (fun x => D (ix1 x)) (Fin.ext (by simp only []; omega))

theorem flat0 (A : IVec S16384x1024 1) (H : _) (i : Fin 16384) (j : Fin 1024) : shapeCast S16777216 A H (ix1 ⟨i * 1024 + j, by omega⟩) = A (ix2 i j) := by
  pointwise
theorem flat1 (A : IVec S16384x128 1) (H : _) (i : Fin 16384) (j : Fin 128) : shapeCast S2097152 A H (ix1 ⟨i * 128 + j, by omega⟩) = A (ix2 i j) := by
  pointwise
theorem flat4 (A : IVec S32x16 1) (H : _) (i : Fin 32) (j : Fin 16) : shapeCast S512 A H (ix1 ⟨i * 16 + j, by omega⟩) = A (ix2 i j) := by
  pointwise

/-- What the precondition says: the queries, the keys, the sinks and the bias table hold reals. -/
theorem reals (a0 : FVec Ideal S16384x1024 .f32) (a1 a2 : FVec Ideal S16384x128 .f32) (a3 : FVec Ideal S16 .f32) (a4 : FVec Ideal S32x16 .f32)
    (h : @fn facts Ideal _ a0 a1 a2 a3 a4 = fun _ => 1#1) :
    (∃ f : S16384x1024.Idx → ℝ, a0 = fun i => (f i : EReal)) ∧ (∃ f : S16384x128.Idx → ℝ, a1 = fun i => (f i : EReal))
    ∧ (∃ f : S16.Idx → ℝ, a3 = fun i => (f i : EReal)) ∧ (∃ f : S32x16.Idx → ℝ, a4 = fun i => (f i : EReal)) := by
  obtain ⟨h0, h1, h3, h4⟩ := cat4_at _ _ _ _ facts.concatenates_S16777216_S2097152_S16_S512_S18874896_d0 h
  have e0 : ∀ i, ∃ r : ℝ, a0 i = r := fun i => by
    rw [← ix2_eta i]
    exact real_of_lt _ ((flat0 _ facts.shapeCasts_S16384x1024_S16777216 _ _).symm.trans (h0 _))
  have e1 : ∀ i, ∃ r : ℝ, a1 i = r := fun i => by
    rw [← ix2_eta i]
    exact real_of_lt _ ((flat1 _ facts.shapeCasts_S16384x128_S2097152 _ _).symm.trans (h1 _))
  have e3 : ∀ i, ∃ r : ℝ, a3 i = r := fun i => by
    rw [← ix1_eta i]
    exact real_of_lt _ (h3 _)
  have e4 : ∀ i, ∃ r : ℝ, a4 i = r := fun i => by
    rw [← ix2_eta i]
    exact real_of_lt _ ((flat4 _ facts.shapeCasts_S32x16_S512 _ _).symm.trans (h4 _))
  choose f0 g0 using e0
  choose f1 g1 using e1
  choose f3 g3 using e3
  choose f4 g4 using e4
  exact ⟨⟨f0, funext g0⟩, ⟨f1, funext g1⟩, ⟨f3, funext g3⟩, ⟨f4, funext g4⟩⟩

end Cert.Pre_swa_finite
end
-- ==== Proof.InprojFrame.lean ====
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

/-! The in-projection's frame: what the body leaves in each output window's buffer, the body's run and the launch's.
    The set-up follows the one written for the other calls; the page rows' two windows are stored through strided
    boxes, so their cover (`rows_cover`) is by hand. -/

set_option maxRecDepth 16384

noncomputable section

namespace Cert.Kernel2Ideal.Inproj

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S1024x1024 := Rect.unit (s := S1024x1024) ![0, 0] S1024x1024.size inb_S1024x1024_S1024x1024_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S1024x5376 := Rect.unit (s := S1024x5376) ![0, 0] S1024x1024.size inb_S1024x5376_S1024x1024_0_0
abbrev r0_4 : Rect S1024x5376 := Rect.unit (s := S1024x5376) ![0, 1024] S1024x128.size inb_S1024x5376_S1024x128_0_1024
abbrev r0_5 : Rect S1024x128 := Rect.unit (s := S1024x128) ![0, 0] S1024x128.size inb_S1024x128_S1024x128_0_0
abbrev r0_6 : Rect S1024x5376 := Rect.unit (s := S1024x5376) ![0, 1152] S1024x128.size inb_S1024x5376_S1024x128_0_1152
abbrev r0_7 : Rect S1024x5376 := Rect.unit (s := S1024x5376) ![0, 1280] S1024x1024.size inb_S1024x5376_S1024x1024_0_1280
abbrev r0_8 : Rect S1024x5376 := Rect.unit (s := S1024x5376) ![0, 2304] S1024x1024.size inb_S1024x5376_S1024x1024_0_2304
abbrev r0_9 : Rect S1024x5376 := Rect.unit (s := S1024x5376) ![0, 3328] S1024x1024.size inb_S1024x5376_S1024x1024_0_3328
abbrev r0_10 : Rect S1024x5376 := Rect.unit (s := S1024x5376) ![0, 4352] S1024x1024.size inb_S1024x5376_S1024x1024_0_4352
abbrev r0_11 : Rect S2048x128 := ⟨(⟨![0, 0], S1024x128.size, ![2, 1], inb_S2048x128_S1024x128_0_0_s_2_1⟩ : LoadRect S2048x128), spos_2_1⟩
abbrev r0_12 : Rect S2048x128 := ⟨(⟨![1, 0], S1024x128.size, ![2, 1], inb_S2048x128_S1024x128_1_0_s_2_1⟩ : LoadRect S2048x128), spos_2_1⟩

/-! ## What the body leaves in each output window's buffer -/

/-! ### Values of the body that more than one store writes, over the input windows' blocks -/

def k0_pay10 (x0 : Vec F S1024x1024 .f32) (x1 : Vec F S1x1x1024 .f32) (x2 : Vec F S1x1x1024 .f32) (x3 : Vec F S1x1024 .f32) (x4 : Vec F S1024x5376 .bf16) : FVec F S1024x1024 .bf16 :=
  k0_pay3 (View.ld x0 r0_0) (View.ld x3 r0_1) (View.ld x2 r0_2) (View.ld x1 r0_2) -- `v26`
def k0_pay11 (x0 : Vec F S1024x1024 .f32) (x1 : Vec F S1x1x1024 .f32) (x2 : Vec F S1x1x1024 .f32) (x3 : Vec F S1x1024 .f32) (x4 : Vec F S1024x5376 .bf16) : FVec F S1024x128 .f32 :=
  k0_pay5 (View.ld x0 r0_0) (View.ld x3 r0_1) (View.ld x2 r0_2) (View.ld x1 r0_2) (View.ld x4 r0_4) -- `v33`
def k0_pay12 (x0 : Vec F S1024x1024 .f32) (x1 : Vec F S1x1x1024 .f32) (x2 : Vec F S1x1x1024 .f32) (x3 : Vec F S1x1024 .f32) (x4 : Vec F S1024x5376 .bf16) : FVec F S1024x128 .f32 :=
  k0_pay6 (k0_pay10 x0 x1 x2 x3 x4) (View.ld x4 r0_6) -- `v37`

/-- Window 5's staging buffer after the body, from the input windows' blocks: its 1 store as pieces, LAST
    FIRST (`View.canon`). -/
def out0_5 (x0 : Vec F S1024x1024 .f32) (x1 : Vec F S1x1x1024 .f32) (x2 : Vec F S1x1x1024 .f32) (x3 : Vec F S1x1024 .f32) (x4 : Vec F S1024x5376 .bf16) : Vec F S1024x1024 .f32 :=
  View.canon [⟨r0_0, k0_pay4 (View.ld x0 r0_0) (View.ld x3 r0_1) (View.ld x2 r0_2) (View.ld x1 r0_2) (View.ld x4 r0_3)⟩]

/-- Its stores tile the buffer (checked by evaluation), so they cover it. -/
theorem cover0_5 (p0 : Vec F S1024x1024 .f32) (y : S1024x1024.Idx) :
    ∃ pc ∈ ([⟨r0_0, p0⟩] : List (View.Piece (Elt F) S1024x1024 .f32)), y ∈ pc.1.set :=
  View.cover_of_tiled [⟨r0_0, p0⟩] S1024x1024.size (by rfl) y

/-- Window 6's staging buffer after the body, from the input windows' blocks: its 1 store as pieces, LAST
    FIRST (`View.canon`). -/
def out0_6 (x0 : Vec F S1024x1024 .f32) (x1 : Vec F S1x1x1024 .f32) (x2 : Vec F S1x1x1024 .f32) (x3 : Vec F S1x1024 .f32) (x4 : Vec F S1024x5376 .bf16) : Vec F S1024x128 .f32 :=
  View.canon [⟨r0_5, k0_pay11 x0 x1 x2 x3 x4⟩]

/-- Its stores tile the buffer (checked by evaluation), so they cover it. -/
theorem cover0_6 (p0 : Vec F S1024x128 .f32) (y : S1024x128.Idx) :
    ∃ pc ∈ ([⟨r0_5, p0⟩] : List (View.Piece (Elt F) S1024x128 .f32)), y ∈ pc.1.set :=
  View.cover_of_tiled [⟨r0_5, p0⟩] S1024x128.size (by rfl) y

/-- Window 7's staging buffer after the body, from the input windows' blocks: its 1 store as pieces, LAST
    FIRST (`View.canon`). -/
def out0_7 (x0 : Vec F S1024x1024 .f32) (x1 : Vec F S1x1x1024 .f32) (x2 : Vec F S1x1x1024 .f32) (x3 : Vec F S1x1024 .f32) (x4 : Vec F S1024x5376 .bf16) : Vec F S1024x128 .f32 :=
  View.canon [⟨r0_5, k0_pay6 (k0_pay10 x0 x1 x2 x3 x4) (View.ld x4 r0_6)⟩]

/-- Its stores tile the buffer (checked by evaluation), so they cover it. -/
theorem cover0_7 (p0 : Vec F S1024x128 .f32) (y : S1024x128.Idx) :
    ∃ pc ∈ ([⟨r0_5, p0⟩] : List (View.Piece (Elt F) S1024x128 .f32)), y ∈ pc.1.set :=
  View.cover_of_tiled [⟨r0_5, p0⟩] S1024x128.size (by rfl) y

/-- Window 8's staging buffer after the body, from the input windows' blocks: its 1 store as pieces, LAST
    FIRST (`View.canon`). -/
def out0_8 (x0 : Vec F S1024x1024 .f32) (x1 : Vec F S1x1x1024 .f32) (x2 : Vec F S1x1x1024 .f32) (x3 : Vec F S1x1024 .f32) (x4 : Vec F S1024x5376 .bf16) : Vec F S1024x1024 .bf16 :=
  View.canon [⟨r0_0, k0_pay7 (k0_pay10 x0 x1 x2 x3 x4) (View.ld x4 r0_7)⟩]

/-- Its stores tile the buffer (checked by evaluation), so they cover it. -/
theorem cover0_8 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-- Window 9's staging buffer after the body, from the input windows' blocks: its 1 store as pieces, LAST
    FIRST (`View.canon`). -/
def out0_9 (x0 : Vec F S1024x1024 .f32) (x1 : Vec F S1x1x1024 .f32) (x2 : Vec F S1x1x1024 .f32) (x3 : Vec F S1x1024 .f32) (x4 : Vec F S1024x5376 .bf16) : Vec F S1024x1024 .f32 :=
  View.canon [⟨r0_0, k0_pay8 (k0_pay10 x0 x1 x2 x3 x4) (View.ld x4 r0_8) (View.ld x4 r0_9)⟩]

/-- Its stores tile the buffer (checked by evaluation), so they cover it. -/
theorem cover0_9 (p0 : Vec F S1024x1024 .f32) (y : S1024x1024.Idx) :
    ∃ pc ∈ ([⟨r0_0, p0⟩] : List (View.Piece (Elt F) S1024x1024 .f32)), y ∈ pc.1.set :=
  View.cover_of_tiled [⟨r0_0, p0⟩] S1024x1024.size (by rfl) y

/-- Window 10's staging buffer after the body, from the input windows' blocks: its 1 store as pieces, LAST
    FIRST (`View.canon`). -/
def out0_10 (x0 : Vec F S1024x1024 .f32) (x1 : Vec F S1x1x1024 .f32) (x2 : Vec F S1x1x1024 .f32) (x3 : Vec F S1x1024 .f32) (x4 : Vec F S1024x5376 .bf16) : Vec F S1024x1024 .bf16 :=
  View.canon [⟨r0_0, k0_pay9 (k0_pay10 x0 x1 x2 x3 x4) (View.ld x4 r0_10)⟩]

/-- Its stores tile the buffer (checked by evaluation), so they cover it. -/
theorem cover0_10 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-- A row of the 2048 is stored through one of the two strided boxes: an even one through the first, an odd one
    through the second. -/
theorem rows_cover (p0 : Vec F S1024x128 .f32) (p1 : Vec F S1024x128 .f32) (y : S2048x128.Idx) :
    ∃ pc ∈ ([⟨r0_12, p0⟩, ⟨r0_11, p1⟩] : List (View.Piece (Elt F) S2048x128 .f32)), y ∈ pc.1.set := by
  by_cases h : (y 0 : Nat) % 2 = 0
  · refine ⟨⟨r0_11, p1⟩, by simp, (LoadRect.mem_set _).mpr fun a => ?_⟩
    fin_cases a
    · exact ⟨y 0 / 2, Nat.div_lt_of_lt_mul (y 0).isLt, by show (y 0 : Nat) = 0 + 2 * (y 0 / 2); omega⟩
    · exact ⟨y 1, (y 1).isLt, by show (y 1 : Nat) = 0 + 1 * y 1; omega⟩
  · refine ⟨⟨r0_12, p0⟩, by simp, (LoadRect.mem_set _).mpr fun a => ?_⟩
    fin_cases a
    · exact ⟨y 0 / 2, Nat.div_lt_of_lt_mul (y 0).isLt, by show (y 0 : Nat) = 1 + 2 * (y 0 / 2); omega⟩
    · exact ⟨y 1, (y 1).isLt, by show (y 1 : Nat) = 0 + 1 * y 1; omega⟩

/-- Window 11's staging buffer after the body, from the input windows' blocks: its 2 stores as pieces, LAST
    FIRST (`View.canon`). -/
def out0_11 (x0 : Vec F S1024x1024 .f32) (x1 : Vec F S1x1x1024 .f32) (x2 : Vec F S1x1x1024 .f32) (x3 : Vec F S1x1024 .f32) (x4 : Vec F S1024x5376 .bf16) : Vec F S2048x128 .f32 :=
  View.canon [⟨r0_12, k0_pay1 (k0_pay11 x0 x1 x2 x3 x4)⟩,
    ⟨r0_11, k0_pay11 x0 x1 x2 x3 x4⟩]

/-- Window 12's staging buffer after the body, from the input windows' blocks: its 2 stores as pieces, LAST
    FIRST (`View.canon`). -/
def out0_12 (x0 : Vec F S1024x1024 .f32) (x1 : Vec F S1x1x1024 .f32) (x2 : Vec F S1x1x1024 .f32) (x3 : Vec F S1x1024 .f32) (x4 : Vec F S1024x5376 .bf16) : Vec F S2048x128 .f32 :=
  View.canon [⟨r0_12, k0_pay2 (k0_pay12 x0 x1 x2 x3 x4)⟩,
    ⟨r0_11, k0_pay12 x0 x1 x2 x3 x4⟩]

/-! ## The body's triple -/

set_option maxHeartbeats 1000000 in
/-- The kernel body on whole staging memrefs, the inputs' at read contents `xW` and the outputs' at anything, runs to
    the continuation holding the inputs' as they were and each output's at `out0_W` of the inputs'. -/
theorem sound_kernel (c : Dev nD) (E : Set ℕ) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x5376 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S2048x128 .f32) (harg12 : arg12.IsWhole) (arg13 : Memref sig .tc .vmem S2048x128 .f32) (harg13 : arg13.IsWhole)
    (x0 : Vec F S1024x1024 .f32) (x1 : Vec F S1x1x1024 .f32) (x2 : Vec F S1x1x1024 .f32) (x3 : Vec F S1x1024 .f32) (x4 : Vec F S1024x5376 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4) ∗ owns (c : Thread nD τ) arg9 fullShare (out0_8 x0 x1 x2 x3 x4) ∗ owns (c : Thread nD τ) arg10 fullShare (out0_9 x0 x1 x2 x3 x4) ∗ owns (c : Thread nD τ) arg11 fullShare (out0_10 x0 x1 x2 x3 x4) ∗ owns (c : Thread nD τ) arg12 fullShare (out0_11 x0 x1 x2 x3 x4) ∗ owns (c : Thread nD τ) arg13 fullShare (out0_12 x0 x1 x2 x3 x4)) -∗ K ⟨⟩))
      ⊢ wp frame (wpE (defs₀ (F := F)) Variants.none c none) E (cc0_ln_inproj i arg1 harg1 arg2 harg2 arg3 harg3 arg4 harg4 arg5 harg5 arg6 harg6 arg7 harg7 arg8 harg8 arg9 harg9 arg10 harg10 arg11 harg11 arg12 harg12 arg13 harg13) K := by
  simp only [cc0_ln_inproj_eq_skeleton]; unfold cc0_ln_inproj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (rows_cover _ _)).trans ?_
    rfl
  iexists _; isplitr
  swap; · iexact H12
  ipureintro
  refine (View.read_writes_eq_canon _ _ _ (rows_cover _ _)).trans ?_
  rfl

/-! ## The pipeline's proof data -/

/-- The proof data of the one pipeline on core `c`: the arrays as the region finds them (`V`); after the body at
    point `t` each input's buffer at its block and each output's at `out0_W` of the input blocks; the plain
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
    | ⟨7, _⟩ => out0_7 (iblk m c 0 t) (iblk m c 1 t) (iblk m c 2 t) (iblk m c 3 t) (iblk m c 4 t)
    | ⟨8, _⟩ => out0_8 (iblk m c 0 t) (iblk m c 1 t) (iblk m c 2 t) (iblk m c 3 t) (iblk m c 4 t)
    | ⟨9, _⟩ => out0_9 (iblk m c 0 t) (iblk m c 1 t) (iblk m c 2 t) (iblk m c 3 t) (iblk m c 4 t)
    | ⟨10, _⟩ => out0_10 (iblk m c 0 t) (iblk m c 1 t) (iblk m c 2 t) (iblk m c 3 t) (iblk m c 4 t)
    | ⟨11, _⟩ => out0_11 (iblk m c 0 t) (iblk m c 1 t) (iblk m c 2 t) (iblk m c 3 t) (iblk m c 4 t)
    | ⟨12, _⟩ => out0_12 (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]
theorem after0_8 (c : Dev nD) (t : Fin cfg0.N) : (dats m 0 c).after 8 t = out0_8 (iblk m c 0 t) (iblk m c 1 t) (iblk m c 2 t) (iblk m c 3 t) (iblk m c 4 t) := by dsimp only [dats]
theorem after0_9 (c : Dev nD) (t : Fin cfg0.N) : (dats m 0 c).after 9 t = out0_9 (iblk m c 0 t) (iblk m c 1 t) (iblk m c 2 t) (iblk m c 3 t) (iblk m c 4 t) := by dsimp only [dats]
theorem after0_10 (c : Dev nD) (t : Fin cfg0.N) : (dats m 0 c).after 10 t = out0_10 (iblk m c 0 t) (iblk m c 1 t) (iblk m c 2 t) (iblk m c 3 t) (iblk m c 4 t) := by dsimp only [dats]
theorem after0_11 (c : Dev nD) (t : Fin cfg0.N) : (dats m 0 c).after 11 t = out0_11 (iblk m c 0 t) (iblk m c 1 t) (iblk m c 2 t) (iblk m c 3 t) (iblk m c 4 t) := by dsimp only [dats]
theorem after0_12 (c : Dev nD) (t : Fin cfg0.N) : (dats m 0 c).after 12 t = out0_12 (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments as launched and every counter at zero, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel2Ideal.Inproj

end
-- ==== Proof.InprojBits.lean ====
module

public import proofs.«01_k».proof.Defs
public import proofs.«01_k».proof.Proof.Gen.Kernel2
public import proofs.«01_k».proof.Proof.InprojFrame

@[expose] public section

/-! The in-projection's frame at the machine's words. The program and its ideal program have the same text, so the run
    over any values (InprojFrame) is taken at words, once the two body tables are seen to be one. -/

set_option maxRecDepth 16384

namespace Cert.Kernel2.Inproj

open Idealize.ShloMosaic Idealize.SL.Sem

attribute [local instance] Cert.Kernel2.Gen.facts Cert.Kernel2Ideal.Gen.facts

/-- The two programs' kernels, label by label. -/
theorem bodies_eq : Cert.Kernel2.defs₀ (F := Bits) = Cert.Kernel2Ideal.defs₀ := by
  unfold Cert.Kernel2.defs₀ Cert.Kernel2Ideal.defs₀
  refine congrArg Defs.onTc ?_
  funext l x
  fin_cases l
  rfl

theorem defs_eq : Cert.Kernel2.defs (F := Bits) = Cert.Kernel2Ideal.defs :=
  congrArg (Pipeline.defs (Cert.Kernel2.pcfgs (F := Bits))) bodies_eq

theorem frame : Cert.quiescent_Kernel2 := fun m ρ _ => by
  rw [defs_eq]
  exact (θ_run Cert.Kernel2Ideal.defs _ _).mono (fun _ h => h) (Cert.Kernel2Ideal.Inproj.frame (F := Bits) m ρ)

end Cert.Kernel2.Inproj

end
-- ==== Proof.Rms.lean ====
module

public import Idealize.ShloMosaic.Lib.Pipeline.ValueKit
public import Idealize.ShloMosaic.Lib.Pointwise

@[expose] public section

noncomputable section

namespace Cert.Proj

open Idealize.ShloMosaic

/-- One over the root mean square of a row of 1024 entries. -/
def rms (X : Fin 1024 → EReal) : EReal :=
  Ideal.rsqrt (Ideal.div (∑ k : Fin 1024, X k * X k) (Ideal.ofBits .f32 0x44800000#32) + Ideal.ofBits .f32 0x358637BD#32)

/-- A row normalised by its root mean square, scaled by the norm's weights, then modulated. -/
def modRow (X g scale shift : Fin 1024 → EReal) (k : Fin 1024) : EReal :=
  X k * rms X * g k * (Ideal.ofBits .f32 0x3F800000#32 + scale k) + shift k

/-- A residual row: the input plus the gate times the gated product with a weight. -/
def resRow (x gate y : Fin 1024 → EReal) (j : Fin 1024) : EReal := x j + gate j * y j

/-- `z` times its logistic. -/
def silu (z : EReal) : EReal := z * Ideal.logistic z

/-- One row after the two attentions' projections and the residual. -/
def chainX (o sz ob x gate : Fin 1024 → EReal) (wt wb : Fin 1024 → Fin 1024 → EReal) : Fin 1024 → EReal :=
  resRow x gate fun j => (∑ k : Fin 1024, (o k * sz k) * wt k j) + ∑ k : Fin 1024, ob k * wb k j

/-- One entry of a normed and modulated row times a matrix. -/
def proj (X g scale shift w : Fin 1024 → EReal) : EReal := ∑ k : Fin 1024, modRow X g scale shift k * w k

end Cert.Proj

end
-- ==== Proof.InprojBlk.lean ====
module

public import proofs.«01_k».proof.Proof.InprojFrame
public import proofs.«01_k».proof.Proof.Rms

@[expose] public section

set_option maxRecDepth 16384

noncomputable section

namespace Cert.Kernel2Ideal.Inproj

open Idealize.ShloMosaic Idealize.ShloMosaic.TcCoe Idealize.SL.Sem
open Cert.Kernel2Ideal Cert.Kernel2Ideal.Gen Cert.Proj

/-- One entry of the normed and modulated rows. -/
theorem h_at (v0 : Vec Ideal S1024x1024 .f32) (v12 : Vec Ideal S1x1024 .f32) (v16 v22 : Vec Ideal S1x1x1024 .f32) (r k : Fin 1024) :
    k0_pay3 (F := Ideal) v0 v12 v16 v22 (ix2 r k)
    = modRow (fun k => v0 (ix2 r k)) (fun k => v12 (ix2 0 k)) (fun k => v16 (ix3 0 0 k)) (fun k => v22 (ix3 0 0 k)) k := by
  pointwise [k0_pay3, rms, modRow]

theorem q_at (v0 : Vec Ideal S1024x1024 .f32) (v12 : Vec Ideal S1x1024 .f32) (v16 v22 : Vec Ideal S1x1x1024 .f32) (w : Vec Ideal S1024x1024 .bf16)
    (H : Fin 1024 → EReal) (r : Fin 1024) (hH : ∀ k, k0_pay3 (F := Ideal) v0 v12 v16 v22 (ix2 r k) = H k) (j : Fin 1024) :
    k0_pay4 (F := Ideal) v0 v12 v16 v22 w (ix2 r j) = ∑ k : Fin 1024, H k * w (ix2 k j) := by
  pointwise [k0_pay4]
  simp only [hH]

theorem k_at (v0 : Vec Ideal S1024x1024 .f32) (v12 : Vec Ideal S1x1024 .f32) (v16 v22 : Vec Ideal S1x1x1024 .f32) (w : Vec Ideal S1024x128 .bf16)
    (H : Fin 1024 → EReal) (r : Fin 1024) (hH : ∀ k, k0_pay3 (F := Ideal) v0 v12 v16 v22 (ix2 r k) = H k) (j : Fin 128) :
    k0_pay5 (F := Ideal) v0 v12 v16 v22 w (ix2 r j) = ∑ k : Fin 1024, H k * w (ix2 k j) := by
  pointwise [k0_pay5]
  simp only [hH]

theorem v_at (h : FVec Ideal S1024x1024 .bf16) (w : Vec Ideal S1024x128 .bf16) (H : Fin 1024 → EReal) (r : Fin 1024) (hH : ∀ k, h (ix2 r k) = H k) (j : Fin 128) :
    k0_pay6 (F := Ideal) h w (ix2 r j) = ∑ k : Fin 1024, H k * w (ix2 k j) := by
  pointwise [k0_pay6]
  simp only [hH]

theorem sza_at (h : FVec Ideal S1024x1024 .bf16) (w : Vec Ideal S1024x1024 .bf16) (H : Fin 1024 → EReal) (r : Fin 1024) (hH : ∀ k, h (ix2 r k) = H k) (j : Fin 1024) :
    k0_pay7 (F := Ideal) h w (ix2 r j) = silu (∑ k : Fin 1024, H k * w (ix2 k j)) := by
  pointwise [k0_pay7, silu]
  simp only [hH]

theorem u_at (h : FVec Ideal S1024x1024 .bf16) (w w' : Vec Ideal S1024x1024 .bf16) (H : Fin 1024 → EReal) (r : Fin 1024) (hH : ∀ k, h (ix2 r k) = H k) (j : Fin 1024) :
    k0_pay8 (F := Ideal) h w w' (ix2 r j) = (∑ k : Fin 1024, H k * w (ix2 k j)) * Ideal.logistic (∑ k : Fin 1024, H k * w' (ix2 k j)) := by
  pointwise [k0_pay8]
  simp only [hH]

theorem szb_at (h : FVec Ideal S1024x1024 .bf16) (w : Vec Ideal S1024x1024 .bf16) (H : Fin 1024 → EReal) (r : Fin 1024) (hH : ∀ k, h (ix2 r k) = H k) (j : Fin 1024) :
    k0_pay9 (F := Ideal) h w (ix2 r j) = silu (∑ k : Fin 1024, H k * w (ix2 k j)) := by
  pointwise [k0_pay9, silu]
  simp only [hH]

/-- The rows rotated by 64 lanes. -/
theorem rot1_at (v : FVec Ideal S1024x128 .f32) (r : Fin 1024) (j : Fin 128) :
    k0_pay1 (F := Ideal) v (ix2 r j) = v (ix2 r ⟨(j.val + 64) % 128, by omega⟩) := by
  pointwise [k0_pay1]
  exact congrArg (fun z => v (ix2 r z)) (Fin.ext (by simp only []; omega))

theorem rot2_at (v : FVec Ideal S1024x128 .f32) (r : Fin 1024) (j : Fin 128) :
    k0_pay2 (F := Ideal) v (ix2 r j) = v (ix2 r ⟨(j.val + 64) % 128, by omega⟩) := rot1_at v r j

/-! What the two strided stores leave, an even and an odd row of the buffer. -/

theorem canon_even (p0 p1 : Vec Ideal S1024x128 .f32) (r : Fin 1024) (j : Fin 128) :
    View.canon ([⟨r0_12, p0⟩, ⟨r0_11, p1⟩] : List (View.Piece (Elt Ideal) S2048x128 .f32)) (ix2 ⟨2 * r, by omega⟩ j) = p1 (ix2 r j) := by
  have e : (ix2 ⟨2 * r, by omega⟩ j : S2048x128.Idx) = r0_11.emb (ix2 r j) := by
    funext a
    fin_cases a <;> apply Fin.ext
    · show 2 * r.val = 0 + 2 * r.val; omega
    · show j.val = 0 + 1 * j.val; omega
  rw [View.canon_cons_of_not_mem, e]
  · exact View.canon_cons_emb r0_11 p1 [] (ix2 r j)
  · intro hm
    obtain ⟨k, _, hk⟩ := (LoadRect.mem_set _).mp hm 0
    have hk' : 2 * r.val = 1 + 2 * k := hk
    omega

theorem canon_odd (p0 p1 : Vec Ideal S1024x128 .f32) (r : Fin 1024) (j : Fin 128) :
    View.canon ([⟨r0_12, p0⟩, ⟨r0_11, p1⟩] : List (View.Piece (Elt Ideal) S2048x128 .f32)) (ix2 ⟨2 * r + 1, by omega⟩ j) = p0 (ix2 r j) := by
  have e : (ix2 ⟨2 * r + 1, by omega⟩ j : S2048x128.Idx) = r0_12.emb (ix2 r j) := by
    funext a
    fin_cases a <;> apply Fin.ext
    · show 2 * r.val + 1 = 1 + 2 * r.val; omega
    · show j.val = 0 + 1 * j.val; omega
  rw [e]
  exact View.canon_cons_emb r0_12 p0 _ (ix2 r j)

end Cert.Kernel2Ideal.Inproj
end
-- ==== Proof.InprojRef.lean ====
module

public import proofs.«01_k».proof.Proof.Gen.Reference2Ideal.Run
public import proofs.«01_k».proof.Proof.Rms

@[expose] public section

set_option maxRecDepth 16384

noncomputable section

namespace Cert.Reference2Ideal.Inproj

open Idealize.ShloMosaic Idealize.ShloMosaic.TcCoe Idealize.SL.Sem
open Cert.Reference2Ideal Cert.Reference2Ideal.Gen Cert.Reference2Ideal.Value Cert.Proj

/-- The row with its two heads of 64 channels exchanged. -/
def swap (A : FVec Ideal S2x8192x128 .f32) : FVec Ideal S2x8192x128 .f32 :=
  concatenate S2x8192x128 2 [⟨S2x8192x64, extractStridedSlice S2x8192x64 ![0, 0, 64] A slices_S2x8192x128_S2x8192x64_0_0_64⟩,
    ⟨S2x8192x64, extractStridedSlice S2x8192x64 ![0, 0, 0] A slices_S2x8192x128_S2x8192x64_0_0_0⟩] concatenates_S2x8192x64_S2x8192x64_S2x8192x128_d2

/-- Two arrays of rows, a row of the first before the same row of the second. -/
def pairs (A B : FVec Ideal S2x8192x128 .f32) : FVec Ideal S2x8192x2x128 .f32 :=
  concatenate S2x8192x2x128 2 [⟨S2x8192x1x128, broadcastInDim S2x8192x1x128 ![0, 1, 3] bcast_S2x8192x128_S2x8192x1x128_0_1_3 A⟩,
    ⟨S2x8192x1x128, broadcastInDim S2x8192x1x128 ![0, 1, 3] bcast_S2x8192x128_S2x8192x1x128_0_1_3 B⟩] concatenates_S2x8192x1x128_S2x8192x1x128_S2x8192x2x128_d2

/-- The pages' rows: each row, then the same row with its heads exchanged. -/
def heads (A : FVec Ideal S2x8192x128 .f32) : FVec Ideal S32768x128 .f32 :=
  shapeCast S32768x128 (pairs A (swap A)) shapeCasts_S2x8192x2x128_S32768x128

/-- The array `main_v18` of the printed program. -/
def rv18 (arg0 : FVec Ideal S2x8192x1024 .f32) (arg1 : FVec Ideal S2x1x1024 .f32) (arg2 : FVec Ideal S2x1x1024 .f32) (arg3 : FVec Ideal S1024 .f32) : FVec Ideal S2x8192x1024 .f32 :=
  (addf (mulf (mulf (mulf arg0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf arg0 arg0) (constant (F := Ideal) S_ .f32 0x00000000#32) reducesTo_S2x8192x1024_S2x8192_d2 h_S_)) (broadcastInDim S2x8192x1 ![] bcast_S_S2x8192x1 (constant (F := Ideal) S_ .f32 0x44800000#32))) (broadcastInDim S2x8192x1 ![] bcast_S_S2x8192x1 (constant (F := Ideal) S_ .f32 0x358637BD#32)))))) (broadcastInDim S2x8192x1024 ![0, 1, 2] bcast_S1x1x1024_S2x8192x1024_0_1_2 (broadcastInDim S1x1x1024 ![2] bcast_S1024_S1x1x1024_2 arg3))) (broadcastInDim S2x8192x1024 ![0, 1, 2] bcast_S2x1x1024_S2x8192x1024_0_1_2 (addf (broadcastInDim S2x1x1024 ![] bcast_S_S2x1x1024 (constant (F := Ideal) S_ .f32 0x3F800000#32)) arg2))) (broadcastInDim S2x8192x1024 ![0, 1, 2] bcast_S2x1x1024_S2x8192x1024_0_1_2 arg1))

/-- The array `main_v19` of the printed program. -/
def rv19 (arg0 : FVec Ideal S2x8192x1024 .f32) (arg1 arg2 : FVec Ideal S2x1x1024 .f32) (arg3 : FVec Ideal S1024 .f32) (arg4 : FVec Ideal S1024x5376 .f32) : FVec Ideal S2x8192x5376 .f32 :=
  (Host.dotGeneral dot_S2x8192x1024_S1024x5376_S2x8192x5376_2_0_01_1_n_n none (rv18 arg0 arg1 arg2 arg3) arg4)

/-- The array `main_v21` of the printed program. -/
def rv21 (arg0 : FVec Ideal S2x8192x1024 .f32) (arg1 arg2 : FVec Ideal S2x1x1024 .f32) (arg3 : FVec Ideal S1024 .f32) (arg4 : FVec Ideal S1024x5376 .f32) : FVec Ideal S2x8192x128 .f32 :=
  (extractStridedSlice S2x8192x128 ![0, 0, 1024] (rv19 arg0 arg1 arg2 arg3 arg4) slices_S2x8192x5376_S2x8192x128_0_0_1024)

/-- The array `main_v22` of the printed program. -/
def rv22 (arg0 : FVec Ideal S2x8192x1024 .f32) (arg1 arg2 : FVec Ideal S2x1x1024 .f32) (arg3 : FVec Ideal S1024 .f32) (arg4 : FVec Ideal S1024x5376 .f32) : FVec Ideal S2x8192x128 .f32 :=
  (extractStridedSlice S2x8192x128 ![0, 0, 1152] (rv19 arg0 arg1 arg2 arg3 arg4) slices_S2x8192x5376_S2x8192x128_0_0_1152)

/-- The array `main_v34` of the printed program. -/
def rv34 (arg0 : FVec Ideal S2x8192x1024 .f32) (arg1 arg2 : FVec Ideal S2x1x1024 .f32) (arg3 : FVec Ideal S1024 .f32) (arg4 : FVec Ideal S1024x5376 .f32) : FVec Ideal S16384x1024 .f32 :=
  (shapeCast S16384x1024 (extractStridedSlice S2x8192x1024 ![0, 0, 0] (rv19 arg0 arg1 arg2 arg3 arg4) slices_S2x8192x5376_S2x8192x1024_0_0_0) shapeCasts_S2x8192x1024_S16384x1024)

/-- The array `main_v35` of the printed program. -/
def rv35 (arg0 : FVec Ideal S2x8192x1024 .f32) (arg1 arg2 : FVec Ideal S2x1x1024 .f32) (arg3 : FVec Ideal S1024 .f32) (arg4 : FVec Ideal S1024x5376 .f32) : FVec Ideal S16384x128 .f32 :=
  (shapeCast S16384x128 (rv21 arg0 arg1 arg2 arg3 arg4) shapeCasts_S2x8192x128_S16384x128)

/-- The array `main_v36` of the printed program. -/
def rv36 (arg0 : FVec Ideal S2x8192x1024 .f32) (arg1 arg2 : FVec Ideal S2x1x1024 .f32) (arg3 : FVec Ideal S1024 .f32) (arg4 : FVec Ideal S1024x5376 .f32) : FVec Ideal S16384x128 .f32 :=
  (shapeCast S16384x128 (rv22 arg0 arg1 arg2 arg3 arg4) shapeCasts_S2x8192x128_S16384x128)

/-- The array `main_v39` of the printed program. -/
def rv39 (arg0 : FVec Ideal S2x8192x1024 .f32) (arg1 arg2 : FVec Ideal S2x1x1024 .f32) (arg3 : FVec Ideal S1024 .f32) (arg4 : FVec Ideal S1024x5376 .f32) : FVec Ideal S16384x1024 .bf16 :=
  (truncf .bf16 (shapeCast S16384x1024 (mulf (extractStridedSlice S2x8192x1024 ![0, 0, 1280] (rv19 arg0 arg1 arg2 arg3 arg4) slices_S2x8192x5376_S2x8192x1024_0_0_1280) (Host.divf (broadcastInDim S2x8192x1024 ![] bcast_S_S2x8192x1024 (constant (F := Ideal) S_ .f32 0x3F800000#32)) (addf (broadcastInDim S2x8192x1024 ![] bcast_S_S2x8192x1024 (constant (F := Ideal) S_ .f32 0x3F800000#32)) (Host.exp (Host.negf (extractStridedSlice S2x8192x1024 ![0, 0, 1280] (rv19 arg0 arg1 arg2 arg3 arg4) slices_S2x8192x5376_S2x8192x1024_0_0_1280)))))) shapeCasts_S2x8192x1024_S16384x1024) bitsLt_bf16_f32)

/-- The array `main_v40` of the printed program. -/
def rv40 (arg0 : FVec Ideal S2x8192x1024 .f32) (arg1 arg2 : FVec Ideal S2x1x1024 .f32) (arg3 : FVec Ideal S1024 .f32) (arg4 : FVec Ideal S1024x5376 .f32) : FVec Ideal S16384x1024 .f32 :=
  (shapeCast S16384x1024 (mulf (extractStridedSlice S2x8192x1024 ![0, 0, 2304] (rv19 arg0 arg1 arg2 arg3 arg4) slices_S2x8192x5376_S2x8192x1024_0_0_2304) (Host.divf (broadcastInDim S2x8192x1024 ![] bcast_S_S2x8192x1024 (constant (F := Ideal) S_ .f32 0x3F800000#32)) (addf (broadcastInDim S2x8192x1024 ![] bcast_S_S2x8192x1024 (constant (F := Ideal) S_ .f32 0x3F800000#32)) (Host.exp (Host.negf (extractStridedSlice S2x8192x1024 ![0, 0, 3328] (rv19 arg0 arg1 arg2 arg3 arg4) slices_S2x8192x5376_S2x8192x1024_0_0_3328)))))) shapeCasts_S2x8192x1024_S16384x1024)

/-- The array `main_v43` of the printed program. -/
def rv43 (arg0 : FVec Ideal S2x8192x1024 .f32) (arg1 arg2 : FVec Ideal S2x1x1024 .f32) (arg3 : FVec Ideal S1024 .f32) (arg4 : FVec Ideal S1024x5376 .f32) : FVec Ideal S16384x1024 .bf16 :=
  (truncf .bf16 (shapeCast S16384x1024 (mulf (extractStridedSlice S2x8192x1024 ![0, 0, 4352] (rv19 arg0 arg1 arg2 arg3 arg4) slices_S2x8192x5376_S2x8192x1024_0_0_4352) (Host.divf (broadcastInDim S2x8192x1024 ![] bcast_S_S2x8192x1024 (constant (F := Ideal) S_ .f32 0x3F800000#32)) (addf (broadcastInDim S2x8192x1024 ![] bcast_S_S2x8192x1024 (constant (F := Ideal) S_ .f32 0x3F800000#32)) (Host.exp (Host.negf (extractStridedSlice S2x8192x1024 ![0, 0, 4352] (rv19 arg0 arg1 arg2 arg3 arg4) slices_S2x8192x5376_S2x8192x1024_0_0_4352)))))) shapeCasts_S2x8192x1024_S16384x1024) bitsLt_bf16_f32)

/-- The array `main_v50` of the printed program. -/
def rv50 (arg0 : FVec Ideal S2x8192x1024 .f32) (arg1 arg2 : FVec Ideal S2x1x1024 .f32) (arg3 : FVec Ideal S1024 .f32) (arg4 : FVec Ideal S1024x5376 .f32) : FVec Ideal S32768x128 .f32 :=
  heads (rv21 arg0 arg1 arg2 arg3 arg4)

/-- The array `main_v57` of the printed program. -/
def rv57 (arg0 : FVec Ideal S2x8192x1024 .f32) (arg1 arg2 : FVec Ideal S2x1x1024 .f32) (arg3 : FVec Ideal S1024 .f32) (arg4 : FVec Ideal S1024x5376 .f32) : FVec Ideal S32768x128 .f32 :=
  heads (rv22 arg0 arg1 arg2 arg3 arg4)

/-- An entry of the normed and modulated row times the in-projection's weight. -/
abbrev Z (arg0 : FVec Ideal S2x8192x1024 .f32) (arg1 arg2 : FVec Ideal S2x1x1024 .f32) (arg3 : FVec Ideal S1024 .f32) (arg4 : FVec Ideal S1024x5376 .f32) (b : Fin 2) (s : Fin 8192) (j : Fin 5376) : EReal :=
  proj (fun k => arg0 (ix3 b s k)) (fun k => arg3 (ix1 k)) (fun k => arg2 (ix3 b 0 k)) (fun k => arg1 (ix3 b 0 k)) (fun k => arg4 (ix2 k j))

theorem swap_lo (A : FVec Ideal S2x8192x128 .f32) (b : Fin 2) (s : Fin 8192) (j : Fin 64) :
    swap A (ix3 b s ⟨j, by omega⟩) = A (ix3 b s ⟨64 + j, by omega⟩) := by
  pointwise [swap]

theorem swap_hi (A : FVec Ideal S2x8192x128 .f32) (b : Fin 2) (s : Fin 8192) (j : Fin 64) :
    swap A (ix3 b s ⟨64 + j, by omega⟩) = A (ix3 b s ⟨j, by omega⟩) := by
  pointwise [swap]

theorem swap_at (A : FVec Ideal S2x8192x128 .f32) (b : Fin 2) (s : Fin 8192) (j : Fin 128) :
    swap A (ix3 b s j) = A (ix3 b s ⟨(j.val + 64) % 128, by omega⟩) := by
  by_cases h : j.val < 64
  · refine (swap_lo A b s ⟨j, h⟩).trans (congrArg (fun z => A (ix3 b s z)) (Fin.ext ?_))
    show 64 + j.val = (j.val + 64) % 128
    omega
  · have e : j = ⟨64 + (⟨j.val - 64, by omega⟩ : Fin 64), by show 64 + (j.val - 64) < 128; omega⟩ := Fin.ext (by show j.val = 64 + (j.val - 64); omega)
    refine (congrArg (fun z => swap A (ix3 b s z)) e).trans ?_
    refine (swap_hi A b s ⟨j.val - 64, by omega⟩).trans (congrArg (fun z => A (ix3 b s z)) (Fin.ext ?_))
    show j.val - 64 = (j.val + 64) % 128
    omega

theorem pairs_0 (A B : FVec Ideal S2x8192x128 .f32) (b : Fin 2) (s : Fin 8192) (j : Fin 128) :
    pairs A B (ix4 b s 0 j) = A (ix3 b s j) := by
  pointwise [pairs]

theorem pairs_1 (A B : FVec Ideal S2x8192x128 .f32) (b : Fin 2) (s : Fin 8192) (j : Fin 128) :
    pairs A B (ix4 b s 1 j) = B (ix3 b s j) := by
  pointwise [pairs]

theorem rows_at (B : FVec Ideal S2x8192x2x128 .f32) (b : Fin 2) (s : Fin 8192) (h : Fin 2) (j : Fin 128) :
    shapeCast S32768x128 B shapeCasts_S2x8192x2x128_S32768x128 (ix2 ⟨2 * (b * 8192 + s) + h, by omega⟩ j) = B (ix4 b s h j) := by
  pointwise

theorem heads_0 (A : FVec Ideal S2x8192x128 .f32) (b : Fin 2) (s : Fin 8192) (j : Fin 128) :
    heads A (ix2 ⟨2 * (b * 8192 + s), by omega⟩ j) = A (ix3 b s j) :=
  (rows_at _ b s 0 j).trans (pairs_0 _ _ b s j)

theorem heads_1 (A : FVec Ideal S2x8192x128 .f32) (b : Fin 2) (s : Fin 8192) (j : Fin 128) :
    heads A (ix2 ⟨2 * (b * 8192 + s) + 1, by omega⟩ j) = A (ix3 b s ⟨(j.val + 64) % 128, by omega⟩) :=
  (rows_at _ b s 1 j).trans ((pairs_1 _ _ b s j).trans (swap_at A b s j))

theorem rv18_at (arg0 : FVec Ideal S2x8192x1024 .f32) (arg1 arg2 : FVec Ideal S2x1x1024 .f32) (arg3 : FVec Ideal S1024 .f32) (arg4 : FVec Ideal S1024x5376 .f32) (b : Fin 2) (s : Fin 8192) (j : Fin 1024) :
    rv18 arg0 arg1 arg2 arg3 (ix3 b s j)
    = modRow (fun k => arg0 (ix3 b s k)) (fun k => arg3 (ix1 k)) (fun k => arg2 (ix3 b 0 k)) (fun k => arg1 (ix3 b 0 k)) j := by
  pointwise [rv18, rms, modRow]

theorem rv19_at (arg0 : FVec Ideal S2x8192x1024 .f32) (arg1 arg2 : FVec Ideal S2x1x1024 .f32) (arg3 : FVec Ideal S1024 .f32) (arg4 : FVec Ideal S1024x5376 .f32) (b : Fin 2) (s : Fin 8192) (j : Fin 5376) :
    rv19 arg0 arg1 arg2 arg3 arg4 (ix3 b s j) = Z arg0 arg1 arg2 arg3 arg4 b s j := by
  have e : ∀ k, rv18 arg0 arg1 arg2 arg3 (ix3 b s k) = _ := rv18_at arg0 arg1 arg2 arg3 arg4 b s
  pointwise [rv19]
  simp only [e]
  rfl

/-! The reference's eight results, an entry of each. -/

theorem rv34_at (arg0 : FVec Ideal S2x8192x1024 .f32) (arg1 arg2 : FVec Ideal S2x1x1024 .f32) (arg3 : FVec Ideal S1024 .f32) (arg4 : FVec Ideal S1024x5376 .f32) (b : Fin 2) (s : Fin 8192) (j : Fin 1024) :
    rv34 arg0 arg1 arg2 arg3 arg4 (ix2 ⟨b * 8192 + s, by omega⟩ j) = Z arg0 arg1 arg2 arg3 arg4 b s ⟨j, by omega⟩ := by
  rw [← rv19_at]
  pointwise [rv34]

theorem rv21_at (arg0 : FVec Ideal S2x8192x1024 .f32) (arg1 arg2 : FVec Ideal S2x1x1024 .f32) (arg3 : FVec Ideal S1024 .f32) (arg4 : FVec Ideal S1024x5376 .f32) (b : Fin 2) (s : Fin 8192) (j : Fin 128) :
    rv21 arg0 arg1 arg2 arg3 arg4 (ix3 b s j) = Z arg0 arg1 arg2 arg3 arg4 b s ⟨1024 + j, by omega⟩ := by
  rw [← rv19_at]
  pointwise [rv21]

theorem rv22_at (arg0 : FVec Ideal S2x8192x1024 .f32) (arg1 arg2 : FVec Ideal S2x1x1024 .f32) (arg3 : FVec Ideal S1024 .f32) (arg4 : FVec Ideal S1024x5376 .f32) (b : Fin 2) (s : Fin 8192) (j : Fin 128) :
    rv22 arg0 arg1 arg2 arg3 arg4 (ix3 b s j) = Z arg0 arg1 arg2 arg3 arg4 b s ⟨1152 + j, by omega⟩ := by
  rw [← rv19_at]
  pointwise [rv22]

theorem rv35_at (arg0 : FVec Ideal S2x8192x1024 .f32) (arg1 arg2 : FVec Ideal S2x1x1024 .f32) (arg3 : FVec Ideal S1024 .f32) (arg4 : FVec Ideal S1024x5376 .f32) (b : Fin 2) (s : Fin 8192) (j : Fin 128) :
    rv35 arg0 arg1 arg2 arg3 arg4 (ix2 ⟨b * 8192 + s, by omega⟩ j) = Z arg0 arg1 arg2 arg3 arg4 b s ⟨1024 + j, by omega⟩ := by
  rw [← rv21_at]
  pointwise [rv35]

theorem rv36_at (arg0 : FVec Ideal S2x8192x1024 .f32) (arg1 arg2 : FVec Ideal S2x1x1024 .f32) (arg3 : FVec Ideal S1024 .f32) (arg4 : FVec Ideal S1024x5376 .f32) (b : Fin 2) (s : Fin 8192) (j : Fin 128) :
    rv36 arg0 arg1 arg2 arg3 arg4 (ix2 ⟨b * 8192 + s, by omega⟩ j) = Z arg0 arg1 arg2 arg3 arg4 b s ⟨1152 + j, by omega⟩ := by
  rw [← rv22_at]
  pointwise [rv36]

theorem rv39_at (arg0 : FVec Ideal S2x8192x1024 .f32) (arg1 arg2 : FVec Ideal S2x1x1024 .f32) (arg3 : FVec Ideal S1024 .f32) (arg4 : FVec Ideal S1024x5376 .f32) (b : Fin 2) (s : Fin 8192) (j : Fin 1024) :
    rv39 arg0 arg1 arg2 arg3 arg4 (ix2 ⟨b * 8192 + s, by omega⟩ j) = silu (Z arg0 arg1 arg2 arg3 arg4 b s ⟨1280 + j, by omega⟩) := by
  rw [← rv19_at]
  pointwise [rv39, silu]
  rfl

theorem rv43_at (arg0 : FVec Ideal S2x8192x1024 .f32) (arg1 arg2 : FVec Ideal S2x1x1024 .f32) (arg3 : FVec Ideal S1024 .f32) (arg4 : FVec Ideal S1024x5376 .f32) (b : Fin 2) (s : Fin 8192) (j : Fin 1024) :
    rv43 arg0 arg1 arg2 arg3 arg4 (ix2 ⟨b * 8192 + s, by omega⟩ j) = silu (Z arg0 arg1 arg2 arg3 arg4 b s ⟨4352 + j, by omega⟩) := by
  rw [← rv19_at]
  pointwise [rv43, silu]
  rfl

theorem rv40_at (arg0 : FVec Ideal S2x8192x1024 .f32) (arg1 arg2 : FVec Ideal S2x1x1024 .f32) (arg3 : FVec Ideal S1024 .f32) (arg4 : FVec Ideal S1024x5376 .f32) (b : Fin 2) (s : Fin 8192) (j : Fin 1024) :
    rv40 arg0 arg1 arg2 arg3 arg4 (ix2 ⟨b * 8192 + s, by omega⟩ j)
    = Z arg0 arg1 arg2 arg3 arg4 b s ⟨2304 + j, by omega⟩ * Ideal.logistic (Z arg0 arg1 arg2 arg3 arg4 b s ⟨3328 + j, by omega⟩) := by
  rw [← rv19_at, ← rv19_at]
  pointwise [rv40]
  rfl

theorem rv50_0 (arg0 : FVec Ideal S2x8192x1024 .f32) (arg1 arg2 : FVec Ideal S2x1x1024 .f32) (arg3 : FVec Ideal S1024 .f32) (arg4 : FVec Ideal S1024x5376 .f32) (b : Fin 2) (s : Fin 8192) (j : Fin 128) :
    rv50 arg0 arg1 arg2 arg3 arg4 (ix2 ⟨2 * (b * 8192 + s), by omega⟩ j) = Z arg0 arg1 arg2 arg3 arg4 b s ⟨1024 + j, by omega⟩ :=
  (heads_0 _ b s j).trans (rv21_at arg0 arg1 arg2 arg3 arg4 b s j)

theorem rv50_1 (arg0 : FVec Ideal S2x8192x1024 .f32) (arg1 arg2 : FVec Ideal S2x1x1024 .f32) (arg3 : FVec Ideal S1024 .f32) (arg4 : FVec Ideal S1024x5376 .f32) (b : Fin 2) (s : Fin 8192) (j : Fin 128) :
    rv50 arg0 arg1 arg2 arg3 arg4 (ix2 ⟨2 * (b * 8192 + s) + 1, by omega⟩ j) = Z arg0 arg1 arg2 arg3 arg4 b s ⟨1024 + (j.val + 64) % 128, by omega⟩ :=
  (heads_1 _ b s j).trans (rv21_at arg0 arg1 arg2 arg3 arg4 b s ⟨(j.val + 64) % 128, by omega⟩)

theorem rv57_0 (arg0 : FVec Ideal S2x8192x1024 .f32) (arg1 arg2 : FVec Ideal S2x1x1024 .f32) (arg3 : FVec Ideal S1024 .f32) (arg4 : FVec Ideal S1024x5376 .f32) (b : Fin 2) (s : Fin 8192) (j : Fin 128) :
    rv57 arg0 arg1 arg2 arg3 arg4 (ix2 ⟨2 * (b * 8192 + s), by omega⟩ j) = Z arg0 arg1 arg2 arg3 arg4 b s ⟨1152 + j, by omega⟩ :=
  (heads_0 _ b s j).trans (rv22_at arg0 arg1 arg2 arg3 arg4 b s j)

theorem rv57_1 (arg0 : FVec Ideal S2x8192x1024 .f32) (arg1 arg2 : FVec Ideal S2x1x1024 .f32) (arg3 : FVec Ideal S1024 .f32) (arg4 : FVec Ideal S1024x5376 .f32) (b : Fin 2) (s : Fin 8192) (j : Fin 128) :
    rv57 arg0 arg1 arg2 arg3 arg4 (ix2 ⟨2 * (b * 8192 + s) + 1, by omega⟩ j) = Z arg0 arg1 arg2 arg3 arg4 b s ⟨1152 + (j.val + 64) % 128, by omega⟩ :=
  (heads_1 _ b s j).trans (rv22_at arg0 arg1 arg2 arg3 arg4 b s ⟨(j.val + 64) % 128, by omega⟩)

set_option maxHeartbeats 2000000 in
/-- The run of the reference, its results as the arrays above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = rv34 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v35) = rv35 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v36) = rv36 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v39) = rv39 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v40) = rv40 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v43) = rv43 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v50) = rv50 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v57) = rv57 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by simp only [rv34, rv35, rv36, rv39, rv40, rv43, rv50, rv57, rv22, rv21, rv19, rv18, heads, pairs, swap, fn_main_v46, fn_main_v49, fn_main_v53, fn_main_v56]),
    (h c).2.1.trans (by simp only [rv34, rv35, rv36, rv39, rv40, rv43, rv50, rv57, rv22, rv21, rv19, rv18, heads, pairs, swap, fn_main_v46, fn_main_v49, fn_main_v53, fn_main_v56]),
    (h c).2.2.1.trans (by simp only [rv34, rv35, rv36, rv39, rv40, rv43, rv50, rv57, rv22, rv21, rv19, rv18, heads, pairs, swap, fn_main_v46, fn_main_v49, fn_main_v53, fn_main_v56]),
    (h c).2.2.2.1.trans (by simp only [rv34, rv35, rv36, rv39, rv40, rv43, rv50, rv57, rv22, rv21, rv19, rv18, heads, pairs, swap, fn_main_v46, fn_main_v49, fn_main_v53, fn_main_v56]),
    (h c).2.2.2.2.1.trans (by simp only [rv34, rv35, rv36, rv39, rv40, rv43, rv50, rv57, rv22, rv21, rv19, rv18, heads, pairs, swap, fn_main_v46, fn_main_v49, fn_main_v53, fn_main_v56]),
    (h c).2.2.2.2.2.1.trans (by simp only [rv34, rv35, rv36, rv39, rv40, rv43, rv50, rv57, rv22, rv21, rv19, rv18, heads, pairs, swap, fn_main_v46, fn_main_v49, fn_main_v53, fn_main_v56]),
    (h c).2.2.2.2.2.2.1.trans (by unfold res_main_v50; simp only [rv34, rv35, rv36, rv39, rv40, rv43, rv50, rv57, rv22, rv21, rv19, rv18, heads, pairs, swap, fn_main_v46, fn_main_v49, fn_main_v53, fn_main_v56]; rfl),
    (h c).2.2.2.2.2.2.2.1.trans (by unfold res_main_v57; simp only [rv34, rv35, rv36, rv39, rv40, rv43, rv50, rv57, rv22, rv21, rv19, rv18, heads, pairs, swap, fn_main_v46, fn_main_v49, fn_main_v53, fn_main_v56]; rfl),
    (h c).2.2.2.2.2.2.2.2⟩) (Cert.Reference2Ideal.Value.run m ρ)

end Cert.Reference2Ideal.Inproj
end
-- ==== Proof.InprojArr.lean ====
module

public import Idealize.ShloMosaic.Lib.Pipeline.ValueKit
public import Idealize.ShloMosaic.Lib.Pipeline.ReadBack
public import proofs.«01_k».proof.Proof.InprojBlk
public import proofs.«01_k».proof.Proof.InprojRef
public import Idealize.ShloMosaic.Lib.Pipeline.Covers
public import Idealize.ShloMosaic.Lib.WholeRead

@[expose] public section

set_option maxRecDepth 16384

noncomputable section

namespace Cert.Kernel2Ideal.Inproj

open Idealize.ShloMosaic Idealize.ShloMosaic.TcCoe Idealize.SL.Sem
open Cert.Kernel2Ideal Cert.Kernel2Ideal.Gen Cert.Proj

open Idealize.ShloMosaic.Pipeline (Dat)

theorem idxA : ∀ t : Fin cfg0.N, (win0_0.index t = ![t.val, 0] ∧ win0_1.index t = ![t.val / 8, 0, 0] ∧ win0_2.index t = ![t.val / 8, 0, 0])
    ∧ (win0_3.index t = ![0, 0] ∧ win0_4.index t = ![0, 0]) :=
  (by decide +kernel : ∀ t : Fin grid0.N, _)

theorem idxB : ∀ t : Fin cfg0.N, (win0_5.index t = ![t.val, 0] ∧ win0_6.index t = ![t.val, 0] ∧ win0_7.index t = ![t.val, 0] ∧ win0_8.index t = ![t.val, 0])
    ∧ (win0_9.index t = ![t.val, 0] ∧ win0_10.index t = ![t.val, 0] ∧ win0_11.index t = ![t.val, 0] ∧ win0_12.index t = ![t.val, 0]) :=
  (by decide +kernel : ∀ t : Fin grid0.N, _)

section
variable {F : FTy → Type} [FloatOps F] (m : (ℓ : Loc nD τ sig) → Buf (Elt F) ℓ) (ρ : Dev nD → PrngReg)

theorem kept (r : PUnit × MemSt nD τ sig (Elt F)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The run, each output array named and the arguments as launched. -/
theorem run_blocks : θ_run defs (onTc (τ := τ) (main (F := F))) ⟨m, fun _ => 0, ρ⟩ fun r => ∀ c : Dev nD,
      r.2.mem ((c : Thread nD τ).loc main_v3_0) = (dats m 0 c).arrAt 5 cfg0.N
      ∧ r.2.mem ((c : Thread nD τ).loc main_v3_1) = (dats m 0 c).arrAt 6 cfg0.N
      ∧ r.2.mem ((c : Thread nD τ).loc main_v3_2) = (dats m 0 c).arrAt 7 cfg0.N
      ∧ r.2.mem ((c : Thread nD τ).loc main_v3_3) = (dats m 0 c).arrAt 8 cfg0.N
      ∧ r.2.mem ((c : Thread nD τ).loc main_v3_4) = (dats m 0 c).arrAt 9 cfg0.N
      ∧ r.2.mem ((c : Thread nD τ).loc main_v3_5) = (dats m 0 c).arrAt 10 cfg0.N
      ∧ r.2.mem ((c : Thread nD τ).loc main_v3_6) = (dats m 0 c).arrAt 11 cfg0.N
      ∧ r.2.mem ((c : Thread nD τ).loc main_v3_7) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7, (h c).1 8, (h c).1 9, (h c).1 10, (h c).1 11, (h c).1 12, kept m r h c⟩) (run_main m ρ)

end

variable (m : (ℓ : Loc nD τ sig) → Buf (Elt Ideal) ℓ)

theorem v0_eq (c : Dev nD) : V m c main_v0 = (shapeCast S16384x1024 (m ((c : Thread nD τ).loc main_arg0)) shapeCasts_S2x8192x1024_S16384x1024 : FVec Ideal S16384x1024 .f32) := by
  show StableHlo.after hostOps0 _ _ = _
  simp only [hostOps0, StableHlo.TRef.binary, StableHlo.TRef.unary, StableHlo.TRef.toBuf, StableHlo.TRef.ofBuf, cast_eq]
  after_results_simp <;> rfl

theorem v1_eq (c : Dev nD) : V m c main_v1 = (truncf .bf16 (m ((c : Thread nD τ).loc main_arg4)) bitsLt_bf16_f32 : FVec Ideal S1024x5376 .bf16) := by
  show StableHlo.after hostOps0 _ _ = _
  simp only [hostOps0, StableHlo.TRef.binary, StableHlo.TRef.unary, StableHlo.TRef.toBuf, StableHlo.TRef.ofBuf, cast_eq]
  after_results_simp <;> rfl

theorem v2_eq (c : Dev nD) : V m c main_v2 = (shapeCast S1x1024 (m ((c : Thread nD τ).loc main_arg3)) shapeCasts_S1024_S1x1024 : FVec Ideal S1x1024 .f32) := by
  show StableHlo.after hostOps0 _ _ = _
  simp only [hostOps0, StableHlo.TRef.binary, StableHlo.TRef.unary, StableHlo.TRef.toBuf, StableHlo.TRef.ofBuf, cast_eq]
  after_results_simp <;> rfl

/-- The rows of the two batches, one after the other. -/
theorem flat_at (A : FVec Ideal S2x8192x1024 .f32) (b : Fin 2) (s : Fin 8192) (j : Fin 1024) :
    shapeCast S16384x1024 A shapeCasts_S2x8192x1024_S16384x1024 (ix2 ⟨b * 8192 + s, by omega⟩ j) = A (ix3 b s j) := by
  pointwise

theorem cast_at (A : FVec Ideal S1024x5376 .f32) (k : Fin 1024) (j : Fin 5376) :
    (truncf .bf16 A bitsLt_bf16_f32 : FVec Ideal S1024x5376 .bf16) (ix2 k j) = A (ix2 k j) := by
  pointwise

theorem lift_at (A : FVec Ideal S1024 .f32) (j : Fin 1024) :
    (shapeCast S1x1024 A shapeCasts_S1024_S1x1024 : FVec Ideal S1x1024 .f32) (ix2 0 j) = A (ix1 j) := by
  pointwise

/-! The staged blocks, an entry of each as the arguments'. -/

theorem b0_at (c : Dev nD) (t : Fin cfg0.N) (r j : Fin 1024) (b : Fin 2) (s : Fin 8192) (h : t.val * 1024 + r = b * 8192 + s) :
    iblk m c 0 t (ix2 r j) = m ((c : Thread nD τ).loc main_arg0) (ix3 b s j) := by
  refine Eq.trans ?_ ((congrFun (v0_eq m c) _).trans (flat_at _ b s j))
  refine Eq.trans (b := V m c main_v0 (ix2 ⟨t.val * 1024 + r, by omega⟩ j)) ?_ (congrArg (fun z => V m c main_v0 (ix2 z j)) (Fin.ext h))
  blk_ext [iblk, (idxA t).1.1]

theorem b1_at (c : Dev nD) (t : Fin cfg0.N) (j : Fin 1024) (b : Fin 2) (h : t.val / 8 = b) :
    iblk m c 1 t (ix3 0 0 j) = m ((c : Thread nD τ).loc main_arg1) (ix3 b 0 j) := by
  rw [← V_main_arg1 m c]
  refine Eq.trans (b := V m c main_arg1 (ix3 ⟨t.val / 8, by omega⟩ 0 j)) ?_ (congrArg (fun z => V m c main_arg1 (ix3 z 0 j)) (Fin.ext h))
  blk_ext [iblk, (idxA t).1.2.1]

theorem b2_at (c : Dev nD) (t : Fin cfg0.N) (j : Fin 1024) (b : Fin 2) (h : t.val / 8 = b) :
    iblk m c 2 t (ix3 0 0 j) = m ((c : Thread nD τ).loc main_arg2) (ix3 b 0 j) := by
  rw [← V_main_arg2 m c]
  refine Eq.trans (b := V m c main_arg2 (ix3 ⟨t.val / 8, by omega⟩ 0 j)) ?_ (congrArg (fun z => V m c main_arg2 (ix3 z 0 j)) (Fin.ext h))
  blk_ext [iblk, (idxA t).1.2.2]

theorem b3_at (c : Dev nD) (t : Fin cfg0.N) (j : Fin 1024) :
    iblk m c 3 t (ix2 0 j) = m ((c : Thread nD τ).loc main_arg3) (ix1 j) := by
  refine Eq.trans (b := V m c main_v2 (ix2 0 j)) ?_ ((congrFun (v2_eq m c) _).trans (lift_at _ j))
  blk_ext [iblk, (idxA t).2.1]

theorem b4_at (c : Dev nD) (t : Fin cfg0.N) (k : Fin 1024) (j : Fin 5376) :
    iblk m c 4 t (ix2 k j) = m ((c : Thread nD τ).loc main_arg4) (ix2 k j) := by
  refine Eq.trans (b := V m c main_v1 (ix2 k j)) ?_ ((congrFun (v1_eq m c) _).trans (cast_at _ k j))
  blk_ext [iblk, (idxA t).2.2]

/-! Loads of whole blocks, and of the weight's columns. -/

theorem ld0 {e : EltTy} (x : Vec Ideal S1024x1024 e) : View.ld x r0_0 = x := View.ld_unit_zero (by funext a; fin_cases a <;> rfl) _ _
theorem ld1 {e : EltTy} (x : Vec Ideal S1x1024 e) : View.ld x r0_1 = x := View.ld_unit_zero (by funext a; fin_cases a <;> rfl) _ _
theorem ld2 {e : EltTy} (x : Vec Ideal S1x1x1024 e) : View.ld x r0_2 = x := View.ld_unit_zero (by funext a; fin_cases a <;> rfl) _ _

theorem ld_q (x : Vec Ideal S1024x5376 .bf16) (k : Fin 1024) (j : Fin 1024) : View.ld x r0_3 (ix2 k j) = x (ix2 k ⟨j, by omega⟩) := by
  refine (congrFun (View.ld_unit x _ _ _) _).trans ?_
  pointwise
theorem ld_k (x : Vec Ideal S1024x5376 .bf16) (k : Fin 1024) (j : Fin 128) : View.ld x r0_4 (ix2 k j) = x (ix2 k ⟨1024 + j, by omega⟩) := by
  refine (congrFun (View.ld_unit x _ _ _) _).trans ?_
  pointwise
theorem ld_v (x : Vec Ideal S1024x5376 .bf16) (k : Fin 1024) (j : Fin 128) : View.ld x r0_6 (ix2 k j) = x (ix2 k ⟨1152 + j, by omega⟩) := by
  refine (congrFun (View.ld_unit x _ _ _) _).trans ?_
  pointwise
theorem ld_za (x : Vec Ideal S1024x5376 .bf16) (k : Fin 1024) (j : Fin 1024) : View.ld x r0_7 (ix2 k j) = x (ix2 k ⟨1280 + j, by omega⟩) := by
  refine (congrFun (View.ld_unit x _ _ _) _).trans ?_
  pointwise
theorem ld_ga (x : Vec Ideal S1024x5376 .bf16) (k : Fin 1024) (j : Fin 1024) : View.ld x r0_8 (ix2 k j) = x (ix2 k ⟨2304 + j, by omega⟩) := by
  refine (congrFun (View.ld_unit x _ _ _) _).trans ?_
  pointwise
theorem ld_gb (x : Vec Ideal S1024x5376 .bf16) (k : Fin 1024) (j : Fin 1024) : View.ld x r0_9 (ix2 k j) = x (ix2 k ⟨3328 + j, by omega⟩) := by
  refine (congrFun (View.ld_unit x _ _ _) _).trans ?_
  pointwise
theorem ld_zb (x : Vec Ideal S1024x5376 .bf16) (k : Fin 1024) (j : Fin 1024) : View.ld x r0_10 (ix2 k j) = x (ix2 k ⟨4352 + j, by omega⟩) := by
  refine (congrFun (View.ld_unit x _ _ _) _).trans ?_
  pointwise

/-- The normed and modulated row, at the launched arguments. -/
abbrev HR (c : Dev nD) (b : Fin 2) (s : Fin 8192) : Fin 1024 → EReal :=
  modRow (fun k => (m ((c : Thread nD τ).loc main_arg0)) (ix3 b s k)) (fun k => (m ((c : Thread nD τ).loc main_arg3)) (ix1 k)) (fun k => (m ((c : Thread nD τ).loc main_arg2)) (ix3 b 0 k)) (fun k => (m ((c : Thread nD τ).loc main_arg1)) (ix3 b 0 k))

/-- The in-projection's entry, at the launched arguments. -/
abbrev ZR (c : Dev nD) (b : Fin 2) (s : Fin 8192) (j : Fin 5376) : EReal :=
  Cert.Reference2Ideal.Inproj.Z (m ((c : Thread nD τ).loc main_arg0)) (m ((c : Thread nD τ).loc main_arg1)) (m ((c : Thread nD τ).loc main_arg2)) (m ((c : Thread nD τ).loc main_arg3)) (m ((c : Thread nD τ).loc main_arg4)) b s j

/-- The normed and modulated rows the body computes once. -/
theorem row_at (c : Dev nD) (t : Fin cfg0.N) (r : Fin 1024) (b : Fin 2) (s : Fin 8192) (h : t.val * 1024 + r = b * 8192 + s) (k : Fin 1024) :
    k0_pay3 (F := Ideal) (iblk m c 0 t) (iblk m c 3 t) (iblk m c 2 t) (iblk m c 1 t) (ix2 r k) = HR m c b s k := by
  have hb : t.val / 8 = b := by omega
  refine (h_at _ _ _ _ r k).trans ?_
  simp only [b0_at m c t r _ b s h, b1_at m c t _ b hb, b2_at m c t _ b hb, b3_at]

theorem h_eq (c : Dev nD) (t : Fin cfg0.N) : k0_pay10 (F := Ideal) (iblk m c 0 t) (iblk m c 1 t) (iblk m c 2 t) (iblk m c 3 t) (iblk m c 4 t) = k0_pay3 (iblk m c 0 t) (iblk m c 3 t) (iblk m c 2 t) (iblk m c 1 t) := by
  unfold k0_pay10
  rw [ld0, ld1, ld2, ld2]

theorem hrow_at (c : Dev nD) (t : Fin cfg0.N) (r : Fin 1024) (b : Fin 2) (s : Fin 8192) (h : t.val * 1024 + r = b * 8192 + s) (k : Fin 1024) :
    k0_pay10 (F := Ideal) (iblk m c 0 t) (iblk m c 1 t) (iblk m c 2 t) (iblk m c 3 t) (iblk m c 4 t) (ix2 r k) = HR m c b s k := by
  rw [h_eq]
  exact row_at m c t r b s h k

/-- The row times a column of the staged weight. -/
theorem sum_at (c : Dev nD) (t : Fin cfg0.N) (b : Fin 2) (s : Fin 8192) (w : Fin 1024 → EReal) (j : Fin 5376)
    (hw : ∀ k, w k = iblk m c 4 t (ix2 k j)) : ∑ k : Fin 1024, HR m c b s k * w k = ZR m c b s j := by
  refine Finset.sum_congr rfl fun k _ => congrArg (HR m c b s k * ·) ?_
  exact (hw k).trans (b4_at m c t k j)

theorem kz_at (c : Dev nD) (t : Fin cfg0.N) (r : Fin 1024) (b : Fin 2) (s : Fin 8192) (h : t.val * 1024 + r = b * 8192 + s) (j : Fin 128) :
    k0_pay11 (F := Ideal) (iblk m c 0 t) (iblk m c 1 t) (iblk m c 2 t) (iblk m c 3 t) (iblk m c 4 t) (ix2 r j) = ZR m c b s ⟨1024 + j, by omega⟩ := by
  unfold k0_pay11
  rw [ld0, ld1, ld2, ld2]
  exact (k_at _ _ _ _ _ _ r (row_at m c t r b s h) j).trans (sum_at m c t b s _ _ fun k => ld_k _ k j)

theorem vz_at (c : Dev nD) (t : Fin cfg0.N) (r : Fin 1024) (b : Fin 2) (s : Fin 8192) (h : t.val * 1024 + r = b * 8192 + s) (j : Fin 128) :
    k0_pay6 (F := Ideal) (k0_pay10 (iblk m c 0 t) (iblk m c 1 t) (iblk m c 2 t) (iblk m c 3 t) (iblk m c 4 t)) (View.ld (iblk m c 4 t) r0_6) (ix2 r j) = ZR m c b s ⟨1152 + j, by omega⟩ :=
  (v_at _ _ _ r (hrow_at m c t r b s h) j).trans (sum_at m c t b s _ _ fun k => ld_v _ k j)

/-- The reference's result 0 at the launched arguments. -/
abbrev G5 (c : Dev nD) : FVec Ideal S16384x1024 .f32 := Cert.Reference2Ideal.Inproj.rv34 (m ((c : Thread nD τ).loc main_arg0)) (m ((c : Thread nD τ).loc main_arg1)) (m ((c : Thread nD τ).loc main_arg2)) (m ((c : Thread nD τ).loc main_arg3)) (m ((c : Thread nD τ).loc main_arg4))

theorem after5_at (c : Dev nD) (t : Fin cfg0.N) (r : Fin 1024) (j : Fin 1024) :
    (dats m 0 c).after 5 t (ix2 r j) = G5 m c (ix2 ⟨t.val * 1024 + r, by have := t.isLt; have : cfg0.N = 16 := rfl; omega⟩ j) := by
  have hN : cfg0.N = 16 := rfl
  have ht := t.isLt
  have hr := r.isLt
  have hs : t.val * 1024 + r = (⟨t.val / 8, by omega⟩ : Fin 2) * 8192 + (⟨t.val % 8 * 1024 + r, by omega⟩ : Fin 8192) := by simp only []; omega
  rw [after0_5]; unfold out0_5
  rw [View.canon_unit_zero (by funext a; fin_cases a <;> rfl)]
  refine Eq.trans ?_ (((Cert.Reference2Ideal.Inproj.rv34_at _ _ _ _ _ ⟨t.val / 8, by omega⟩ ⟨t.val % 8 * 1024 + r, by omega⟩ j).symm).trans
    (congrArg (fun z => G5 m c (ix2 z j)) (Fin.ext hs.symm)))
  rw [ld0, ld1, ld2, ld2]
  exact (q_at _ _ _ _ _ _ r (row_at m c t r _ _ hs) j).trans (sum_at m c t _ _ _ _ fun k => ld_q _ k j)

theorem final5 (c : Dev nD) : (dats m 0 c).arrAt 5 cfg0.N = G5 m c := by
  refine (dats m 0 c).arrAt_eq_of_covers 5 _ (by decide +kernel) fun t _ y => ?_
  blk_simp
  idx_vars y
  have hG : G5 m c (((View.whole main_v3_0).slice (win0_5.rect t)).emb (ix2 y0 y1))
      = G5 m c (ix2 ⟨t.val * 1024 + y0, by have := t.isLt; have : cfg0.grid.N = 16 := rfl; omega⟩ y1) := by
    blk_ext [(idxB t).1.1]
  rw [hG]
  exact after5_at m c t y0 y1

/-- The reference's result 1 at the launched arguments. -/
abbrev G6 (c : Dev nD) : FVec Ideal S16384x128 .f32 := Cert.Reference2Ideal.Inproj.rv35 (m ((c : Thread nD τ).loc main_arg0)) (m ((c : Thread nD τ).loc main_arg1)) (m ((c : Thread nD τ).loc main_arg2)) (m ((c : Thread nD τ).loc main_arg3)) (m ((c : Thread nD τ).loc main_arg4))

theorem after6_at (c : Dev nD) (t : Fin cfg0.N) (r : Fin 1024) (j : Fin 128) :
    (dats m 0 c).after 6 t (ix2 r j) = G6 m c (ix2 ⟨t.val * 1024 + r, by have := t.isLt; have : cfg0.N = 16 := rfl; omega⟩ j) := by
  have hN : cfg0.N = 16 := rfl
  have ht := t.isLt
  have hr := r.isLt
  have hs : t.val * 1024 + r = (⟨t.val / 8, by omega⟩ : Fin 2) * 8192 + (⟨t.val % 8 * 1024 + r, by omega⟩ : Fin 8192) := by simp only []; omega
  rw [after0_6]; unfold out0_6
  rw [View.canon_unit_zero (by funext a; fin_cases a <;> rfl)]
  refine Eq.trans ?_ (((Cert.Reference2Ideal.Inproj.rv35_at _ _ _ _ _ ⟨t.val / 8, by omega⟩ ⟨t.val % 8 * 1024 + r, by omega⟩ j).symm).trans
    (congrArg (fun z => G6 m c (ix2 z j)) (Fin.ext hs.symm)))
  exact kz_at m c t r _ _ hs j

theorem final6 (c : Dev nD) : (dats m 0 c).arrAt 6 cfg0.N = G6 m c := by
  refine (dats m 0 c).arrAt_eq_of_covers 6 _ (by decide +kernel) fun t _ y => ?_
  blk_simp
  idx_vars y
  have hG : G6 m c (((View.whole main_v3_1).slice (win0_6.rect t)).emb (ix2 y0 y1))
      = G6 m c (ix2 ⟨t.val * 1024 + y0, by have := t.isLt; have : cfg0.grid.N = 16 := rfl; omega⟩ y1) := by
    blk_ext [(idxB t).1.2.1]
  rw [hG]
  exact after6_at m c t y0 y1

/-- The reference's result 2 at the launched arguments. -/
abbrev G7 (c : Dev nD) : FVec Ideal S16384x128 .f32 := Cert.Reference2Ideal.Inproj.rv36 (m ((c : Thread nD τ).loc main_arg0)) (m ((c : Thread nD τ).loc main_arg1)) (m ((c : Thread nD τ).loc main_arg2)) (m ((c : Thread nD τ).loc main_arg3)) (m ((c : Thread nD τ).loc main_arg4))

theorem after7_at (c : Dev nD) (t : Fin cfg0.N) (r : Fin 1024) (j : Fin 128) :
    (dats m 0 c).after 7 t (ix2 r j) = G7 m c (ix2 ⟨t.val * 1024 + r, by have := t.isLt; have : cfg0.N = 16 := rfl; omega⟩ j) := by
  have hN : cfg0.N = 16 := rfl
  have ht := t.isLt
  have hr := r.isLt
  have hs : t.val * 1024 + r = (⟨t.val / 8, by omega⟩ : Fin 2) * 8192 + (⟨t.val % 8 * 1024 + r, by omega⟩ : Fin 8192) := by simp only []; omega
  rw [after0_7]; unfold out0_7
  rw [View.canon_unit_zero (by funext a; fin_cases a <;> rfl)]
  refine Eq.trans ?_ (((Cert.Reference2Ideal.Inproj.rv36_at _ _ _ _ _ ⟨t.val / 8, by omega⟩ ⟨t.val % 8 * 1024 + r, by omega⟩ j).symm).trans
    (congrArg (fun z => G7 m c (ix2 z j)) (Fin.ext hs.symm)))
  exact vz_at m c t r _ _ hs j

theorem final7 (c : Dev nD) : (dats m 0 c).arrAt 7 cfg0.N = G7 m c := by
  refine (dats m 0 c).arrAt_eq_of_covers 7 _ (by decide +kernel) fun t _ y => ?_
  blk_simp
  idx_vars y
  have hG : G7 m c (((View.whole main_v3_2).slice (win0_7.rect t)).emb (ix2 y0 y1))
      = G7 m c (ix2 ⟨t.val * 1024 + y0, by have := t.isLt; have : cfg0.grid.N = 16 := rfl; omega⟩ y1) := by
    blk_ext [(idxB t).1.2.2.1]
  rw [hG]
  exact after7_at m c t y0 y1

/-- The reference's result 3 at the launched arguments. -/
abbrev G8 (c : Dev nD) : FVec Ideal S16384x1024 .bf16 := Cert.Reference2Ideal.Inproj.rv39 (m ((c : Thread nD τ).loc main_arg0)) (m ((c : Thread nD τ).loc main_arg1)) (m ((c : Thread nD τ).loc main_arg2)) (m ((c : Thread nD τ).loc main_arg3)) (m ((c : Thread nD τ).loc main_arg4))

theorem after8_at (c : Dev nD) (t : Fin cfg0.N) (r : Fin 1024) (j : Fin 1024) :
    (dats m 0 c).after 8 t (ix2 r j) = G8 m c (ix2 ⟨t.val * 1024 + r, by have := t.isLt; have : cfg0.N = 16 := rfl; omega⟩ j) := by
  have hN : cfg0.N = 16 := rfl
  have ht := t.isLt
  have hr := r.isLt
  have hs : t.val * 1024 + r = (⟨t.val / 8, by omega⟩ : Fin 2) * 8192 + (⟨t.val % 8 * 1024 + r, by omega⟩ : Fin 8192) := by simp only []; omega
  rw [after0_8]; unfold out0_8
  rw [View.canon_unit_zero (by funext a; fin_cases a <;> rfl)]
  refine Eq.trans ?_ (((Cert.Reference2Ideal.Inproj.rv39_at _ _ _ _ _ ⟨t.val / 8, by omega⟩ ⟨t.val % 8 * 1024 + r, by omega⟩ j).symm).trans
    (congrArg (fun z => G8 m c (ix2 z j)) (Fin.ext hs.symm)))
  exact (sza_at _ _ _ r (hrow_at m c t r _ _ hs) j).trans (congrArg silu (sum_at m c t _ _ _ _ fun k => ld_za _ k j))

theorem final8 (c : Dev nD) : (dats m 0 c).arrAt 8 cfg0.N = G8 m c := by
  refine (dats m 0 c).arrAt_eq_of_covers 8 _ (by decide +kernel) fun t _ y => ?_
  blk_simp
  idx_vars y
  have hG : G8 m c (((View.whole main_v3_3).slice (win0_8.rect t)).emb (ix2 y0 y1))
      = G8 m c (ix2 ⟨t.val * 1024 + y0, by have := t.isLt; have : cfg0.grid.N = 16 := rfl; omega⟩ y1) := by
    blk_ext [(idxB t).1.2.2.2]
  rw [hG]
  exact after8_at m c t y0 y1

/-- The reference's result 4 at the launched arguments. -/
abbrev G9 (c : Dev nD) : FVec Ideal S16384x1024 .f32 := Cert.Reference2Ideal.Inproj.rv40 (m ((c : Thread nD τ).loc main_arg0)) (m ((c : Thread nD τ).loc main_arg1)) (m ((c : Thread nD τ).loc main_arg2)) (m ((c : Thread nD τ).loc main_arg3)) (m ((c : Thread nD τ).loc main_arg4))

theorem after9_at (c : Dev nD) (t : Fin cfg0.N) (r : Fin 1024) (j : Fin 1024) :
    (dats m 0 c).after 9 t (ix2 r j) = G9 m c (ix2 ⟨t.val * 1024 + r, by have := t.isLt; have : cfg0.N = 16 := rfl; omega⟩ j) := by
  have hN : cfg0.N = 16 := rfl
  have ht := t.isLt
  have hr := r.isLt
  have hs : t.val * 1024 + r = (⟨t.val / 8, by omega⟩ : Fin 2) * 8192 + (⟨t.val % 8 * 1024 + r, by omega⟩ : Fin 8192) := by simp only []; omega
  rw [after0_9]; unfold out0_9
  rw [View.canon_unit_zero (by funext a; fin_cases a <;> rfl)]
  refine Eq.trans ?_ (((Cert.Reference2Ideal.Inproj.rv40_at _ _ _ _ _ ⟨t.val / 8, by omega⟩ ⟨t.val % 8 * 1024 + r, by omega⟩ j).symm).trans
    (congrArg (fun z => G9 m c (ix2 z j)) (Fin.ext hs.symm)))
  exact (u_at _ _ _ _ r (hrow_at m c t r _ _ hs) j).trans (congrArg₂ (fun a b => a * Ideal.logistic b) (sum_at m c t _ _ _ _ fun k => ld_ga _ k j) (sum_at m c t _ _ _ _ fun k => ld_gb _ k j))

theorem final9 (c : Dev nD) : (dats m 0 c).arrAt 9 cfg0.N = G9 m c := by
  refine (dats m 0 c).arrAt_eq_of_covers 9 _ (by decide +kernel) fun t _ y => ?_
  blk_simp
  idx_vars y
  have hG : G9 m c (((View.whole main_v3_4).slice (win0_9.rect t)).emb (ix2 y0 y1))
      = G9 m c (ix2 ⟨t.val * 1024 + y0, by have := t.isLt; have : cfg0.grid.N = 16 := rfl; omega⟩ y1) := by
    blk_ext [(idxB t).2.1]
  rw [hG]
  exact after9_at m c t y0 y1

/-- The reference's result 5 at the launched arguments. -/
abbrev G10 (c : Dev nD) : FVec Ideal S16384x1024 .bf16 := Cert.Reference2Ideal.Inproj.rv43 (m ((c : Thread nD τ).loc main_arg0)) (m ((c : Thread nD τ).loc main_arg1)) (m ((c : Thread nD τ).loc main_arg2)) (m ((c : Thread nD τ).loc main_arg3)) (m ((c : Thread nD τ).loc main_arg4))

theorem after10_at (c : Dev nD) (t : Fin cfg0.N) (r : Fin 1024) (j : Fin 1024) :
    (dats m 0 c).after 10 t (ix2 r j) = G10 m c (ix2 ⟨t.val * 1024 + r, by have := t.isLt; have : cfg0.N = 16 := rfl; omega⟩ j) := by
  have hN : cfg0.N = 16 := rfl
  have ht := t.isLt
  have hr := r.isLt
  have hs : t.val * 1024 + r = (⟨t.val / 8, by omega⟩ : Fin 2) * 8192 + (⟨t.val % 8 * 1024 + r, by omega⟩ : Fin 8192) := by simp only []; omega
  rw [after0_10]; unfold out0_10
  rw [View.canon_unit_zero (by funext a; fin_cases a <;> rfl)]
  refine Eq.trans ?_ (((Cert.Reference2Ideal.Inproj.rv43_at _ _ _ _ _ ⟨t.val / 8, by omega⟩ ⟨t.val % 8 * 1024 + r, by omega⟩ j).symm).trans
    (congrArg (fun z => G10 m c (ix2 z j)) (Fin.ext hs.symm)))
  exact (szb_at _ _ _ r (hrow_at m c t r _ _ hs) j).trans (congrArg silu (sum_at m c t _ _ _ _ fun k => ld_zb _ k j))

theorem final10 (c : Dev nD) : (dats m 0 c).arrAt 10 cfg0.N = G10 m c := by
  refine (dats m 0 c).arrAt_eq_of_covers 10 _ (by decide +kernel) fun t _ y => ?_
  blk_simp
  idx_vars y
  have hG : G10 m c (((View.whole main_v3_5).slice (win0_10.rect t)).emb (ix2 y0 y1))
      = G10 m c (ix2 ⟨t.val * 1024 + y0, by have := t.isLt; have : cfg0.grid.N = 16 := rfl; omega⟩ y1) := by
    blk_ext [(idxB t).2.2.1]
  rw [hG]
  exact after10_at m c t y0 y1

/-- The reference's result 6 at the launched arguments. -/
abbrev G11 (c : Dev nD) : FVec Ideal S32768x128 .f32 := Cert.Reference2Ideal.Inproj.rv50 (m ((c : Thread nD τ).loc main_arg0)) (m ((c : Thread nD τ).loc main_arg1)) (m ((c : Thread nD τ).loc main_arg2)) (m ((c : Thread nD τ).loc main_arg3)) (m ((c : Thread nD τ).loc main_arg4))

theorem after11_at (c : Dev nD) (t : Fin cfg0.N) (r : Fin 2048) (j : Fin 128) :
    (dats m 0 c).after 11 t (ix2 r j) = G11 m c (ix2 ⟨t.val * 2048 + r, by have := t.isLt; have : cfg0.N = 16 := rfl; omega⟩ j) := by
  have hN : cfg0.N = 16 := rfl
  have ht := t.isLt
  have hr := r.isLt
  have hs : t.val * 1024 + (⟨r.val / 2, by omega⟩ : Fin 1024) = (⟨t.val / 8, by omega⟩ : Fin 2) * 8192 + (⟨t.val % 8 * 1024 + r.val / 2, by omega⟩ : Fin 8192) := by simp only []; omega
  rw [after0_11]; unfold out0_11
  by_cases h : r.val % 2 = 0
  · have er : r = ⟨2 * (⟨r.val / 2, by omega⟩ : Fin 1024), by simp only []; omega⟩ := Fin.ext (by simp only []; omega)
    refine (congrArg (fun z => View.canon _ (ix2 z j)) er).trans ?_
    refine (canon_even _ _ _ j).trans ((kz_at m c t _ _ _ hs j).trans ?_)
    refine ((Cert.Reference2Ideal.Inproj.rv50_0 _ _ _ _ _ ⟨t.val / 8, by omega⟩ ⟨t.val % 8 * 1024 + r.val / 2, by omega⟩ j).symm).trans
      (congrArg (fun z => G11 m c (ix2 z j)) (Fin.ext ?_))
    simp only []; omega
  · have er : r = ⟨2 * (⟨r.val / 2, by omega⟩ : Fin 1024) + 1, by simp only []; omega⟩ := Fin.ext (by simp only []; omega)
    refine (congrArg (fun z => View.canon _ (ix2 z j)) er).trans ?_
    refine (canon_odd _ _ _ j).trans ((rot1_at _ _ j).trans ((kz_at m c t _ _ _ hs _).trans ?_))
    refine ((Cert.Reference2Ideal.Inproj.rv50_1 _ _ _ _ _ ⟨t.val / 8, by omega⟩ ⟨t.val % 8 * 1024 + r.val / 2, by omega⟩ j).symm).trans
      (congrArg (fun z => G11 m c (ix2 z j)) (Fin.ext ?_))
    simp only []; omega

theorem final11 (c : Dev nD) : (dats m 0 c).arrAt 11 cfg0.N = G11 m c := by
  refine (dats m 0 c).arrAt_eq_of_covers 11 _ (by decide +kernel) fun t _ y => ?_
  blk_simp
  idx_vars y
  have hG : G11 m c (((View.whole main_v3_6).slice (win0_11.rect t)).emb (ix2 y0 y1))
      = G11 m c (ix2 ⟨t.val * 2048 + y0, by have := t.isLt; have : cfg0.grid.N = 16 := rfl; omega⟩ y1) := by
    blk_ext [(idxB t).2.2.2.1]
  rw [hG]
  exact after11_at m c t y0 y1

/-- The reference's result 7 at the launched arguments. -/
abbrev G12 (c : Dev nD) : FVec Ideal S32768x128 .f32 := Cert.Reference2Ideal.Inproj.rv57 (m ((c : Thread nD τ).loc main_arg0)) (m ((c : Thread nD τ).loc main_arg1)) (m ((c : Thread nD τ).loc main_arg2)) (m ((c : Thread nD τ).loc main_arg3)) (m ((c : Thread nD τ).loc main_arg4))

theorem after12_at (c : Dev nD) (t : Fin cfg0.N) (r : Fin 2048) (j : Fin 128) :
    (dats m 0 c).after 12 t (ix2 r j) = G12 m c (ix2 ⟨t.val * 2048 + r, by have := t.isLt; have : cfg0.N = 16 := rfl; omega⟩ j) := by
  have hN : cfg0.N = 16 := rfl
  have ht := t.isLt
  have hr := r.isLt
  have hs : t.val * 1024 + (⟨r.val / 2, by omega⟩ : Fin 1024) = (⟨t.val / 8, by omega⟩ : Fin 2) * 8192 + (⟨t.val % 8 * 1024 + r.val / 2, by omega⟩ : Fin 8192) := by simp only []; omega
  rw [after0_12]; unfold out0_12
  unfold k0_pay12
  by_cases h : r.val % 2 = 0
  · have er : r = ⟨2 * (⟨r.val / 2, by omega⟩ : Fin 1024), by simp only []; omega⟩ := Fin.ext (by simp only []; omega)
    refine (congrArg (fun z => View.canon _ (ix2 z j)) er).trans ?_
    refine (canon_even _ _ _ j).trans ((vz_at m c t _ _ _ hs j).trans ?_)
    refine ((Cert.Reference2Ideal.Inproj.rv57_0 _ _ _ _ _ ⟨t.val / 8, by omega⟩ ⟨t.val % 8 * 1024 + r.val / 2, by omega⟩ j).symm).trans
      (congrArg (fun z => G12 m c (ix2 z j)) (Fin.ext ?_))
    simp only []; omega
  · have er : r = ⟨2 * (⟨r.val / 2, by omega⟩ : Fin 1024) + 1, by simp only []; omega⟩ := Fin.ext (by simp only []; omega)
    refine (congrArg (fun z => View.canon _ (ix2 z j)) er).trans ?_
    refine (canon_odd _ _ _ j).trans ((rot2_at _ _ j).trans ((vz_at m c t _ _ _ hs _).trans ?_))
    refine ((Cert.Reference2Ideal.Inproj.rv57_1 _ _ _ _ _ ⟨t.val / 8, by omega⟩ ⟨t.val % 8 * 1024 + r.val / 2, by omega⟩ j).symm).trans
      (congrArg (fun z => G12 m c (ix2 z j)) (Fin.ext ?_))
    simp only []; omega

theorem final12 (c : Dev nD) : (dats m 0 c).arrAt 12 cfg0.N = G12 m c := by
  refine (dats m 0 c).arrAt_eq_of_covers 12 _ (by decide +kernel) fun t _ y => ?_
  blk_simp
  idx_vars y
  have hG : G12 m c (((View.whole main_v3_7).slice (win0_12.rect t)).emb (ix2 y0 y1))
      = G12 m c (ix2 ⟨t.val * 2048 + y0, by have := t.isLt; have : cfg0.grid.N = 16 := rfl; omega⟩ y1) := by
    blk_ext [(idxB t).2.2.2.2]
  rw [hG]
  exact after12_at m c t y0 y1

end Cert.Kernel2Ideal.Inproj
end
-- ==== Proof.ChainBlk.lean ====
module

public import proofs.«01_k».proof.Proof.Gen.Kernel3Ideal.Skeleton
public import proofs.«01_k».proof.Proof.Rms

@[expose] public section

set_option maxRecDepth 16384

noncomputable section

namespace Cert.Kernel3Ideal.Chain

open Idealize.ShloMosaic Idealize.ShloMosaic.TcCoe Idealize.SL.Sem
open Cert.Kernel3Ideal Cert.Kernel3Ideal.Gen Cert.Proj

/-- One entry of the residual rows the call stores. -/
theorem x1_at (v0 v1 : Vec Ideal S512x1024 .bf16) (v6 : Vec Ideal S1024x1024 .bf16) (v9 : Vec Ideal S512x1024 .bf16) (v10 : Vec Ideal S1024x1024 .bf16)
    (v14 : Vec Ideal S512x1024 .f32) (v16 : Vec Ideal S1x1x1024 .f32) (r : Fin 512) (j : Fin 1024) :
    k0_pay1 (F := Ideal) v0 v1 v6 v9 v10 v14 v16 (ix2 r j)
    = chainX (fun k => v0 (ix2 r k)) (fun k => v1 (ix2 r k)) (fun k => v9 (ix2 r k)) (fun j => v14 (ix2 r j)) (fun j => v16 (ix3 0 0 j))
      (fun k j => v6 (ix2 k j)) (fun k j => v10 (ix2 k j)) j := by
  pointwise [k0_pay1, chainX, resRow]

/-- The row scaled by its root mean square. -/
theorem x1n_at (v0 v1 : Vec Ideal S512x1024 .bf16) (v6 : Vec Ideal S1024x1024 .bf16) (v9 : Vec Ideal S512x1024 .bf16) (v10 : Vec Ideal S1024x1024 .bf16)
    (v14 : Vec Ideal S512x1024 .f32) (v16 : Vec Ideal S1x1x1024 .f32) (r : Fin 512) (j : Fin 1024) :
    k0_pay2 (F := Ideal) v0 v1 v6 v9 v10 v14 v16 (ix2 r j)
    = (fun X => X j * rms X) (chainX (fun k => v0 (ix2 r k)) (fun k => v1 (ix2 r k)) (fun k => v9 (ix2 r k)) (fun j => v14 (ix2 r j)) (fun j => v16 (ix3 0 0 j))
      (fun k j => v6 (ix2 k j)) (fun k j => v10 (ix2 k j))) := by
  have e : ∀ j, k0_pay1 (F := Ideal) v0 v1 v6 v9 v10 v14 v16 (ix2 r j) = _ := x1_at v0 v1 v6 v9 v10 v14 v16 r
  pointwise [k0_pay2, rms]
  simp only [e]

/-- One entry of the normed and modulated rows, from the scaled row. -/
theorem h_at (v31 : FVec Ideal S512x1024 .f32) (v32 : Vec Ideal S1x1024 .f32) (v36 v42 : Vec Ideal S1x1x1024 .f32) (X : Fin 1024 → EReal) (r : Fin 512)
    (hX : ∀ j, v31 (ix2 r j) = X j * rms X) (k : Fin 1024) :
    k0_pay4 (F := Ideal) v31 (k0_pay3 v32) v36 v42 (ix2 r k) = modRow X (fun j => v32 (ix2 0 j)) (fun j => v36 (ix3 0 0 j)) (fun j => v42 (ix3 0 0 j)) k := by
  pointwise [k0_pay4, k0_pay3, modRow]
  simp only [hX]

theorem q_at (v31 : FVec Ideal S512x1024 .f32) (v32 : Vec Ideal S1x1024 .f32) (v36 v42 : Vec Ideal S1x1x1024 .f32) (w : Vec Ideal S1024x1024 .bf16) (X : Fin 1024 → EReal) (r : Fin 512)
    (hX : ∀ j, v31 (ix2 r j) = X j * rms X) (j : Fin 1024) :
    k0_pay5 (F := Ideal) v31 (k0_pay3 v32) v36 v42 w (ix2 r j) = proj X (fun j => v32 (ix2 0 j)) (fun j => v36 (ix3 0 0 j)) (fun j => v42 (ix3 0 0 j)) (fun k => w (ix2 k j)) := by
  have e : ∀ k, k0_pay4 (F := Ideal) v31 (k0_pay3 v32) v36 v42 (ix2 r k) = _ := h_at v31 v32 v36 v42 X r hX
  pointwise [k0_pay5, proj]
  simp only [e]

theorem k_at (v31 : FVec Ideal S512x1024 .f32) (v32 : Vec Ideal S1x1024 .f32) (v36 v42 : Vec Ideal S1x1x1024 .f32) (w : Vec Ideal S1024x128 .bf16) (X : Fin 1024 → EReal) (r : Fin 512)
    (hX : ∀ j, v31 (ix2 r j) = X j * rms X) (j : Fin 128) :
    k0_pay6 (F := Ideal) v31 (k0_pay3 v32) v36 v42 w (ix2 r j) = proj X (fun j => v32 (ix2 0 j)) (fun j => v36 (ix3 0 0 j)) (fun j => v42 (ix3 0 0 j)) (fun k => w (ix2 k j)) := by
  have e : ∀ k, k0_pay4 (F := Ideal) v31 (k0_pay3 v32) v36 v42 (ix2 r k) = _ := h_at v31 v32 v36 v42 X r hX
  pointwise [k0_pay6, proj]
  simp only [e]

theorem v_at (v31 : FVec Ideal S512x1024 .f32) (v32 : Vec Ideal S1x1024 .f32) (v36 v42 : Vec Ideal S1x1x1024 .f32) (w : Vec Ideal S1024x128 .bf16) (X : Fin 1024 → EReal) (r : Fin 512)
    (hX : ∀ j, v31 (ix2 r j) = X j * rms X) (j : Fin 128) :
    k0_pay7 (F := Ideal) v31 (k0_pay3 v32) v36 v42 w (ix2 r j) = proj X (fun j => v32 (ix2 0 j)) (fun j => v36 (ix3 0 0 j)) (fun j => v42 (ix3 0 0 j)) (fun k => w (ix2 k j)) := by
  have e : ∀ k, k0_pay4 (F := Ideal) v31 (k0_pay3 v32) v36 v42 (ix2 r k) = _ := h_at v31 v32 v36 v42 X r hX
  pointwise [k0_pay7, proj]
  simp only [e]

theorem sz_at (v31 : FVec Ideal S512x1024 .f32) (v32 : Vec Ideal S1x1024 .f32) (v36 v42 : Vec Ideal S1x1x1024 .f32) (w : Vec Ideal S1024x1024 .bf16) (X : Fin 1024 → EReal) (r : Fin 512)
    (hX : ∀ j, v31 (ix2 r j) = X j * rms X) (j : Fin 1024) :
    k0_pay8 (F := Ideal) v31 (k0_pay3 v32) v36 v42 w (ix2 r j) = silu (proj X (fun j => v32 (ix2 0 j)) (fun j => v36 (ix3 0 0 j)) (fun j => v42 (ix3 0 0 j)) (fun k => w (ix2 k j))) := by
  have e : ∀ k, k0_pay4 (F := Ideal) v31 (k0_pay3 v32) v36 v42 (ix2 r k) = _ := h_at v31 v32 v36 v42 X r hX
  pointwise [k0_pay8, proj, silu]
  simp only [e]

end Cert.Kernel3Ideal.Chain
end
-- ==== Proof.ChainRef.lean ====
module

public import proofs.«01_k».proof.Proof.Gen.Reference3Ideal.Run
public import proofs.«01_k».proof.Proof.Rms

@[expose] public section

set_option maxRecDepth 16384

noncomputable section

namespace Cert.Reference3Ideal.Chain

open Idealize.ShloMosaic Idealize.ShloMosaic.TcCoe Idealize.SL.Sem
open Cert.Reference3Ideal Cert.Reference3Ideal.Gen Cert.Reference3Ideal.Value Cert.Proj

/-- Two arrays of rows joined along the row. -/
def cat (a b : FVec Ideal S2x8192x1024 .f32) : FVec Ideal S2x8192x2048 .f32 :=
  concatenate S2x8192x2048 2 [⟨S2x8192x1024, a⟩, ⟨S2x8192x1024, b⟩] concatenates_S2x8192x1024_S2x8192x1024_S2x8192x2048_d2

/-- The first half's projection. -/
def dotA (f : FVec Ideal S2x8192x2048 .f32) (w : FVec Ideal S2048x1024 .f32) : FVec Ideal S2x8192x1024 .f32 :=
  Host.dotGeneral dot_S2x8192x2048_S2048x1024_S2x8192x1024_2_0_01_1_n_n none f w

/-- The array `main_v11` of the printed program. -/
def rv11 (arg0 : FVec Ideal S16384x1024 .bf16) (arg1 : FVec Ideal S16384x1024 .bf16) (arg2 : FVec Ideal S16384x1024 .bf16) (arg3 : FVec Ideal S2x8192x1024 .f32) (arg4 : FVec Ideal S2x1x1024 .f32) (arg8 : FVec Ideal S2048x1024 .f32) : FVec Ideal S2x8192x1024 .f32 :=
  (addf arg3 (mulf (broadcastInDim S2x8192x1024 ![0, 1, 2] bcast_S2x1x1024_S2x8192x1024_0_1_2 arg4) (dotA (cat (mulf (shapeCast S2x8192x1024 (extf .f32 arg0 bitsLt_bf16_f32) shapeCasts_S16384x1024_S2x8192x1024) (shapeCast S2x8192x1024 (extf .f32 arg1 bitsLt_bf16_f32) shapeCasts_S16384x1024_S2x8192x1024)) (shapeCast S2x8192x1024 (extf .f32 arg2 bitsLt_bf16_f32) shapeCasts_S16384x1024_S2x8192x1024)) arg8)))

/-- The array `main_v30` of the printed program. -/
def rv30 (arg0 : FVec Ideal S16384x1024 .bf16) (arg1 : FVec Ideal S16384x1024 .bf16) (arg2 : FVec Ideal S16384x1024 .bf16) (arg3 : FVec Ideal S2x8192x1024 .f32) (arg4 : FVec Ideal S2x1x1024 .f32) (arg5 : FVec Ideal S2x1x1024 .f32) (arg6 : FVec Ideal S2x1x1024 .f32) (arg7 : FVec Ideal S1024 .f32) (arg8 : FVec Ideal S2048x1024 .f32) : FVec Ideal S2x8192x1024 .f32 :=
  (addf (mulf (mulf (mulf (rv11 arg0 arg1 arg2 arg3 arg4 arg8) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (rv11 arg0 arg1 arg2 arg3 arg4 arg8) (rv11 arg0 arg1 arg2 arg3 arg4 arg8)) (constant (F := Ideal) S_ .f32 0x00000000#32) reducesTo_S2x8192x1024_S2x8192_d2 h_S_)) (broadcastInDim S2x8192x1 ![] bcast_S_S2x8192x1 (constant (F := Ideal) S_ .f32 0x44800000#32))) (broadcastInDim S2x8192x1 ![] bcast_S_S2x8192x1 (constant (F := Ideal) S_ .f32 0x358637BD#32)))))) (broadcastInDim S2x8192x1024 ![0, 1, 2] bcast_S1x1x1024_S2x8192x1024_0_1_2 (broadcastInDim S1x1x1024 ![2] bcast_S1024_S1x1x1024_2 arg7))) (broadcastInDim S2x8192x1024 ![0, 1, 2] bcast_S2x1x1024_S2x8192x1024_0_1_2 (addf (broadcastInDim S2x1x1024 ![] bcast_S_S2x1x1024 (constant (F := Ideal) S_ .f32 0x3F800000#32)) arg6))) (broadcastInDim S2x8192x1024 ![0, 1, 2] bcast_S2x1x1024_S2x8192x1024_0_1_2 arg5))

/-- The array `main_v31` of the printed program. -/
def rv31 (arg0 : FVec Ideal S16384x1024 .bf16) (arg1 : FVec Ideal S16384x1024 .bf16) (arg2 : FVec Ideal S16384x1024 .bf16) (arg3 : FVec Ideal S2x8192x1024 .f32) (arg4 : FVec Ideal S2x1x1024 .f32) (arg5 : FVec Ideal S2x1x1024 .f32) (arg6 : FVec Ideal S2x1x1024 .f32) (arg7 : FVec Ideal S1024 .f32) (arg8 : FVec Ideal S2048x1024 .f32) (arg9 : FVec Ideal S1024x2304 .f32) : FVec Ideal S2x8192x2304 .f32 :=
  (Host.dotGeneral dot_S2x8192x1024_S1024x2304_S2x8192x2304_2_0_01_1_n_n none (rv30 arg0 arg1 arg2 arg3 arg4 arg5 arg6 arg7 arg8) arg9)

/-- The array `main_v36` of the printed program. -/
def rv36 (arg0 : FVec Ideal S16384x1024 .bf16) (arg1 : FVec Ideal S16384x1024 .bf16) (arg2 : FVec Ideal S16384x1024 .bf16) (arg3 : FVec Ideal S2x8192x1024 .f32) (arg4 : FVec Ideal S2x1x1024 .f32) (arg8 : FVec Ideal S2048x1024 .f32) : FVec Ideal S16384x1024 .f32 :=
  (shapeCast S16384x1024 (rv11 arg0 arg1 arg2 arg3 arg4 arg8) shapeCasts_S2x8192x1024_S16384x1024)

/-- The array `main_v37` of the printed program. -/
def rv37 (arg0 : FVec Ideal S16384x1024 .bf16) (arg1 : FVec Ideal S16384x1024 .bf16) (arg2 : FVec Ideal S16384x1024 .bf16) (arg3 : FVec Ideal S2x8192x1024 .f32) (arg4 : FVec Ideal S2x1x1024 .f32) (arg5 : FVec Ideal S2x1x1024 .f32) (arg6 : FVec Ideal S2x1x1024 .f32) (arg7 : FVec Ideal S1024 .f32) (arg8 : FVec Ideal S2048x1024 .f32) (arg9 : FVec Ideal S1024x2304 .f32) : FVec Ideal S16384x1024 .f32 :=
  (shapeCast S16384x1024 (extractStridedSlice S2x8192x1024 ![0, 0, 0] (rv31 arg0 arg1 arg2 arg3 arg4 arg5 arg6 arg7 arg8 arg9) slices_S2x8192x2304_S2x8192x1024_0_0_0) shapeCasts_S2x8192x1024_S16384x1024)

/-- The array `main_v38` of the printed program. -/
def rv38 (arg0 : FVec Ideal S16384x1024 .bf16) (arg1 : FVec Ideal S16384x1024 .bf16) (arg2 : FVec Ideal S16384x1024 .bf16) (arg3 : FVec Ideal S2x8192x1024 .f32) (arg4 : FVec Ideal S2x1x1024 .f32) (arg5 : FVec Ideal S2x1x1024 .f32) (arg6 : FVec Ideal S2x1x1024 .f32) (arg7 : FVec Ideal S1024 .f32) (arg8 : FVec Ideal S2048x1024 .f32) (arg9 : FVec Ideal S1024x2304 .f32) : FVec Ideal S16384x128 .f32 :=
  (shapeCast S16384x128 (extractStridedSlice S2x8192x128 ![0, 0, 1024] (rv31 arg0 arg1 arg2 arg3 arg4 arg5 arg6 arg7 arg8 arg9) slices_S2x8192x2304_S2x8192x128_0_0_1024) shapeCasts_S2x8192x128_S16384x128)

/-- The array `main_v39` of the printed program. -/
def rv39 (arg0 : FVec Ideal S16384x1024 .bf16) (arg1 : FVec Ideal S16384x1024 .bf16) (arg2 : FVec Ideal S16384x1024 .bf16) (arg3 : FVec Ideal S2x8192x1024 .f32) (arg4 : FVec Ideal S2x1x1024 .f32) (arg5 : FVec Ideal S2x1x1024 .f32) (arg6 : FVec Ideal S2x1x1024 .f32) (arg7 : FVec Ideal S1024 .f32) (arg8 : FVec Ideal S2048x1024 .f32) (arg9 : FVec Ideal S1024x2304 .f32) : FVec Ideal S16384x128 .f32 :=
  (shapeCast S16384x128 (extractStridedSlice S2x8192x128 ![0, 0, 1152] (rv31 arg0 arg1 arg2 arg3 arg4 arg5 arg6 arg7 arg8 arg9) slices_S2x8192x2304_S2x8192x128_0_0_1152) shapeCasts_S2x8192x128_S16384x128)

/-- The array `main_v42` of the printed program. -/
def rv42 (arg0 : FVec Ideal S16384x1024 .bf16) (arg1 : FVec Ideal S16384x1024 .bf16) (arg2 : FVec Ideal S16384x1024 .bf16) (arg3 : FVec Ideal S2x8192x1024 .f32) (arg4 : FVec Ideal S2x1x1024 .f32) (arg5 : FVec Ideal S2x1x1024 .f32) (arg6 : FVec Ideal S2x1x1024 .f32) (arg7 : FVec Ideal S1024 .f32) (arg8 : FVec Ideal S2048x1024 .f32) (arg9 : FVec Ideal S1024x2304 .f32) : FVec Ideal S16384x1024 .bf16 :=
  (truncf .bf16 (shapeCast S16384x1024 (mulf (extractStridedSlice S2x8192x1024 ![0, 0, 1280] (rv31 arg0 arg1 arg2 arg3 arg4 arg5 arg6 arg7 arg8 arg9) slices_S2x8192x2304_S2x8192x1024_0_0_1280) (Host.divf (broadcastInDim S2x8192x1024 ![] bcast_S_S2x8192x1024 (constant (F := Ideal) S_ .f32 0x3F800000#32)) (addf (broadcastInDim S2x8192x1024 ![] bcast_S_S2x8192x1024 (constant (F := Ideal) S_ .f32 0x3F800000#32)) (Host.exp (Host.negf (extractStridedSlice S2x8192x1024 ![0, 0, 1280] (rv31 arg0 arg1 arg2 arg3 arg4 arg5 arg6 arg7 arg8 arg9) slices_S2x8192x2304_S2x8192x1024_0_0_1280)))))) shapeCasts_S2x8192x1024_S16384x1024) bitsLt_bf16_f32)

/-- The row of the residual stream after the layer's first half. -/
abbrev X1 (arg0 arg1 arg2 : FVec Ideal S16384x1024 .bf16) (arg3 : FVec Ideal S2x8192x1024 .f32) (arg4 : FVec Ideal S2x1x1024 .f32) (arg8 : FVec Ideal S2048x1024 .f32) (b : Fin 2) (s : Fin 8192) : Fin 1024 → EReal :=
  chainX (fun k => arg0 (ix2 ⟨b * 8192 + s, by omega⟩ k)) (fun k => arg1 (ix2 ⟨b * 8192 + s, by omega⟩ k)) (fun k => arg2 (ix2 ⟨b * 8192 + s, by omega⟩ k))
    (fun j => arg3 (ix3 b s j)) (fun j => arg4 (ix3 b 0 j)) (fun k j => arg8 (ix2 ⟨k, by omega⟩ j)) (fun k j => arg8 (ix2 ⟨1024 + k, by omega⟩ j))

/-- An entry of the row times the second in-projection's weight. -/
abbrev Z (arg0 arg1 arg2 : FVec Ideal S16384x1024 .bf16) (arg3 : FVec Ideal S2x8192x1024 .f32) (arg4 arg5 arg6 : FVec Ideal S2x1x1024 .f32) (arg7 : FVec Ideal S1024 .f32) (arg8 : FVec Ideal S2048x1024 .f32) (arg9 : FVec Ideal S1024x2304 .f32) (b : Fin 2) (s : Fin 8192) (j : Fin 2304) : EReal :=
  proj (X1 arg0 arg1 arg2 arg3 arg4 arg8 b s) (fun k => arg7 (ix1 k)) (fun k => arg6 (ix3 b 0 k)) (fun k => arg5 (ix3 b 0 k)) (fun k => arg9 (ix2 k j))

theorem cat_lo (a b : FVec Ideal S2x8192x1024 .f32) (i : Fin 2) (s : Fin 8192) (k : Fin 1024) :
    cat a b (ix3 i s ⟨k, by omega⟩) = a (ix3 i s k) := by
  pointwise [cat]

theorem cat_hi (a b : FVec Ideal S2x8192x1024 .f32) (i : Fin 2) (s : Fin 8192) (k : Fin 1024) :
    cat a b (ix3 i s ⟨1024 + k, by omega⟩) = b (ix3 i s k) := by
  pointwise [cat]

/-- A product with the joined rows is the sum of the halves' products. -/
theorem dot_cat (a b : FVec Ideal S2x8192x1024 .f32) (w : FVec Ideal S2048x1024 .f32) (i : Fin 2) (s : Fin 8192) (j : Fin 1024) :
    dotA (cat a b) w (ix3 i s j)
    = (∑ k : Fin 1024, a (ix3 i s k) * w (ix2 ⟨k, by omega⟩ j)) + ∑ k : Fin 1024, b (ix3 i s k) * w (ix2 ⟨1024 + k, by omega⟩ j) := by
  have e : dotA (cat a b) w (ix3 i s j)
      = ∑ k : Fin 2048, (cat a b) (ix3 i s k) * w (ix2 k j) := by
    generalize (cat a b) = f
    pointwise [dotA]
  rw [e]
  refine (Fin.sum_univ_add (a := 1024) (b := 1024) (fun k : Fin 2048 => (cat a b) (ix3 i s k) * w (ix2 k j))).trans ?_
  refine congrArg₂ (· + ·) (Finset.sum_congr rfl fun k _ => ?_) (Finset.sum_congr rfl fun k _ => ?_)
  · exact congrArg (· * w (ix2 ⟨k, by omega⟩ j)) (cat_lo a b i s k)
  · exact congrArg (· * w (ix2 ⟨1024 + k, by omega⟩ j)) (cat_hi a b i s k)

theorem rv11_at (arg0 arg1 arg2 : FVec Ideal S16384x1024 .bf16) (arg3 : FVec Ideal S2x8192x1024 .f32) (arg4 : FVec Ideal S2x1x1024 .f32) (arg8 : FVec Ideal S2048x1024 .f32) (b : Fin 2) (s : Fin 8192) (j : Fin 1024) :
    rv11 arg0 arg1 arg2 arg3 arg4 arg8 (ix3 b s j) = X1 arg0 arg1 arg2 arg3 arg4 arg8 b s j := by
  have e : ∀ (f g : FVec Ideal S2x8192x1024 .f32), (addf arg3 (mulf (broadcastInDim S2x8192x1024 ![0, 1, 2] bcast_S2x1x1024_S2x8192x1024_0_1_2 arg4)
      (dotA (cat f g) arg8)) : FVec Ideal S2x8192x1024 .f32) (ix3 b s j)
      = arg3 (ix3 b s j) + arg4 (ix3 b 0 j) * ((∑ k : Fin 1024, f (ix3 b s k) * arg8 (ix2 ⟨k, by omega⟩ j)) + ∑ k : Fin 1024, g (ix3 b s k) * arg8 (ix2 ⟨1024 + k, by omega⟩ j)) := by
    intro f g
    have h := dot_cat f g arg8 b s j
    rw [← h]
    generalize dotA (cat f g) arg8 = d
    pointwise
  unfold rv11
  rw [e]
  pointwise [chainX, resRow]

theorem rv30_at (arg0 arg1 arg2 : FVec Ideal S16384x1024 .bf16) (arg3 : FVec Ideal S2x8192x1024 .f32) (arg4 arg5 arg6 : FVec Ideal S2x1x1024 .f32) (arg7 : FVec Ideal S1024 .f32) (arg8 : FVec Ideal S2048x1024 .f32) (b : Fin 2) (s : Fin 8192) (j : Fin 1024) :
    rv30 arg0 arg1 arg2 arg3 arg4 arg5 arg6 arg7 arg8 (ix3 b s j)
    = modRow (X1 arg0 arg1 arg2 arg3 arg4 arg8 b s) (fun k => arg7 (ix1 k)) (fun k => arg6 (ix3 b 0 k)) (fun k => arg5 (ix3 b 0 k)) j := by
  have e : ∀ k, rv11 arg0 arg1 arg2 arg3 arg4 arg8 (ix3 b s k) = _ := rv11_at arg0 arg1 arg2 arg3 arg4 arg8 b s
  pointwise [rv30, rms, modRow]
  simp only [e]

theorem rv31_at (arg0 arg1 arg2 : FVec Ideal S16384x1024 .bf16) (arg3 : FVec Ideal S2x8192x1024 .f32) (arg4 arg5 arg6 : FVec Ideal S2x1x1024 .f32) (arg7 : FVec Ideal S1024 .f32) (arg8 : FVec Ideal S2048x1024 .f32) (arg9 : FVec Ideal S1024x2304 .f32) (b : Fin 2) (s : Fin 8192) (j : Fin 2304) :
    rv31 arg0 arg1 arg2 arg3 arg4 arg5 arg6 arg7 arg8 arg9 (ix3 b s j) = Z arg0 arg1 arg2 arg3 arg4 arg5 arg6 arg7 arg8 arg9 b s j := by
  have e : ∀ k, rv30 arg0 arg1 arg2 arg3 arg4 arg5 arg6 arg7 arg8 (ix3 b s k) = _ := rv30_at arg0 arg1 arg2 arg3 arg4 arg5 arg6 arg7 arg8 b s
  pointwise [rv31]
  simp only [e]
  rfl

/-- The reference's five results, an entry of each. -/
theorem rv36_at (arg0 arg1 arg2 : FVec Ideal S16384x1024 .bf16) (arg3 : FVec Ideal S2x8192x1024 .f32) (arg4 : FVec Ideal S2x1x1024 .f32) (arg8 : FVec Ideal S2048x1024 .f32) (b : Fin 2) (s : Fin 8192) (j : Fin 1024) :
    rv36 arg0 arg1 arg2 arg3 arg4 arg8 (ix2 ⟨b * 8192 + s, by omega⟩ j) = X1 arg0 arg1 arg2 arg3 arg4 arg8 b s j := by
  rw [← rv11_at]
  pointwise [rv36]

theorem rv37_at (arg0 arg1 arg2 : FVec Ideal S16384x1024 .bf16) (arg3 : FVec Ideal S2x8192x1024 .f32) (arg4 arg5 arg6 : FVec Ideal S2x1x1024 .f32) (arg7 : FVec Ideal S1024 .f32) (arg8 : FVec Ideal S2048x1024 .f32) (arg9 : FVec Ideal S1024x2304 .f32) (b : Fin 2) (s : Fin 8192) (j : Fin 1024) :
    rv37 arg0 arg1 arg2 arg3 arg4 arg5 arg6 arg7 arg8 arg9 (ix2 ⟨b * 8192 + s, by omega⟩ j) = Z arg0 arg1 arg2 arg3 arg4 arg5 arg6 arg7 arg8 arg9 b s ⟨j, by omega⟩ := by
  rw [← rv31_at]
  pointwise [rv37]

theorem rv38_at (arg0 arg1 arg2 : FVec Ideal S16384x1024 .bf16) (arg3 : FVec Ideal S2x8192x1024 .f32) (arg4 arg5 arg6 : FVec Ideal S2x1x1024 .f32) (arg7 : FVec Ideal S1024 .f32) (arg8 : FVec Ideal S2048x1024 .f32) (arg9 : FVec Ideal S1024x2304 .f32) (b : Fin 2) (s : Fin 8192) (j : Fin 128) :
    rv38 arg0 arg1 arg2 arg3 arg4 arg5 arg6 arg7 arg8 arg9 (ix2 ⟨b * 8192 + s, by omega⟩ j) = Z arg0 arg1 arg2 arg3 arg4 arg5 arg6 arg7 arg8 arg9 b s ⟨1024 + j, by omega⟩ := by
  rw [← rv31_at]
  pointwise [rv38]

theorem rv39_at (arg0 arg1 arg2 : FVec Ideal S16384x1024 .bf16) (arg3 : FVec Ideal S2x8192x1024 .f32) (arg4 arg5 arg6 : FVec Ideal S2x1x1024 .f32) (arg7 : FVec Ideal S1024 .f32) (arg8 : FVec Ideal S2048x1024 .f32) (arg9 : FVec Ideal S1024x2304 .f32) (b : Fin 2) (s : Fin 8192) (j : Fin 128) :
    rv39 arg0 arg1 arg2 arg3 arg4 arg5 arg6 arg7 arg8 arg9 (ix2 ⟨b * 8192 + s, by omega⟩ j) = Z arg0 arg1 arg2 arg3 arg4 arg5 arg6 arg7 arg8 arg9 b s ⟨1152 + j, by omega⟩ := by
  rw [← rv31_at]
  pointwise [rv39]

theorem rv42_at (arg0 arg1 arg2 : FVec Ideal S16384x1024 .bf16) (arg3 : FVec Ideal S2x8192x1024 .f32) (arg4 arg5 arg6 : FVec Ideal S2x1x1024 .f32) (arg7 : FVec Ideal S1024 .f32) (arg8 : FVec Ideal S2048x1024 .f32) (arg9 : FVec Ideal S1024x2304 .f32) (b : Fin 2) (s : Fin 8192) (j : Fin 1024) :
    rv42 arg0 arg1 arg2 arg3 arg4 arg5 arg6 arg7 arg8 arg9 (ix2 ⟨b * 8192 + s, by omega⟩ j) = silu (Z arg0 arg1 arg2 arg3 arg4 arg5 arg6 arg7 arg8 arg9 b s ⟨1280 + j, by omega⟩) := by
  rw [← rv31_at]
  pointwise [rv42, silu]
  rfl

set_option maxHeartbeats 2000000 in
/-- The run of the reference, its results as the arrays above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = rv36 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8))
      ∧ r.2.mem ((c.tc : Thread nD τ).loc main_v37) = rv37 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v38) = rv38 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v39) = rv39 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v42) = rv42 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (by simp only [rv42, rv39, rv38, rv37, rv36, rv31, rv30, rv11, cat, dotA, fn_main_v7]),
    (h c).2.1.trans (by simp only [rv42, rv39, rv38, rv37, rv36, rv31, rv30, rv11, cat, dotA, fn_main_v7]),
    (h c).2.2.1.trans (by simp only [rv42, rv39, rv38, rv37, rv36, rv31, rv30, rv11, cat, dotA, fn_main_v7]),
    (h c).2.2.2.1.trans (by simp only [rv42, rv39, rv38, rv37, rv36, rv31, rv30, rv11, cat, dotA, fn_main_v7]),
    (h c).2.2.2.2.1.trans (by unfold res_main_v42; simp only [rv42, rv39, rv38, rv37, rv36, rv31, rv30, rv11, cat, dotA, fn_main_v7]; rfl),
    (h c).2.2.2.2.2⟩) (Cert.Reference3Ideal.Value.run m ρ)

end Cert.Reference3Ideal.Chain
end
-- ==== Proof.ChainArr.lean ====
module

public import proofs.«01_k».proof.Proof.Gen.Kernel3Ideal.Value
public import Idealize.ShloMosaic.Lib.Pipeline.ValueKit
public import Idealize.ShloMosaic.Lib.Pipeline.ReadBack
public import proofs.«01_k».proof.Proof.ChainBlk
public import proofs.«01_k».proof.Proof.ChainRef
public import Idealize.ShloMosaic.Lib.Pipeline.Covers
public import Idealize.ShloMosaic.Lib.WholeRead

@[expose] public section

set_option maxRecDepth 16384

noncomputable section

namespace Cert.Kernel3Ideal.Chain

open Idealize.ShloMosaic Idealize.ShloMosaic.TcCoe Idealize.SL.Sem
open Cert.Kernel3Ideal Cert.Kernel3Ideal.Gen Cert.Proj

open Idealize.ShloMosaic.Pipeline (Dat)

theorem idxA : ∀ t : Fin cfg0.N, (win0_0.index t = ![t.val, 0] ∧ win0_1.index t = ![t.val, 0] ∧ win0_2.index t = ![0, 0])
    ∧ (win0_3.index t = ![t.val, 0] ∧ win0_4.index t = ![0, 0] ∧ win0_5.index t = ![t.val, 0])
    ∧ (win0_6.index t = ![t.val / 16, 0, 0] ∧ win0_7.index t = ![t.val / 16, 0, 0] ∧ win0_8.index t = ![t.val / 16, 0, 0])
    ∧ (win0_9.index t = ![0, 0] ∧ win0_10.index t = ![0, 0]) :=
  (by decide +kernel : ∀ t : Fin grid0.N, _)

theorem idxB : ∀ t : Fin cfg0.N, (win0_11.index t = ![t.val, 0] ∧ win0_12.index t = ![t.val, 0] ∧ win0_13.index t = ![t.val, 0])
    ∧ (win0_14.index t = ![t.val, 0] ∧ win0_15.index t = ![t.val, 0]) :=
  (by decide +kernel : ∀ t : Fin grid0.N, _)

variable (m : (ℓ : Loc nD τ sig) → Buf (Elt Ideal) ℓ)

theorem v1_eq (c : Dev nD) : V m c main_v1 = (extractStridedSlice S1024x1024 ![0, 0] (truncf .bf16 (m ((c : Thread nD τ).loc main_arg8)) bitsLt_bf16_f32) slices_S2048x1024_S1024x1024_0_0 : FVec Ideal S1024x1024 .bf16) := by
  show StableHlo.after hostOps0 _ _ = _
  simp only [hostOps0, StableHlo.TRef.binary, StableHlo.TRef.unary, StableHlo.TRef.toBuf, StableHlo.TRef.ofBuf, cast_eq]
  after_results_simp <;> rfl

theorem v2_eq (c : Dev nD) : V m c main_v2 = (extractStridedSlice S1024x1024 ![1024, 0] (truncf .bf16 (m ((c : Thread nD τ).loc main_arg8)) bitsLt_bf16_f32) slices_S2048x1024_S1024x1024_1024_0 : FVec Ideal S1024x1024 .bf16) := by
  show StableHlo.after hostOps0 _ _ = _
  simp only [hostOps0, StableHlo.TRef.binary, StableHlo.TRef.unary, StableHlo.TRef.toBuf, StableHlo.TRef.ofBuf, cast_eq]
  after_results_simp <;> rfl

theorem v3_eq (c : Dev nD) : V m c main_v3 = (shapeCast S16384x1024 (m ((c : Thread nD τ).loc main_arg3)) shapeCasts_S2x8192x1024_S16384x1024 : FVec Ideal S16384x1024 .f32) := by
  show StableHlo.after hostOps0 _ _ = _
  simp only [hostOps0, StableHlo.TRef.binary, StableHlo.TRef.unary, StableHlo.TRef.toBuf, StableHlo.TRef.ofBuf, cast_eq]
  after_results_simp <;> rfl

theorem v4_eq (c : Dev nD) : V m c main_v4 = (truncf .bf16 (m ((c : Thread nD τ).loc main_arg9)) bitsLt_bf16_f32 : FVec Ideal S1024x2304 .bf16) := by
  show StableHlo.after hostOps0 _ _ = _
  simp only [hostOps0, StableHlo.TRef.binary, StableHlo.TRef.unary, StableHlo.TRef.toBuf, StableHlo.TRef.ofBuf, cast_eq]
  after_results_simp <;> rfl

theorem v5_eq (c : Dev nD) : V m c main_v5 = (shapeCast S1x1024 (m ((c : Thread nD τ).loc main_arg7)) shapeCasts_S1024_S1x1024 : FVec Ideal S1x1024 .f32) := by
  show StableHlo.after hostOps0 _ _ = _
  simp only [hostOps0, StableHlo.TRef.binary, StableHlo.TRef.unary, StableHlo.TRef.toBuf, StableHlo.TRef.ofBuf, cast_eq]
  after_results_simp <;> rfl

/-- The rows of the two batches, one after the other. -/
theorem flat_at (A : FVec Ideal S2x8192x1024 .f32) (b : Fin 2) (s : Fin 8192) (j : Fin 1024) :
    shapeCast S16384x1024 A shapeCasts_S2x8192x1024_S16384x1024 (ix2 ⟨b * 8192 + s, by omega⟩ j) = A (ix3 b s j) := by
  pointwise

theorem top_at (A : FVec Ideal S2048x1024 .f32) (k j : Fin 1024) :
    (extractStridedSlice S1024x1024 ![0, 0] (truncf .bf16 A bitsLt_bf16_f32) slices_S2048x1024_S1024x1024_0_0 : FVec Ideal S1024x1024 .bf16) (ix2 k j) = A (ix2 ⟨k, by omega⟩ j) := by
  pointwise

theorem low_at (A : FVec Ideal S2048x1024 .f32) (k j : Fin 1024) :
    (extractStridedSlice S1024x1024 ![1024, 0] (truncf .bf16 A bitsLt_bf16_f32) slices_S2048x1024_S1024x1024_1024_0 : FVec Ideal S1024x1024 .bf16) (ix2 k j) = A (ix2 ⟨1024 + k, by omega⟩ j) := by
  pointwise

theorem cast_at (A : FVec Ideal S1024x2304 .f32) (k : Fin 1024) (j : Fin 2304) :
    (truncf .bf16 A bitsLt_bf16_f32 : FVec Ideal S1024x2304 .bf16) (ix2 k j) = A (ix2 k j) := by
  pointwise

theorem lift_at (A : FVec Ideal S1024 .f32) (j : Fin 1024) :
    (shapeCast S1x1024 A shapeCasts_S1024_S1x1024 : FVec Ideal S1x1024 .f32) (ix2 0 j) = A (ix1 j) := by
  pointwise

/-! The staged blocks, an entry of each as the arguments'. -/

theorem b0_at (c : Dev nD) (t : Fin cfg0.N) (r : Fin 512) (j : Fin 1024) (b : Fin 2) (s : Fin 8192) (h : t.val * 512 + r = b * 8192 + s) :
    iblk m c 0 t (ix2 r j) = m ((c : Thread nD τ).loc main_arg0) (ix2 ⟨b * 8192 + s, by omega⟩ j) := by
  rw [← V_main_arg0 m c]
  refine Eq.trans (b := V m c main_arg0 (ix2 ⟨t.val * 512 + r, by omega⟩ j)) ?_ (congrArg (fun z => V m c main_arg0 (ix2 z j)) (Fin.ext h))
  blk_ext [iblk, (idxA t).1.1]

theorem b1_at (c : Dev nD) (t : Fin cfg0.N) (r : Fin 512) (j : Fin 1024) (b : Fin 2) (s : Fin 8192) (h : t.val * 512 + r = b * 8192 + s) :
    iblk m c 1 t (ix2 r j) = m ((c : Thread nD τ).loc main_arg1) (ix2 ⟨b * 8192 + s, by omega⟩ j) := by
  rw [← V_main_arg1 m c]
  refine Eq.trans (b := V m c main_arg1 (ix2 ⟨t.val * 512 + r, by omega⟩ j)) ?_ (congrArg (fun z => V m c main_arg1 (ix2 z j)) (Fin.ext h))
  blk_ext [iblk, (idxA t).1.2.1]

theorem b3_at (c : Dev nD) (t : Fin cfg0.N) (r : Fin 512) (j : Fin 1024) (b : Fin 2) (s : Fin 8192) (h : t.val * 512 + r = b * 8192 + s) :
    iblk m c 3 t (ix2 r j) = m ((c : Thread nD τ).loc main_arg2) (ix2 ⟨b * 8192 + s, by omega⟩ j) := by
  rw [← V_main_arg2 m c]
  refine Eq.trans (b := V m c main_arg2 (ix2 ⟨t.val * 512 + r, by omega⟩ j)) ?_ (congrArg (fun z => V m c main_arg2 (ix2 z j)) (Fin.ext h))
  blk_ext [iblk, (idxA t).2.1.1]

theorem b5_at (c : Dev nD) (t : Fin cfg0.N) (r : Fin 512) (j : Fin 1024) (b : Fin 2) (s : Fin 8192) (h : t.val * 512 + r = b * 8192 + s) :
    iblk m c 5 t (ix2 r j) = m ((c : Thread nD τ).loc main_arg3) (ix3 b s j) := by
  refine Eq.trans ?_ ((congrFun (v3_eq m c) _).trans (flat_at _ b s j))
  refine Eq.trans (b := V m c main_v3 (ix2 ⟨t.val * 512 + r, by omega⟩ j)) ?_ (congrArg (fun z => V m c main_v3 (ix2 z j)) (Fin.ext h))
  blk_ext [iblk, (idxA t).2.1.2.2]

theorem b6_at (c : Dev nD) (t : Fin cfg0.N) (j : Fin 1024) (b : Fin 2) (h : t.val / 16 = b) :
    iblk m c 6 t (ix3 0 0 j) = m ((c : Thread nD τ).loc main_arg4) (ix3 b 0 j) := by
  rw [← V_main_arg4 m c]
  refine Eq.trans (b := V m c main_arg4 (ix3 ⟨t.val / 16, by omega⟩ 0 j)) ?_ (congrArg (fun z => V m c main_arg4 (ix3 z 0 j)) (Fin.ext h))
  blk_ext [iblk, (idxA t).2.2.1.1]

theorem b7_at (c : Dev nD) (t : Fin cfg0.N) (j : Fin 1024) (b : Fin 2) (h : t.val / 16 = b) :
    iblk m c 7 t (ix3 0 0 j) = m ((c : Thread nD τ).loc main_arg5) (ix3 b 0 j) := by
  rw [← V_main_arg5 m c]
  refine Eq.trans (b := V m c main_arg5 (ix3 ⟨t.val / 16, by omega⟩ 0 j)) ?_ (congrArg (fun z => V m c main_arg5 (ix3 z 0 j)) (Fin.ext h))
  blk_ext [iblk, (idxA t).2.2.1.2.1]

theorem b8_at (c : Dev nD) (t : Fin cfg0.N) (j : Fin 1024) (b : Fin 2) (h : t.val / 16 = b) :
    iblk m c 8 t (ix3 0 0 j) = m ((c : Thread nD τ).loc main_arg6) (ix3 b 0 j) := by
  rw [← V_main_arg6 m c]
  refine Eq.trans (b := V m c main_arg6 (ix3 ⟨t.val / 16, by omega⟩ 0 j)) ?_ (congrArg (fun z => V m c main_arg6 (ix3 z 0 j)) (Fin.ext h))
  blk_ext [iblk, (idxA t).2.2.1.2.2]

theorem b2_at (c : Dev nD) (t : Fin cfg0.N) (k j : Fin 1024) :
    iblk m c 2 t (ix2 k j) = m ((c : Thread nD τ).loc main_arg8) (ix2 ⟨k, by omega⟩ j) := by
  refine Eq.trans (b := V m c main_v1 (ix2 k j)) ?_ ((congrFun (v1_eq m c) _).trans (top_at _ k j))
  blk_ext [iblk, (idxA t).1.2.2]

theorem b4_at (c : Dev nD) (t : Fin cfg0.N) (k j : Fin 1024) :
    iblk m c 4 t (ix2 k j) = m ((c : Thread nD τ).loc main_arg8) (ix2 ⟨1024 + k, by omega⟩ j) := by
  refine Eq.trans (b := V m c main_v2 (ix2 k j)) ?_ ((congrFun (v2_eq m c) _).trans (low_at _ k j))
  blk_ext [iblk, (idxA t).2.1.2.1]

theorem b9_at (c : Dev nD) (t : Fin cfg0.N) (j : Fin 1024) :
    iblk m c 9 t (ix2 0 j) = m ((c : Thread nD τ).loc main_arg7) (ix1 j) := by
  refine Eq.trans (b := V m c main_v5 (ix2 0 j)) ?_ ((congrFun (v5_eq m c) _).trans (lift_at _ j))
  blk_ext [iblk, (idxA t).2.2.2.1]

theorem b10_at (c : Dev nD) (t : Fin cfg0.N) (k : Fin 1024) (j : Fin 2304) :
    iblk m c 10 t (ix2 k j) = m ((c : Thread nD τ).loc main_arg9) (ix2 k j) := by
  refine Eq.trans (b := V m c main_v4 (ix2 k j)) ?_ ((congrFun (v4_eq m c) _).trans (cast_at _ k j))
  blk_ext [iblk, (idxA t).2.2.2.2]

/-! Loads of whole blocks, and of the weight's columns. -/

theorem ld0 {e : EltTy} (x : Vec Ideal S512x1024 e) : View.ld x r0_0 = x := View.ld_unit_zero (by funext a; fin_cases a <;> rfl) _ _
theorem ld1 {e : EltTy} (x : Vec Ideal S1024x1024 e) : View.ld x r0_1 = x := View.ld_unit_zero (by funext a; fin_cases a <;> rfl) _ _
theorem ld2 {e : EltTy} (x : Vec Ideal S1x1x1024 e) : View.ld x r0_2 = x := View.ld_unit_zero (by funext a; fin_cases a <;> rfl) _ _
theorem ld3 {e : EltTy} (x : Vec Ideal S1x1024 e) : View.ld x r0_3 = x := View.ld_unit_zero (by funext a; fin_cases a <;> rfl) _ _

theorem ld_q (x : Vec Ideal S1024x2304 .bf16) (k j : Fin 1024) : View.ld x r0_4 (ix2 k j) = x (ix2 k ⟨j, by omega⟩) := by
  refine (congrFun (View.ld_unit x _ _ _) _).trans ?_
  pointwise
theorem ld_k (x : Vec Ideal S1024x2304 .bf16) (k : Fin 1024) (j : Fin 128) : View.ld x r0_5 (ix2 k j) = x (ix2 k ⟨1024 + j, by omega⟩) := by
  refine (congrFun (View.ld_unit x _ _ _) _).trans ?_
  pointwise
theorem ld_v (x : Vec Ideal S1024x2304 .bf16) (k : Fin 1024) (j : Fin 128) : View.ld x r0_7 (ix2 k j) = x (ix2 k ⟨1152 + j, by omega⟩) := by
  refine (congrFun (View.ld_unit x _ _ _) _).trans ?_
  pointwise
theorem ld_z (x : Vec Ideal S1024x2304 .bf16) (k j : Fin 1024) : View.ld x r0_8 (ix2 k j) = x (ix2 k ⟨1280 + j, by omega⟩) := by
  refine (congrFun (View.ld_unit x _ _ _) _).trans ?_
  pointwise

/-- The row of the residual stream, at the launched arguments. -/
abbrev XR (c : Dev nD) (b : Fin 2) (s : Fin 8192) : Fin 1024 → EReal :=
  Cert.Reference3Ideal.Chain.X1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg8)) b s

/-- The second in-projection's entry, at the launched arguments. -/
abbrev ZR (c : Dev nD) (b : Fin 2) (s : Fin 8192) (j : Fin 2304) : EReal :=
  Cert.Reference3Ideal.Chain.Z (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) b s j

theorem X_eq (c : Dev nD) (t : Fin cfg0.N) (r : Fin 512) (b : Fin 2) (s : Fin 8192) (h : t.val * 512 + r = b * 8192 + s) :
    chainX (fun k => iblk m c 0 t (ix2 r k)) (fun k => iblk m c 1 t (ix2 r k)) (fun k => iblk m c 3 t (ix2 r k)) (fun j => iblk m c 5 t (ix2 r j))
      (fun j => iblk m c 6 t (ix3 0 0 j)) (fun k j => iblk m c 2 t (ix2 k j)) (fun k j => iblk m c 4 t (ix2 k j)) = XR m c b s := by
  have hb : t.val / 16 = b := by omega
  simp only [b0_at m c t r _ b s h, b1_at m c t r _ b s h, b3_at m c t r _ b s h, b5_at m c t r _ b s h, b6_at m c t _ b hb, b2_at, b4_at]

/-- The scaled rows the body carries from its first half to its second. -/
theorem scaled (c : Dev nD) (t : Fin cfg0.N) (r : Fin 512) (b : Fin 2) (s : Fin 8192) (h : t.val * 512 + r = b * 8192 + s) (j : Fin 1024) :
    k0_pay9 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = XR m c b s j * rms (XR m c b s) := by
  rw [← X_eq m c t r b s h]
  unfold k0_pay9
  rw [ld0, ld0, ld0, ld0, ld1, ld1, ld2]
  exact x1n_at ..

/-- The reference's result 0 at the launched arguments. -/
abbrev G11 (c : Dev nD) : FVec Ideal S16384x1024 .f32 := Cert.Reference3Ideal.Chain.rv36 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8))

theorem after11_at (c : Dev nD) (t : Fin cfg0.N) (r : Fin 512) (j : Fin 1024) :
    (dats m 0 c).after 11 t (ix2 r j) = G11 m c (ix2 ⟨t.val * 512 + r, by have := t.isLt; have : cfg0.N = 32 := rfl; omega⟩ j) := by
  have hN : cfg0.N = 32 := rfl
  have ht := t.isLt
  have hr := r.isLt
  have hs : t.val * 512 + r = (⟨t.val / 16, by omega⟩ : Fin 2) * 8192 + (⟨t.val % 16 * 512 + r, by omega⟩ : Fin 8192) := by simp only []; omega
  rw [after0_11]; unfold out0_11
  rw [View.canon_unit_zero (by funext a; fin_cases a <;> rfl)]
  refine Eq.trans ?_ (((Cert.Reference3Ideal.Chain.rv36_at _ _ _ _ _ _ ⟨t.val / 16, by omega⟩ ⟨t.val % 16 * 512 + r, by omega⟩ j).symm).trans
    (congrArg (fun z => G11 m c (ix2 z j)) (Fin.ext hs.symm)))
  rw [ld0, ld0, ld0, ld0, ld1, ld1, ld2]
  exact (x1_at ..).trans (congrFun (X_eq m c t r _ _ hs) j)

theorem final11 (c : Dev nD) : (dats m 0 c).arrAt 11 cfg0.N = G11 m c := by
  refine (dats m 0 c).arrAt_eq_of_covers 11 _ (by decide +kernel) fun t _ y => ?_
  blk_simp
  idx_vars y
  have hG : G11 m c (((View.whole main_v6_0).slice (win0_11.rect t)).emb (ix2 y0 y1))
      = G11 m c (ix2 ⟨t.val * 512 + y0, by have := t.isLt; have : cfg0.grid.N = 32 := rfl; omega⟩ y1) := by
    blk_ext [(idxB t).1.1]
  rw [hG]
  exact after11_at m c t y0 y1

/-- The reference's result 1 at the launched arguments. -/
abbrev G12 (c : Dev nD) : FVec Ideal S16384x1024 .f32 := Cert.Reference3Ideal.Chain.rv37 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem after12_at (c : Dev nD) (t : Fin cfg0.N) (r : Fin 512) (j : Fin 1024) :
    (dats m 0 c).after 12 t (ix2 r j) = G12 m c (ix2 ⟨t.val * 512 + r, by have := t.isLt; have : cfg0.N = 32 := rfl; omega⟩ j) := by
  have hN : cfg0.N = 32 := rfl
  have ht := t.isLt
  have hr := r.isLt
  have hs : t.val * 512 + r = (⟨t.val / 16, by omega⟩ : Fin 2) * 8192 + (⟨t.val % 16 * 512 + r, by omega⟩ : Fin 8192) := by simp only []; omega
  rw [after0_12]; unfold out0_12
  rw [View.canon_unit_zero (by funext a; fin_cases a <;> rfl)]
  refine Eq.trans ?_ (((Cert.Reference3Ideal.Chain.rv37_at _ _ _ _ _ _ _ _ _ _ ⟨t.val / 16, by omega⟩ ⟨t.val % 16 * 512 + r, by omega⟩ j).symm).trans
    (congrArg (fun z => G12 m c (ix2 z j)) (Fin.ext hs.symm)))
  unfold k0_pay10
  refine (q_at _ _ _ _ _ _ r (scaled m c t r _ _ hs) j).trans ?_
  rw [ld2, ld2, ld3]
  simp only [b9_at, b7_at m c t _ ⟨t.val / 16, by omega⟩ rfl, b8_at m c t _ ⟨t.val / 16, by omega⟩ rfl]
  exact congrArg (fun w => proj (XR m c _ _) _ _ _ w) (funext fun k => (ld_q _ k j).trans (b10_at m c t k _))

theorem final12 (c : Dev nD) : (dats m 0 c).arrAt 12 cfg0.N = G12 m c := by
  refine (dats m 0 c).arrAt_eq_of_covers 12 _ (by decide +kernel) fun t _ y => ?_
  blk_simp
  idx_vars y
  have hG : G12 m c (((View.whole main_v6_1).slice (win0_12.rect t)).emb (ix2 y0 y1))
      = G12 m c (ix2 ⟨t.val * 512 + y0, by have := t.isLt; have : cfg0.grid.N = 32 := rfl; omega⟩ y1) := by
    blk_ext [(idxB t).1.2.1]
  rw [hG]
  exact after12_at m c t y0 y1

/-- The reference's result 2 at the launched arguments. -/
abbrev G13 (c : Dev nD) : FVec Ideal S16384x128 .f32 := Cert.Reference3Ideal.Chain.rv38 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem after13_at (c : Dev nD) (t : Fin cfg0.N) (r : Fin 512) (j : Fin 128) :
    (dats m 0 c).after 13 t (ix2 r j) = G13 m c (ix2 ⟨t.val * 512 + r, by have := t.isLt; have : cfg0.N = 32 := rfl; omega⟩ j) := by
  have hN : cfg0.N = 32 := rfl
  have ht := t.isLt
  have hr := r.isLt
  have hs : t.val * 512 + r = (⟨t.val / 16, by omega⟩ : Fin 2) * 8192 + (⟨t.val % 16 * 512 + r, by omega⟩ : Fin 8192) := by simp only []; omega
  rw [after0_13]; unfold out0_13
  rw [View.canon_unit_zero (by funext a; fin_cases a <;> rfl)]
  refine Eq.trans ?_ (((Cert.Reference3Ideal.Chain.rv38_at _ _ _ _ _ _ _ _ _ _ ⟨t.val / 16, by omega⟩ ⟨t.val % 16 * 512 + r, by omega⟩ j).symm).trans
    (congrArg (fun z => G13 m c (ix2 z j)) (Fin.ext hs.symm)))
  unfold k0_pay10
  refine (k_at _ _ _ _ _ _ r (scaled m c t r _ _ hs) j).trans ?_
  rw [ld2, ld2, ld3]
  simp only [b9_at, b7_at m c t _ ⟨t.val / 16, by omega⟩ rfl, b8_at m c t _ ⟨t.val / 16, by omega⟩ rfl]
  exact congrArg (fun w => proj (XR m c _ _) _ _ _ w) (funext fun k => (ld_k _ k j).trans (b10_at m c t k _))

theorem final13 (c : Dev nD) : (dats m 0 c).arrAt 13 cfg0.N = G13 m c := by
  refine (dats m 0 c).arrAt_eq_of_covers 13 _ (by decide +kernel) fun t _ y => ?_
  blk_simp
  idx_vars y
  have hG : G13 m c (((View.whole main_v6_2).slice (win0_13.rect t)).emb (ix2 y0 y1))
      = G13 m c (ix2 ⟨t.val * 512 + y0, by have := t.isLt; have : cfg0.grid.N = 32 := rfl; omega⟩ y1) := by
    blk_ext [(idxB t).1.2.2]
  rw [hG]
  exact after13_at m c t y0 y1

/-- The reference's result 3 at the launched arguments. -/
abbrev G14 (c : Dev nD) : FVec Ideal S16384x128 .f32 := Cert.Reference3Ideal.Chain.rv39 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem after14_at (c : Dev nD) (t : Fin cfg0.N) (r : Fin 512) (j : Fin 128) :
    (dats m 0 c).after 14 t (ix2 r j) = G14 m c (ix2 ⟨t.val * 512 + r, by have := t.isLt; have : cfg0.N = 32 := rfl; omega⟩ j) := by
  have hN : cfg0.N = 32 := rfl
  have ht := t.isLt
  have hr := r.isLt
  have hs : t.val * 512 + r = (⟨t.val / 16, by omega⟩ : Fin 2) * 8192 + (⟨t.val % 16 * 512 + r, by omega⟩ : Fin 8192) := by simp only []; omega
  rw [after0_14]; unfold out0_14
  rw [View.canon_unit_zero (by funext a; fin_cases a <;> rfl)]
  refine Eq.trans ?_ (((Cert.Reference3Ideal.Chain.rv39_at _ _ _ _ _ _ _ _ _ _ ⟨t.val / 16, by omega⟩ ⟨t.val % 16 * 512 + r, by omega⟩ j).symm).trans
    (congrArg (fun z => G14 m c (ix2 z j)) (Fin.ext hs.symm)))
  unfold k0_pay10
  refine (v_at _ _ _ _ _ _ r (scaled m c t r _ _ hs) j).trans ?_
  rw [ld2, ld2, ld3]
  simp only [b9_at, b7_at m c t _ ⟨t.val / 16, by omega⟩ rfl, b8_at m c t _ ⟨t.val / 16, by omega⟩ rfl]
  exact congrArg (fun w => proj (XR m c _ _) _ _ _ w) (funext fun k => (ld_v _ k j).trans (b10_at m c t k _))

theorem final14 (c : Dev nD) : (dats m 0 c).arrAt 14 cfg0.N = G14 m c := by
  refine (dats m 0 c).arrAt_eq_of_covers 14 _ (by decide +kernel) fun t _ y => ?_
  blk_simp
  idx_vars y
  have hG : G14 m c (((View.whole main_v6_3).slice (win0_14.rect t)).emb (ix2 y0 y1))
      = G14 m c (ix2 ⟨t.val * 512 + y0, by have := t.isLt; have : cfg0.grid.N = 32 := rfl; omega⟩ y1) := by
    blk_ext [(idxB t).2.1]
  rw [hG]
  exact after14_at m c t y0 y1

/-- The reference's result 4 at the launched arguments. -/
abbrev G15 (c : Dev nD) : FVec Ideal S16384x1024 .bf16 := Cert.Reference3Ideal.Chain.rv42 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem after15_at (c : Dev nD) (t : Fin cfg0.N) (r : Fin 512) (j : Fin 1024) :
    (dats m 0 c).after 15 t (ix2 r j) = G15 m c (ix2 ⟨t.val * 512 + r, by have := t.isLt; have : cfg0.N = 32 := rfl; omega⟩ j) := by
  have hN : cfg0.N = 32 := rfl
  have ht := t.isLt
  have hr := r.isLt
  have hs : t.val * 512 + r = (⟨t.val / 16, by omega⟩ : Fin 2) * 8192 + (⟨t.val % 16 * 512 + r, by omega⟩ : Fin 8192) := by simp only []; omega
  rw [after0_15]; unfold out0_15
  rw [View.canon_unit_zero (by funext a; fin_cases a <;> rfl)]
  refine Eq.trans ?_ (((Cert.Reference3Ideal.Chain.rv42_at _ _ _ _ _ _ _ _ _ _ ⟨t.val / 16, by omega⟩ ⟨t.val % 16 * 512 + r, by omega⟩ j).symm).trans
    (congrArg (fun z => G15 m c (ix2 z j)) (Fin.ext hs.symm)))
  unfold k0_pay10
  refine (sz_at _ _ _ _ _ _ r (scaled m c t r _ _ hs) j).trans ?_
  rw [ld2, ld2, ld3]
  simp only [b9_at, b7_at m c t _ ⟨t.val / 16, by omega⟩ rfl, b8_at m c t _ ⟨t.val / 16, by omega⟩ rfl]
  exact congrArg (fun w => silu (proj (XR m c _ _) _ _ _ w)) (funext fun k => (ld_z _ k j).trans (b10_at m c t k _))

theorem final15 (c : Dev nD) : (dats m 0 c).arrAt 15 cfg0.N = G15 m c := by
  refine (dats m 0 c).arrAt_eq_of_covers 15 _ (by decide +kernel) fun t _ y => ?_
  blk_simp
  idx_vars y
  have hG : G15 m c (((View.whole main_v6_4).slice (win0_15.rect t)).emb (ix2 y0 y1))
      = G15 m c (ix2 ⟨t.val * 512 + y0, by have := t.isLt; have : cfg0.grid.N = 32 := rfl; omega⟩ y1) := by
    blk_ext [(idxB t).2.2]
  rw [hG]
  exact after15_at m c t y0 y1

end Cert.Kernel3Ideal.Chain
end
-- ==== Proof.OutBlk.lean ====
module

public import proofs.«01_k».proof.Proof.Gen.Kernel4Ideal.Skeleton
public import proofs.«01_k».proof.Proof.Rms

@[expose] public section

set_option maxRecDepth 16384

noncomputable section

namespace Cert.Kernel4Ideal.Out

open Idealize.ShloMosaic Idealize.ShloMosaic.TcCoe Idealize.SL.Sem
open Cert.Kernel4Ideal Cert.Kernel4Ideal.Gen Cert.Proj

/-- One entry of the block the call stores. -/
theorem pay_at (v0 v1 v6 : Vec Ideal S1024x1024 .bf16) (v9 : Vec Ideal S1024x1024 .f32) (v11 : Vec Ideal S1x1x1024 .f32) (v26 : Vec Ideal S1x1024 .f32)
    (r j : Fin 1024) : k0_pay1 (F := Ideal) v0 v1 v6 v9 v11 v26 (ix2 r j)
    = (fun X => X j * rms X * v26 (ix2 0 j)) (resRow (fun j => v9 (ix2 r j)) (fun j => v11 (ix3 0 0 j)) fun j => ∑ k : Fin 1024, (v0 (ix2 r k) * v1 (ix2 r k)) * v6 (ix2 k j)) := by
  pointwise [k0_pay1, rms, resRow]

end Cert.Kernel4Ideal.Out
end
-- ==== Proof.OutRef.lean ====
module

public import proofs.«01_k».proof.Proof.Gen.Reference4Ideal.Run
public import proofs.«01_k».proof.Proof.Rms

@[expose] public section

set_option maxRecDepth 16384

noncomputable section

namespace Cert.Reference4Ideal.Out

open Idealize.ShloMosaic Idealize.ShloMosaic.TcCoe Idealize.SL.Sem
open Cert.Reference4Ideal Cert.Reference4Ideal.Gen Cert.Reference4Ideal.Value Cert.Proj

/-- The array `main_v8` of the printed program. -/
def rv8 (arg0 : FVec Ideal S16384x1024 .bf16) (arg1 : FVec Ideal S16384x1024 .bf16) (arg2 : FVec Ideal S2x8192x1024 .f32) (arg3 : FVec Ideal S2x1x1024 .f32) (arg4 : FVec Ideal S1024x1024 .f32) : FVec Ideal S2x8192x1024 .f32 :=
  (addf arg2 (mulf (broadcastInDim S2x8192x1024 ![0, 1, 2] bcast_S2x1x1024_S2x8192x1024_0_1_2 arg3) (Host.dotGeneral dot_S2x8192x1024_S1024x1024_S2x8192x1024_2_0_01_1_n_n none (mulf (shapeCast S2x8192x1024 (extf .f32 arg0 bitsLt_bf16_f32) shapeCasts_S16384x1024_S2x8192x1024) (shapeCast S2x8192x1024 (extf .f32 arg1 bitsLt_bf16_f32) shapeCasts_S16384x1024_S2x8192x1024)) arg4)))

/-- The array `main_v22` of the printed program. -/
def rv22 (arg0 : FVec Ideal S16384x1024 .bf16) (arg1 : FVec Ideal S16384x1024 .bf16) (arg2 : FVec Ideal S2x8192x1024 .f32) (arg3 : FVec Ideal S2x1x1024 .f32) (arg4 : FVec Ideal S1024x1024 .f32) (arg5 : FVec Ideal S1024 .f32) : FVec Ideal S16384x1024 .f32 :=
  (shapeCast S16384x1024 (mulf (mulf (rv8 arg0 arg1 arg2 arg3 arg4) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (rv8 arg0 arg1 arg2 arg3 arg4) (rv8 arg0 arg1 arg2 arg3 arg4)) (constant (F := Ideal) S_ .f32 0x00000000#32) reducesTo_S2x8192x1024_S2x8192_d2 h_S_)) (broadcastInDim S2x8192x1 ![] bcast_S_S2x8192x1 (constant (F := Ideal) S_ .f32 0x44800000#32))) (broadcastInDim S2x8192x1 ![] bcast_S_S2x8192x1 (constant (F := Ideal) S_ .f32 0x358637BD#32)))))) (broadcastInDim S2x8192x1024 ![0, 1, 2] bcast_S1x1x1024_S2x8192x1024_0_1_2 (broadcastInDim S1x1x1024 ![2] bcast_S1024_S1x1x1024_2 arg5))) shapeCasts_S2x8192x1024_S16384x1024)

/-- One entry of the residual rows. -/
theorem rv8_at (arg0 arg1 : FVec Ideal S16384x1024 .bf16) (arg2 : FVec Ideal S2x8192x1024 .f32) (arg3 : FVec Ideal S2x1x1024 .f32) (arg4 : FVec Ideal S1024x1024 .f32)
    (b : Fin 2) (s : Fin 8192) (j : Fin 1024) :
    rv8 arg0 arg1 arg2 arg3 arg4 (ix3 b s j) = resRow (fun j => arg2 (ix3 b s j)) (fun j => arg3 (ix3 b 0 j))
      (fun j => ∑ k : Fin 1024, (arg0 (ix2 ⟨b * 8192 + s, by omega⟩ k) * arg1 (ix2 ⟨b * 8192 + s, by omega⟩ k)) * arg4 (ix2 k j)) j := by
  pointwise [rv8, resRow]

/-- One entry of the reference's result. -/
theorem rv22_at (arg0 arg1 : FVec Ideal S16384x1024 .bf16) (arg2 : FVec Ideal S2x8192x1024 .f32) (arg3 : FVec Ideal S2x1x1024 .f32) (arg4 : FVec Ideal S1024x1024 .f32)
    (arg5 : FVec Ideal S1024 .f32) (b : Fin 2) (s : Fin 8192) (j : Fin 1024) :
    rv22 arg0 arg1 arg2 arg3 arg4 arg5 (ix2 ⟨b * 8192 + s, by omega⟩ j)
    = (fun X => X j * rms X * arg5 (ix1 j)) (resRow (fun j => arg2 (ix3 b s j)) (fun j => arg3 (ix3 b 0 j))
      (fun j => ∑ k : Fin 1024, (arg0 (ix2 ⟨b * 8192 + s, by omega⟩ k) * arg1 (ix2 ⟨b * 8192 + s, by omega⟩ k)) * arg4 (ix2 k j))) := by
  have e : ∀ k, rv8 arg0 arg1 arg2 arg3 arg4 (ix3 b s k) = _ := rv8_at arg0 arg1 arg2 arg3 arg4 b s

  pointwise [rv22, rms]
  simp only [e]

set_option maxHeartbeats 2000000 in
/-- The run of the reference, its results as the arrays above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = rv22 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by simp only [rv22, rv8]),
    (h c).2⟩) (Cert.Reference4Ideal.Value.run m ρ)

end Cert.Reference4Ideal.Out
end
-- ==== Proof.OutArr.lean ====
module

public import proofs.«01_k».proof.Proof.Gen.Kernel4Ideal.Value
public import Idealize.ShloMosaic.Lib.Pipeline.ValueKit
public import Idealize.ShloMosaic.Lib.Pipeline.ReadBack
public import proofs.«01_k».proof.Proof.OutBlk
public import proofs.«01_k».proof.Proof.OutRef
public import Idealize.ShloMosaic.Lib.Pipeline.Covers
public import Idealize.ShloMosaic.Lib.WholeRead

@[expose] public section

set_option maxRecDepth 16384

noncomputable section

namespace Cert.Kernel4Ideal.Out

open Idealize.ShloMosaic Idealize.ShloMosaic.TcCoe Idealize.SL.Sem
open Cert.Kernel4Ideal Cert.Kernel4Ideal.Gen Cert.Proj

open Idealize.ShloMosaic.Pipeline (Dat)

theorem idx0 : ∀ t : Fin cfg0.N, (win0_0.index t = ![t.val, 0] ∧ win0_1.index t = ![t.val, 0]
    ∧ win0_2.index t = ![0, 0]) ∧ (win0_3.index t = ![t.val, 0] ∧ win0_4.index t = ![t.val / 8, 0, 0]
    ∧ win0_5.index t = ![0, 0] ∧ win0_6.index t = ![t.val, 0]) :=
  (by decide +kernel : ∀ t : Fin grid0.N, _)

variable (m : (ℓ : Loc nD τ sig) → Buf (Elt Ideal) ℓ)

/-- The weight the call reads: the argument's entries. -/
theorem v0_at (c : Dev nD) (k j : Fin 1024) : V m c main_v0 (ix2 k j) = m ((c : Thread nD τ).loc main_arg4) (ix2 k j) := by
  have e : V m c main_v0 = (truncf .bf16 (m ((c : Thread nD τ).loc main_arg4)) bitsLt_bf16_f32 : FVec Ideal S1024x1024 .bf16) := by
    show StableHlo.after hostOps0 _ _ = _
    simp only [hostOps0, StableHlo.TRef.binary, StableHlo.TRef.unary, StableHlo.TRef.toBuf, StableHlo.TRef.ofBuf, cast_eq]
    after_results_simp <;> rfl
  rw [e]; pointwise

/-- The rows of the two batches, one after the other. -/
theorem flat_at (A : FVec Ideal S2x8192x1024 .f32) (b : Fin 2) (s : Fin 8192) (j : Fin 1024) :
    shapeCast S16384x1024 A shapeCasts_S2x8192x1024_S16384x1024 (ix2 ⟨b * 8192 + s, by omega⟩ j) = A (ix3 b s j) := by
  pointwise

/-- The residual rows as the call reads them. -/
theorem v1_at (c : Dev nD) (b : Fin 2) (s : Fin 8192) (j : Fin 1024) :
    V m c main_v1 (ix2 ⟨b * 8192 + s, by omega⟩ j) = m ((c : Thread nD τ).loc main_arg2) (ix3 b s j) := by
  have e : V m c main_v1 = (shapeCast S16384x1024 (m ((c : Thread nD τ).loc main_arg2)) shapeCasts_S2x8192x1024_S16384x1024 : FVec Ideal S16384x1024 .f32) := by
    show StableHlo.after hostOps0 _ _ = _
    simp only [hostOps0, StableHlo.TRef.binary, StableHlo.TRef.unary, StableHlo.TRef.toBuf, StableHlo.TRef.ofBuf, cast_eq]
    after_results_simp <;> rfl
  rw [e]; exact flat_at ..

/-- The norm's weights as the call reads them. -/
theorem v2_at (c : Dev nD) (j : Fin 1024) : V m c main_v2 (ix2 0 j) = m ((c : Thread nD τ).loc main_arg5) (ix1 j) := by
  have e : V m c main_v2 = (shapeCast S1x1024 (m ((c : Thread nD τ).loc main_arg5)) shapeCasts_S1024_S1x1024 : FVec Ideal S1x1024 .f32) := by
    show StableHlo.after hostOps0 _ _ = _
    simp only [hostOps0, StableHlo.TRef.binary, StableHlo.TRef.unary, StableHlo.TRef.toBuf, StableHlo.TRef.ofBuf, cast_eq]
    after_results_simp <;> rfl
  rw [e]; pointwise

theorem b0_at (c : Dev nD) (t : Fin cfg0.N) (r j : Fin 1024) :
    iblk m c 0 t (ix2 r j) = m ((c : Thread nD τ).loc main_arg0) (ix2 ⟨t.val * 1024 + r, by have := t.isLt; have : cfg0.N = 16 := rfl; omega⟩ j) := by
  rw [← V_main_arg0 m c]
  blk_ext [iblk, (idx0 t).1.1]

theorem b1_at (c : Dev nD) (t : Fin cfg0.N) (r j : Fin 1024) :
    iblk m c 1 t (ix2 r j) = m ((c : Thread nD τ).loc main_arg1) (ix2 ⟨t.val * 1024 + r, by have := t.isLt; have : cfg0.N = 16 := rfl; omega⟩ j) := by
  rw [← V_main_arg1 m c]
  blk_ext [iblk, (idx0 t).1.2.1]

theorem b2_at (c : Dev nD) (t : Fin cfg0.N) (k j : Fin 1024) :
    iblk m c 2 t (ix2 k j) = m ((c : Thread nD τ).loc main_arg4) (ix2 k j) := by
  rw [← v0_at m c]
  blk_ext [iblk, (idx0 t).1.2.2]

theorem b3_at (c : Dev nD) (t : Fin cfg0.N) (r j : Fin 1024) (b : Fin 2) (s : Fin 8192) (h : t.val * 1024 + r = b * 8192 + s) :
    iblk m c 3 t (ix2 r j) = m ((c : Thread nD τ).loc main_arg2) (ix3 b s j) := by
  rw [← v1_at m c]
  refine Eq.trans (b := V m c main_v1 (ix2 ⟨t.val * 1024 + r, by omega⟩ j)) ?_ (congrArg (fun z => V m c main_v1 (ix2 z j)) (Fin.ext h))
  blk_ext [iblk, (idx0 t).2.1]

theorem b4_at (c : Dev nD) (t : Fin cfg0.N) (j : Fin 1024) :
    iblk m c 4 t (ix3 0 0 j) = m ((c : Thread nD τ).loc main_arg3) (ix3 ⟨t.val / 8, by have := t.isLt; have : cfg0.N = 16 := rfl; omega⟩ 0 j) := by
  rw [← V_main_arg3 m c]
  blk_ext [iblk, (idx0 t).2.2.1]

theorem b5_at (c : Dev nD) (t : Fin cfg0.N) (j : Fin 1024) :
    iblk m c 5 t (ix2 0 j) = m ((c : Thread nD τ).loc main_arg5) (ix1 j) := by
  rw [← v2_at m c]
  blk_ext [iblk, (idx0 t).2.2.2.1]

/-- The reference's array at the launched arguments. -/
abbrev G (c : Dev nD) : FVec Ideal S16384x1024 .f32 :=
  Cert.Reference4Ideal.Out.rv22 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem after_at (c : Dev nD) (t : Fin cfg0.N) (r j : Fin 1024) :
    (dats m 0 c).after 6 t (ix2 r j) = G m c (ix2 ⟨t.val * 1024 + r, by have := t.isLt; have : cfg0.N = 16 := rfl; omega⟩ j) := by
  have hN : cfg0.N = 16 := rfl
  have ht := t.isLt
  have hr := r.isLt
  have hs : t.val * 1024 + r = (⟨t.val / 8, by omega⟩ : Fin 2) * 8192 + (⟨t.val % 8 * 1024 + r, by omega⟩ : Fin 8192) := by simp only []; omega
  rw [after0_6]; unfold out0_6
  rw [View.canon_unit_zero (by funext a; fin_cases a <;> rfl)]
  rw [View.ld_unit_zero (by funext a; fin_cases a <;> rfl), View.ld_unit_zero (by funext a; fin_cases a <;> rfl), View.ld_unit_zero (by funext a; fin_cases a <;> rfl),
    View.ld_unit_zero (by funext a; fin_cases a <;> rfl), View.ld_unit_zero (by funext a; fin_cases a <;> rfl), View.ld_unit_zero (by funext a; fin_cases a <;> rfl)]
  refine (pay_at ..).trans ?_
  refine Eq.trans ?_ (((Cert.Reference4Ideal.Out.rv22_at _ _ _ _ _ _ ⟨t.val / 8, by omega⟩ ⟨t.val % 8 * 1024 + r, by omega⟩ j).symm).trans
    (congrArg (fun z => G m c (ix2 z j)) (Fin.ext hs.symm)))
  simp only [b0_at, b1_at, b2_at, b3_at m c t r _ _ _ hs, b4_at, b5_at, hs]

/-- The result array is the reference's. -/
theorem final (c : Dev nD) : (dats m 0 c).arrAt 6 cfg0.N = G m c := by
  refine (dats m 0 c).arrAt_eq_of_covers 6 _ (by decide +kernel) fun t _ y => ?_
  blk_simp
  idx_vars y
  have hG : G m c (((View.whole main_v3).slice (win0_6.rect t)).emb (ix2 y0 y1))
      = G m c (ix2 ⟨t.val * 1024 + y0, by have := t.isLt; have : cfg0.grid.N = 16 := rfl; omega⟩ y1) := by
    blk_ext [(idx0 t).2.2.2.2]
  rw [hG]
  exact after_at m c t y0 y1

end Cert.Kernel4Ideal.Out
end
-- ==== Proof.InprojSBlk.lean ====
module

public import proofs.«01_k».proof.Proof.Gen.Kernel5Ideal.Skeleton
public import proofs.«01_k».proof.Proof.Rms

@[expose] public section

set_option maxRecDepth 16384

noncomputable section

namespace Cert.Kernel5Ideal.InprojS

open Idealize.ShloMosaic Idealize.ShloMosaic.TcCoe Idealize.SL.Sem
open Cert.Kernel5Ideal Cert.Kernel5Ideal.Gen Cert.Proj

/-- One entry of the normed and modulated rows. -/
theorem h_at (v0 : Vec Ideal S32x8x1024 .f32) (v12 : Vec Ideal S1x1024 .f32) (v16 v22 : Vec Ideal S32x1x1024 .f32) (a : Fin 32) (s : Fin 8) (k : Fin 1024) :
    k0_pay5 (F := Ideal) v0 v12 v16 v22 (ix2 ⟨a * 8 + s, by omega⟩ k)
    = modRow (fun k => v0 (ix3 a s k)) (fun k => v12 (ix2 0 k)) (fun k => v16 (ix3 a 0 k)) (fun k => v22 (ix3 a 0 k)) k := by
  pointwise [k0_pay5, rms, modRow]

theorem q_at (v0 : Vec Ideal S32x8x1024 .f32) (v12 : Vec Ideal S1x1024 .f32) (v16 v22 : Vec Ideal S32x1x1024 .f32) (w : Vec Ideal S1024x1024 .bf16)
    (H : Fin 1024 → EReal) (r : Fin 256) (hH : ∀ k, k0_pay5 (F := Ideal) v0 v12 v16 v22 (ix2 r k) = H k) (j : Fin 1024) :
    k0_pay6 (F := Ideal) v0 v12 v16 v22 w (ix2 r j) = ∑ k : Fin 1024, H k * w (ix2 k j) := by
  pointwise [k0_pay6]
  simp only [hH]

theorem k_at (v0 : Vec Ideal S32x8x1024 .f32) (v12 : Vec Ideal S1x1024 .f32) (v16 v22 : Vec Ideal S32x1x1024 .f32) (w : Vec Ideal S1024x128 .bf16)
    (H : Fin 1024 → EReal) (r : Fin 256) (hH : ∀ k, k0_pay5 (F := Ideal) v0 v12 v16 v22 (ix2 r k) = H k) (j : Fin 128) :
    k0_pay7 (F := Ideal) v0 v12 v16 v22 w (ix2 r j) = ∑ k : Fin 1024, H k * w (ix2 k j) := by
  pointwise [k0_pay7]
  simp only [hH]

theorem v_at (h : FVec Ideal S256x1024 .bf16) (w : Vec Ideal S1024x128 .bf16) (H : Fin 1024 → EReal) (r : Fin 256) (hH : ∀ k, h (ix2 r k) = H k) (j : Fin 128) :
    k0_pay1 (F := Ideal) h w (ix2 r j) = ∑ k : Fin 1024, H k * w (ix2 k j) := by
  pointwise [k0_pay1]
  simp only [hH]

theorem sza_at (h : FVec Ideal S256x1024 .bf16) (w : Vec Ideal S1024x1024 .bf16) (H : Fin 1024 → EReal) (r : Fin 256) (hH : ∀ k, h (ix2 r k) = H k) (j : Fin 1024) :
    k0_pay2 (F := Ideal) h w (ix2 r j) = silu (∑ k : Fin 1024, H k * w (ix2 k j)) := by
  pointwise [k0_pay2, silu]
  simp only [hH]

theorem u_at (h : FVec Ideal S256x1024 .bf16) (w w' : Vec Ideal S1024x1024 .bf16) (H : Fin 1024 → EReal) (r : Fin 256) (hH : ∀ k, h (ix2 r k) = H k) (j : Fin 1024) :
    k0_pay3 (F := Ideal) h w w' (ix2 r j) = (∑ k : Fin 1024, H k * w (ix2 k j)) * Ideal.logistic (∑ k : Fin 1024, H k * w' (ix2 k j)) := by
  pointwise [k0_pay3]
  simp only [hH]

theorem szb_at (h : FVec Ideal S256x1024 .bf16) (w : Vec Ideal S1024x1024 .bf16) (H : Fin 1024 → EReal) (r : Fin 256) (hH : ∀ k, h (ix2 r k) = H k) (j : Fin 1024) :
    k0_pay4 (F := Ideal) h w (ix2 r j) = silu (∑ k : Fin 1024, H k * w (ix2 k j)) := by
  pointwise [k0_pay4, silu]
  simp only [hH]

end Cert.Kernel5Ideal.InprojS
end
-- ==== Proof.InprojSRef.lean ====
module

public import proofs.«01_k».proof.Proof.Gen.Reference5Ideal.Run
public import proofs.«01_k».proof.Proof.Rms

@[expose] public section

set_option maxRecDepth 16384

noncomputable section

namespace Cert.Reference5Ideal.InprojS

open Idealize.ShloMosaic Idealize.ShloMosaic.TcCoe Idealize.SL.Sem
open Cert.Reference5Ideal Cert.Reference5Ideal.Gen Cert.Reference5Ideal.Value Cert.Proj

/-- The array `main_v18` of the printed program. -/
def rv18 (arg0 : FVec Ideal S128x8x1024 .f32) (arg1 : FVec Ideal S128x1x1024 .f32) (arg2 : FVec Ideal S128x1x1024 .f32) (arg3 : FVec Ideal S1024 .f32) : FVec Ideal S128x8x1024 .f32 :=
  (addf (mulf (mulf (mulf arg0 (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf arg0 arg0) (constant (F := Ideal) S_ .f32 0x00000000#32) reducesTo_S128x8x1024_S128x8_d2 h_S_)) (broadcastInDim S128x8x1 ![] bcast_S_S128x8x1 (constant (F := Ideal) S_ .f32 0x44800000#32))) (broadcastInDim S128x8x1 ![] bcast_S_S128x8x1 (constant (F := Ideal) S_ .f32 0x358637BD#32)))))) (broadcastInDim S128x8x1024 ![0, 1, 2] bcast_S1x1x1024_S128x8x1024_0_1_2 (broadcastInDim S1x1x1024 ![2] bcast_S1024_S1x1x1024_2 arg3))) (broadcastInDim S128x8x1024 ![0, 1, 2] bcast_S128x1x1024_S128x8x1024_0_1_2 (addf (broadcastInDim S128x1x1024 ![] bcast_S_S128x1x1024 (constant (F := Ideal) S_ .f32 0x3F800000#32)) arg2))) (broadcastInDim S128x8x1024 ![0, 1, 2] bcast_S128x1x1024_S128x8x1024_0_1_2 arg1))

/-- The array `main_v19` of the printed program. -/
def rv19 (arg0 : FVec Ideal S128x8x1024 .f32) (arg1 arg2 : FVec Ideal S128x1x1024 .f32) (arg3 : FVec Ideal S1024 .f32) (arg4 : FVec Ideal S1024x5376 .f32) : FVec Ideal S128x8x5376 .f32 :=
  (Host.dotGeneral dot_S128x8x1024_S1024x5376_S128x8x5376_2_0_01_1_n_n none (rv18 arg0 arg1 arg2 arg3) arg4)

/-- The array `main_v21` of the printed program. -/
def rv21 (arg0 : FVec Ideal S128x8x1024 .f32) (arg1 arg2 : FVec Ideal S128x1x1024 .f32) (arg3 : FVec Ideal S1024 .f32) (arg4 : FVec Ideal S1024x5376 .f32) : FVec Ideal S128x8x128 .f32 :=
  (extractStridedSlice S128x8x128 ![0, 0, 1024] (rv19 arg0 arg1 arg2 arg3 arg4) slices_S128x8x5376_S128x8x128_0_0_1024)

/-- The array `main_v22` of the printed program. -/
def rv22 (arg0 : FVec Ideal S128x8x1024 .f32) (arg1 arg2 : FVec Ideal S128x1x1024 .f32) (arg3 : FVec Ideal S1024 .f32) (arg4 : FVec Ideal S1024x5376 .f32) : FVec Ideal S128x8x128 .f32 :=
  (extractStridedSlice S128x8x128 ![0, 0, 1152] (rv19 arg0 arg1 arg2 arg3 arg4) slices_S128x8x5376_S128x8x128_0_0_1152)

/-- The array `main_v34` of the printed program. -/
def rv34 (arg0 : FVec Ideal S128x8x1024 .f32) (arg1 arg2 : FVec Ideal S128x1x1024 .f32) (arg3 : FVec Ideal S1024 .f32) (arg4 : FVec Ideal S1024x5376 .f32) : FVec Ideal S1024x1024 .f32 :=
  (shapeCast S1024x1024 (extractStridedSlice S128x8x1024 ![0, 0, 0] (rv19 arg0 arg1 arg2 arg3 arg4) slices_S128x8x5376_S128x8x1024_0_0_0) shapeCasts_S128x8x1024_S1024x1024)

/-- The array `main_v35` of the printed program. -/
def rv35 (arg0 : FVec Ideal S128x8x1024 .f32) (arg1 arg2 : FVec Ideal S128x1x1024 .f32) (arg3 : FVec Ideal S1024 .f32) (arg4 : FVec Ideal S1024x5376 .f32) : FVec Ideal S1024x128 .f32 :=
  (shapeCast S1024x128 (rv21 arg0 arg1 arg2 arg3 arg4) shapeCasts_S128x8x128_S1024x128)

/-- The array `main_v36` of the printed program. -/
def rv36 (arg0 : FVec Ideal S128x8x1024 .f32) (arg1 arg2 : FVec Ideal S128x1x1024 .f32) (arg3 : FVec Ideal S1024 .f32) (arg4 : FVec Ideal S1024x5376 .f32) : FVec Ideal S1024x128 .f32 :=
  (shapeCast S1024x128 (rv22 arg0 arg1 arg2 arg3 arg4) shapeCasts_S128x8x128_S1024x128)

/-- The array `main_v39` of the printed program. -/
def rv39 (arg0 : FVec Ideal S128x8x1024 .f32) (arg1 arg2 : FVec Ideal S128x1x1024 .f32) (arg3 : FVec Ideal S1024 .f32) (arg4 : FVec Ideal S1024x5376 .f32) : FVec Ideal S1024x1024 .bf16 :=
  (truncf .bf16 (shapeCast S1024x1024 (mulf (extractStridedSlice S128x8x1024 ![0, 0, 1280] (rv19 arg0 arg1 arg2 arg3 arg4) slices_S128x8x5376_S128x8x1024_0_0_1280) (Host.divf (broadcastInDim S128x8x1024 ![] bcast_S_S128x8x1024 (constant (F := Ideal) S_ .f32 0x3F800000#32)) (addf (broadcastInDim S128x8x1024 ![] bcast_S_S128x8x1024 (constant (F := Ideal) S_ .f32 0x3F800000#32)) (Host.exp (Host.negf (extractStridedSlice S128x8x1024 ![0, 0, 1280] (rv19 arg0 arg1 arg2 arg3 arg4) slices_S128x8x5376_S128x8x1024_0_0_1280)))))) shapeCasts_S128x8x1024_S1024x1024) bitsLt_bf16_f32)

/-- The array `main_v40` of the printed program. -/
def rv40 (arg0 : FVec Ideal S128x8x1024 .f32) (arg1 arg2 : FVec Ideal S128x1x1024 .f32) (arg3 : FVec Ideal S1024 .f32) (arg4 : FVec Ideal S1024x5376 .f32) : FVec Ideal S1024x1024 .f32 :=
  (shapeCast S1024x1024 (mulf (extractStridedSlice S128x8x1024 ![0, 0, 2304] (rv19 arg0 arg1 arg2 arg3 arg4) slices_S128x8x5376_S128x8x1024_0_0_2304) (Host.divf (broadcastInDim S128x8x1024 ![] bcast_S_S128x8x1024 (constant (F := Ideal) S_ .f32 0x3F800000#32)) (addf (broadcastInDim S128x8x1024 ![] bcast_S_S128x8x1024 (constant (F := Ideal) S_ .f32 0x3F800000#32)) (Host.exp (Host.negf (extractStridedSlice S128x8x1024 ![0, 0, 3328] (rv19 arg0 arg1 arg2 arg3 arg4) slices_S128x8x5376_S128x8x1024_0_0_3328)))))) shapeCasts_S128x8x1024_S1024x1024)

/-- The array `main_v43` of the printed program. -/
def rv43 (arg0 : FVec Ideal S128x8x1024 .f32) (arg1 arg2 : FVec Ideal S128x1x1024 .f32) (arg3 : FVec Ideal S1024 .f32) (arg4 : FVec Ideal S1024x5376 .f32) : FVec Ideal S1024x1024 .bf16 :=
  (truncf .bf16 (shapeCast S1024x1024 (mulf (extractStridedSlice S128x8x1024 ![0, 0, 4352] (rv19 arg0 arg1 arg2 arg3 arg4) slices_S128x8x5376_S128x8x1024_0_0_4352) (Host.divf (broadcastInDim S128x8x1024 ![] bcast_S_S128x8x1024 (constant (F := Ideal) S_ .f32 0x3F800000#32)) (addf (broadcastInDim S128x8x1024 ![] bcast_S_S128x8x1024 (constant (F := Ideal) S_ .f32 0x3F800000#32)) (Host.exp (Host.negf (extractStridedSlice S128x8x1024 ![0, 0, 4352] (rv19 arg0 arg1 arg2 arg3 arg4) slices_S128x8x5376_S128x8x1024_0_0_4352)))))) shapeCasts_S128x8x1024_S1024x1024) bitsLt_bf16_f32)

/-- An entry of the normed and modulated row times the in-projection's weight. -/
abbrev Z (arg0 : FVec Ideal S128x8x1024 .f32) (arg1 arg2 : FVec Ideal S128x1x1024 .f32) (arg3 : FVec Ideal S1024 .f32) (arg4 : FVec Ideal S1024x5376 .f32) (b : Fin 128) (s : Fin 8) (j : Fin 5376) : EReal :=
  proj (fun k => arg0 (ix3 b s k)) (fun k => arg3 (ix1 k)) (fun k => arg2 (ix3 b 0 k)) (fun k => arg1 (ix3 b 0 k)) (fun k => arg4 (ix2 k j))

theorem rv18_at (arg0 : FVec Ideal S128x8x1024 .f32) (arg1 arg2 : FVec Ideal S128x1x1024 .f32) (arg3 : FVec Ideal S1024 .f32) (arg4 : FVec Ideal S1024x5376 .f32) (b : Fin 128) (s : Fin 8) (j : Fin 1024) :
    rv18 arg0 arg1 arg2 arg3 (ix3 b s j)
    = modRow (fun k => arg0 (ix3 b s k)) (fun k => arg3 (ix1 k)) (fun k => arg2 (ix3 b 0 k)) (fun k => arg1 (ix3 b 0 k)) j := by
  pointwise [rv18, rms, modRow]

theorem rv19_at (arg0 : FVec Ideal S128x8x1024 .f32) (arg1 arg2 : FVec Ideal S128x1x1024 .f32) (arg3 : FVec Ideal S1024 .f32) (arg4 : FVec Ideal S1024x5376 .f32) (b : Fin 128) (s : Fin 8) (j : Fin 5376) :
    rv19 arg0 arg1 arg2 arg3 arg4 (ix3 b s j) = Z arg0 arg1 arg2 arg3 arg4 b s j := by
  have e : ∀ k, rv18 arg0 arg1 arg2 arg3 (ix3 b s k) = _ := rv18_at arg0 arg1 arg2 arg3 arg4 b s
  pointwise [rv19]
  simp only [e]
  rfl

/-! The reference's six results, an entry of each. -/

theorem rv34_at (arg0 : FVec Ideal S128x8x1024 .f32) (arg1 arg2 : FVec Ideal S128x1x1024 .f32) (arg3 : FVec Ideal S1024 .f32) (arg4 : FVec Ideal S1024x5376 .f32) (b : Fin 128) (s : Fin 8) (j : Fin 1024) :
    rv34 arg0 arg1 arg2 arg3 arg4 (ix2 ⟨b * 8 + s, by omega⟩ j) = Z arg0 arg1 arg2 arg3 arg4 b s ⟨j, by omega⟩ := by
  rw [← rv19_at]
  pointwise [rv34]

theorem rv21_at (arg0 : FVec Ideal S128x8x1024 .f32) (arg1 arg2 : FVec Ideal S128x1x1024 .f32) (arg3 : FVec Ideal S1024 .f32) (arg4 : FVec Ideal S1024x5376 .f32) (b : Fin 128) (s : Fin 8) (j : Fin 128) :
    rv21 arg0 arg1 arg2 arg3 arg4 (ix3 b s j) = Z arg0 arg1 arg2 arg3 arg4 b s ⟨1024 + j, by omega⟩ := by
  rw [← rv19_at]
  pointwise [rv21]

theorem rv22_at (arg0 : FVec Ideal S128x8x1024 .f32) (arg1 arg2 : FVec Ideal S128x1x1024 .f32) (arg3 : FVec Ideal S1024 .f32) (arg4 : FVec Ideal S1024x5376 .f32) (b : Fin 128) (s : Fin 8) (j : Fin 128) :
    rv22 arg0 arg1 arg2 arg3 arg4 (ix3 b s j) = Z arg0 arg1 arg2 arg3 arg4 b s ⟨1152 + j, by omega⟩ := by
  rw [← rv19_at]
  pointwise [rv22]

theorem rv35_at (arg0 : FVec Ideal S128x8x1024 .f32) (arg1 arg2 : FVec Ideal S128x1x1024 .f32) (arg3 : FVec Ideal S1024 .f32) (arg4 : FVec Ideal S1024x5376 .f32) (b : Fin 128) (s : Fin 8) (j : Fin 128) :
    rv35 arg0 arg1 arg2 arg3 arg4 (ix2 ⟨b * 8 + s, by omega⟩ j) = Z arg0 arg1 arg2 arg3 arg4 b s ⟨1024 + j, by omega⟩ := by
  rw [← rv21_at]
  pointwise [rv35]

theorem rv36_at (arg0 : FVec Ideal S128x8x1024 .f32) (arg1 arg2 : FVec Ideal S128x1x1024 .f32) (arg3 : FVec Ideal S1024 .f32) (arg4 : FVec Ideal S1024x5376 .f32) (b : Fin 128) (s : Fin 8) (j : Fin 128) :
    rv36 arg0 arg1 arg2 arg3 arg4 (ix2 ⟨b * 8 + s, by omega⟩ j) = Z arg0 arg1 arg2 arg3 arg4 b s ⟨1152 + j, by omega⟩ := by
  rw [← rv22_at]
  pointwise [rv36]

theorem rv39_at (arg0 : FVec Ideal S128x8x1024 .f32) (arg1 arg2 : FVec Ideal S128x1x1024 .f32) (arg3 : FVec Ideal S1024 .f32) (arg4 : FVec Ideal S1024x5376 .f32) (b : Fin 128) (s : Fin 8) (j : Fin 1024) :
    rv39 arg0 arg1 arg2 arg3 arg4 (ix2 ⟨b * 8 + s, by omega⟩ j) = silu (Z arg0 arg1 arg2 arg3 arg4 b s ⟨1280 + j, by omega⟩) := by
  rw [← rv19_at]
  pointwise [rv39, silu]
  rfl

theorem rv43_at (arg0 : FVec Ideal S128x8x1024 .f32) (arg1 arg2 : FVec Ideal S128x1x1024 .f32) (arg3 : FVec Ideal S1024 .f32) (arg4 : FVec Ideal S1024x5376 .f32) (b : Fin 128) (s : Fin 8) (j : Fin 1024) :
    rv43 arg0 arg1 arg2 arg3 arg4 (ix2 ⟨b * 8 + s, by omega⟩ j) = silu (Z arg0 arg1 arg2 arg3 arg4 b s ⟨4352 + j, by omega⟩) := by
  rw [← rv19_at]
  pointwise [rv43, silu]
  rfl

theorem rv40_at (arg0 : FVec Ideal S128x8x1024 .f32) (arg1 arg2 : FVec Ideal S128x1x1024 .f32) (arg3 : FVec Ideal S1024 .f32) (arg4 : FVec Ideal S1024x5376 .f32) (b : Fin 128) (s : Fin 8) (j : Fin 1024) :
    rv40 arg0 arg1 arg2 arg3 arg4 (ix2 ⟨b * 8 + s, by omega⟩ j)
    = Z arg0 arg1 arg2 arg3 arg4 b s ⟨2304 + j, by omega⟩ * Ideal.logistic (Z arg0 arg1 arg2 arg3 arg4 b s ⟨3328 + j, by omega⟩) := by
  rw [← rv19_at, ← rv19_at]
  pointwise [rv40]
  rfl

set_option maxHeartbeats 2000000 in
/-- The run of the reference, its results as the arrays above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = rv34 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v35) = rv35 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v36) = rv36 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v39) = rv39 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v40) = rv40 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v43) = rv43 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by simp only [rv34, rv35, rv36, rv39, rv40, rv43, rv22, rv21, rv19, rv18]),
    (h c).2.1.trans (by simp only [rv34, rv35, rv36, rv39, rv40, rv43, rv22, rv21, rv19, rv18]),
    (h c).2.2.1.trans (by simp only [rv34, rv35, rv36, rv39, rv40, rv43, rv22, rv21, rv19, rv18]),
    (h c).2.2.2.1.trans (by simp only [rv34, rv35, rv36, rv39, rv40, rv43, rv22, rv21, rv19, rv18]),
    (h c).2.2.2.2.1.trans (by simp only [rv34, rv35, rv36, rv39, rv40, rv43, rv22, rv21, rv19, rv18]),
    (h c).2.2.2.2.2.1.trans (by simp only [rv34, rv35, rv36, rv39, rv40, rv43, rv22, rv21, rv19, rv18]),
    (h c).2.2.2.2.2.2⟩) (Cert.Reference5Ideal.Value.run m ρ)

end Cert.Reference5Ideal.InprojS
end
-- ==== Proof.InprojSArr.lean ====
module

public import Idealize.ShloMosaic.Lib.Pipeline.ValueKit
public import Idealize.ShloMosaic.Lib.Pipeline.ReadBack
public import proofs.«01_k».proof.Proof.Gen.Kernel5Ideal.Value
public import proofs.«01_k».proof.Proof.InprojSBlk
public import proofs.«01_k».proof.Proof.InprojSRef
public import Idealize.ShloMosaic.Lib.Pipeline.Covers
public import Idealize.ShloMosaic.Lib.WholeRead

@[expose] public section

set_option maxRecDepth 16384

noncomputable section

namespace Cert.Kernel5Ideal.InprojS

open Idealize.ShloMosaic Idealize.ShloMosaic.TcCoe Idealize.SL.Sem
open Cert.Kernel5Ideal Cert.Kernel5Ideal.Gen Cert.Proj

open Idealize.ShloMosaic.Pipeline (Dat)

theorem idxA : ∀ t : Fin cfg0.N, (win0_0.index t = ![t.val, 0, 0] ∧ win0_1.index t = ![t.val, 0, 0] ∧ win0_2.index t = ![t.val, 0, 0])
    ∧ (win0_3.index t = ![0, 0] ∧ win0_4.index t = ![0, 0]) :=
  (by decide +kernel : ∀ t : Fin grid0.N, _)

theorem idxB : ∀ t : Fin cfg0.N, (win0_5.index t = ![t.val, 0] ∧ win0_6.index t = ![t.val, 0] ∧ win0_7.index t = ![t.val, 0])
    ∧ (win0_8.index t = ![t.val, 0] ∧ win0_9.index t = ![t.val, 0] ∧ win0_10.index t = ![t.val, 0]) :=
  (by decide +kernel : ∀ t : Fin grid0.N, _)

variable (m : (ℓ : Loc nD τ sig) → Buf (Elt Ideal) ℓ)

theorem v0_eq (c : Dev nD) : V m c main_v0 = (truncf .bf16 (m ((c : Thread nD τ).loc main_arg4)) bitsLt_bf16_f32 : FVec Ideal S1024x5376 .bf16) := by
  show StableHlo.after hostOps0 _ _ = _
  simp only [hostOps0, StableHlo.TRef.binary, StableHlo.TRef.unary, StableHlo.TRef.toBuf, StableHlo.TRef.ofBuf, cast_eq]
  after_results_simp <;> rfl

theorem v1_eq (c : Dev nD) : V m c main_v1 = (shapeCast S1x1024 (m ((c : Thread nD τ).loc main_arg3)) shapeCasts_S1024_S1x1024 : FVec Ideal S1x1024 .f32) := by
  show StableHlo.after hostOps0 _ _ = _
  simp only [hostOps0, StableHlo.TRef.binary, StableHlo.TRef.unary, StableHlo.TRef.toBuf, StableHlo.TRef.ofBuf, cast_eq]
  after_results_simp <;> rfl

theorem cast_at (A : FVec Ideal S1024x5376 .f32) (k : Fin 1024) (j : Fin 5376) :
    (truncf .bf16 A bitsLt_bf16_f32 : FVec Ideal S1024x5376 .bf16) (ix2 k j) = A (ix2 k j) := by
  pointwise

theorem lift_at (A : FVec Ideal S1024 .f32) (j : Fin 1024) :
    (shapeCast S1x1024 A shapeCasts_S1024_S1x1024 : FVec Ideal S1x1024 .f32) (ix2 0 j) = A (ix1 j) := by
  pointwise

/-! The staged blocks, an entry of each as the arguments'. -/

theorem b0_at (c : Dev nD) (t : Fin cfg0.N) (a : Fin 32) (s : Fin 8) (j : Fin 1024) (b : Fin 128) (h : t.val * 32 + a = b) :
    iblk m c 0 t (ix3 a s j) = m ((c : Thread nD τ).loc main_arg0) (ix3 b s j) := by
  rw [← V_main_arg0 m c]
  refine Eq.trans (b := V m c main_arg0 (ix3 ⟨t.val * 32 + a, by omega⟩ s j)) ?_ (congrArg (fun z => V m c main_arg0 (ix3 z s j)) (Fin.ext h))
  blk_ext [iblk, (idxA t).1.1]

theorem b1_at (c : Dev nD) (t : Fin cfg0.N) (a : Fin 32) (j : Fin 1024) (b : Fin 128) (h : t.val * 32 + a = b) :
    iblk m c 1 t (ix3 a 0 j) = m ((c : Thread nD τ).loc main_arg1) (ix3 b 0 j) := by
  rw [← V_main_arg1 m c]
  refine Eq.trans (b := V m c main_arg1 (ix3 ⟨t.val * 32 + a, by omega⟩ 0 j)) ?_ (congrArg (fun z => V m c main_arg1 (ix3 z 0 j)) (Fin.ext h))
  blk_ext [iblk, (idxA t).1.2.1]

theorem b2_at (c : Dev nD) (t : Fin cfg0.N) (a : Fin 32) (j : Fin 1024) (b : Fin 128) (h : t.val * 32 + a = b) :
    iblk m c 2 t (ix3 a 0 j) = m ((c : Thread nD τ).loc main_arg2) (ix3 b 0 j) := by
  rw [← V_main_arg2 m c]
  refine Eq.trans (b := V m c main_arg2 (ix3 ⟨t.val * 32 + a, by omega⟩ 0 j)) ?_ (congrArg (fun z => V m c main_arg2 (ix3 z 0 j)) (Fin.ext h))
  blk_ext [iblk, (idxA t).1.2.2]

theorem b3_at (c : Dev nD) (t : Fin cfg0.N) (j : Fin 1024) :
    iblk m c 3 t (ix2 0 j) = m ((c : Thread nD τ).loc main_arg3) (ix1 j) := by
  refine Eq.trans (b := V m c main_v1 (ix2 0 j)) ?_ ((congrFun (v1_eq m c) _).trans (lift_at _ j))
  blk_ext [iblk, (idxA t).2.1]

theorem b4_at (c : Dev nD) (t : Fin cfg0.N) (k : Fin 1024) (j : Fin 5376) :
    iblk m c 4 t (ix2 k j) = m ((c : Thread nD τ).loc main_arg4) (ix2 k j) := by
  refine Eq.trans (b := V m c main_v0 (ix2 k j)) ?_ ((congrFun (v0_eq m c) _).trans (cast_at _ k j))
  blk_ext [iblk, (idxA t).2.2]

/-! Loads of whole blocks, and of the weight's columns. -/

theorem ld0 {e : EltTy} (x : Vec Ideal S32x8x1024 e) : View.ld x r0_0 = x := View.ld_unit_zero (by funext a; fin_cases a <;> rfl) _ _
theorem ld1 {e : EltTy} (x : Vec Ideal S1x1024 e) : View.ld x r0_1 = x := View.ld_unit_zero (by funext a; fin_cases a <;> rfl) _ _
theorem ld2 {e : EltTy} (x : Vec Ideal S32x1x1024 e) : View.ld x r0_2 = x := View.ld_unit_zero (by funext a; fin_cases a <;> rfl) _ _

theorem ld_q (x : Vec Ideal S1024x5376 .bf16) (k : Fin 1024) (j : Fin 1024) : View.ld x r0_3 (ix2 k j) = x (ix2 k ⟨j, by omega⟩) := by
  refine (congrFun (View.ld_unit x _ _ _) _).trans ?_
  pointwise
theorem ld_k (x : Vec Ideal S1024x5376 .bf16) (k : Fin 1024) (j : Fin 128) : View.ld x r0_5 (ix2 k j) = x (ix2 k ⟨1024 + j, by omega⟩) := by
  refine (congrFun (View.ld_unit x _ _ _) _).trans ?_
  pointwise
theorem ld_v (x : Vec Ideal S1024x5376 .bf16) (k : Fin 1024) (j : Fin 128) : View.ld x r0_7 (ix2 k j) = x (ix2 k ⟨1152 + j, by omega⟩) := by
  refine (congrFun (View.ld_unit x _ _ _) _).trans ?_
  pointwise
theorem ld_za (x : Vec Ideal S1024x5376 .bf16) (k : Fin 1024) (j : Fin 1024) : View.ld x r0_8 (ix2 k j) = x (ix2 k ⟨1280 + j, by omega⟩) := by
  refine (congrFun (View.ld_unit x _ _ _) _).trans ?_
  pointwise
theorem ld_ga (x : Vec Ideal S1024x5376 .bf16) (k : Fin 1024) (j : Fin 1024) : View.ld x r0_9 (ix2 k j) = x (ix2 k ⟨2304 + j, by omega⟩) := by
  refine (congrFun (View.ld_unit x _ _ _) _).trans ?_
  pointwise
theorem ld_gb (x : Vec Ideal S1024x5376 .bf16) (k : Fin 1024) (j : Fin 1024) : View.ld x r0_10 (ix2 k j) = x (ix2 k ⟨3328 + j, by omega⟩) := by
  refine (congrFun (View.ld_unit x _ _ _) _).trans ?_
  pointwise
theorem ld_zb (x : Vec Ideal S1024x5376 .bf16) (k : Fin 1024) (j : Fin 1024) : View.ld x r0_11 (ix2 k j) = x (ix2 k ⟨4352 + j, by omega⟩) := by
  refine (congrFun (View.ld_unit x _ _ _) _).trans ?_
  pointwise

/-- The normed and modulated row, at the launched arguments. -/
abbrev HR (c : Dev nD) (b : Fin 128) (s : Fin 8) : Fin 1024 → EReal :=
  modRow (fun k => (m ((c : Thread nD τ).loc main_arg0)) (ix3 b s k)) (fun k => (m ((c : Thread nD τ).loc main_arg3)) (ix1 k)) (fun k => (m ((c : Thread nD τ).loc main_arg2)) (ix3 b 0 k)) (fun k => (m ((c : Thread nD τ).loc main_arg1)) (ix3 b 0 k))

/-- The in-projection's entry, at the launched arguments. -/
abbrev ZR (c : Dev nD) (b : Fin 128) (s : Fin 8) (j : Fin 5376) : EReal :=
  Cert.Reference5Ideal.InprojS.Z (m ((c : Thread nD τ).loc main_arg0)) (m ((c : Thread nD τ).loc main_arg1)) (m ((c : Thread nD τ).loc main_arg2)) (m ((c : Thread nD τ).loc main_arg3)) (m ((c : Thread nD τ).loc main_arg4)) b s j

/-- The normed and modulated rows the body computes once. -/
theorem row_at (c : Dev nD) (t : Fin cfg0.N) (r : Fin 256) (b : Fin 128) (s : Fin 8) (h : t.val * 256 + r = b * 8 + s) (k : Fin 1024) :
    k0_pay5 (F := Ideal) (iblk m c 0 t) (iblk m c 3 t) (iblk m c 2 t) (iblk m c 1 t) (ix2 r k) = HR m c b s k := by
  have hr := r.isLt
  have hs := s.isLt
  have hb : t.val * 32 + (⟨r.val / 8, by omega⟩ : Fin 32) = b := by simp only []; omega
  have er : r = ⟨(⟨r.val / 8, by omega⟩ : Fin 32) * 8 + s, by simp only []; omega⟩ := Fin.ext (by simp only []; omega)
  refine (congrArg (fun z => k0_pay5 (F := Ideal) _ _ _ _ (ix2 z k)) er).trans ?_
  refine (h_at _ _ _ _ ⟨r.val / 8, by omega⟩ s k).trans ?_
  simp only [b0_at m c t _ s _ b hb, b1_at m c t _ _ b hb, b2_at m c t _ _ b hb, b3_at]

theorem h_eq (c : Dev nD) (t : Fin cfg0.N) : k0_pay8 (F := Ideal) (iblk m c 0 t) (iblk m c 1 t) (iblk m c 2 t) (iblk m c 3 t) (iblk m c 4 t) = k0_pay5 (iblk m c 0 t) (iblk m c 3 t) (iblk m c 2 t) (iblk m c 1 t) := by
  unfold k0_pay8
  rw [ld0, ld1, ld2, ld2]

theorem hrow_at (c : Dev nD) (t : Fin cfg0.N) (r : Fin 256) (b : Fin 128) (s : Fin 8) (h : t.val * 256 + r = b * 8 + s) (k : Fin 1024) :
    k0_pay8 (F := Ideal) (iblk m c 0 t) (iblk m c 1 t) (iblk m c 2 t) (iblk m c 3 t) (iblk m c 4 t) (ix2 r k) = HR m c b s k := by
  rw [h_eq]
  exact row_at m c t r b s h k

/-- The row times a column of the staged weight. -/
theorem sum_at (c : Dev nD) (t : Fin cfg0.N) (b : Fin 128) (s : Fin 8) (w : Fin 1024 → EReal) (j : Fin 5376)
    (hw : ∀ k, w k = iblk m c 4 t (ix2 k j)) : ∑ k : Fin 1024, HR m c b s k * w k = ZR m c b s j := by
  refine Finset.sum_congr rfl fun k _ => congrArg (HR m c b s k * ·) ?_
  exact (hw k).trans (b4_at m c t k j)

/-- The reference's result 0 at the launched arguments. -/
abbrev G5 (c : Dev nD) : FVec Ideal S1024x1024 .f32 := Cert.Reference5Ideal.InprojS.rv34 (m ((c : Thread nD τ).loc main_arg0)) (m ((c : Thread nD τ).loc main_arg1)) (m ((c : Thread nD τ).loc main_arg2)) (m ((c : Thread nD τ).loc main_arg3)) (m ((c : Thread nD τ).loc main_arg4))

theorem after5_at (c : Dev nD) (t : Fin cfg0.N) (r : Fin 256) (j : Fin 1024) :
    (dats m 0 c).after 5 t (ix2 r j) = G5 m c (ix2 ⟨t.val * 256 + r, by have := t.isLt; have : cfg0.N = 4 := rfl; omega⟩ j) := by
  have hN : cfg0.N = 4 := rfl
  have ht := t.isLt
  have hr := r.isLt
  have hs : t.val * 256 + r = (⟨t.val * 32 + r.val / 8, by omega⟩ : Fin 128) * 8 + (⟨r.val % 8, by omega⟩ : Fin 8) := by simp only []; omega
  rw [after0_5]; unfold out0_5
  rw [View.canon_unit_zero (by funext a; fin_cases a <;> rfl)]
  refine Eq.trans ?_ (((Cert.Reference5Ideal.InprojS.rv34_at _ _ _ _ _ ⟨t.val * 32 + r.val / 8, by omega⟩ ⟨r.val % 8, by omega⟩ j).symm).trans
    (congrArg (fun z => G5 m c (ix2 z j)) (Fin.ext hs.symm)))
  rw [ld0, ld1, ld2, ld2]
  exact (q_at _ _ _ _ _ _ r (row_at m c t r _ _ hs) j).trans (sum_at m c t _ _ _ _ fun k => ld_q _ k j)

theorem final5 (c : Dev nD) : (dats m 0 c).arrAt 5 cfg0.N = G5 m c := by
  refine (dats m 0 c).arrAt_eq_of_covers 5 _ (by decide +kernel) fun t _ y => ?_
  blk_simp
  idx_vars y
  have hG : G5 m c (((View.whole main_v2_0).slice (win0_5.rect t)).emb (ix2 y0 y1))
      = G5 m c (ix2 ⟨t.val * 256 + y0, by have := t.isLt; have : cfg0.grid.N = 4 := rfl; omega⟩ y1) := by
    blk_ext [(idxB t).1.1]
  rw [hG]
  exact after5_at m c t y0 y1

/-- The reference's result 1 at the launched arguments. -/
abbrev G6 (c : Dev nD) : FVec Ideal S1024x128 .f32 := Cert.Reference5Ideal.InprojS.rv35 (m ((c : Thread nD τ).loc main_arg0)) (m ((c : Thread nD τ).loc main_arg1)) (m ((c : Thread nD τ).loc main_arg2)) (m ((c : Thread nD τ).loc main_arg3)) (m ((c : Thread nD τ).loc main_arg4))

theorem after6_at (c : Dev nD) (t : Fin cfg0.N) (r : Fin 256) (j : Fin 128) :
    (dats m 0 c).after 6 t (ix2 r j) = G6 m c (ix2 ⟨t.val * 256 + r, by have := t.isLt; have : cfg0.N = 4 := rfl; omega⟩ j) := by
  have hN : cfg0.N = 4 := rfl
  have ht := t.isLt
  have hr := r.isLt
  have hs : t.val * 256 + r = (⟨t.val * 32 + r.val / 8, by omega⟩ : Fin 128) * 8 + (⟨r.val % 8, by omega⟩ : Fin 8) := by simp only []; omega
  rw [after0_6]; unfold out0_6
  rw [View.canon_unit_zero (by funext a; fin_cases a <;> rfl)]
  refine Eq.trans ?_ (((Cert.Reference5Ideal.InprojS.rv35_at _ _ _ _ _ ⟨t.val * 32 + r.val / 8, by omega⟩ ⟨r.val % 8, by omega⟩ j).symm).trans
    (congrArg (fun z => G6 m c (ix2 z j)) (Fin.ext hs.symm)))
  rw [ld0, ld1, ld2, ld2]
  exact (k_at _ _ _ _ _ _ r (row_at m c t r _ _ hs) j).trans (sum_at m c t _ _ _ _ fun k => ld_k _ k j)

theorem final6 (c : Dev nD) : (dats m 0 c).arrAt 6 cfg0.N = G6 m c := by
  refine (dats m 0 c).arrAt_eq_of_covers 6 _ (by decide +kernel) fun t _ y => ?_
  blk_simp
  idx_vars y
  have hG : G6 m c (((View.whole main_v2_1).slice (win0_6.rect t)).emb (ix2 y0 y1))
      = G6 m c (ix2 ⟨t.val * 256 + y0, by have := t.isLt; have : cfg0.grid.N = 4 := rfl; omega⟩ y1) := by
    blk_ext [(idxB t).1.2.1]
  rw [hG]
  exact after6_at m c t y0 y1

/-- The reference's result 2 at the launched arguments. -/
abbrev G7 (c : Dev nD) : FVec Ideal S1024x128 .f32 := Cert.Reference5Ideal.InprojS.rv36 (m ((c : Thread nD τ).loc main_arg0)) (m ((c : Thread nD τ).loc main_arg1)) (m ((c : Thread nD τ).loc main_arg2)) (m ((c : Thread nD τ).loc main_arg3)) (m ((c : Thread nD τ).loc main_arg4))

theorem after7_at (c : Dev nD) (t : Fin cfg0.N) (r : Fin 256) (j : Fin 128) :
    (dats m 0 c).after 7 t (ix2 r j) = G7 m c (ix2 ⟨t.val * 256 + r, by have := t.isLt; have : cfg0.N = 4 := rfl; omega⟩ j) := by
  have hN : cfg0.N = 4 := rfl
  have ht := t.isLt
  have hr := r.isLt
  have hs : t.val * 256 + r = (⟨t.val * 32 + r.val / 8, by omega⟩ : Fin 128) * 8 + (⟨r.val % 8, by omega⟩ : Fin 8) := by simp only []; omega
  rw [after0_7]; unfold out0_7
  rw [View.canon_unit_zero (by funext a; fin_cases a <;> rfl)]
  refine Eq.trans ?_ (((Cert.Reference5Ideal.InprojS.rv36_at _ _ _ _ _ ⟨t.val * 32 + r.val / 8, by omega⟩ ⟨r.val % 8, by omega⟩ j).symm).trans
    (congrArg (fun z => G7 m c (ix2 z j)) (Fin.ext hs.symm)))
  exact (v_at _ _ _ r (hrow_at m c t r _ _ hs) j).trans (sum_at m c t _ _ _ _ fun k => ld_v _ k j)

theorem final7 (c : Dev nD) : (dats m 0 c).arrAt 7 cfg0.N = G7 m c := by
  refine (dats m 0 c).arrAt_eq_of_covers 7 _ (by decide +kernel) fun t _ y => ?_
  blk_simp
  idx_vars y
  have hG : G7 m c (((View.whole main_v2_2).slice (win0_7.rect t)).emb (ix2 y0 y1))
      = G7 m c (ix2 ⟨t.val * 256 + y0, by have := t.isLt; have : cfg0.grid.N = 4 := rfl; omega⟩ y1) := by
    blk_ext [(idxB t).1.2.2]
  rw [hG]
  exact after7_at m c t y0 y1

/-- The reference's result 3 at the launched arguments. -/
abbrev G8 (c : Dev nD) : FVec Ideal S1024x1024 .bf16 := Cert.Reference5Ideal.InprojS.rv39 (m ((c : Thread nD τ).loc main_arg0)) (m ((c : Thread nD τ).loc main_arg1)) (m ((c : Thread nD τ).loc main_arg2)) (m ((c : Thread nD τ).loc main_arg3)) (m ((c : Thread nD τ).loc main_arg4))

theorem after8_at (c : Dev nD) (t : Fin cfg0.N) (r : Fin 256) (j : Fin 1024) :
    (dats m 0 c).after 8 t (ix2 r j) = G8 m c (ix2 ⟨t.val * 256 + r, by have := t.isLt; have : cfg0.N = 4 := rfl; omega⟩ j) := by
  have hN : cfg0.N = 4 := rfl
  have ht := t.isLt
  have hr := r.isLt
  have hs : t.val * 256 + r = (⟨t.val * 32 + r.val / 8, by omega⟩ : Fin 128) * 8 + (⟨r.val % 8, by omega⟩ : Fin 8) := by simp only []; omega
  rw [after0_8]; unfold out0_8
  rw [View.canon_unit_zero (by funext a; fin_cases a <;> rfl)]
  refine Eq.trans ?_ (((Cert.Reference5Ideal.InprojS.rv39_at _ _ _ _ _ ⟨t.val * 32 + r.val / 8, by omega⟩ ⟨r.val % 8, by omega⟩ j).symm).trans
    (congrArg (fun z => G8 m c (ix2 z j)) (Fin.ext hs.symm)))
  exact (sza_at _ _ _ r (hrow_at m c t r _ _ hs) j).trans (congrArg silu (sum_at m c t _ _ _ _ fun k => ld_za _ k j))

theorem final8 (c : Dev nD) : (dats m 0 c).arrAt 8 cfg0.N = G8 m c := by
  refine (dats m 0 c).arrAt_eq_of_covers 8 _ (by decide +kernel) fun t _ y => ?_
  blk_simp
  idx_vars y
  have hG : G8 m c (((View.whole main_v2_3).slice (win0_8.rect t)).emb (ix2 y0 y1))
      = G8 m c (ix2 ⟨t.val * 256 + y0, by have := t.isLt; have : cfg0.grid.N = 4 := rfl; omega⟩ y1) := by
    blk_ext [(idxB t).2.1]
  rw [hG]
  exact after8_at m c t y0 y1

/-- The reference's result 4 at the launched arguments. -/
abbrev G9 (c : Dev nD) : FVec Ideal S1024x1024 .f32 := Cert.Reference5Ideal.InprojS.rv40 (m ((c : Thread nD τ).loc main_arg0)) (m ((c : Thread nD τ).loc main_arg1)) (m ((c : Thread nD τ).loc main_arg2)) (m ((c : Thread nD τ).loc main_arg3)) (m ((c : Thread nD τ).loc main_arg4))

theorem after9_at (c : Dev nD) (t : Fin cfg0.N) (r : Fin 256) (j : Fin 1024) :
    (dats m 0 c).after 9 t (ix2 r j) = G9 m c (ix2 ⟨t.val * 256 + r, by have := t.isLt; have : cfg0.N = 4 := rfl; omega⟩ j) := by
  have hN : cfg0.N = 4 := rfl
  have ht := t.isLt
  have hr := r.isLt
  have hs : t.val * 256 + r = (⟨t.val * 32 + r.val / 8, by omega⟩ : Fin 128) * 8 + (⟨r.val % 8, by omega⟩ : Fin 8) := by simp only []; omega
  rw [after0_9]; unfold out0_9
  rw [View.canon_unit_zero (by funext a; fin_cases a <;> rfl)]
  refine Eq.trans ?_ (((Cert.Reference5Ideal.InprojS.rv40_at _ _ _ _ _ ⟨t.val * 32 + r.val / 8, by omega⟩ ⟨r.val % 8, by omega⟩ j).symm).trans
    (congrArg (fun z => G9 m c (ix2 z j)) (Fin.ext hs.symm)))
  exact (u_at _ _ _ _ r (hrow_at m c t r _ _ hs) j).trans (congrArg₂ (fun a b => a * Ideal.logistic b) (sum_at m c t _ _ _ _ fun k => ld_ga _ k j) (sum_at m c t _ _ _ _ fun k => ld_gb _ k j))

theorem final9 (c : Dev nD) : (dats m 0 c).arrAt 9 cfg0.N = G9 m c := by
  refine (dats m 0 c).arrAt_eq_of_covers 9 _ (by decide +kernel) fun t _ y => ?_
  blk_simp
  idx_vars y
  have hG : G9 m c (((View.whole main_v2_4).slice (win0_9.rect t)).emb (ix2 y0 y1))
      = G9 m c (ix2 ⟨t.val * 256 + y0, by have := t.isLt; have : cfg0.grid.N = 4 := rfl; omega⟩ y1) := by
    blk_ext [(idxB t).2.2.1]
  rw [hG]
  exact after9_at m c t y0 y1

/-- The reference's result 5 at the launched arguments. -/
abbrev G10 (c : Dev nD) : FVec Ideal S1024x1024 .bf16 := Cert.Reference5Ideal.InprojS.rv43 (m ((c : Thread nD τ).loc main_arg0)) (m ((c : Thread nD τ).loc main_arg1)) (m ((c : Thread nD τ).loc main_arg2)) (m ((c : Thread nD τ).loc main_arg3)) (m ((c : Thread nD τ).loc main_arg4))

theorem after10_at (c : Dev nD) (t : Fin cfg0.N) (r : Fin 256) (j : Fin 1024) :
    (dats m 0 c).after 10 t (ix2 r j) = G10 m c (ix2 ⟨t.val * 256 + r, by have := t.isLt; have : cfg0.N = 4 := rfl; omega⟩ j) := by
  have hN : cfg0.N = 4 := rfl
  have ht := t.isLt
  have hr := r.isLt
  have hs : t.val * 256 + r = (⟨t.val * 32 + r.val / 8, by omega⟩ : Fin 128) * 8 + (⟨r.val % 8, by omega⟩ : Fin 8) := by simp only []; omega
  rw [after0_10]; unfold out0_10
  rw [View.canon_unit_zero (by funext a; fin_cases a <;> rfl)]
  refine Eq.trans ?_ (((Cert.Reference5Ideal.InprojS.rv43_at _ _ _ _ _ ⟨t.val * 32 + r.val / 8, by omega⟩ ⟨r.val % 8, by omega⟩ j).symm).trans
    (congrArg (fun z => G10 m c (ix2 z j)) (Fin.ext hs.symm)))
  exact (szb_at _ _ _ r (hrow_at m c t r _ _ hs) j).trans (congrArg silu (sum_at m c t _ _ _ _ fun k => ld_zb _ k j))

theorem final10 (c : Dev nD) : (dats m 0 c).arrAt 10 cfg0.N = G10 m c := by
  refine (dats m 0 c).arrAt_eq_of_covers 10 _ (by decide +kernel) fun t _ y => ?_
  blk_simp
  idx_vars y
  have hG : G10 m c (((View.whole main_v2_5).slice (win0_10.rect t)).emb (ix2 y0 y1))
      = G10 m c (ix2 ⟨t.val * 256 + y0, by have := t.isLt; have : cfg0.grid.N = 4 := rfl; omega⟩ y1) := by
    blk_ext [(idxB t).2.2.2]
  rw [hG]
  exact after10_at m c t y0 y1

end Cert.Kernel5Ideal.InprojS
end
-- ==== Proof.OutSRef.lean ====
module

public import proofs.«01_k».proof.Proof.Gen.Reference6Ideal.Run
public import proofs.«01_k».proof.Proof.Rms

@[expose] public section

set_option maxRecDepth 16384

noncomputable section

namespace Cert.Reference6Ideal.OutS

open Idealize.ShloMosaic Idealize.ShloMosaic.TcCoe Idealize.SL.Sem
open Cert.Reference6Ideal Cert.Reference6Ideal.Gen Cert.Reference6Ideal.Value Cert.Proj

/-- The array `main_v7` of the printed program. -/
def rv7 (arg0 : FVec Ideal S1024x1024 .f32) (arg1 : FVec Ideal S1024x1024 .bf16) (arg2 : FVec Ideal S128x8x1024 .f32) (arg3 : FVec Ideal S128x1x1024 .f32) (arg4 : FVec Ideal S1024x1024 .f32) : FVec Ideal S128x8x1024 .f32 :=
  (addf arg2 (mulf (broadcastInDim S128x8x1024 ![0, 1, 2] bcast_S128x1x1024_S128x8x1024_0_1_2 arg3) (Host.dotGeneral dot_S128x8x1024_S1024x1024_S128x8x1024_2_0_01_1_n_n none (mulf (shapeCast S128x8x1024 arg0 shapeCasts_S1024x1024_S128x8x1024) (shapeCast S128x8x1024 (extf .f32 arg1 bitsLt_bf16_f32) shapeCasts_S1024x1024_S128x8x1024)) arg4)))

/-- The array `main_v20` of the printed program. -/
def rv20 (arg0 : FVec Ideal S1024x1024 .f32) (arg1 : FVec Ideal S1024x1024 .bf16) (arg2 : FVec Ideal S128x8x1024 .f32) (arg3 : FVec Ideal S128x1x1024 .f32) (arg4 : FVec Ideal S1024x1024 .f32) (arg5 : FVec Ideal S1024 .f32) : FVec Ideal S128x8x1024 .f32 :=
  (mulf (mulf (rv7 arg0 arg1 arg2 arg3 arg4) (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf (rv7 arg0 arg1 arg2 arg3 arg4) (rv7 arg0 arg1 arg2 arg3 arg4)) (constant (F := Ideal) S_ .f32 0x00000000#32) reducesTo_S128x8x1024_S128x8_d2 h_S_)) (broadcastInDim S128x8x1 ![] bcast_S_S128x8x1 (constant (F := Ideal) S_ .f32 0x44800000#32))) (broadcastInDim S128x8x1 ![] bcast_S_S128x8x1 (constant (F := Ideal) S_ .f32 0x358637BD#32)))))) (broadcastInDim S128x8x1024 ![0, 1, 2] bcast_S1x1x1024_S128x8x1024_0_1_2 (broadcastInDim S1x1x1024 ![2] bcast_S1024_S1x1x1024_2 arg5)))

/-- One entry of the residual rows. -/
theorem rv7_at (arg0 : FVec Ideal S1024x1024 .f32) (arg1 : FVec Ideal S1024x1024 .bf16) (arg2 : FVec Ideal S128x8x1024 .f32) (arg3 : FVec Ideal S128x1x1024 .f32) (arg4 : FVec Ideal S1024x1024 .f32)
    (b : Fin 128) (s : Fin 8) (j : Fin 1024) :
    rv7 arg0 arg1 arg2 arg3 arg4 (ix3 b s j) = resRow (fun j => arg2 (ix3 b s j)) (fun j => arg3 (ix3 b 0 j))
      (fun j => ∑ k : Fin 1024, (arg0 (ix2 ⟨b * 8 + s, by omega⟩ k) * arg1 (ix2 ⟨b * 8 + s, by omega⟩ k)) * arg4 (ix2 k j)) j := by
  pointwise [rv7, resRow]

/-- One entry of the reference's result. -/
theorem rv20_at (arg0 : FVec Ideal S1024x1024 .f32) (arg1 : FVec Ideal S1024x1024 .bf16) (arg2 : FVec Ideal S128x8x1024 .f32) (arg3 : FVec Ideal S128x1x1024 .f32) (arg4 : FVec Ideal S1024x1024 .f32)
    (arg5 : FVec Ideal S1024 .f32) (b : Fin 128) (s : Fin 8) (j : Fin 1024) :
    rv20 arg0 arg1 arg2 arg3 arg4 arg5 (ix3 b s j)
    = (fun X => X j * rms X * arg5 (ix1 j)) (resRow (fun j => arg2 (ix3 b s j)) (fun j => arg3 (ix3 b 0 j))
      (fun j => ∑ k : Fin 1024, (arg0 (ix2 ⟨b * 8 + s, by omega⟩ k) * arg1 (ix2 ⟨b * 8 + s, by omega⟩ k)) * arg4 (ix2 k j))) := by
  have e : ∀ k, rv7 arg0 arg1 arg2 arg3 arg4 (ix3 b s k) = _ := rv7_at arg0 arg1 arg2 arg3 arg4 b s

  pointwise [rv20, rms]
  simp only [e]

set_option maxHeartbeats 2000000 in
/-- The run of the reference, its results as the arrays above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = rv20 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by simp only [rv20, rv7]),
    (h c).2⟩) (Cert.Reference6Ideal.Value.run m ρ)

end Cert.Reference6Ideal.OutS
end
-- ==== Proof.OutSArr.lean ====
module

public import proofs.«01_k».proof.Proof.Gen.Kernel6Ideal.Value
public import Idealize.ShloMosaic.Lib.Pipeline.ValueKit
public import Idealize.ShloMosaic.Lib.Pipeline.ReadBack
public import proofs.«01_k».proof.Proof.Rms
public import proofs.«01_k».proof.Proof.OutSRef
public import Idealize.ShloMosaic.Lib.Pipeline.Covers
public import Idealize.ShloMosaic.Lib.WholeRead

@[expose] public section

set_option maxRecDepth 16384

noncomputable section

namespace Cert.Kernel6Ideal.OutS

open Idealize.ShloMosaic Idealize.ShloMosaic.TcCoe Idealize.SL.Sem
open Cert.Kernel6Ideal Cert.Kernel6Ideal.Gen Cert.Proj

open Idealize.ShloMosaic.Pipeline (Dat)

/-- One entry of the block the call stores. -/
theorem pay_at (v0 : Vec Ideal S256x1024 .f32) (v1 : Vec Ideal S256x1024 .bf16) (v5 : Vec Ideal S1024x1024 .bf16) (v8 : Vec Ideal S32x8x1024 .f32)
    (v9 : Vec Ideal S32x1x1024 .f32) (v24 : Vec Ideal S1x1024 .f32) (a : Fin 32) (s : Fin 8) (j : Fin 1024) :
    k0_pay1 (F := Ideal) v0 v1 v5 v8 v9 v24 (ix3 a s j)
    = (fun X => X j * rms X * v24 (ix2 0 j)) (resRow (fun j => v8 (ix3 a s j)) (fun j => v9 (ix3 a 0 j))
      fun j => ∑ k : Fin 1024, (v0 (ix2 ⟨a * 8 + s, by omega⟩ k) * v1 (ix2 ⟨a * 8 + s, by omega⟩ k)) * v5 (ix2 k j)) := by
  pointwise [k0_pay1, rms, resRow]

theorem idx0 : ∀ t : Fin cfg0.N, (win0_0.index t = ![t.val, 0] ∧ win0_1.index t = ![t.val, 0]
    ∧ win0_2.index t = ![0, 0]) ∧ (win0_3.index t = ![t.val, 0, 0] ∧ win0_4.index t = ![t.val, 0, 0]
    ∧ win0_5.index t = ![0, 0] ∧ win0_6.index t = ![t.val, 0, 0]) :=
  (by decide +kernel : ∀ t : Fin grid0.N, _)

variable (m : (ℓ : Loc nD τ sig) → Buf (Elt Ideal) ℓ)

/-- The weight the call reads: the argument's entries. -/
theorem v0_at (c : Dev nD) (k j : Fin 1024) : V m c main_v0 (ix2 k j) = m ((c : Thread nD τ).loc main_arg4) (ix2 k j) := by
  have e : V m c main_v0 = (truncf .bf16 (m ((c : Thread nD τ).loc main_arg4)) bitsLt_bf16_f32 : FVec Ideal S1024x1024 .bf16) := by
    show StableHlo.after hostOps0 _ _ = _
    simp only [hostOps0, StableHlo.TRef.binary, StableHlo.TRef.unary, StableHlo.TRef.toBuf, StableHlo.TRef.ofBuf, cast_eq]
    after_results_simp <;> rfl
  rw [e]; pointwise

/-- The norm's weights as the call reads them. -/
theorem v1_at (c : Dev nD) (j : Fin 1024) : V m c main_v1 (ix2 0 j) = m ((c : Thread nD τ).loc main_arg5) (ix1 j) := by
  have e : V m c main_v1 = (shapeCast S1x1024 (m ((c : Thread nD τ).loc main_arg5)) shapeCasts_S1024_S1x1024 : FVec Ideal S1x1024 .f32) := by
    show StableHlo.after hostOps0 _ _ = _
    simp only [hostOps0, StableHlo.TRef.binary, StableHlo.TRef.unary, StableHlo.TRef.toBuf, StableHlo.TRef.ofBuf, cast_eq]
    after_results_simp <;> rfl
  rw [e]; pointwise

theorem b0_at (c : Dev nD) (t : Fin cfg0.N) (r : Fin 256) (j : Fin 1024) :
    iblk m c 0 t (ix2 r j) = m ((c : Thread nD τ).loc main_arg0) (ix2 ⟨t.val * 256 + r, by have := t.isLt; have : cfg0.N = 4 := rfl; omega⟩ j) := by
  rw [← V_main_arg0 m c]
  blk_ext [iblk, (idx0 t).1.1]

theorem b1_at (c : Dev nD) (t : Fin cfg0.N) (r : Fin 256) (j : Fin 1024) :
    iblk m c 1 t (ix2 r j) = m ((c : Thread nD τ).loc main_arg1) (ix2 ⟨t.val * 256 + r, by have := t.isLt; have : cfg0.N = 4 := rfl; omega⟩ j) := by
  rw [← V_main_arg1 m c]
  blk_ext [iblk, (idx0 t).1.2.1]

theorem b2_at (c : Dev nD) (t : Fin cfg0.N) (k j : Fin 1024) :
    iblk m c 2 t (ix2 k j) = m ((c : Thread nD τ).loc main_arg4) (ix2 k j) := by
  rw [← v0_at m c]
  blk_ext [iblk, (idx0 t).1.2.2]

theorem b3_at (c : Dev nD) (t : Fin cfg0.N) (a : Fin 32) (s : Fin 8) (j : Fin 1024) :
    iblk m c 3 t (ix3 a s j) = m ((c : Thread nD τ).loc main_arg2) (ix3 ⟨t.val * 32 + a, by have := t.isLt; have : cfg0.N = 4 := rfl; omega⟩ s j) := by
  rw [← V_main_arg2 m c]
  blk_ext [iblk, (idx0 t).2.1]

theorem b4_at (c : Dev nD) (t : Fin cfg0.N) (a : Fin 32) (j : Fin 1024) :
    iblk m c 4 t (ix3 a 0 j) = m ((c : Thread nD τ).loc main_arg3) (ix3 ⟨t.val * 32 + a, by have := t.isLt; have : cfg0.N = 4 := rfl; omega⟩ 0 j) := by
  rw [← V_main_arg3 m c]
  blk_ext [iblk, (idx0 t).2.2.1]

theorem b5_at (c : Dev nD) (t : Fin cfg0.N) (j : Fin 1024) :
    iblk m c 5 t (ix2 0 j) = m ((c : Thread nD τ).loc main_arg5) (ix1 j) := by
  rw [← v1_at m c]
  blk_ext [iblk, (idx0 t).2.2.2.1]

/-- The reference's array at the launched arguments. -/
abbrev G (c : Dev nD) : FVec Ideal S128x8x1024 .f32 :=
  Cert.Reference6Ideal.OutS.rv20 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem after_at (c : Dev nD) (t : Fin cfg0.N) (a : Fin 32) (s : Fin 8) (j : Fin 1024) :
    (dats m 0 c).after 6 t (ix3 a s j) = G m c (ix3 ⟨t.val * 32 + a, by have := t.isLt; have : cfg0.N = 4 := rfl; omega⟩ s j) := by
  have hN : cfg0.N = 4 := rfl
  have ht := t.isLt
  have hs : (⟨t.val * 256 + (⟨a * 8 + s, by omega⟩ : Fin 256), by simp only []; omega⟩ : Fin 1024) = ⟨(⟨t.val * 32 + a, by omega⟩ : Fin 128) * 8 + s, by simp only []; omega⟩ :=
    Fin.ext (by simp only []; omega)
  rw [after0_6]; unfold out0_6
  rw [View.canon_unit_zero (by funext a; fin_cases a <;> rfl)]
  rw [View.ld_unit_zero (by funext a; fin_cases a <;> rfl), View.ld_unit_zero (by funext a; fin_cases a <;> rfl), View.ld_unit_zero (by funext a; fin_cases a <;> rfl),
    View.ld_unit_zero (by funext a; fin_cases a <;> rfl), View.ld_unit_zero (by funext a; fin_cases a <;> rfl), View.ld_unit_zero (by funext a; fin_cases a <;> rfl)]
  refine (pay_at ..).trans ?_
  refine Eq.trans ?_ (Cert.Reference6Ideal.OutS.rv20_at _ _ _ _ _ _ ⟨t.val * 32 + a, by omega⟩ s j).symm
  simp only [b0_at, b1_at, b2_at, b3_at, b4_at, b5_at, hs]

/-- The result array is the reference's. -/
theorem final (c : Dev nD) : (dats m 0 c).arrAt 6 cfg0.N = G m c := by
  refine (dats m 0 c).arrAt_eq_of_covers 6 _ (by decide +kernel) fun t _ y => ?_
  blk_simp
  idx_vars y
  have hG : G m c (((View.whole main_v2).slice (win0_6.rect t)).emb (ix3 y0 y1 y2))
      = G m c (ix3 ⟨t.val * 32 + y0, by have := t.isLt; have : cfg0.grid.N = 4 := rfl; omega⟩ y1 y2) := by
    blk_ext [(idx0 t).2.2.2.2]
  rw [hG]
  exact after_at m c t y0 y1 y2

end Cert.Kernel6Ideal.OutS
end
-- ==== Proof.SwaSBlk.lean ====
module

public import proofs.«01_k».proof.Proof.Gen.Kernel7Ideal.Skeleton
public import Idealize.ShloMosaic.Lib.Pointwise

@[expose] public section

set_option maxRecDepth 16384

noncomputable section

namespace Cert.Kernel7Ideal.SwaS

open Idealize.ShloMosaic Idealize.ShloMosaic.TcCoe Idealize.SL.Sem
open Cert.Kernel7Ideal Cert.Kernel7Ideal.Gen

theorem lt_lo : ∀ j : Fin 120, IntOp.cmpi .slt (BitVec.ofNat 32 j.val) 120#32 = 1#1 := by decide +kernel
theorem lt_hi : ∀ s : Fin 8, IntOp.cmpi .slt (BitVec.ofNat 32 (120 + s.val)) 120#32 = 0#1 := by decide +kernel

/-- The columns before the last eight are the old ones eight places on. -/
theorem mv_lo (n : Vec Ideal S8x128 .f32) (b : Vec Ideal S1x128x128 .f32) (i : Fin 128) (j : Fin 120) :
    k2_pay221 (F := Ideal) k2_pay3 (k2_pay4 n) b (ix3 0 i ⟨j, by omega⟩) = b (ix3 0 i ⟨j + 8, by omega⟩) := by
  pointwise [k2_pay221, k2_pay3, k2_pay4]
  rw [lt_lo]
  refine (if_pos rfl).trans ?_
  exact congrArg (fun z => b (ix3 0 i z)) (Fin.ext (by simp only []; omega))

/-- The last eight columns are the new rows. -/
theorem mv_hi (n : Vec Ideal S8x128 .f32) (b : Vec Ideal S1x128x128 .f32) (i : Fin 128) (s : Fin 8) :
    k2_pay221 (F := Ideal) k2_pay3 (k2_pay4 n) b (ix3 0 i ⟨120 + s, by omega⟩) = n (ix2 s i) := by
  pointwise [k2_pay221, k2_pay3, k2_pay4]
  rw [lt_hi, dif_pos (by omega)]
  refine (if_neg (by decide)).trans ?_
  exact congrArg (fun z => n (ix2 z i)) (Fin.ext (by simp only []; omega))

end Cert.Kernel7Ideal.SwaS
end
-- ==== Proof.SwaSRef.lean ====
module

public import proofs.«01_k».proof.Proof.Gen.Reference7Ideal.Run
public import Idealize.ShloMosaic.Lib.Pointwise

@[expose] public section

set_option maxRecDepth 16384

noncomputable section

namespace Cert.Reference7Ideal.SwaS

open Idealize.ShloMosaic Idealize.ShloMosaic.TcCoe Idealize.SL.Sem
open Cert.Reference7Ideal Cert.Reference7Ideal.Gen Cert.Reference7Ideal.Value

/-- A cache and the new rows after it, the window's last 128 rows, in the cache's layout. -/
def rbuf (old : FVec Ideal S128x128x2x64 .f32) (new : FVec Ideal S1024x128 .f32) : FVec Ideal S128x128x128 .f32 :=
  transpose S128x128x128 [0, 2, 1] (shapeCast S128x128x128 (extractStridedSlice S128x128x2x64 ![0, 8, 0, 0] (concatenate S128x136x2x64 1 [⟨S128x128x2x64, old⟩, ⟨S128x8x2x64, shapeCast S128x8x2x64 new shapeCasts_S1024x128_S128x8x2x64⟩] concatenates_S128x128x2x64_S128x8x2x64_S128x136x2x64_d1) slices_S128x136x2x64_S128x128x2x64_0_8_0_0) shapeCasts_S128x128x2x64_S128x128x128) transposes_S128x128x128_S128x128x128_0_2_1

theorem rbuf_lo (old : FVec Ideal S128x128x2x64 .f32) (new : FVec Ideal S1024x128 .f32) (b : Fin 128) (g : Fin 2) (d : Fin 64) (j : Fin 120) :
    rbuf old new (ix3 b ⟨g * 64 + d, by omega⟩ ⟨j, by omega⟩) = old (ix4 b ⟨j + 8, by omega⟩ g d) := by
  pointwise [rbuf]
  rw [dif_pos (by omega)]
  exact congrArg (fun z => old (ix4 b z g d)) (Fin.ext (by simp only []; omega))

theorem rbuf_hi (old : FVec Ideal S128x128x2x64 .f32) (new : FVec Ideal S1024x128 .f32) (b : Fin 128) (g : Fin 2) (d : Fin 64) (s : Fin 8) :
    rbuf old new (ix3 b ⟨g * 64 + d, by omega⟩ ⟨120 + s, by omega⟩) = new (ix2 ⟨b * 8 + s, by omega⟩ ⟨g * 64 + d, by omega⟩) := by
  pointwise [rbuf]
  rw [dif_neg (by omega)]
  exact congrArg (fun z => new (ix2 z ⟨g * 64 + d, by omega⟩)) (Fin.ext (by simp only []; omega))

/-- The run of the reference, its results as the arrays above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = rbuf (m ((c.tc : Thread nD τ).loc main_arg1)) (m ((c.tc : Thread nD τ).loc main_arg3))
      ∧ r.2.mem ((c.tc : Thread nD τ).loc main_v9) = rbuf (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference7Ideal.Value.run m ρ

end Cert.Reference7Ideal.SwaS
end
-- ==== Proof.SwaSArr.lean ====
module

public import proofs.«01_k».proof.Proof.Gen.Kernel7Ideal.Frame
public import Idealize.ShloMosaic.Lib.Pipeline.ValueKit
public import Idealize.ShloMosaic.Lib.Pipeline.ReadBack
public import proofs.«01_k».proof.Proof.SwaSBlk
public import proofs.«01_k».proof.Proof.SwaSRef
public import Idealize.ShloMosaic.Lib.Pipeline.Covers
public import Idealize.ShloMosaic.Lib.WholeRead

@[expose] public section

set_option maxRecDepth 16384

noncomputable section

namespace Cert.Kernel7Ideal.SwaS

open Idealize.ShloMosaic Idealize.ShloMosaic.TcCoe Idealize.ShloMosaic.Tactic
open Cert.Kernel7Ideal Cert.Kernel7Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- What a block's buffers become: the old columns eight places on, then the new rows. -/
def blkV (B : Vec Ideal S8x128x128 .f32) (N : Vec Ideal S64x128 .f32) : Vec Ideal S8x128x128 .f32 := fun y =>
  if h : (y 2 : Nat) < 120 then B (ix3 (y 0) (y 1) ⟨y 2 + 8, by omega⟩)
  else N (ix2 ⟨(y 0 : Nat) * 8 + ((y 2 : Nat) - 120), by have := (y 0).isLt; have := (y 2).isLt; simp at *; omega⟩ (y 1))

/-- One sequence's store, from its loads. -/
theorem tile (B : Vec Ideal S8x128x128 .f32) (N : Vec Ideal S64x128 .f32) (p o : ℕ) (hp : o = 8 * p) (y : S8x128x128.Idx)
    (hN : ∀ a, (![o, 0] : Fin S64x128.rank → ℕ) a + S8x128.size a ≤ S64x128.size a)
    (hB : ∀ a, (![p, 0, 0] : Fin S8x128x128.rank → ℕ) a + S1x128x128.size a ≤ S8x128x128.size a) :
    View.TileAt (Val := Elt Ideal) (e := .f32) y ![p, 0, 0] S1x128x128.size
      (k2_pay221 (F := Ideal) k2_pay3 (k2_pay4 (View.ld N (Rect.unit (s := S64x128) ![o, 0] S8x128.size hN)))
        (View.ld B (Rect.unit (s := S8x128x128) ![p, 0, 0] S1x128x128.size hB))) (blkV B N y) := by
  intro x hx
  obtain ⟨x0, x1, x2, rfl⟩ : ∃ (x0 : Fin 1) (x1 x2 : Fin 128), x = ix3 x0 x1 x2 := ⟨x 0, x 1, x 2, (ix3_eta x).symm⟩
  obtain ⟨y0, y1, y2, rfl⟩ : ∃ (y0 : Fin 8) (y1 y2 : Fin 128), y = ix3 y0 y1 y2 := ⟨y 0, y 1, y 2, (ix3_eta y).symm⟩
  have h0 : y0.val = p + x0.val := hx 0
  have h1 : y1.val = 0 + x1.val := hx 1
  have h2 : y2.val = 0 + x2.val := hx 2
  obtain rfl : x0 = 0 := Subsingleton.elim _ _
  obtain rfl : y1 = x1 := Fin.ext (by omega)
  obtain rfl : y2 = x2 := Fin.ext (by omega)
  have hx1 := y1.isLt
  have hx2 := y2.isLt
  by_cases h : y2.val < 120
  · refine Eq.trans ?_ (dif_pos h : blkV B N (ix3 y0 y1 y2) = _).symm
    refine (mv_lo _ _ y1 ⟨y2, h⟩).trans ?_
    refine (congrFun (View.ld_unit B _ _ _) _).trans ?_
    refine congrArg B (funext fun a => Fin.ext ?_)
    fin_cases a
    · show p + 0 = y0.val; simp at h0; omega
    · show 0 + y1.val = y1.val; omega
    · show 0 + (y2.val + 8) = y2.val + 8; omega
  · refine Eq.trans ?_ (dif_neg h : blkV B N (ix3 y0 y1 y2) = _).symm
    have e : y2 = ⟨120 + (⟨y2 - 120, by omega⟩ : Fin 8), by simp only []; omega⟩ := Fin.ext (by simp only []; omega)
    refine (congrArg (fun z => k2_pay221 (F := Ideal) k2_pay3 _ _ (ix3 0 y1 z)) e).trans ?_
    refine (mv_hi _ _ y1 ⟨y2 - 120, by omega⟩).trans ?_
    refine (congrFun (View.ld_unit N _ _ _) _).trans ?_
    refine congrArg N (funext fun a => Fin.ext ?_)
    fin_cases a
    · show o + (y2.val - 120) = y0.val * 8 + (y2.val - 120); simp at h0; omega
    · show 0 + y1.val = y1.val; omega

theorem out9 (x0 : Vec Ideal S64x1024 .f32) (x1 : Vec Ideal S8x128x128 .f32) (x2 : Vec Ideal S64x128 .f32) (x3 : Vec Ideal S8x128x128 .f32) (x4 : Vec Ideal S64x128 .f32) (x5 x6 : Vec Ideal S128x128 .f32) (x7 : Vec Ideal S128x1 .f32) :
    out2_9 x0 x1 x2 x3 x4 x5 x6 x7 = blkV x1 x2 := by
  funext y
  unfold out2_9
  refine View.canon_eq_of_allAt _ y _ (cover2_9 _ _ _ _ _ _ _ _ y) ?_
  exact View.allAt_cons_unit _ _ _ _ _ (tile x1 x2 7 56 rfl y _ _) <| View.allAt_cons_unit _ _ _ _ _ (tile x1 x2 6 48 rfl y _ _) <|
    View.allAt_cons_unit _ _ _ _ _ (tile x1 x2 5 40 rfl y _ _) <| View.allAt_cons_unit _ _ _ _ _ (tile x1 x2 4 32 rfl y _ _) <|
    View.allAt_cons_unit _ _ _ _ _ (tile x1 x2 3 24 rfl y _ _) <| View.allAt_cons_unit _ _ _ _ _ (tile x1 x2 2 16 rfl y _ _) <|
    View.allAt_cons_unit _ _ _ _ _ (tile x1 x2 1 8 rfl y _ _) <| View.allAt_cons_unit _ _ _ _ _ (tile x1 x2 0 0 rfl y _ _) <| View.allAt_nil _ _

theorem out10 (x0 : Vec Ideal S64x1024 .f32) (x1 : Vec Ideal S8x128x128 .f32) (x2 : Vec Ideal S64x128 .f32) (x3 : Vec Ideal S8x128x128 .f32) (x4 : Vec Ideal S64x128 .f32) (x5 x6 : Vec Ideal S128x128 .f32) (x7 : Vec Ideal S128x1 .f32) :
    out2_10 x0 x1 x2 x3 x4 x5 x6 x7 = blkV x3 x4 := by
  funext y
  unfold out2_10
  refine View.canon_eq_of_allAt _ y _ (cover2_10 _ _ _ _ _ _ _ _ y) ?_
  exact View.allAt_cons_unit _ _ _ _ _ (tile x3 x4 7 56 rfl y _ _) <| View.allAt_cons_unit _ _ _ _ _ (tile x3 x4 6 48 rfl y _ _) <|
    View.allAt_cons_unit _ _ _ _ _ (tile x3 x4 5 40 rfl y _ _) <| View.allAt_cons_unit _ _ _ _ _ (tile x3 x4 4 32 rfl y _ _) <|
    View.allAt_cons_unit _ _ _ _ _ (tile x3 x4 3 24 rfl y _ _) <| View.allAt_cons_unit _ _ _ _ _ (tile x3 x4 2 16 rfl y _ _) <|
    View.allAt_cons_unit _ _ _ _ _ (tile x3 x4 1 8 rfl y _ _) <| View.allAt_cons_unit _ _ _ _ _ (tile x3 x4 0 0 rfl y _ _) <| View.allAt_nil _ _

theorem idx2 : ∀ t : Fin cfg2.N, (win2_1.index t = ![t.val, 0, 0] ∧ win2_2.index t = ![t.val, 0] ∧ win2_3.index t = ![t.val, 0, 0])
    ∧ (win2_4.index t = ![t.val, 0] ∧ win2_9.index t = ![t.val, 0, 0] ∧ win2_10.index t = ![t.val, 0, 0]) :=
  (by decide +kernel : ∀ t : Fin grid2.N, _)

section Arrays

variable (V : (c : Dev nD) → (b : Ref sig .tc) → Buf (Elt Ideal) ((c : Thread nD τ).loc b))

theorem b1_at (c : Dev nD) (t : Fin cfg2.N) (p : Fin 8) (i j : Fin 128) :
    iblk2 V c 1 t (ix3 p i j) = V c main_v1 (ix3 ⟨t.val * 8 + p, by have := t.isLt; have : cfg2.N = 16 := rfl; omega⟩ i j) := by
  blk_ext [iblk2, (idx2 t).1.1]

theorem b2_at (c : Dev nD) (t : Fin cfg2.N) (r : Fin 64) (i : Fin 128) :
    iblk2 V c 2 t (ix2 r i) = V c main_arg3 (ix2 ⟨t.val * 64 + r, by have := t.isLt; have : cfg2.N = 16 := rfl; omega⟩ i) := by
  blk_ext [iblk2, (idx2 t).1.2.1]

theorem b3_at (c : Dev nD) (t : Fin cfg2.N) (p : Fin 8) (i j : Fin 128) :
    iblk2 V c 3 t (ix3 p i j) = V c main_v3 (ix3 ⟨t.val * 8 + p, by have := t.isLt; have : cfg2.N = 16 := rfl; omega⟩ i j) := by
  blk_ext [iblk2, (idx2 t).1.2.2]

theorem b4_at (c : Dev nD) (t : Fin cfg2.N) (r : Fin 64) (i : Fin 128) :
    iblk2 V c 4 t (ix2 r i) = V c main_arg4 (ix2 ⟨t.val * 64 + r, by have := t.isLt; have : cfg2.N = 16 := rfl; omega⟩ i) := by
  blk_ext [iblk2, (idx2 t).2.1]

end Arrays

/-- A cache in the layout of the call: by channel, then by row. -/
def lay (old : FVec Ideal S128x128x2x64 .f32) : FVec Ideal S128x128x128 .f32 :=
  shapeCast S128x128x128 (transpose S128x2x64x128 [0, 2, 3, 1] old transposes_S128x128x2x64_S128x2x64x128_0_2_3_1) shapeCasts_S128x2x64x128_S128x128x128

theorem lay_at (old : FVec Ideal S128x128x2x64 .f32) (b : Fin 128) (g : Fin 2) (d : Fin 64) (j : Fin 128) :
    lay old (ix3 b ⟨g * 64 + d, by omega⟩ j) = old (ix4 b j g d) := by
  pointwise [lay]

/-- A block of the reference's array, from the blocks of the cache and of the new rows. -/
theorem blk_eq (B : Vec Ideal S8x128x128 .f32) (N : Vec Ideal S64x128 .f32) (old : FVec Ideal S128x128x2x64 .f32) (new : FVec Ideal S1024x128 .f32)
    (t : ℕ) (ht : t < 16) (hB : ∀ (p : Fin 8) (i j : Fin 128), B (ix3 p i j) = lay old (ix3 ⟨t * 8 + p, by omega⟩ i j))
    (hN : ∀ (r : Fin 64) (i : Fin 128), N (ix2 r i) = new (ix2 ⟨t * 64 + r, by omega⟩ i)) (p : Fin 8) (i j : Fin 128) :
    blkV B N (ix3 p i j) = Cert.Reference7Ideal.SwaS.rbuf old new (ix3 ⟨t * 8 + p, by omega⟩ i j) := by
  have hi := i.isLt
  have hj := j.isLt
  have hp := p.isLt
  have ei : i = ⟨(⟨i / 64, by omega⟩ : Fin 2) * 64 + (⟨i % 64, by omega⟩ : Fin 64), by simp only []; omega⟩ := Fin.ext (by simp only []; omega)
  by_cases h : j.val < 120
  · refine (dif_pos h : blkV B N (ix3 p i j) = _).trans ?_
    refine (hB p i ⟨j + 8, by omega⟩).trans ?_
    have ej : j = ⟨(⟨j, h⟩ : Fin 120), by simp only []; omega⟩ := rfl
    refine (congrArg (fun z => lay old (ix3 _ z _)) ei).trans ((lay_at ..).trans ?_)
    refine Eq.trans ?_ (congrArg (fun z => Cert.Reference7Ideal.SwaS.rbuf old new (ix3 ⟨t * 8 + p, by omega⟩ z j)) ei.symm)
    exact (Cert.Reference7Ideal.SwaS.rbuf_lo old new ⟨t * 8 + p, by omega⟩ ⟨i / 64, by omega⟩ ⟨i % 64, by omega⟩ ⟨j, h⟩).symm
  · refine (dif_neg h : blkV B N (ix3 p i j) = _).trans ?_
    refine (hN ⟨p * 8 + (j - 120), by omega⟩ i).trans ?_
    have ej : j = ⟨120 + (⟨j - 120, by omega⟩ : Fin 8), by simp only []; omega⟩ := Fin.ext (by simp only []; omega)
    refine Eq.trans ?_ ((congrArg (fun z => Cert.Reference7Ideal.SwaS.rbuf old new (ix3 ⟨t * 8 + p, by omega⟩ z j)) ei).trans
      ((congrArg (fun z => Cert.Reference7Ideal.SwaS.rbuf old new (ix3 _ _ z)) ej).trans
      (Cert.Reference7Ideal.SwaS.rbuf_hi old new ⟨t * 8 + p, by omega⟩ ⟨i / 64, by omega⟩ ⟨i % 64, by omega⟩ ⟨j - 120, by omega⟩))).symm
    refine (congrArg (fun z => new (ix2 z i)) (Fin.ext ?_)).trans (congrArg (fun z => new (ix2 _ z)) ei)
    show t * 64 + (p.val * 8 + (j.val - 120)) = (t * 8 + p.val) * 8 + (j.val - 120)
    omega

variable (m : (ℓ : Loc nD τ sig) → Buf (Elt Ideal) ℓ) (ρ : Dev nD → PrngReg)

/-- A buffer that nothing after the first host stretch writes. -/
theorem V13_of (c : Dev nD) (r : Ref sig .tc) (h1 : r ∉ hostOps0_1_W) (h2 : r ∉ hostOps0_2_W) (h3 : r ∉ hostOps0_3_W) (h4 : r ∉ hostOps0_4_W)
    (h5 : r ∉ hostOps0_5_W) (h6 : r ∉ hostOps0_6_W) (h7 : r ∉ hostOps0_7_W) (h8 : r ∉ hostOps0_8_W)
    (g0 : ∀ w : Fin cfg0.W, Pipeline.arrRef spec0 w = r → (cfg0.win w).isOut = false) (k1 : r ∉ hostOps1_W)
    (g1 : ∀ w : Fin cfg1.W, Pipeline.arrRef spec1 w = r → (cfg1.win w).isOut = false) (k2 : r ∉ hostOps2_W) :
    V13 m ρ c r = W1 m ρ c (Proc.devRef .tc r) :=
  (W13_of m ρ c r k2).trans <| (W12_of m ρ c r g1).trans <| (W11_of m ρ c r k1).trans <| (W10_of m ρ c r g0).trans <|
  (W9_of m ρ c r h8).trans <| (W8_of m ρ c r h7).trans <| (W7_of m ρ c r h6).trans <| (W6_of m ρ c r h5).trans <|
  (W5_of m ρ c r h4).trans <| (W4_of m ρ c r h3).trans <| (W3_of m ρ c r h2).trans <| W2_of m ρ c r h1

theorem v1_eq (c : Dev nD) : V13 m ρ c main_v1 = lay (m ((c : Thread nD τ).loc main_arg1)) := by
  rw [V13_of m ρ c main_v1 (by decide) (by decide) (by decide) (by decide) (by decide) (by decide) (by decide) (by decide) (by decide) (by decide) (by decide) (by decide)]
  show StableHlo.after hostOps0 (W0 m ρ c) _ = _
  simp only [hostOps0, StableHlo.TRef.binary, StableHlo.TRef.ternary, StableHlo.TRef.unary, StableHlo.TRef.toBuf, StableHlo.TRef.ofBuf, cast_eq]
  after_results_simp
  rfl

theorem v3_eq (c : Dev nD) : V13 m ρ c main_v3 = lay (m ((c : Thread nD τ).loc main_arg2)) := by
  rw [V13_of m ρ c main_v3 (by decide) (by decide) (by decide) (by decide) (by decide) (by decide) (by decide) (by decide) (by decide) (by decide) (by decide) (by decide)]
  show StableHlo.after hostOps0 (W0 m ρ c) _ = _
  simp only [hostOps0, StableHlo.TRef.binary, StableHlo.TRef.ternary, StableHlo.TRef.unary, StableHlo.TRef.toBuf, StableHlo.TRef.ofBuf, cast_eq]
  after_results_simp
  rfl

/-- The reference's arrays at the launched arguments. -/
abbrev G9 (c : Dev nD) : FVec Ideal S128x128x128 .f32 :=
  Cert.Reference7Ideal.SwaS.rbuf (m ((c : Thread nD τ).loc main_arg1)) (m ((c : Thread nD τ).loc main_arg3))
abbrev G10 (c : Dev nD) : FVec Ideal S128x128x128 .f32 :=
  Cert.Reference7Ideal.SwaS.rbuf (m ((c : Thread nD τ).loc main_arg2)) (m ((c : Thread nD τ).loc main_arg4))

theorem final9 (c : Dev nD) : (dat2 (V13 m ρ) c).arrAt 9 cfg2.N = G9 m c := by
  refine (dat2 (V13 m ρ) c).arrAt_eq_of_covers 9 _ (by decide +kernel) fun t _ y => ?_
  blk_simp
  idx_vars y
  have ht : t.val < 16 := t.isLt
  have hG : G9 m c (((View.whole main_v89_1).slice (win2_9.rect t)).emb (ix3 y0 y1 y2)) = G9 m c (ix3 ⟨t.val * 8 + y0, by omega⟩ y1 y2) := by
    blk_ext [(idx2 t).2.2.1]
  rw [hG]
  refine (congrFun ((after2_9 (V13 m ρ) c t).trans (out9 ..)) _).trans ?_
  refine blk_eq _ _ _ _ t.val ht (fun p i j => ?_) (fun r i => ?_) y0 y1 y2
  · exact (b1_at (V13 m ρ) c t p i j).trans (congrFun (v1_eq m ρ c) _)
  · exact (b2_at (V13 m ρ) c t r i).trans (congrFun (W13_args m ρ c main_arg3 (by decide)) _)

theorem final10 (c : Dev nD) : (dat2 (V13 m ρ) c).arrAt 10 cfg2.N = G10 m c := by
  refine (dat2 (V13 m ρ) c).arrAt_eq_of_covers 10 _ (by decide +kernel) fun t _ y => ?_
  blk_simp
  idx_vars y
  have ht : t.val < 16 := t.isLt
  have hG : G10 m c (((View.whole main_v89_2).slice (win2_10.rect t)).emb (ix3 y0 y1 y2)) = G10 m c (ix3 ⟨t.val * 8 + y0, by omega⟩ y1 y2) := by
    blk_ext [(idx2 t).2.2.2]
  rw [hG]
  refine (congrFun ((after2_10 (V13 m ρ) c t).trans (out10 ..)) _).trans ?_
  refine blk_eq _ _ _ _ t.val ht (fun p i j => ?_) (fun r i => ?_) y0 y1 y2
  · exact (b3_at (V13 m ρ) c t p i j).trans (congrFun (v3_eq m ρ c) _)
  · exact (b4_at (V13 m ρ) c t r i).trans (congrFun (W13_args m ρ c main_arg4 (by decide)) _)

end Cert.Kernel7Ideal.SwaS
end
-- ==== Proof.SwaSRun.lean ====
module

public import proofs.«01_k».proof.Proof.SwaSArr

@[expose] public section

set_option maxRecDepth 16384

noncomputable section

namespace Cert.Kernel7Ideal.SwaS

open Idealize.ShloMosaic Idealize.ShloMosaic.TcCoe Idealize.ShloMosaic.Tactic
open Cert.Kernel7Ideal Cert.Kernel7Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of the program, its two results read as well. -/
theorem run_blocks : θ_run defs (onTc (τ := τ) (main (F := Ideal))) ⟨m, fun _ => 0, ρ⟩ (fun r => ∀ c : Dev nD,
      r.2.mem ((c.tc : Thread nD τ).loc main_v89_1) = (dat2 (V13 m ρ) c).arrAt 9 cfg2.N
      ∧ r.2.mem ((c.tc : Thread nD τ).loc main_v89_2) = (dat2 (V13 m ρ) c).arrAt 10 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ => (fun c =>
      ⟨(h c _ (mem_uc main_v89_1 (by decide))).trans (W14_arr m ρ c 9),
       (h c _ (mem_uc main_v89_2 (by decide))).trans (W14_arr m ρ c 10),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩))

end Cert.Kernel7Ideal.SwaS
end
-- ==== Proof.ModRef.lean ====
module

public import proofs.«01_k».proof.Proof.Gen.Reference8Ideal.Run
public import proofs.«01_k».proof.Proof.Rms

@[expose] public section

set_option maxRecDepth 16384

noncomputable section

namespace Cert.Reference8Ideal.Mod

open Idealize.ShloMosaic Idealize.ShloMosaic.TcCoe Idealize.SL.Sem
open Cert.Reference8Ideal Cert.Reference8Ideal.Gen Cert.Reference8Ideal.Value Cert.Proj

/-- The array `main_v4` of the printed program. -/
def rv4 (arg0 : FVec Ideal S136x1024 .f32) (arg1 : FVec Ideal S1024x3072 .f32) (arg2 : FVec Ideal S3072 .f32) : FVec Ideal S136x3072 .f32 :=
  addf (Host.dotGeneral dot_S136x1024_S1024x3072_S136x3072_1_0_0_1_n_n none (mulf arg0 (Host.divf (broadcastInDim S136x1024 ![] bcast_S_S136x1024 (constant (F := Ideal) S_ .f32 0x3F800000#32)) (addf (broadcastInDim S136x1024 ![] bcast_S_S136x1024 (constant (F := Ideal) S_ .f32 0x3F800000#32)) (Host.exp (Host.negf arg0))))) arg1) (broadcastInDim S136x3072 ![0, 1] bcast_S1x3072_S136x3072_0_1 (broadcastInDim S1x3072 ![1] bcast_S3072_S1x3072_1 arg2))

/-- One entry of the reference's result. -/
theorem rv4_at (arg0 : FVec Ideal S136x1024 .f32) (arg1 : FVec Ideal S1024x3072 .f32) (arg2 : FVec Ideal S3072 .f32) (r : Fin 136) (j : Fin 3072) :
    rv4 arg0 arg1 arg2 (ix2 r j) = (∑ k : Fin 1024, silu (arg0 (ix2 r k)) * arg1 (ix2 k j)) + arg2 (ix1 j) := by
  pointwise [rv4, silu]
  rfl

/-- The run of the reference, its result as the array above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = rv4 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by simp only [rv4]), (h c).2⟩) (Cert.Reference8Ideal.Value.run m ρ)

end Cert.Reference8Ideal.Mod
end
-- ==== Proof.ModArr.lean ====
module

public import proofs.«01_k».proof.Proof.Gen.Kernel8Ideal.Value
public import Idealize.ShloMosaic.Lib.Pipeline.ValueKit
public import Idealize.ShloMosaic.Lib.Pipeline.ReadBack
public import proofs.«01_k».proof.Proof.Rms
public import proofs.«01_k».proof.Proof.ModRef
public import Idealize.ShloMosaic.Lib.Pipeline.Covers
public import Idealize.ShloMosaic.Lib.WholeRead

@[expose] public section

set_option maxRecDepth 16384

noncomputable section

namespace Cert.Kernel8Ideal.Mod

open Idealize.ShloMosaic Idealize.ShloMosaic.TcCoe Idealize.SL.Sem
open Cert.Kernel8Ideal Cert.Kernel8Ideal.Gen Cert.Proj

open Idealize.ShloMosaic.Pipeline (Dat)

/-- One entry of the block the call stores. -/
theorem pay_at (v0 : Vec Ideal S136x1024 .f32) (v3 : Vec Ideal S1024x512 .f32) (v5 : Vec Ideal S1x512 .f32) (r : Fin 136) (j : Fin 512) :
    k0_pay1 (F := Ideal) v0 v3 v5 (ix2 r j) = (∑ k : Fin 1024, silu (v0 (ix2 r k)) * v3 (ix2 k j)) + v5 (ix2 0 j) := by
  pointwise [k0_pay1, silu]

theorem idx0 : ∀ t : Fin cfg0.N, (win0_0.index t = ![0, 0] ∧ win0_1.index t = ![0, t.val])
    ∧ (win0_2.index t = ![0, t.val] ∧ win0_3.index t = ![0, t.val]) :=
  (by decide +kernel : ∀ t : Fin grid0.N, _)

variable (m : (ℓ : Loc nD τ sig) → Buf (Elt Ideal) ℓ)

/-- The bias as the call reads it. -/
theorem v0_at (c : Dev nD) (j : Fin 3072) : V m c main_v0 (ix2 0 j) = m ((c : Thread nD τ).loc main_arg2) (ix1 j) := by
  have e : V m c main_v0 = (shapeCast S1x3072 (m ((c : Thread nD τ).loc main_arg2)) shapeCasts_S3072_S1x3072 : FVec Ideal S1x3072 .f32) := by
    show StableHlo.after hostOps0 _ _ = _
    simp only [hostOps0, StableHlo.TRef.binary, StableHlo.TRef.unary, StableHlo.TRef.toBuf, StableHlo.TRef.ofBuf, cast_eq]
    after_results_simp <;> rfl
  rw [e]; pointwise

theorem b0_at (c : Dev nD) (t : Fin cfg0.N) (r : Fin 136) (j : Fin 1024) :
    iblk m c 0 t (ix2 r j) = m ((c : Thread nD τ).loc main_arg0) (ix2 r j) := by
  rw [← V_main_arg0 m c]
  blk_ext [iblk, (idx0 t).1.1]

theorem b1_at (c : Dev nD) (t : Fin cfg0.N) (k : Fin 1024) (j : Fin 512) :
    iblk m c 1 t (ix2 k j) = m ((c : Thread nD τ).loc main_arg1) (ix2 k ⟨t.val * 512 + j, by have := t.isLt; have : cfg0.N = 6 := rfl; omega⟩) := by
  rw [← V_main_arg1 m c]
  blk_ext [iblk, (idx0 t).1.2]

theorem b2_at (c : Dev nD) (t : Fin cfg0.N) (j : Fin 512) :
    iblk m c 2 t (ix2 0 j) = m ((c : Thread nD τ).loc main_arg2) (ix1 ⟨t.val * 512 + j, by have := t.isLt; have : cfg0.N = 6 := rfl; omega⟩) := by
  rw [← v0_at m c]
  blk_ext [iblk, (idx0 t).2.1]

/-- The reference's array at the launched arguments. -/
abbrev G (c : Dev nD) : FVec Ideal S136x3072 .f32 :=
  Cert.Reference8Ideal.Mod.rv4 (m ((c : Thread nD τ).loc main_arg0)) (m ((c : Thread nD τ).loc main_arg1)) (m ((c : Thread nD τ).loc main_arg2))

theorem after_at (c : Dev nD) (t : Fin cfg0.N) (r : Fin 136) (j : Fin 512) :
    (dats m 0 c).after 3 t (ix2 r j) = G m c (ix2 r ⟨t.val * 512 + j, by have := t.isLt; have : cfg0.N = 6 := rfl; omega⟩) := by
  rw [after0_3]; unfold out0_3
  rw [View.canon_unit_zero (by funext a; fin_cases a <;> rfl)]
  rw [View.ld_unit_zero (by funext a; fin_cases a <;> rfl), View.ld_unit_zero (by funext a; fin_cases a <;> rfl), View.ld_unit_zero (by funext a; fin_cases a <;> rfl)]
  refine (pay_at ..).trans ?_
  refine Eq.trans ?_ (Cert.Reference8Ideal.Mod.rv4_at _ _ _ r _).symm
  simp only [b0_at, b1_at, b2_at]

/-- The result array is the reference's. -/
theorem final (c : Dev nD) : (dats m 0 c).arrAt 3 cfg0.N = G m c := by
  refine (dats m 0 c).arrAt_eq_of_covers 3 _ (by decide +kernel) fun t _ y => ?_
  blk_simp
  idx_vars y
  have hG : G m c (((View.whole main_v1).slice (win0_3.rect t)).emb (ix2 y0 y1))
      = G m c (ix2 y0 ⟨t.val * 512 + y1, by have := t.isLt; have : cfg0.grid.N = 6 := rfl; omega⟩) := by
    blk_ext [(idx0 t).2.2]
  rw [hG]
  exact after_at m c t y0 y1

end Cert.Kernel8Ideal.Mod
end
-- ==== Proof.OutARef.lean ====
module

public import proofs.«01_k».proof.Proof.Gen.Reference9Ideal.Run
public import proofs.«01_k».proof.Proof.Rms

@[expose] public section

set_option maxRecDepth 16384

noncomputable section

namespace Cert.Reference9Ideal.OutA

open Idealize.ShloMosaic Idealize.ShloMosaic.TcCoe Idealize.SL.Sem
open Cert.Reference9Ideal Cert.Reference9Ideal.Gen Cert.Reference9Ideal.Value Cert.Proj

/-- Two arrays of rows joined along the row. -/
def cat (a b : FVec Ideal S128x8x1024 .f32) : FVec Ideal S128x8x2048 .f32 :=
  concatenate S128x8x2048 2 [⟨S128x8x1024, a⟩, ⟨S128x8x1024, b⟩] concatenates_S128x8x1024_S128x8x1024_S128x8x2048_d2

/-- The first half's projection. -/
def dotA (f : FVec Ideal S128x8x2048 .f32) (w : FVec Ideal S2048x1024 .f32) : FVec Ideal S128x8x1024 .f32 :=
  Host.dotGeneral dot_S128x8x2048_S2048x1024_S128x8x1024_2_0_01_1_n_n none f w

/-- The array `main_v10` of the printed program. -/
def rv10 (arg0 : FVec Ideal S1024x1024 .f32) (arg1 arg2 : FVec Ideal S1024x1024 .bf16) (arg3 : FVec Ideal S128x8x1024 .f32) (arg4 : FVec Ideal S128x1x1024 .f32) (arg5 : FVec Ideal S2048x1024 .f32) : FVec Ideal S128x8x1024 .f32 :=
  addf arg3 (mulf (broadcastInDim S128x8x1024 ![0, 1, 2] bcast_S128x1x1024_S128x8x1024_0_1_2 arg4) (dotA (cat (mulf (shapeCast S128x8x1024 arg0 shapeCasts_S1024x1024_S128x8x1024) (shapeCast S128x8x1024 (extf .f32 arg1 bitsLt_bf16_f32) shapeCasts_S1024x1024_S128x8x1024)) (shapeCast S128x8x1024 (extf .f32 arg2 bitsLt_bf16_f32) shapeCasts_S1024x1024_S128x8x1024)) arg5))

theorem cat_lo (a b : FVec Ideal S128x8x1024 .f32) (i : Fin 128) (s : Fin 8) (k : Fin 1024) :
    cat a b (ix3 i s ⟨k, by omega⟩) = a (ix3 i s k) := by
  pointwise [cat]

theorem cat_hi (a b : FVec Ideal S128x8x1024 .f32) (i : Fin 128) (s : Fin 8) (k : Fin 1024) :
    cat a b (ix3 i s ⟨1024 + k, by omega⟩) = b (ix3 i s k) := by
  pointwise [cat]

/-- A product with the joined rows is the sum of the halves' products. -/
theorem dot_cat (a b : FVec Ideal S128x8x1024 .f32) (w : FVec Ideal S2048x1024 .f32) (i : Fin 128) (s : Fin 8) (j : Fin 1024) :
    dotA (cat a b) w (ix3 i s j)
    = (∑ k : Fin 1024, a (ix3 i s k) * w (ix2 ⟨k, by omega⟩ j)) + ∑ k : Fin 1024, b (ix3 i s k) * w (ix2 ⟨1024 + k, by omega⟩ j) := by
  have e : dotA (cat a b) w (ix3 i s j)
      = ∑ k : Fin 2048, (cat a b) (ix3 i s k) * w (ix2 k j) := by
    generalize (cat a b) = f
    pointwise [dotA]
  rw [e]
  refine (Fin.sum_univ_add (a := 1024) (b := 1024) (fun k : Fin 2048 => (cat a b) (ix3 i s k) * w (ix2 k j))).trans ?_
  refine congrArg₂ (· + ·) (Finset.sum_congr rfl fun k _ => ?_) (Finset.sum_congr rfl fun k _ => ?_)
  · exact congrArg (· * w (ix2 ⟨k, by omega⟩ j)) (cat_lo a b i s k)
  · exact congrArg (· * w (ix2 ⟨1024 + k, by omega⟩ j)) (cat_hi a b i s k)

/-- One entry of the reference's result. -/
theorem rv10_at (arg0 : FVec Ideal S1024x1024 .f32) (arg1 arg2 : FVec Ideal S1024x1024 .bf16) (arg3 : FVec Ideal S128x8x1024 .f32) (arg4 : FVec Ideal S128x1x1024 .f32) (arg5 : FVec Ideal S2048x1024 .f32) (b : Fin 128) (s : Fin 8) (j : Fin 1024) :
    rv10 arg0 arg1 arg2 arg3 arg4 arg5 (ix3 b s j)
    = chainX (fun k => arg0 (ix2 ⟨b * 8 + s, by omega⟩ k)) (fun k => arg1 (ix2 ⟨b * 8 + s, by omega⟩ k)) (fun k => arg2 (ix2 ⟨b * 8 + s, by omega⟩ k))
      (fun j => arg3 (ix3 b s j)) (fun j => arg4 (ix3 b 0 j)) (fun k j => arg5 (ix2 ⟨k, by omega⟩ j)) (fun k j => arg5 (ix2 ⟨1024 + k, by omega⟩ j)) j := by
  have e : ∀ (f g : FVec Ideal S128x8x1024 .f32), (addf arg3 (mulf (broadcastInDim S128x8x1024 ![0, 1, 2] bcast_S128x1x1024_S128x8x1024_0_1_2 arg4)
      (dotA (cat f g) arg5)) : FVec Ideal S128x8x1024 .f32) (ix3 b s j)
      = arg3 (ix3 b s j) + arg4 (ix3 b 0 j) * ((∑ k : Fin 1024, f (ix3 b s k) * arg5 (ix2 ⟨k, by omega⟩ j)) + ∑ k : Fin 1024, g (ix3 b s k) * arg5 (ix2 ⟨1024 + k, by omega⟩ j)) := by
    intro f g
    have h := dot_cat f g arg5 b s j
    rw [← h]
    generalize dotA (cat f g) arg5 = d
    pointwise
  unfold rv10
  rw [e]
  pointwise [chainX, resRow]

set_option maxHeartbeats 2000000 in
/-- The run of the reference, its result as the array above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = rv10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by simp only [rv10, dotA, cat]), (h c).2⟩) (Cert.Reference9Ideal.Value.run m ρ)

end Cert.Reference9Ideal.OutA
end
-- ==== Proof.OutAArr.lean ====
module

public import proofs.«01_k».proof.Proof.Gen.Kernel9Ideal.Value
public import Idealize.ShloMosaic.Lib.Pipeline.ValueKit
public import Idealize.ShloMosaic.Lib.Pipeline.ReadBack
public import proofs.«01_k».proof.Proof.Rms
public import proofs.«01_k».proof.Proof.OutARef
public import Idealize.ShloMosaic.Lib.Pipeline.Covers
public import Idealize.ShloMosaic.Lib.WholeRead

@[expose] public section

set_option maxRecDepth 16384

noncomputable section

namespace Cert.Kernel9Ideal.OutA

open Idealize.ShloMosaic Idealize.ShloMosaic.TcCoe Idealize.SL.Sem
open Cert.Kernel9Ideal Cert.Kernel9Ideal.Gen Cert.Proj

open Idealize.ShloMosaic.Pipeline (Dat)

/-- One entry of the block the call stores. -/
theorem pay_at (v0 : Vec Ideal S256x1024 .f32) (v1 : Vec Ideal S256x1024 .bf16) (v5 : Vec Ideal S1024x1024 .bf16) (v8 : Vec Ideal S256x1024 .bf16) (v9 : Vec Ideal S1024x1024 .bf16)
    (v13 : Vec Ideal S32x8x1024 .f32) (v14 : Vec Ideal S32x1x1024 .f32) (a : Fin 32) (s : Fin 8) (j : Fin 1024) :
    k0_pay1 (F := Ideal) v0 v1 v5 v8 v9 v13 v14 (ix3 a s j)
    = chainX (fun k => v0 (ix2 ⟨a * 8 + s, by omega⟩ k)) (fun k => v1 (ix2 ⟨a * 8 + s, by omega⟩ k)) (fun k => v8 (ix2 ⟨a * 8 + s, by omega⟩ k))
      (fun j => v13 (ix3 a s j)) (fun j => v14 (ix3 a 0 j)) (fun k j => v5 (ix2 k j)) (fun k j => v9 (ix2 k j)) j := by
  pointwise [k0_pay1, chainX, resRow]

theorem idx0 : ∀ t : Fin cfg0.N, (win0_0.index t = ![t.val, 0] ∧ win0_1.index t = ![t.val, 0] ∧ win0_2.index t = ![0, 0] ∧ win0_3.index t = ![t.val, 0])
    ∧ (win0_4.index t = ![0, 0] ∧ win0_5.index t = ![t.val, 0, 0] ∧ win0_6.index t = ![t.val, 0, 0] ∧ win0_7.index t = ![t.val, 0, 0]) :=
  (by decide +kernel : ∀ t : Fin grid0.N, _)

variable (m : (ℓ : Loc nD τ sig) → Buf (Elt Ideal) ℓ)

/-- The weight's upper half, as the call reads it. -/
theorem v1_at (c : Dev nD) (k j : Fin 1024) : V m c main_v1 (ix2 k j) = m ((c : Thread nD τ).loc main_arg5) (ix2 ⟨k, by omega⟩ j) := by
  have e : V m c main_v1 = (extractStridedSlice S1024x1024 ![0, 0] (truncf .bf16 (m ((c : Thread nD τ).loc main_arg5)) bitsLt_bf16_f32) slices_S2048x1024_S1024x1024_0_0 : FVec Ideal S1024x1024 .bf16) := by
    show StableHlo.after hostOps0 _ _ = _
    simp only [hostOps0, StableHlo.TRef.binary, StableHlo.TRef.unary, StableHlo.TRef.toBuf, StableHlo.TRef.ofBuf, cast_eq]
    after_results_simp <;> rfl
  rw [e]; pointwise

/-- The weight's lower half, as the call reads it. -/
theorem v2_at (c : Dev nD) (k j : Fin 1024) : V m c main_v2 (ix2 k j) = m ((c : Thread nD τ).loc main_arg5) (ix2 ⟨1024 + k, by omega⟩ j) := by
  have e : V m c main_v2 = (extractStridedSlice S1024x1024 ![1024, 0] (truncf .bf16 (m ((c : Thread nD τ).loc main_arg5)) bitsLt_bf16_f32) slices_S2048x1024_S1024x1024_1024_0 : FVec Ideal S1024x1024 .bf16) := by
    show StableHlo.after hostOps0 _ _ = _
    simp only [hostOps0, StableHlo.TRef.binary, StableHlo.TRef.unary, StableHlo.TRef.toBuf, StableHlo.TRef.ofBuf, cast_eq]
    after_results_simp <;> rfl
  rw [e]; pointwise

theorem b0_at (c : Dev nD) (t : Fin cfg0.N) (r : Fin 256) (j : Fin 1024) :
    iblk m c 0 t (ix2 r j) = m ((c : Thread nD τ).loc main_arg0) (ix2 ⟨t.val * 256 + r, by have := t.isLt; have : cfg0.N = 4 := rfl; omega⟩ j) := by
  rw [← V_main_arg0 m c]
  blk_ext [iblk, (idx0 t).1.1]

theorem b1_at (c : Dev nD) (t : Fin cfg0.N) (r : Fin 256) (j : Fin 1024) :
    iblk m c 1 t (ix2 r j) = m ((c : Thread nD τ).loc main_arg1) (ix2 ⟨t.val * 256 + r, by have := t.isLt; have : cfg0.N = 4 := rfl; omega⟩ j) := by
  rw [← V_main_arg1 m c]
  blk_ext [iblk, (idx0 t).1.2.1]

theorem b2_at (c : Dev nD) (t : Fin cfg0.N) (k j : Fin 1024) :
    iblk m c 2 t (ix2 k j) = m ((c : Thread nD τ).loc main_arg5) (ix2 ⟨k, by omega⟩ j) := by
  rw [← v1_at m c]
  blk_ext [iblk, (idx0 t).1.2.2.1]

theorem b3_at (c : Dev nD) (t : Fin cfg0.N) (r : Fin 256) (j : Fin 1024) :
    iblk m c 3 t (ix2 r j) = m ((c : Thread nD τ).loc main_arg2) (ix2 ⟨t.val * 256 + r, by have := t.isLt; have : cfg0.N = 4 := rfl; omega⟩ j) := by
  rw [← V_main_arg2 m c]
  blk_ext [iblk, (idx0 t).1.2.2.2]

theorem b4_at (c : Dev nD) (t : Fin cfg0.N) (k j : Fin 1024) :
    iblk m c 4 t (ix2 k j) = m ((c : Thread nD τ).loc main_arg5) (ix2 ⟨1024 + k, by omega⟩ j) := by
  rw [← v2_at m c]
  blk_ext [iblk, (idx0 t).2.1]

theorem b5_at (c : Dev nD) (t : Fin cfg0.N) (a : Fin 32) (s : Fin 8) (j : Fin 1024) :
    iblk m c 5 t (ix3 a s j) = m ((c : Thread nD τ).loc main_arg3) (ix3 ⟨t.val * 32 + a, by have := t.isLt; have : cfg0.N = 4 := rfl; omega⟩ s j) := by
  rw [← V_main_arg3 m c]
  blk_ext [iblk, (idx0 t).2.2.1]

theorem b6_at (c : Dev nD) (t : Fin cfg0.N) (a : Fin 32) (j : Fin 1024) :
    iblk m c 6 t (ix3 a 0 j) = m ((c : Thread nD τ).loc main_arg4) (ix3 ⟨t.val * 32 + a, by have := t.isLt; have : cfg0.N = 4 := rfl; omega⟩ 0 j) := by
  rw [← V_main_arg4 m c]
  blk_ext [iblk, (idx0 t).2.2.2.1]

/-- The reference's array at the launched arguments. -/
abbrev G (c : Dev nD) : FVec Ideal S128x8x1024 .f32 :=
  Cert.Reference9Ideal.OutA.rv10 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem after_at (c : Dev nD) (t : Fin cfg0.N) (a : Fin 32) (s : Fin 8) (j : Fin 1024) :
    (dats m 0 c).after 7 t (ix3 a s j) = G m c (ix3 ⟨t.val * 32 + a, by have := t.isLt; have : cfg0.N = 4 := rfl; omega⟩ s j) := by
  have hN : cfg0.N = 4 := rfl
  have ht := t.isLt
  have hs : (⟨t.val * 256 + (⟨a * 8 + s, by omega⟩ : Fin 256), by simp only []; omega⟩ : Fin 1024) = ⟨(⟨t.val * 32 + a, by omega⟩ : Fin 128) * 8 + s, by simp only []; omega⟩ :=
    Fin.ext (by simp only []; omega)
  rw [after0_7]; unfold out0_7
  rw [View.canon_unit_zero (by funext a; fin_cases a <;> rfl)]
  rw [View.ld_unit_zero (by funext a; fin_cases a <;> rfl), View.ld_unit_zero (by funext a; fin_cases a <;> rfl), View.ld_unit_zero (by funext a; fin_cases a <;> rfl),
    View.ld_unit_zero (by funext a; fin_cases a <;> rfl), View.ld_unit_zero (by funext a; fin_cases a <;> rfl), View.ld_unit_zero (by funext a; fin_cases a <;> rfl),
    View.ld_unit_zero (by funext a; fin_cases a <;> rfl)]
  refine (pay_at ..).trans ?_
  refine Eq.trans ?_ (Cert.Reference9Ideal.OutA.rv10_at _ _ _ _ _ _ ⟨t.val * 32 + a, by omega⟩ s j).symm
  simp only [b0_at, b1_at, b2_at, b3_at, b4_at, b5_at, b6_at, hs]

/-- The result array is the reference's. -/
theorem final (c : Dev nD) : (dats m 0 c).arrAt 7 cfg0.N = G m c := by
  refine (dats m 0 c).arrAt_eq_of_covers 7 _ (by decide +kernel) fun t _ y => ?_
  blk_simp
  idx_vars y
  have hG : G m c (((View.whole main_v3).slice (win0_7.rect t)).emb (ix3 y0 y1 y2))
      = G m c (ix3 ⟨t.val * 32 + y0, by have := t.isLt; have : cfg0.grid.N = 4 := rfl; omega⟩ y1 y2) := by
    blk_ext [(idx0 t).2.2.2.2]
  rw [hG]
  exact after_at m c t y0 y1 y2

end Cert.Kernel9Ideal.OutA
end
-- ==== Proof.InprojCBlk.lean ====
module

public import proofs.«01_k».proof.Proof.Gen.Kernel10Ideal.Skeleton
public import proofs.«01_k».proof.Proof.Rms

@[expose] public section

set_option maxRecDepth 16384

noncomputable section

namespace Cert.Kernel10Ideal.InprojC

open Idealize.ShloMosaic Idealize.ShloMosaic.TcCoe Idealize.SL.Sem
open Cert.Kernel10Ideal Cert.Kernel10Ideal.Gen Cert.Proj

/-- One entry of the normed and modulated rows. -/
theorem h_at (v0 : Vec Ideal S32x8x1024 .f32) (v12 : Vec Ideal S1x1024 .f32) (v16 v22 : Vec Ideal S32x1x1024 .f32) (a : Fin 32) (s : Fin 8) (k : Fin 1024) :
    k0_pay3 (F := Ideal) v0 v12 v16 v22 (ix2 ⟨a * 8 + s, by omega⟩ k)
    = modRow (fun k => v0 (ix3 a s k)) (fun k => v12 (ix2 0 k)) (fun k => v16 (ix3 a 0 k)) (fun k => v22 (ix3 a 0 k)) k := by
  pointwise [k0_pay3, rms, modRow]

theorem q_at (v0 : Vec Ideal S32x8x1024 .f32) (v12 : Vec Ideal S1x1024 .f32) (v16 v22 : Vec Ideal S32x1x1024 .f32) (w : Vec Ideal S1024x1024 .bf16)
    (H : Fin 1024 → EReal) (r : Fin 256) (hH : ∀ k, k0_pay3 (F := Ideal) v0 v12 v16 v22 (ix2 r k) = H k) (j : Fin 1024) :
    k0_pay4 (F := Ideal) v0 v12 v16 v22 w (ix2 r j) = ∑ k : Fin 1024, H k * w (ix2 k j) := by
  pointwise [k0_pay4]
  simp only [hH]

theorem k_at (v0 : Vec Ideal S32x8x1024 .f32) (v12 : Vec Ideal S1x1024 .f32) (v16 v22 : Vec Ideal S32x1x1024 .f32) (w : Vec Ideal S1024x128 .bf16)
    (H : Fin 1024 → EReal) (r : Fin 256) (hH : ∀ k, k0_pay3 (F := Ideal) v0 v12 v16 v22 (ix2 r k) = H k) (j : Fin 128) :
    k0_pay5 (F := Ideal) v0 v12 v16 v22 w (ix2 r j) = ∑ k : Fin 1024, H k * w (ix2 k j) := by
  pointwise [k0_pay5]
  simp only [hH]

theorem v_at (h : FVec Ideal S256x1024 .bf16) (w : Vec Ideal S1024x128 .bf16) (H : Fin 1024 → EReal) (r : Fin 256) (hH : ∀ k, h (ix2 r k) = H k) (j : Fin 128) :
    k0_pay1 (F := Ideal) h w (ix2 r j) = ∑ k : Fin 1024, H k * w (ix2 k j) := by
  pointwise [k0_pay1]
  simp only [hH]

theorem sz_at (h : FVec Ideal S256x1024 .bf16) (w : Vec Ideal S1024x1024 .bf16) (H : Fin 1024 → EReal) (r : Fin 256) (hH : ∀ k, h (ix2 r k) = H k) (j : Fin 1024) :
    k0_pay2 (F := Ideal) h w (ix2 r j) = silu (∑ k : Fin 1024, H k * w (ix2 k j)) := by
  pointwise [k0_pay2, silu]
  simp only [hH]

end Cert.Kernel10Ideal.InprojC
end
-- ==== Proof.InprojCRef.lean ====
module

public import proofs.«01_k».proof.Proof.Gen.Reference10Ideal.Run
public import proofs.«01_k».proof.Proof.Rms

@[expose] public section

set_option maxRecDepth 16384

noncomputable section

namespace Cert.Reference10Ideal.InprojC

open Idealize.ShloMosaic Idealize.ShloMosaic.TcCoe Idealize.SL.Sem
open Cert.Reference10Ideal Cert.Reference10Ideal.Gen Cert.Reference10Ideal.Value Cert.Proj

/-- The array `main_v18` of the printed program. -/
def rv18 (arg0 : FVec Ideal S128x8x1024 .f32) (arg1 : FVec Ideal S128x1x1024 .f32) (arg2 : FVec Ideal S128x1x1024 .f32) (arg3 : FVec Ideal S1024 .f32) : FVec Ideal S128x8x1024 .f32 :=
  (addf (mulf (mulf (mulf arg0 (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf arg0 arg0) (constant (F := Ideal) S_ .f32 0x00000000#32) reducesTo_S128x8x1024_S128x8_d2 h_S_)) (broadcastInDim S128x8x1 ![] bcast_S_S128x8x1 (constant (F := Ideal) S_ .f32 0x44800000#32))) (broadcastInDim S128x8x1 ![] bcast_S_S128x8x1 (constant (F := Ideal) S_ .f32 0x358637BD#32)))))) (broadcastInDim S128x8x1024 ![0, 1, 2] bcast_S1x1x1024_S128x8x1024_0_1_2 (broadcastInDim S1x1x1024 ![2] bcast_S1024_S1x1x1024_2 arg3))) (broadcastInDim S128x8x1024 ![0, 1, 2] bcast_S128x1x1024_S128x8x1024_0_1_2 (addf (broadcastInDim S128x1x1024 ![] bcast_S_S128x1x1024 (constant (F := Ideal) S_ .f32 0x3F800000#32)) arg2))) (broadcastInDim S128x8x1024 ![0, 1, 2] bcast_S128x1x1024_S128x8x1024_0_1_2 arg1))

/-- The array `main_v19` of the printed program. -/
def rv19 (arg0 : FVec Ideal S128x8x1024 .f32) (arg1 arg2 : FVec Ideal S128x1x1024 .f32) (arg3 : FVec Ideal S1024 .f32) (arg4 : FVec Ideal S1024x2304 .f32) : FVec Ideal S128x8x2304 .f32 :=
  (Host.dotGeneral dot_S128x8x1024_S1024x2304_S128x8x2304_2_0_01_1_n_n none (rv18 arg0 arg1 arg2 arg3) arg4)

/-- The array `main_v21` of the printed program. -/
def rv21 (arg0 : FVec Ideal S128x8x1024 .f32) (arg1 arg2 : FVec Ideal S128x1x1024 .f32) (arg3 : FVec Ideal S1024 .f32) (arg4 : FVec Ideal S1024x2304 .f32) : FVec Ideal S128x8x128 .f32 :=
  (extractStridedSlice S128x8x128 ![0, 0, 1024] (rv19 arg0 arg1 arg2 arg3 arg4) slices_S128x8x2304_S128x8x128_0_0_1024)

/-- The array `main_v22` of the printed program. -/
def rv22 (arg0 : FVec Ideal S128x8x1024 .f32) (arg1 arg2 : FVec Ideal S128x1x1024 .f32) (arg3 : FVec Ideal S1024 .f32) (arg4 : FVec Ideal S1024x2304 .f32) : FVec Ideal S128x8x128 .f32 :=
  (extractStridedSlice S128x8x128 ![0, 0, 1152] (rv19 arg0 arg1 arg2 arg3 arg4) slices_S128x8x2304_S128x8x128_0_0_1152)

/-- The array `main_v24` of the printed program. -/
def rv24 (arg0 : FVec Ideal S128x8x1024 .f32) (arg1 arg2 : FVec Ideal S128x1x1024 .f32) (arg3 : FVec Ideal S1024 .f32) (arg4 : FVec Ideal S1024x2304 .f32) : FVec Ideal S1024x1024 .f32 :=
  (shapeCast S1024x1024 (extractStridedSlice S128x8x1024 ![0, 0, 0] (rv19 arg0 arg1 arg2 arg3 arg4) slices_S128x8x2304_S128x8x1024_0_0_0) shapeCasts_S128x8x1024_S1024x1024)

/-- The array `main_v25` of the printed program. -/
def rv25 (arg0 : FVec Ideal S128x8x1024 .f32) (arg1 arg2 : FVec Ideal S128x1x1024 .f32) (arg3 : FVec Ideal S1024 .f32) (arg4 : FVec Ideal S1024x2304 .f32) : FVec Ideal S1024x128 .f32 :=
  (shapeCast S1024x128 (rv21 arg0 arg1 arg2 arg3 arg4) shapeCasts_S128x8x128_S1024x128)

/-- The array `main_v26` of the printed program. -/
def rv26 (arg0 : FVec Ideal S128x8x1024 .f32) (arg1 arg2 : FVec Ideal S128x1x1024 .f32) (arg3 : FVec Ideal S1024 .f32) (arg4 : FVec Ideal S1024x2304 .f32) : FVec Ideal S1024x128 .f32 :=
  (shapeCast S1024x128 (rv22 arg0 arg1 arg2 arg3 arg4) shapeCasts_S128x8x128_S1024x128)

/-- The array `main_v29` of the printed program. -/
def rv29 (arg0 : FVec Ideal S128x8x1024 .f32) (arg1 arg2 : FVec Ideal S128x1x1024 .f32) (arg3 : FVec Ideal S1024 .f32) (arg4 : FVec Ideal S1024x2304 .f32) : FVec Ideal S1024x1024 .bf16 :=
  (truncf .bf16 (shapeCast S1024x1024 (mulf (extractStridedSlice S128x8x1024 ![0, 0, 1280] (rv19 arg0 arg1 arg2 arg3 arg4) slices_S128x8x2304_S128x8x1024_0_0_1280) (Host.divf (broadcastInDim S128x8x1024 ![] bcast_S_S128x8x1024 (constant (F := Ideal) S_ .f32 0x3F800000#32)) (addf (broadcastInDim S128x8x1024 ![] bcast_S_S128x8x1024 (constant (F := Ideal) S_ .f32 0x3F800000#32)) (Host.exp (Host.negf (extractStridedSlice S128x8x1024 ![0, 0, 1280] (rv19 arg0 arg1 arg2 arg3 arg4) slices_S128x8x2304_S128x8x1024_0_0_1280)))))) shapeCasts_S128x8x1024_S1024x1024) bitsLt_bf16_f32)

/-- An entry of the normed and modulated row times the in-projection's weight. -/
abbrev Z (arg0 : FVec Ideal S128x8x1024 .f32) (arg1 arg2 : FVec Ideal S128x1x1024 .f32) (arg3 : FVec Ideal S1024 .f32) (arg4 : FVec Ideal S1024x2304 .f32) (b : Fin 128) (s : Fin 8) (j : Fin 2304) : EReal :=
  proj (fun k => arg0 (ix3 b s k)) (fun k => arg3 (ix1 k)) (fun k => arg2 (ix3 b 0 k)) (fun k => arg1 (ix3 b 0 k)) (fun k => arg4 (ix2 k j))

theorem rv18_at (arg0 : FVec Ideal S128x8x1024 .f32) (arg1 arg2 : FVec Ideal S128x1x1024 .f32) (arg3 : FVec Ideal S1024 .f32) (arg4 : FVec Ideal S1024x2304 .f32) (b : Fin 128) (s : Fin 8) (j : Fin 1024) :
    rv18 arg0 arg1 arg2 arg3 (ix3 b s j)
    = modRow (fun k => arg0 (ix3 b s k)) (fun k => arg3 (ix1 k)) (fun k => arg2 (ix3 b 0 k)) (fun k => arg1 (ix3 b 0 k)) j := by
  pointwise [rv18, rms, modRow]

theorem rv19_at (arg0 : FVec Ideal S128x8x1024 .f32) (arg1 arg2 : FVec Ideal S128x1x1024 .f32) (arg3 : FVec Ideal S1024 .f32) (arg4 : FVec Ideal S1024x2304 .f32) (b : Fin 128) (s : Fin 8) (j : Fin 2304) :
    rv19 arg0 arg1 arg2 arg3 arg4 (ix3 b s j) = Z arg0 arg1 arg2 arg3 arg4 b s j := by
  have e : ∀ k, rv18 arg0 arg1 arg2 arg3 (ix3 b s k) = _ := rv18_at arg0 arg1 arg2 arg3 arg4 b s
  pointwise [rv19]
  simp only [e]
  rfl

/-! The reference's four results, an entry of each. -/

theorem rv24_at (arg0 : FVec Ideal S128x8x1024 .f32) (arg1 arg2 : FVec Ideal S128x1x1024 .f32) (arg3 : FVec Ideal S1024 .f32) (arg4 : FVec Ideal S1024x2304 .f32) (b : Fin 128) (s : Fin 8) (j : Fin 1024) :
    rv24 arg0 arg1 arg2 arg3 arg4 (ix2 ⟨b * 8 + s, by omega⟩ j) = Z arg0 arg1 arg2 arg3 arg4 b s ⟨j, by omega⟩ := by
  rw [← rv19_at]
  pointwise [rv24]

theorem rv21_at (arg0 : FVec Ideal S128x8x1024 .f32) (arg1 arg2 : FVec Ideal S128x1x1024 .f32) (arg3 : FVec Ideal S1024 .f32) (arg4 : FVec Ideal S1024x2304 .f32) (b : Fin 128) (s : Fin 8) (j : Fin 128) :
    rv21 arg0 arg1 arg2 arg3 arg4 (ix3 b s j) = Z arg0 arg1 arg2 arg3 arg4 b s ⟨1024 + j, by omega⟩ := by
  rw [← rv19_at]
  pointwise [rv21]

theorem rv22_at (arg0 : FVec Ideal S128x8x1024 .f32) (arg1 arg2 : FVec Ideal S128x1x1024 .f32) (arg3 : FVec Ideal S1024 .f32) (arg4 : FVec Ideal S1024x2304 .f32) (b : Fin 128) (s : Fin 8) (j : Fin 128) :
    rv22 arg0 arg1 arg2 arg3 arg4 (ix3 b s j) = Z arg0 arg1 arg2 arg3 arg4 b s ⟨1152 + j, by omega⟩ := by
  rw [← rv19_at]
  pointwise [rv22]

theorem rv25_at (arg0 : FVec Ideal S128x8x1024 .f32) (arg1 arg2 : FVec Ideal S128x1x1024 .f32) (arg3 : FVec Ideal S1024 .f32) (arg4 : FVec Ideal S1024x2304 .f32) (b : Fin 128) (s : Fin 8) (j : Fin 128) :
    rv25 arg0 arg1 arg2 arg3 arg4 (ix2 ⟨b * 8 + s, by omega⟩ j) = Z arg0 arg1 arg2 arg3 arg4 b s ⟨1024 + j, by omega⟩ := by
  rw [← rv21_at]
  pointwise [rv25]

theorem rv26_at (arg0 : FVec Ideal S128x8x1024 .f32) (arg1 arg2 : FVec Ideal S128x1x1024 .f32) (arg3 : FVec Ideal S1024 .f32) (arg4 : FVec Ideal S1024x2304 .f32) (b : Fin 128) (s : Fin 8) (j : Fin 128) :
    rv26 arg0 arg1 arg2 arg3 arg4 (ix2 ⟨b * 8 + s, by omega⟩ j) = Z arg0 arg1 arg2 arg3 arg4 b s ⟨1152 + j, by omega⟩ := by
  rw [← rv22_at]
  pointwise [rv26]

theorem rv29_at (arg0 : FVec Ideal S128x8x1024 .f32) (arg1 arg2 : FVec Ideal S128x1x1024 .f32) (arg3 : FVec Ideal S1024 .f32) (arg4 : FVec Ideal S1024x2304 .f32) (b : Fin 128) (s : Fin 8) (j : Fin 1024) :
    rv29 arg0 arg1 arg2 arg3 arg4 (ix2 ⟨b * 8 + s, by omega⟩ j) = silu (Z arg0 arg1 arg2 arg3 arg4 b s ⟨1280 + j, by omega⟩) := by
  rw [← rv19_at]
  pointwise [rv29, silu]
  rfl

set_option maxHeartbeats 2000000 in
/-- The run of the reference, its results as the arrays above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = rv24 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v25) = rv25 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v26) = rv26 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v29) = rv29 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by simp only [rv24, rv25, rv26, rv29, rv22, rv21, rv19, rv18]),
    (h c).2.1.trans (by simp only [rv24, rv25, rv26, rv29, rv22, rv21, rv19, rv18]),
    (h c).2.2.1.trans (by simp only [rv24, rv25, rv26, rv29, rv22, rv21, rv19, rv18]),
    (h c).2.2.2.1.trans (by simp only [rv24, rv25, rv26, rv29, rv22, rv21, rv19, rv18]),
    (h c).2.2.2.2⟩) (Cert.Reference10Ideal.Value.run m ρ)

end Cert.Reference10Ideal.InprojC
end
-- ==== Proof.InprojCArr.lean ====
module

public import Idealize.ShloMosaic.Lib.Pipeline.ValueKit
public import Idealize.ShloMosaic.Lib.Pipeline.ReadBack
public import proofs.«01_k».proof.Proof.Gen.Kernel10Ideal.Value
public import proofs.«01_k».proof.Proof.InprojCBlk
public import proofs.«01_k».proof.Proof.InprojCRef
public import Idealize.ShloMosaic.Lib.Pipeline.Covers
public import Idealize.ShloMosaic.Lib.WholeRead

@[expose] public section

set_option maxRecDepth 16384

noncomputable section

namespace Cert.Kernel10Ideal.InprojC

open Idealize.ShloMosaic Idealize.ShloMosaic.TcCoe Idealize.SL.Sem
open Cert.Kernel10Ideal Cert.Kernel10Ideal.Gen Cert.Proj

open Idealize.ShloMosaic.Pipeline (Dat)

theorem idxA : ∀ t : Fin cfg0.N, (win0_0.index t = ![t.val, 0, 0] ∧ win0_1.index t = ![t.val, 0, 0] ∧ win0_2.index t = ![t.val, 0, 0])
    ∧ (win0_3.index t = ![0, 0] ∧ win0_4.index t = ![0, 0]) :=
  (by decide +kernel : ∀ t : Fin grid0.N, _)

theorem idxB : ∀ t : Fin cfg0.N, (win0_5.index t = ![t.val, 0] ∧ win0_6.index t = ![t.val, 0] ∧ win0_7.index t = ![t.val, 0])
    ∧ win0_8.index t = ![t.val, 0] :=
  (by decide +kernel : ∀ t : Fin grid0.N, _)

variable (m : (ℓ : Loc nD τ sig) → Buf (Elt Ideal) ℓ)

theorem v0_eq (c : Dev nD) : V m c main_v0 = (truncf .bf16 (m ((c : Thread nD τ).loc main_arg4)) bitsLt_bf16_f32 : FVec Ideal S1024x2304 .bf16) := by
  show StableHlo.after hostOps0 _ _ = _
  simp only [hostOps0, StableHlo.TRef.binary, StableHlo.TRef.unary, StableHlo.TRef.toBuf, StableHlo.TRef.ofBuf, cast_eq]
  after_results_simp <;> rfl

theorem v1_eq (c : Dev nD) : V m c main_v1 = (shapeCast S1x1024 (m ((c : Thread nD τ).loc main_arg3)) shapeCasts_S1024_S1x1024 : FVec Ideal S1x1024 .f32) := by
  show StableHlo.after hostOps0 _ _ = _
  simp only [hostOps0, StableHlo.TRef.binary, StableHlo.TRef.unary, StableHlo.TRef.toBuf, StableHlo.TRef.ofBuf, cast_eq]
  after_results_simp <;> rfl

theorem cast_at (A : FVec Ideal S1024x2304 .f32) (k : Fin 1024) (j : Fin 2304) :
    (truncf .bf16 A bitsLt_bf16_f32 : FVec Ideal S1024x2304 .bf16) (ix2 k j) = A (ix2 k j) := by
  pointwise

theorem lift_at (A : FVec Ideal S1024 .f32) (j : Fin 1024) :
    (shapeCast S1x1024 A shapeCasts_S1024_S1x1024 : FVec Ideal S1x1024 .f32) (ix2 0 j) = A (ix1 j) := by
  pointwise

/-! The staged blocks, an entry of each as the arguments'. -/

theorem b0_at (c : Dev nD) (t : Fin cfg0.N) (a : Fin 32) (s : Fin 8) (j : Fin 1024) (b : Fin 128) (h : t.val * 32 + a = b) :
    iblk m c 0 t (ix3 a s j) = m ((c : Thread nD τ).loc main_arg0) (ix3 b s j) := by
  rw [← V_main_arg0 m c]
  refine Eq.trans (b := V m c main_arg0 (ix3 ⟨t.val * 32 + a, by omega⟩ s j)) ?_ (congrArg (fun z => V m c main_arg0 (ix3 z s j)) (Fin.ext h))
  blk_ext [iblk, (idxA t).1.1]

theorem b1_at (c : Dev nD) (t : Fin cfg0.N) (a : Fin 32) (j : Fin 1024) (b : Fin 128) (h : t.val * 32 + a = b) :
    iblk m c 1 t (ix3 a 0 j) = m ((c : Thread nD τ).loc main_arg1) (ix3 b 0 j) := by
  rw [← V_main_arg1 m c]
  refine Eq.trans (b := V m c main_arg1 (ix3 ⟨t.val * 32 + a, by omega⟩ 0 j)) ?_ (congrArg (fun z => V m c main_arg1 (ix3 z 0 j)) (Fin.ext h))
  blk_ext [iblk, (idxA t).1.2.1]

theorem b2_at (c : Dev nD) (t : Fin cfg0.N) (a : Fin 32) (j : Fin 1024) (b : Fin 128) (h : t.val * 32 + a = b) :
    iblk m c 2 t (ix3 a 0 j) = m ((c : Thread nD τ).loc main_arg2) (ix3 b 0 j) := by
  rw [← V_main_arg2 m c]
  refine Eq.trans (b := V m c main_arg2 (ix3 ⟨t.val * 32 + a, by omega⟩ 0 j)) ?_ (congrArg (fun z => V m c main_arg2 (ix3 z 0 j)) (Fin.ext h))
  blk_ext [iblk, (idxA t).1.2.2]

theorem b3_at (c : Dev nD) (t : Fin cfg0.N) (j : Fin 1024) :
    iblk m c 3 t (ix2 0 j) = m ((c : Thread nD τ).loc main_arg3) (ix1 j) := by
  refine Eq.trans (b := V m c main_v1 (ix2 0 j)) ?_ ((congrFun (v1_eq m c) _).trans (lift_at _ j))
  blk_ext [iblk, (idxA t).2.1]

theorem b4_at (c : Dev nD) (t : Fin cfg0.N) (k : Fin 1024) (j : Fin 2304) :
    iblk m c 4 t (ix2 k j) = m ((c : Thread nD τ).loc main_arg4) (ix2 k j) := by
  refine Eq.trans (b := V m c main_v0 (ix2 k j)) ?_ ((congrFun (v0_eq m c) _).trans (cast_at _ k j))
  blk_ext [iblk, (idxA t).2.2]

/-! Loads of whole blocks, and of the weight's columns. -/

theorem ld0 {e : EltTy} (x : Vec Ideal S32x8x1024 e) : View.ld x r0_0 = x := View.ld_unit_zero (by funext a; fin_cases a <;> rfl) _ _
theorem ld1 {e : EltTy} (x : Vec Ideal S1x1024 e) : View.ld x r0_1 = x := View.ld_unit_zero (by funext a; fin_cases a <;> rfl) _ _
theorem ld2 {e : EltTy} (x : Vec Ideal S32x1x1024 e) : View.ld x r0_2 = x := View.ld_unit_zero (by funext a; fin_cases a <;> rfl) _ _

theorem ld_q (x : Vec Ideal S1024x2304 .bf16) (k : Fin 1024) (j : Fin 1024) : View.ld x r0_3 (ix2 k j) = x (ix2 k ⟨j, by omega⟩) := by
  refine (congrFun (View.ld_unit x _ _ _) _).trans ?_
  pointwise
theorem ld_k (x : Vec Ideal S1024x2304 .bf16) (k : Fin 1024) (j : Fin 128) : View.ld x r0_5 (ix2 k j) = x (ix2 k ⟨1024 + j, by omega⟩) := by
  refine (congrFun (View.ld_unit x _ _ _) _).trans ?_
  pointwise
theorem ld_v (x : Vec Ideal S1024x2304 .bf16) (k : Fin 1024) (j : Fin 128) : View.ld x r0_7 (ix2 k j) = x (ix2 k ⟨1152 + j, by omega⟩) := by
  refine (congrFun (View.ld_unit x _ _ _) _).trans ?_
  pointwise
theorem ld_z (x : Vec Ideal S1024x2304 .bf16) (k : Fin 1024) (j : Fin 1024) : View.ld x r0_8 (ix2 k j) = x (ix2 k ⟨1280 + j, by omega⟩) := by
  refine (congrFun (View.ld_unit x _ _ _) _).trans ?_
  pointwise

/-- The normed and modulated row, at the launched arguments. -/
abbrev HR (c : Dev nD) (b : Fin 128) (s : Fin 8) : Fin 1024 → EReal :=
  modRow (fun k => (m ((c : Thread nD τ).loc main_arg0)) (ix3 b s k)) (fun k => (m ((c : Thread nD τ).loc main_arg3)) (ix1 k)) (fun k => (m ((c : Thread nD τ).loc main_arg2)) (ix3 b 0 k)) (fun k => (m ((c : Thread nD τ).loc main_arg1)) (ix3 b 0 k))

/-- The in-projection's entry, at the launched arguments. -/
abbrev ZR (c : Dev nD) (b : Fin 128) (s : Fin 8) (j : Fin 2304) : EReal :=
  Cert.Reference10Ideal.InprojC.Z (m ((c : Thread nD τ).loc main_arg0)) (m ((c : Thread nD τ).loc main_arg1)) (m ((c : Thread nD τ).loc main_arg2)) (m ((c : Thread nD τ).loc main_arg3)) (m ((c : Thread nD τ).loc main_arg4)) b s j

/-- The normed and modulated rows the body computes once. -/
theorem row_at (c : Dev nD) (t : Fin cfg0.N) (r : Fin 256) (b : Fin 128) (s : Fin 8) (h : t.val * 256 + r = b * 8 + s) (k : Fin 1024) :
    k0_pay3 (F := Ideal) (iblk m c 0 t) (iblk m c 3 t) (iblk m c 2 t) (iblk m c 1 t) (ix2 r k) = HR m c b s k := by
  have hr := r.isLt
  have hs := s.isLt
  have hb : t.val * 32 + (⟨r.val / 8, by omega⟩ : Fin 32) = b := by simp only []; omega
  have er : r = ⟨(⟨r.val / 8, by omega⟩ : Fin 32) * 8 + s, by simp only []; omega⟩ := Fin.ext (by simp only []; omega)
  refine (congrArg (fun z => k0_pay3 (F := Ideal) _ _ _ _ (ix2 z k)) er).trans ?_
  refine (h_at _ _ _ _ ⟨r.val / 8, by omega⟩ s k).trans ?_
  simp only [b0_at m c t _ s _ b hb, b1_at m c t _ _ b hb, b2_at m c t _ _ b hb, b3_at]

theorem h_eq (c : Dev nD) (t : Fin cfg0.N) : k0_pay6 (F := Ideal) (iblk m c 0 t) (iblk m c 1 t) (iblk m c 2 t) (iblk m c 3 t) (iblk m c 4 t) = k0_pay3 (iblk m c 0 t) (iblk m c 3 t) (iblk m c 2 t) (iblk m c 1 t) := by
  unfold k0_pay6
  rw [ld0, ld1, ld2, ld2]

theorem hrow_at (c : Dev nD) (t : Fin cfg0.N) (r : Fin 256) (b : Fin 128) (s : Fin 8) (h : t.val * 256 + r = b * 8 + s) (k : Fin 1024) :
    k0_pay6 (F := Ideal) (iblk m c 0 t) (iblk m c 1 t) (iblk m c 2 t) (iblk m c 3 t) (iblk m c 4 t) (ix2 r k) = HR m c b s k := by
  rw [h_eq]
  exact row_at m c t r b s h k

/-- The row times a column of the staged weight. -/
theorem sum_at (c : Dev nD) (t : Fin cfg0.N) (b : Fin 128) (s : Fin 8) (w : Fin 1024 → EReal) (j : Fin 2304)
    (hw : ∀ k, w k = iblk m c 4 t (ix2 k j)) : ∑ k : Fin 1024, HR m c b s k * w k = ZR m c b s j := by
  refine Finset.sum_congr rfl fun k _ => congrArg (HR m c b s k * ·) ?_
  exact (hw k).trans (b4_at m c t k j)

/-- The reference's result 0 at the launched arguments. -/
abbrev G5 (c : Dev nD) : FVec Ideal S1024x1024 .f32 := Cert.Reference10Ideal.InprojC.rv24 (m ((c : Thread nD τ).loc main_arg0)) (m ((c : Thread nD τ).loc main_arg1)) (m ((c : Thread nD τ).loc main_arg2)) (m ((c : Thread nD τ).loc main_arg3)) (m ((c : Thread nD τ).loc main_arg4))

theorem after5_at (c : Dev nD) (t : Fin cfg0.N) (r : Fin 256) (j : Fin 1024) :
    (dats m 0 c).after 5 t (ix2 r j) = G5 m c (ix2 ⟨t.val * 256 + r, by have := t.isLt; have : cfg0.N = 4 := rfl; omega⟩ j) := by
  have hN : cfg0.N = 4 := rfl
  have ht := t.isLt
  have hr := r.isLt
  have hs : t.val * 256 + r = (⟨t.val * 32 + r.val / 8, by omega⟩ : Fin 128) * 8 + (⟨r.val % 8, by omega⟩ : Fin 8) := by simp only []; omega
  rw [after0_5]; unfold out0_5
  rw [View.canon_unit_zero (by funext a; fin_cases a <;> rfl)]
  refine Eq.trans ?_ (((Cert.Reference10Ideal.InprojC.rv24_at _ _ _ _ _ ⟨t.val * 32 + r.val / 8, by omega⟩ ⟨r.val % 8, by omega⟩ j).symm).trans
    (congrArg (fun z => G5 m c (ix2 z j)) (Fin.ext hs.symm)))
  rw [ld0, ld1, ld2, ld2]
  exact (q_at _ _ _ _ _ _ r (row_at m c t r _ _ hs) j).trans (sum_at m c t _ _ _ _ fun k => ld_q _ k j)

theorem final5 (c : Dev nD) : (dats m 0 c).arrAt 5 cfg0.N = G5 m c := by
  refine (dats m 0 c).arrAt_eq_of_covers 5 _ (by decide +kernel) fun t _ y => ?_
  blk_simp
  idx_vars y
  have hG : G5 m c (((View.whole main_v2_0).slice (win0_5.rect t)).emb (ix2 y0 y1))
      = G5 m c (ix2 ⟨t.val * 256 + y0, by have := t.isLt; have : cfg0.grid.N = 4 := rfl; omega⟩ y1) := by
    blk_ext [(idxB t).1.1]
  rw [hG]
  exact after5_at m c t y0 y1

/-- The reference's result 1 at the launched arguments. -/
abbrev G6 (c : Dev nD) : FVec Ideal S1024x128 .f32 := Cert.Reference10Ideal.InprojC.rv25 (m ((c : Thread nD τ).loc main_arg0)) (m ((c : Thread nD τ).loc main_arg1)) (m ((c : Thread nD τ).loc main_arg2)) (m ((c : Thread nD τ).loc main_arg3)) (m ((c : Thread nD τ).loc main_arg4))

theorem after6_at (c : Dev nD) (t : Fin cfg0.N) (r : Fin 256) (j : Fin 128) :
    (dats m 0 c).after 6 t (ix2 r j) = G6 m c (ix2 ⟨t.val * 256 + r, by have := t.isLt; have : cfg0.N = 4 := rfl; omega⟩ j) := by
  have hN : cfg0.N = 4 := rfl
  have ht := t.isLt
  have hr := r.isLt
  have hs : t.val * 256 + r = (⟨t.val * 32 + r.val / 8, by omega⟩ : Fin 128) * 8 + (⟨r.val % 8, by omega⟩ : Fin 8) := by simp only []; omega
  rw [after0_6]; unfold out0_6
  rw [View.canon_unit_zero (by funext a; fin_cases a <;> rfl)]
  refine Eq.trans ?_ (((Cert.Reference10Ideal.InprojC.rv25_at _ _ _ _ _ ⟨t.val * 32 + r.val / 8, by omega⟩ ⟨r.val % 8, by omega⟩ j).symm).trans
    (congrArg (fun z => G6 m c (ix2 z j)) (Fin.ext hs.symm)))
  rw [ld0, ld1, ld2, ld2]
  exact (k_at _ _ _ _ _ _ r (row_at m c t r _ _ hs) j).trans (sum_at m c t _ _ _ _ fun k => ld_k _ k j)

theorem final6 (c : Dev nD) : (dats m 0 c).arrAt 6 cfg0.N = G6 m c := by
  refine (dats m 0 c).arrAt_eq_of_covers 6 _ (by decide +kernel) fun t _ y => ?_
  blk_simp
  idx_vars y
  have hG : G6 m c (((View.whole main_v2_1).slice (win0_6.rect t)).emb (ix2 y0 y1))
      = G6 m c (ix2 ⟨t.val * 256 + y0, by have := t.isLt; have : cfg0.grid.N = 4 := rfl; omega⟩ y1) := by
    blk_ext [(idxB t).1.2.1]
  rw [hG]
  exact after6_at m c t y0 y1

/-- The reference's result 2 at the launched arguments. -/
abbrev G7 (c : Dev nD) : FVec Ideal S1024x128 .f32 := Cert.Reference10Ideal.InprojC.rv26 (m ((c : Thread nD τ).loc main_arg0)) (m ((c : Thread nD τ).loc main_arg1)) (m ((c : Thread nD τ).loc main_arg2)) (m ((c : Thread nD τ).loc main_arg3)) (m ((c : Thread nD τ).loc main_arg4))

theorem after7_at (c : Dev nD) (t : Fin cfg0.N) (r : Fin 256) (j : Fin 128) :
    (dats m 0 c).after 7 t (ix2 r j) = G7 m c (ix2 ⟨t.val * 256 + r, by have := t.isLt; have : cfg0.N = 4 := rfl; omega⟩ j) := by
  have hN : cfg0.N = 4 := rfl
  have ht := t.isLt
  have hr := r.isLt
  have hs : t.val * 256 + r = (⟨t.val * 32 + r.val / 8, by omega⟩ : Fin 128) * 8 + (⟨r.val % 8, by omega⟩ : Fin 8) := by simp only []; omega
  rw [after0_7]; unfold out0_7
  rw [View.canon_unit_zero (by funext a; fin_cases a <;> rfl)]
  refine Eq.trans ?_ (((Cert.Reference10Ideal.InprojC.rv26_at _ _ _ _ _ ⟨t.val * 32 + r.val / 8, by omega⟩ ⟨r.val % 8, by omega⟩ j).symm).trans
    (congrArg (fun z => G7 m c (ix2 z j)) (Fin.ext hs.symm)))
  exact (v_at _ _ _ r (hrow_at m c t r _ _ hs) j).trans (sum_at m c t _ _ _ _ fun k => ld_v _ k j)

theorem final7 (c : Dev nD) : (dats m 0 c).arrAt 7 cfg0.N = G7 m c := by
  refine (dats m 0 c).arrAt_eq_of_covers 7 _ (by decide +kernel) fun t _ y => ?_
  blk_simp
  idx_vars y
  have hG : G7 m c (((View.whole main_v2_2).slice (win0_7.rect t)).emb (ix2 y0 y1))
      = G7 m c (ix2 ⟨t.val * 256 + y0, by have := t.isLt; have : cfg0.grid.N = 4 := rfl; omega⟩ y1) := by
    blk_ext [(idxB t).1.2.2]
  rw [hG]
  exact after7_at m c t y0 y1

/-- The reference's result 3 at the launched arguments. -/
abbrev G8 (c : Dev nD) : FVec Ideal S1024x1024 .bf16 := Cert.Reference10Ideal.InprojC.rv29 (m ((c : Thread nD τ).loc main_arg0)) (m ((c : Thread nD τ).loc main_arg1)) (m ((c : Thread nD τ).loc main_arg2)) (m ((c : Thread nD τ).loc main_arg3)) (m ((c : Thread nD τ).loc main_arg4))

theorem after8_at (c : Dev nD) (t : Fin cfg0.N) (r : Fin 256) (j : Fin 1024) :
    (dats m 0 c).after 8 t (ix2 r j) = G8 m c (ix2 ⟨t.val * 256 + r, by have := t.isLt; have : cfg0.N = 4 := rfl; omega⟩ j) := by
  have hN : cfg0.N = 4 := rfl
  have ht := t.isLt
  have hr := r.isLt
  have hs : t.val * 256 + r = (⟨t.val * 32 + r.val / 8, by omega⟩ : Fin 128) * 8 + (⟨r.val % 8, by omega⟩ : Fin 8) := by simp only []; omega
  rw [after0_8]; unfold out0_8
  rw [View.canon_unit_zero (by funext a; fin_cases a <;> rfl)]
  refine Eq.trans ?_ (((Cert.Reference10Ideal.InprojC.rv29_at _ _ _ _ _ ⟨t.val * 32 + r.val / 8, by omega⟩ ⟨r.val % 8, by omega⟩ j).symm).trans
    (congrArg (fun z => G8 m c (ix2 z j)) (Fin.ext hs.symm)))
  exact (sz_at _ _ _ r (hrow_at m c t r _ _ hs) j).trans (congrArg silu (sum_at m c t _ _ _ _ fun k => ld_z _ k j))

theorem final8 (c : Dev nD) : (dats m 0 c).arrAt 8 cfg0.N = G8 m c := by
  refine (dats m 0 c).arrAt_eq_of_covers 8 _ (by decide +kernel) fun t _ y => ?_
  blk_simp
  idx_vars y
  have hG : G8 m c (((View.whole main_v2_3).slice (win0_8.rect t)).emb (ix2 y0 y1))
      = G8 m c (ix2 ⟨t.val * 256 + y0, by have := t.isLt; have : cfg0.grid.N = 4 := rfl; omega⟩ y1) := by
    blk_ext [(idxB t).2]
  rw [hG]
  exact after8_at m c t y0 y1

end Cert.Kernel10Ideal.InprojC
end
-- ==== Proof.ConvHRef.lean ====
module

public import proofs.«01_k».proof.Proof.Gen.Reference11Ideal.Run
public import Idealize.ShloMosaic.Lib.Pointwise

@[expose] public section

set_option maxRecDepth 16384

noncomputable section

namespace Cert.Reference11Ideal.ConvH

open Idealize.ShloMosaic Idealize.ShloMosaic.TcCoe Idealize.SL.Sem
open Cert.Reference11Ideal Cert.Reference11Ideal.Gen Cert.Reference11Ideal.Value

/-- The convolution's history and the new rows after it, the last 30 rows, the rows of one time together. -/
def rhist (old : FVec Ideal S128x30x1024 .f32) (new : FVec Ideal S1024x1024 .f32) : FVec Ideal S30x128x1024 .f32 :=
  transpose S30x128x1024 [1, 0, 2] (extractStridedSlice S128x30x1024 ![0, 8, 0] (concatenate S128x38x1024 1 [⟨S128x30x1024, old⟩, ⟨S128x8x1024, shapeCast S128x8x1024 new shapeCasts_S1024x1024_S128x8x1024⟩] concatenates_S128x30x1024_S128x8x1024_S128x38x1024_d1) slices_S128x38x1024_S128x30x1024_0_8_0) transposes_S128x30x1024_S30x128x1024_1_0_2

/-- Its first 22 times are the history's, eight rows on. -/
theorem rhist_lo (old : FVec Ideal S128x30x1024 .f32) (new : FVec Ideal S1024x1024 .f32) (r : Fin 22) (b : Fin 128) (j : Fin 1024) :
    rhist old new (ix3 ⟨r, by omega⟩ b j) = old (ix3 b ⟨r + 8, by omega⟩ j) := by
  pointwise [rhist]
  rw [dif_pos (by omega)]
  exact congrArg (fun z => old (ix3 b z j)) (Fin.ext (by simp only []; omega))

/-- Its last eight times are the new rows. -/
theorem rhist_hi (old : FVec Ideal S128x30x1024 .f32) (new : FVec Ideal S1024x1024 .f32) (s : Fin 8) (b : Fin 128) (j : Fin 1024) :
    rhist old new (ix3 ⟨22 + s, by omega⟩ b j) = new (ix2 ⟨b * 8 + s, by omega⟩ j) := by
  pointwise [rhist]
  rw [dif_neg (by omega)]
  exact congrArg (fun z => new (ix2 z j)) (Fin.ext (by simp only []; omega))

/-- The run of the reference, its result as the array above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = rhist (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference11Ideal.Value.run m ρ

end Cert.Reference11Ideal.ConvH
end
-- ==== Proof.ConvHArr.lean ====
module

public import proofs.«01_k».proof.Proof.Gen.Kernel11Ideal.Value
public import Idealize.ShloMosaic.Lib.Pipeline.ValueKit
public import Idealize.ShloMosaic.Lib.Pipeline.ReadBack
public import proofs.«01_k».proof.Proof.ConvHRef
public import Idealize.ShloMosaic.Lib.Pipeline.Covers
public import Idealize.ShloMosaic.Lib.WholeRead

@[expose] public section

set_option maxRecDepth 16384

noncomputable section

namespace Cert.Kernel11Ideal.ConvH

open Idealize.ShloMosaic Idealize.ShloMosaic.TcCoe Idealize.SL.Sem
open Cert.Kernel11Ideal Cert.Kernel11Ideal.Gen

open Idealize.ShloMosaic.Pipeline (Dat)

/-- What a block of the history becomes: its rows eight places on, then the new rows. -/
def blkV (B : Vec Ideal S30x16x1024 .f32) (N : Vec Ideal S8x16x1024 .f32) : Vec Ideal S30x16x1024 .f32 := fun y =>
  if h : (y 0 : Nat) < 22 then B (ix3 ⟨y 0 + 8, by omega⟩ (y 1) (y 2))
  else N (ix3 ⟨(y 0 : Nat) - 22, by have := (y 0).isLt; simp at *; omega⟩ (y 1) (y 2))

theorem pay790 (w : Vec Ideal S22x16x1024 .f32) : k0_pay790 (F := Ideal) w = w := by
  funext x
  idx_vars x
  pointwise [k0_pay790]

theorem pay791 (w : Vec Ideal S8x16x1024 .f32) : k0_pay791 (F := Ideal) w = w := by
  funext x
  idx_vars x
  pointwise [k0_pay791]

/-- The first store: the history's last 22 rows. -/
theorem tileLo (B : Vec Ideal S30x16x1024 .f32) (N : Vec Ideal S8x16x1024 .f32) (y : S30x16x1024.Idx) (w : Vec Ideal S22x16x1024 .f32)
    (hw : ∀ (r : Fin 22) (p : Fin 16) (j : Fin 1024), w (ix3 r p j) = B (ix3 ⟨r + 8, by omega⟩ p j)) :
    View.TileAt (Val := Elt Ideal) (e := .f32) y ![0, 0, 0] S22x16x1024.size w (blkV B N y) := by
  intro x hx
  obtain ⟨x0, x1, x2, rfl⟩ : ∃ (x0 : Fin 22) (x1 : Fin 16) (x2 : Fin 1024), x = ix3 x0 x1 x2 := ⟨x 0, x 1, x 2, (ix3_eta x).symm⟩
  obtain ⟨y0, y1, y2, rfl⟩ : ∃ (y0 : Fin 30) (y1 : Fin 16) (y2 : Fin 1024), y = ix3 y0 y1 y2 := ⟨y 0, y 1, y 2, (ix3_eta y).symm⟩
  have h0 : y0.val = 0 + x0.val := hx 0
  have h1 : y1.val = 0 + x1.val := hx 1
  have h2 : y2.val = 0 + x2.val := hx 2
  obtain rfl : y1 = x1 := Fin.ext (by omega)
  obtain rfl : y2 = x2 := Fin.ext (by omega)
  have hl := x0.isLt
  refine (hw x0 y1 y2).trans ?_
  refine Eq.trans ?_ (dif_pos (by show y0.val < 22; omega) : blkV B N (ix3 y0 y1 y2) = _).symm
  exact congrArg (fun z => B (ix3 z y1 y2)) (Fin.ext (by show x0.val + 8 = y0.val + 8; omega))

/-- The second store: the new rows. -/
theorem tileHi (B : Vec Ideal S30x16x1024 .f32) (N : Vec Ideal S8x16x1024 .f32) (y : S30x16x1024.Idx) (w : Vec Ideal S8x16x1024 .f32)
    (hw : ∀ (s : Fin 8) (p : Fin 16) (j : Fin 1024), w (ix3 s p j) = N (ix3 s p j)) :
    View.TileAt (Val := Elt Ideal) (e := .f32) y ![22, 0, 0] S8x16x1024.size w (blkV B N y) := by
  intro x hx
  obtain ⟨x0, x1, x2, rfl⟩ : ∃ (x0 : Fin 8) (x1 : Fin 16) (x2 : Fin 1024), x = ix3 x0 x1 x2 := ⟨x 0, x 1, x 2, (ix3_eta x).symm⟩
  obtain ⟨y0, y1, y2, rfl⟩ : ∃ (y0 : Fin 30) (y1 : Fin 16) (y2 : Fin 1024), y = ix3 y0 y1 y2 := ⟨y 0, y 1, y 2, (ix3_eta y).symm⟩
  have h0 : y0.val = 22 + x0.val := hx 0
  have h1 : y1.val = 0 + x1.val := hx 1
  have h2 : y2.val = 0 + x2.val := hx 2
  obtain rfl : y1 = x1 := Fin.ext (by omega)
  obtain rfl : y2 = x2 := Fin.ext (by omega)
  have hl := x0.isLt
  refine (hw x0 y1 y2).trans ?_
  refine Eq.trans ?_ (dif_neg (by show ¬ y0.val < 22; omega) : blkV B N (ix3 y0 y1 y2) = _).symm
  exact congrArg (fun z => N (ix3 z y1 y2)) (Fin.ext (by show x0.val = y0.val - 22; omega))

/-- What a step leaves in the second result's buffer. -/
theorem out8 (c : Dev nD) (i : grid0.Coords) (arg1 : Memref sig .tc .vmem S30x16x1024 .f32) (harg1 : arg1.IsWhole) (arg2 : Memref sig .tc .vmem S8x16x1024 .f32) (harg2 : arg2.IsWhole) (arg3 : Memref sig .tc .vmem S8x16x1024 .bf16) (harg3 : arg3.IsWhole) (arg4 : Memref sig .tc .vmem S31x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x16x1024 .f32) (harg8 : arg8.IsWhole) (arg9 : Memref sig .tc .vmem S30x16x1024 .f32) (harg9 : arg9.IsWhole)
    (x0 : Vec Ideal S30x16x1024 .f32) (x1 : Vec Ideal S8x16x1024 .f32) (x2 : Vec Ideal S8x16x1024 .bf16) (x3 : Vec Ideal S31x1024 .f32) (x4 : Vec Ideal S1x1024 .f32) (x5 : Vec Ideal S1x1024 .f32) (x6 : Vec Ideal S1x1024 .f32) :
    out0_A_8 c i arg1 harg1 arg2 harg2 arg3 harg3 arg4 harg4 arg5 harg5 arg6 harg6 arg7 harg7 arg8 harg8 arg9 harg9 x0 x1 x2 x3 x4 x5 x6 = blkV x0 x1 := by
  funext y
  unfold out0_A_8
  refine (View.read_writes_apply_eq_canon _ _ y _ (cover0_A_8 c i arg1 harg1 arg2 harg2 arg3 harg3 arg4 harg4 arg5 harg5 arg6 harg6 arg7 harg7 arg8 harg8 arg9 harg9 x0 x1 x2 x3 x4 x5 x6 y)).trans ?_
  refine View.canon_eq_of_allAt _ y _ (cover0_A_8 c i arg1 harg1 arg2 harg2 arg3 harg3 arg4 harg4 arg5 harg5 arg6 harg6 arg7 harg7 arg8 harg8 arg9 harg9 x0 x1 x2 x3 x4 x5 x6 y) ?_
  have key : View.AllAt (Val := Elt Ideal) (S := S30x16x1024) (e := .f32)
      [⟨Rect.unit (s := S30x16x1024) ![22, 0, 0] S8x16x1024.size inb_S30x16x1024_S8x16x1024_22_0_0, k0_pay791 (F := Ideal) (View.readAt (Elt Ideal) arg2.view (Rect.unit (s := S8x16x1024) ![0, 0, 0] S8x16x1024.size inb_S8x16x1024_S8x16x1024_0_0_0).toLoadRect (harg2.unread x1))⟩,
       ⟨Rect.unit (s := S30x16x1024) ![0, 0, 0] S22x16x1024.size inb_S30x16x1024_S22x16x1024_0_0_0, k0_pay790 (F := Ideal) (View.readAt (Elt Ideal) arg1.view (Rect.unit (s := S30x16x1024) ![8, 0, 0] S22x16x1024.size inb_S30x16x1024_S22x16x1024_8_0_0).toLoadRect (harg1.unread x0))⟩]
      y (blkV x0 x1 y) := by
    refine View.allAt_cons_unit _ _ _ _ _ (tileHi x0 x1 y _ fun s p j => ?_) (View.allAt_cons_unit _ _ _ _ _ (tileLo x0 x1 y _ fun r p j => ?_) (View.allAt_nil _ _))
    · rw [pay791]
      refine (harg2.readAt_unread x1 _ _).trans (congrArg x1 (funext fun a => Fin.ext ?_))
      fin_cases a
      · show 0 + 1 * s.val = s.val; omega
      · show 0 + 1 * p.val = p.val; omega
      · show 0 + 1 * j.val = j.val; omega
    · rw [pay790]
      refine (harg1.readAt_unread x0 _ _).trans (congrArg x0 (funext fun a => Fin.ext ?_))
      fin_cases a
      · show 8 + 1 * r.val = r.val + 8; omega
      · show 0 + 1 * p.val = p.val; omega
      · show 0 + 1 * j.val = j.val; omega
  exact key

theorem idx0 : ∀ t : Fin cfg0.N, win0_0.index t = ![0, t.val, 0] ∧ win0_1.index t = ![0, t.val, 0] ∧ win0_8.index t = ![0, t.val, 0] :=
  (by decide +kernel : ∀ t : Fin grid0.N, _)

variable (m : (ℓ : Loc nD τ sig) → Buf (Elt Ideal) ℓ)

/-- The history, the rows of one time together, as the call reads it. -/
theorem v0_at (c : Dev nD) (r : Fin 30) (b : Fin 128) (j : Fin 1024) : V m c main_v0 (ix3 r b j) = m ((c : Thread nD τ).loc main_arg0) (ix3 b r j) := by
  have e : V m c main_v0 = (transpose S30x128x1024 [1, 0, 2] (m ((c : Thread nD τ).loc main_arg0)) transposes_S128x30x1024_S30x128x1024_1_0_2 : FVec Ideal S30x128x1024 .f32) := by
    show StableHlo.after hostOps0 _ _ = _
    simp only [hostOps0, StableHlo.TRef.binary, StableHlo.TRef.unary, StableHlo.TRef.toBuf, StableHlo.TRef.ofBuf, cast_eq]
    after_results_simp <;> rfl
  rw [e]; pointwise

/-- The new rows, those of one time together. -/
def lay (u : FVec Ideal S1024x1024 .f32) : FVec Ideal S8x128x1024 .f32 :=
  transpose S8x128x1024 [1, 0, 2] (shapeCast S128x8x1024 u shapeCasts_S1024x1024_S128x8x1024) transposes_S128x8x1024_S8x128x1024_1_0_2

theorem lay_at (u : FVec Ideal S1024x1024 .f32) (s : Fin 8) (b : Fin 128) (j : Fin 1024) :
    lay u (ix3 s b j) = u (ix2 ⟨b * 8 + s, by omega⟩ j) := by
  pointwise [lay]

/-- The new rows as the call reads them. -/
theorem v2_at (c : Dev nD) (s : Fin 8) (b : Fin 128) (j : Fin 1024) :
    V m c main_v2 (ix3 s b j) = m ((c : Thread nD τ).loc main_arg1) (ix2 ⟨b * 8 + s, by omega⟩ j) := by
  have e : V m c main_v2 = lay (m ((c : Thread nD τ).loc main_arg1)) := by
    show StableHlo.after hostOps0 _ _ = _
    simp only [hostOps0, StableHlo.TRef.binary, StableHlo.TRef.unary, StableHlo.TRef.toBuf, StableHlo.TRef.ofBuf, cast_eq]
    after_results_simp <;> rfl
  rw [e]; exact lay_at _ s b j

theorem b0_at (c : Dev nD) (t : Fin cfg0.N) (r : Fin 30) (p : Fin 16) (j : Fin 1024) :
    iblk m c 0 t (ix3 r p j) = m ((c : Thread nD τ).loc main_arg0) (ix3 ⟨t.val * 16 + p, by have := t.isLt; have : cfg0.N = 8 := rfl; omega⟩ r j) := by
  rw [← v0_at m c]
  blk_ext [iblk, (idx0 t).1]

theorem b1_at (c : Dev nD) (t : Fin cfg0.N) (s : Fin 8) (p : Fin 16) (j : Fin 1024) :
    iblk m c 1 t (ix3 s p j) = m ((c : Thread nD τ).loc main_arg1) (ix2 ⟨(t.val * 16 + p) * 8 + s, by have := t.isLt; have : cfg0.N = 8 := rfl; omega⟩ j) := by
  refine Eq.trans ?_ (v2_at m c s ⟨t.val * 16 + p, by have := t.isLt; have : cfg0.N = 8 := rfl; omega⟩ j)
  blk_ext [iblk, (idx0 t).2.1]

/-- The reference's array at the launched arguments. -/
abbrev G (c : Dev nD) : FVec Ideal S30x128x1024 .f32 :=
  Cert.Reference11Ideal.ConvH.rhist (m ((c : Thread nD τ).loc main_arg0)) (m ((c : Thread nD τ).loc main_arg1))

theorem outs8 (c : Dev nD) (t : Fin cfg0.N) : (outsAt0 m c t).2 = blkV (iblk m c 0 t) (iblk m c 1 t) := by
  unfold outsAt0
  dsimp only
  exact out8 ..

theorem after_at (c : Dev nD) (t : Fin cfg0.N) (r : Fin 30) (p : Fin 16) (j : Fin 1024) :
    (dats m 0 c).after 8 t (ix3 r p j) = G m c (ix3 r ⟨t.val * 16 + p, by have := t.isLt; have : cfg0.N = 8 := rfl; omega⟩ j) := by
  have hN : cfg0.N = 8 := rfl
  have ht := t.isLt
  have hr := r.isLt
  refine (congrFun ((after0_8 m c t).trans (outs8 m c t)) _).trans ?_
  by_cases h : r.val < 22
  · refine (dif_pos h : blkV _ _ (ix3 r p j) = _).trans ?_
    refine (b0_at m c t ⟨r + 8, by omega⟩ p j).trans ?_
    exact (Cert.Reference11Ideal.ConvH.rhist_lo _ _ ⟨r, h⟩ ⟨t.val * 16 + p, by omega⟩ j).symm
  · refine (dif_neg h : blkV _ _ (ix3 r p j) = _).trans ?_
    refine (b1_at m c t ⟨r - 22, by omega⟩ p j).trans ?_
    have e : r = ⟨22 + (⟨r - 22, by omega⟩ : Fin 8), by simp only []; omega⟩ := Fin.ext (by simp only []; omega)
    refine Eq.trans ?_ (congrArg (fun z => G m c (ix3 z ⟨t.val * 16 + p, by omega⟩ j)) e).symm
    exact (Cert.Reference11Ideal.ConvH.rhist_hi _ _ ⟨r - 22, by omega⟩ ⟨t.val * 16 + p, by omega⟩ j).symm

/-- The result array is the reference's. -/
theorem final (c : Dev nD) : (dats m 0 c).arrAt 8 cfg0.N = G m c := by
  refine (dats m 0 c).arrAt_eq_of_covers 8 _ (by decide +kernel) fun t _ y => ?_
  blk_simp
  idx_vars y
  have hG : G m c (((View.whole main_v8_1).slice (win0_8.rect t)).emb (ix3 y0 y1 y2))
      = G m c (ix3 y0 ⟨t.val * 16 + y1, by have := t.isLt; have : cfg0.grid.N = 8 := rfl; omega⟩ y2) := by
    blk_ext [(idx0 t).2.2]
  rw [hG]
  exact after_at m c t y0 y1 y2

end Cert.Kernel11Ideal.ConvH
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.SwaRun
public import proofs.«01_k».proof.Proof.SwaFin
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.InprojFrame
public import proofs.«01_k».proof.Proof.InprojBits
public import proofs.«01_k».proof.Proof.InprojArr
public import proofs.«01_k».proof.Proof.InprojRef
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.ChainArr
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.OutArr
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.InprojSArr
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.OutSArr
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Kernel7.Frame
public import proofs.«01_k».proof.Proof.Gen.Kernel7Ideal.Frame
public import proofs.«01_k».proof.Proof.SwaSArr
public import proofs.«01_k».proof.Proof.SwaSRun
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.ModArr
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.OutAArr
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.InprojCArr
public import proofs.«01_k».proof.Proof.Gen.Kernel11
public import proofs.«01_k».proof.Proof.Gen.Kernel11Ideal
public import proofs.«01_k».proof.Proof.Gen.Reference11Ideal
public import proofs.«01_k».proof.Proof.Gen.Reference11Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.ConvHArr
public import Idealize.ShloMosaic.Adequacy
public import Idealize.ShloMosaic.Init
public import Idealize.ShloMosaic.Lib.Quiescent

@[expose] public section

noncomputable section

namespace Cert.Proof

open Idealize.ShloMosaic Idealize.SL.Sem

/-- The attention call's results agree with the reference's. -/
theorem swa : Cert.algebraic_KernelIdeal_ReferenceIdeal_pre_swa_finite (hKernelIdeal := Cert.KernelIdeal.Gen.facts)
    (hReferenceIdeal := Cert.ReferenceIdeal.Gen.facts) (hPre_swa_finite := Cert.Pre_swa_finite.facts) := by
  intro m g m' g' hpre hag
  refine ⟨_, Cert.KernelIdeal.Swa.run m g, (θ_run _ _ _).mono (fun r h c => ⟨(h c).1.trans ?_, (h c).2⟩) (Cert.ReferenceIdeal.Value.run m' g')⟩
  obtain ⟨e0, e1, e2, e3, e4⟩ := hag c
  obtain ⟨⟨f0, g0⟩, ⟨f1, g1⟩, ⟨f3, g3⟩, ⟨f4, g4⟩⟩ := Cert.Pre_swa_finite.reals _ _ _ _ _ (hpre c)
  refine (Cert.ReferenceIdeal.Swa.res_eq m' c).trans ?_
  rw [e0, e1, e2, e3, e4, g0, g1, g3, g4]
  exact (Cert.KernelIdeal.Swa.value m g c f0 f1 f3 f4 g0 g1 g3 g4).symm

/-- The first in-projection's results agree with the reference's. -/
theorem call2 : Cert.algebraic_Kernel2Ideal_Reference2Ideal (hKernel2Ideal := Cert.Kernel2Ideal.Gen.facts) (hReference2Ideal := Cert.Reference2Ideal.Gen.facts) := by
  intro m g m' g' _ hag
  refine ⟨fun c => Cert.Kernel2Ideal.Inproj.G5 m c, fun c => Cert.Kernel2Ideal.Inproj.G6 m c, fun c => Cert.Kernel2Ideal.Inproj.G7 m c, fun c => Cert.Kernel2Ideal.Inproj.G8 m c, fun c => Cert.Kernel2Ideal.Inproj.G9 m c, fun c => Cert.Kernel2Ideal.Inproj.G10 m c, fun c => Cert.Kernel2Ideal.Inproj.G11 m c, fun c => Cert.Kernel2Ideal.Inproj.G12 m c,
    (θ_run _ _ _).mono (fun r h c => ⟨(h c).1.trans (Cert.Kernel2Ideal.Inproj.final5 m c), (h c).2.1.trans (Cert.Kernel2Ideal.Inproj.final6 m c), (h c).2.2.1.trans (Cert.Kernel2Ideal.Inproj.final7 m c), (h c).2.2.2.1.trans (Cert.Kernel2Ideal.Inproj.final8 m c), (h c).2.2.2.2.1.trans (Cert.Kernel2Ideal.Inproj.final9 m c), (h c).2.2.2.2.2.1.trans (Cert.Kernel2Ideal.Inproj.final10 m c), (h c).2.2.2.2.2.2.1.trans (Cert.Kernel2Ideal.Inproj.final11 m c), (h c).2.2.2.2.2.2.2.1.trans (Cert.Kernel2Ideal.Inproj.final12 m c), (h c).2.2.2.2.2.2.2.2⟩) (Cert.Kernel2Ideal.Inproj.run_blocks m g),
    (θ_run _ _ _).mono (fun r h c => ⟨(h c).1.trans (?_ : _ = Cert.Kernel2Ideal.Inproj.G5 m c), (h c).2.1.trans (?_ : _ = Cert.Kernel2Ideal.Inproj.G6 m c), (h c).2.2.1.trans (?_ : _ = Cert.Kernel2Ideal.Inproj.G7 m c), (h c).2.2.2.1.trans (?_ : _ = Cert.Kernel2Ideal.Inproj.G8 m c), (h c).2.2.2.2.1.trans (?_ : _ = Cert.Kernel2Ideal.Inproj.G9 m c), (h c).2.2.2.2.2.1.trans (?_ : _ = Cert.Kernel2Ideal.Inproj.G10 m c), (h c).2.2.2.2.2.2.1.trans (?_ : _ = Cert.Kernel2Ideal.Inproj.G11 m c), (h c).2.2.2.2.2.2.2.1.trans (?_ : _ = Cert.Kernel2Ideal.Inproj.G12 m c), (h c).2.2.2.2.2.2.2.2⟩) (Cert.Reference2Ideal.Inproj.run m' g')⟩
  all_goals
    obtain ⟨e0, e1, e2, e3, e4⟩ := hag c
    simp only [e0, e1, e2, e3, e4]

/-- The projection chain's results agree with the reference's. -/
theorem call3 : Cert.algebraic_Kernel3Ideal_Reference3Ideal (hKernel3Ideal := Cert.Kernel3Ideal.Gen.facts) (hReference3Ideal := Cert.Reference3Ideal.Gen.facts) := by
  intro m g m' g' _ hag
  refine ⟨fun c => Cert.Kernel3Ideal.Chain.G11 m c, fun c => Cert.Kernel3Ideal.Chain.G12 m c, fun c => Cert.Kernel3Ideal.Chain.G13 m c, fun c => Cert.Kernel3Ideal.Chain.G14 m c, fun c => Cert.Kernel3Ideal.Chain.G15 m c,
    (θ_run _ _ _).mono (fun r h c => ⟨(h c).1.trans (Cert.Kernel3Ideal.Chain.final11 m c), (h c).2.1.trans (Cert.Kernel3Ideal.Chain.final12 m c), (h c).2.2.1.trans (Cert.Kernel3Ideal.Chain.final13 m c), (h c).2.2.2.1.trans (Cert.Kernel3Ideal.Chain.final14 m c), (h c).2.2.2.2.1.trans (Cert.Kernel3Ideal.Chain.final15 m c), (h c).2.2.2.2.2⟩) (Cert.Kernel3Ideal.Value.run_blocks m g),
    (θ_run _ _ _).mono (fun r h c => ⟨(h c).1.trans (?_ : _ = Cert.Kernel3Ideal.Chain.G11 m c), (h c).2.1.trans (?_ : _ = Cert.Kernel3Ideal.Chain.G12 m c), (h c).2.2.1.trans (?_ : _ = Cert.Kernel3Ideal.Chain.G13 m c), (h c).2.2.2.1.trans (?_ : _ = Cert.Kernel3Ideal.Chain.G14 m c), (h c).2.2.2.2.1.trans (?_ : _ = Cert.Kernel3Ideal.Chain.G15 m c), (h c).2.2.2.2.2⟩) (Cert.Reference3Ideal.Chain.run m' g')⟩
  all_goals
    obtain ⟨e0, e1, e2, e3, e4, e5, e6, e7, e8, e9⟩ := hag c
    simp only [e0, e1, e2, e3, e4, e5, e6, e7, e8, e9]

/-- The out-projection's results agree with the reference's. -/
theorem call4 : Cert.algebraic_Kernel4Ideal_Reference4Ideal (hKernel4Ideal := Cert.Kernel4Ideal.Gen.facts) (hReference4Ideal := Cert.Reference4Ideal.Gen.facts) := by
  intro m g m' g' _ hag
  refine ⟨fun c => Cert.Kernel4Ideal.Out.G m c,
    (θ_run _ _ _).mono (fun r h c => ⟨(h c).1.trans (Cert.Kernel4Ideal.Out.final m c), (h c).2⟩) (Cert.Kernel4Ideal.Value.run_blocks m g),
    (θ_run _ _ _).mono (fun r h c => ⟨(h c).1.trans (?_ : _ = Cert.Kernel4Ideal.Out.G m c), (h c).2⟩) (Cert.Reference4Ideal.Out.run m' g')⟩
  all_goals
    obtain ⟨e0, e1, e2, e3, e4, e5⟩ := hag c
    simp only [e0, e1, e2, e3, e4, e5]

/-- The sample group's first in-projection's results agree with the reference's. -/
theorem call5 : Cert.algebraic_Kernel5Ideal_Reference5Ideal (hKernel5Ideal := Cert.Kernel5Ideal.Gen.facts) (hReference5Ideal := Cert.Reference5Ideal.Gen.facts) := by
  intro m g m' g' _ hag
  refine ⟨fun c => Cert.Kernel5Ideal.InprojS.G5 m c, fun c => Cert.Kernel5Ideal.InprojS.G6 m c, fun c => Cert.Kernel5Ideal.InprojS.G7 m c, fun c => Cert.Kernel5Ideal.InprojS.G8 m c, fun c => Cert.Kernel5Ideal.InprojS.G9 m c, fun c => Cert.Kernel5Ideal.InprojS.G10 m c,
    (θ_run _ _ _).mono (fun r h c => ⟨(h c).1.trans (Cert.Kernel5Ideal.InprojS.final5 m c), (h c).2.1.trans (Cert.Kernel5Ideal.InprojS.final6 m c), (h c).2.2.1.trans (Cert.Kernel5Ideal.InprojS.final7 m c), (h c).2.2.2.1.trans (Cert.Kernel5Ideal.InprojS.final8 m c), (h c).2.2.2.2.1.trans (Cert.Kernel5Ideal.InprojS.final9 m c), (h c).2.2.2.2.2.1.trans (Cert.Kernel5Ideal.InprojS.final10 m c), (h c).2.2.2.2.2.2⟩) (Cert.Kernel5Ideal.Value.run_blocks m g),
    (θ_run _ _ _).mono (fun r h c => ⟨(h c).1.trans (?_ : _ = Cert.Kernel5Ideal.InprojS.G5 m c), (h c).2.1.trans (?_ : _ = Cert.Kernel5Ideal.InprojS.G6 m c), (h c).2.2.1.trans (?_ : _ = Cert.Kernel5Ideal.InprojS.G7 m c), (h c).2.2.2.1.trans (?_ : _ = Cert.Kernel5Ideal.InprojS.G8 m c), (h c).2.2.2.2.1.trans (?_ : _ = Cert.Kernel5Ideal.InprojS.G9 m c), (h c).2.2.2.2.2.1.trans (?_ : _ = Cert.Kernel5Ideal.InprojS.G10 m c), (h c).2.2.2.2.2.2⟩) (Cert.Reference5Ideal.InprojS.run m' g')⟩
  all_goals
    obtain ⟨e0, e1, e2, e3, e4⟩ := hag c
    simp only [e0, e1, e2, e3, e4]

/-- The sample group's out-projection's results agree with the reference's. -/
theorem call6 : Cert.algebraic_Kernel6Ideal_Reference6Ideal (hKernel6Ideal := Cert.Kernel6Ideal.Gen.facts) (hReference6Ideal := Cert.Reference6Ideal.Gen.facts) := by
  intro m g m' g' _ hag
  refine ⟨fun c => Cert.Kernel6Ideal.OutS.G m c,
    (θ_run _ _ _).mono (fun r h c => ⟨(h c).1.trans (Cert.Kernel6Ideal.OutS.final m c), (h c).2⟩) (Cert.Kernel6Ideal.Value.run_blocks m g),
    (θ_run _ _ _).mono (fun r h c => ⟨(h c).1.trans (?_ : _ = Cert.Kernel6Ideal.OutS.G m c), (h c).2⟩) (Cert.Reference6Ideal.OutS.run m' g')⟩
  all_goals
    obtain ⟨e0, e1, e2, e3, e4, e5⟩ := hag c
    simp only [e0, e1, e2, e3, e4, e5]

/-- The sample group's attention caches's results agree with the reference's. -/
theorem call7 : Cert.algebraic_Kernel7Ideal_Reference7Ideal (hKernel7Ideal := Cert.Kernel7Ideal.Gen.facts) (hReference7Ideal := Cert.Reference7Ideal.Gen.facts) := by
  intro m g m' g' _ hag
  refine ⟨fun c => Cert.Kernel7Ideal.SwaS.G9 m c, fun c => Cert.Kernel7Ideal.SwaS.G10 m c,
    (θ_run _ _ _).mono (fun r h c => ⟨(h c).1.trans (Cert.Kernel7Ideal.SwaS.final9 m g c), (h c).2.1.trans (Cert.Kernel7Ideal.SwaS.final10 m g c), (h c).2.2⟩) (Cert.Kernel7Ideal.SwaS.run_blocks m g),
    (θ_run _ _ _).mono (fun r h c => ⟨(h c).1.trans (?_ : _ = Cert.Kernel7Ideal.SwaS.G9 m c), (h c).2.1.trans (?_ : _ = Cert.Kernel7Ideal.SwaS.G10 m c), (h c).2.2⟩) (Cert.Reference7Ideal.SwaS.run m' g')⟩
  all_goals
    obtain ⟨e0, e1, e2, e3, e4, e5, e6⟩ := hag c
    simp only [e0, e1, e2, e3, e4, e5, e6]

/-- The adaLN modulation's results agree with the reference's. -/
theorem call8 : Cert.algebraic_Kernel8Ideal_Reference8Ideal (hKernel8Ideal := Cert.Kernel8Ideal.Gen.facts) (hReference8Ideal := Cert.Reference8Ideal.Gen.facts) := by
  intro m g m' g' _ hag
  refine ⟨fun c => Cert.Kernel8Ideal.Mod.G m c,
    (θ_run _ _ _).mono (fun r h c => ⟨(h c).1.trans (Cert.Kernel8Ideal.Mod.final m c), (h c).2⟩) (Cert.Kernel8Ideal.Value.run_blocks m g),
    (θ_run _ _ _).mono (fun r h c => ⟨(h c).1.trans (?_ : _ = Cert.Kernel8Ideal.Mod.G m c), (h c).2⟩) (Cert.Reference8Ideal.Mod.run m' g')⟩
  all_goals
    obtain ⟨e0, e1, e2⟩ := hag c
    simp only [e0, e1, e2]

/-- The sample group's first out-projection's results agree with the reference's. -/
theorem call9 : Cert.algebraic_Kernel9Ideal_Reference9Ideal (hKernel9Ideal := Cert.Kernel9Ideal.Gen.facts) (hReference9Ideal := Cert.Reference9Ideal.Gen.facts) := by
  intro m g m' g' _ hag
  refine ⟨fun c => Cert.Kernel9Ideal.OutA.G m c,
    (θ_run _ _ _).mono (fun r h c => ⟨(h c).1.trans (Cert.Kernel9Ideal.OutA.final m c), (h c).2⟩) (Cert.Kernel9Ideal.Value.run_blocks m g),
    (θ_run _ _ _).mono (fun r h c => ⟨(h c).1.trans (?_ : _ = Cert.Kernel9Ideal.OutA.G m c), (h c).2⟩) (Cert.Reference9Ideal.OutA.run m' g')⟩
  all_goals
    obtain ⟨e0, e1, e2, e3, e4, e5⟩ := hag c
    simp only [e0, e1, e2, e3, e4, e5]

/-- The sample group's second in-projection's results agree with the reference's. -/
theorem call10 : Cert.algebraic_Kernel10Ideal_Reference10Ideal (hKernel10Ideal := Cert.Kernel10Ideal.Gen.facts) (hReference10Ideal := Cert.Reference10Ideal.Gen.facts) := by
  intro m g m' g' _ hag
  refine ⟨fun c => Cert.Kernel10Ideal.InprojC.G5 m c, fun c => Cert.Kernel10Ideal.InprojC.G6 m c, fun c => Cert.Kernel10Ideal.InprojC.G7 m c, fun c => Cert.Kernel10Ideal.InprojC.G8 m c,
    (θ_run _ _ _).mono (fun r h c => ⟨(h c).1.trans (Cert.Kernel10Ideal.InprojC.final5 m c), (h c).2.1.trans (Cert.Kernel10Ideal.InprojC.final6 m c), (h c).2.2.1.trans (Cert.Kernel10Ideal.InprojC.final7 m c), (h c).2.2.2.1.trans (Cert.Kernel10Ideal.InprojC.final8 m c), (h c).2.2.2.2⟩) (Cert.Kernel10Ideal.Value.run_blocks m g),
    (θ_run _ _ _).mono (fun r h c => ⟨(h c).1.trans (?_ : _ = Cert.Kernel10Ideal.InprojC.G5 m c), (h c).2.1.trans (?_ : _ = Cert.Kernel10Ideal.InprojC.G6 m c), (h c).2.2.1.trans (?_ : _ = Cert.Kernel10Ideal.InprojC.G7 m c), (h c).2.2.2.1.trans (?_ : _ = Cert.Kernel10Ideal.InprojC.G8 m c), (h c).2.2.2.2⟩) (Cert.Reference10Ideal.InprojC.run m' g')⟩
  all_goals
    obtain ⟨e0, e1, e2, e3, e4⟩ := hag c
    simp only [e0, e1, e2, e3, e4]

/-- The convolution's history's results agree with the reference's. -/
theorem call11 : Cert.algebraic_Kernel11Ideal_Reference11Ideal (hKernel11Ideal := Cert.Kernel11Ideal.Gen.facts) (hReference11Ideal := Cert.Reference11Ideal.Gen.facts) := by
  intro m g m' g' _ hag
  refine ⟨fun c => Cert.Kernel11Ideal.ConvH.G m c,
    (θ_run _ _ _).mono (fun r h c => ⟨(h c).2.1.trans (Cert.Kernel11Ideal.ConvH.final m c), (h c).2.2⟩) (Cert.Kernel11Ideal.Value.run_blocks m g),
    (θ_run _ _ _).mono (fun r h c => ⟨(h c).1.trans (?_ : _ = Cert.Kernel11Ideal.ConvH.G m c), (h c).2⟩) (Cert.Reference11Ideal.ConvH.run m' g')⟩
  all_goals
    obtain ⟨e0, e1, e2, e3, e4, e5, e6⟩ := hag c
    simp only [e0, e1, e2, e3, e4, e5, e6]

/-- Every claim. -/
theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Kernel9.Gen.facts,
   Cert.Kernel9Ideal.Gen.facts,
   Cert.Reference9Ideal.Gen.facts,
   Cert.Kernel10.Gen.facts,
   Cert.Kernel10Ideal.Gen.facts,
   Cert.Reference10Ideal.Gen.facts,
   Cert.Kernel11.Gen.facts,
   Cert.Kernel11Ideal.Gen.facts,
   Cert.Reference11Ideal.Gen.facts,
   Cert.Pre_swa_finite.facts,
   fun m ρ _ => Cert.Kernel.Gen.frame m ρ,
   fun m ρ _ => Cert.KernelIdeal.Gen.frame m ρ,
   fun m ρ _ => Cert.KernelIdeal.Gen.frame m ρ,
   fun m g _ => (θ_run _ _ _).mono (fun r h => ⟨fun c => (h c).2, sem_eq_zero_of_no_sems rfl r.2⟩) (Cert.ReferenceIdeal.Value.run m g),
   fun m g _ => (θ_run _ _ _).mono (fun r h => ⟨fun c => (h c).2, sem_eq_zero_of_no_sems rfl r.2⟩) (Cert.ReferenceIdeal.Value.run m g),
   Cert.Kernel2.Inproj.frame,
   fun m ρ _ => Cert.Kernel2Ideal.Inproj.frame m ρ,
   fun m g _ => (θ_run _ _ _).mono (fun r h => ⟨fun c => (h c).2.2.2.2.2.2.2.2, sem_eq_zero_of_no_sems rfl r.2⟩) (Cert.Reference2Ideal.Value.run m g),
   fun m ρ _ => Cert.Kernel3.Gen.frame m ρ,
   fun m ρ _ => Cert.Kernel3Ideal.Gen.frame m ρ,
   fun m g _ => (θ_run _ _ _).mono (fun r h => ⟨fun c => (h c).2.2.2.2.2, sem_eq_zero_of_no_sems rfl r.2⟩) (Cert.Reference3Ideal.Value.run m g),
   fun m ρ _ => Cert.Kernel4.Gen.frame m ρ,
   fun m ρ _ => Cert.Kernel4Ideal.Gen.frame m ρ,
   fun m g _ => (θ_run _ _ _).mono (fun r h => ⟨fun c => (h c).2, sem_eq_zero_of_no_sems rfl r.2⟩) (Cert.Reference4Ideal.Value.run m g),
   fun m ρ _ => Cert.Kernel5.Gen.frame m ρ,
   fun m ρ _ => Cert.Kernel5Ideal.Gen.frame m ρ,
   fun m g _ => (θ_run _ _ _).mono (fun r h => ⟨fun c => (h c).2.2.2.2.2.2, sem_eq_zero_of_no_sems rfl r.2⟩) (Cert.Reference5Ideal.Value.run m g),
   fun m ρ _ => Cert.Kernel6.Gen.frame m ρ,
   fun m ρ _ => Cert.Kernel6Ideal.Gen.frame m ρ,
   fun m g _ => (θ_run _ _ _).mono (fun r h => ⟨fun c => (h c).2, sem_eq_zero_of_no_sems rfl r.2⟩) (Cert.Reference6Ideal.Value.run m g),
   fun m ρ _ => Cert.Kernel7.Gen.frame m ρ,
   fun m ρ _ => Cert.Kernel7Ideal.Gen.frame m ρ,
   fun m g _ => (θ_run _ _ _).mono (fun r h => ⟨fun c => (h c).2.2, sem_eq_zero_of_no_sems rfl r.2⟩) (Cert.Reference7Ideal.Value.run m g),
   fun m ρ _ => Cert.Kernel8.Gen.frame m ρ,
   fun m ρ _ => Cert.Kernel8Ideal.Gen.frame m ρ,
   fun m g _ => (θ_run _ _ _).mono (fun r h => ⟨fun c => (h c).2, sem_eq_zero_of_no_sems rfl r.2⟩) (Cert.Reference8Ideal.Value.run m g),
   fun m ρ _ => Cert.Kernel9.Gen.frame m ρ,
   fun m ρ _ => Cert.Kernel9Ideal.Gen.frame m ρ,
   fun m g _ => (θ_run _ _ _).mono (fun r h => ⟨fun c => (h c).2, sem_eq_zero_of_no_sems rfl r.2⟩) (Cert.Reference9Ideal.Value.run m g),
   fun m ρ _ => Cert.Kernel10.Gen.frame m ρ,
   fun m ρ _ => Cert.Kernel10Ideal.Gen.frame m ρ,
   fun m g _ => (θ_run _ _ _).mono (fun r h => ⟨fun c => (h c).2.2.2.2, sem_eq_zero_of_no_sems rfl r.2⟩) (Cert.Reference10Ideal.Value.run m g),
   fun m ρ _ => Cert.Kernel11.Gen.frame m ρ,
   fun m ρ _ => Cert.Kernel11Ideal.Gen.frame m ρ,
   fun m g _ => (θ_run _ _ _).mono (fun r h => ⟨fun c => (h c).2, sem_eq_zero_of_no_sems rfl r.2⟩) (Cert.Reference11Ideal.Value.run m g),
   ⟨IdealRules.named_const.statement _ _ _ _ _ rfl, IdealRules.named_const.statement _ _ _ _ _ rfl⟩,
   swa,
   trivial,
   call2,
   trivial,
   call3,
   trivial,
   call4,
   trivial,
   call5,
   trivial,
   call6,
   trivial,
   call7,
   trivial,
   call8,
   trivial,
   call9,
   trivial,
   call10,
   trivial,
   call11⟩

end Cert.Proof

end
